-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v9)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v9) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v23) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v13_0)) (v1 : (c : Dev Cert.Kernel3Ideal.nD) → Buf (Elt Ideal) ((c.tc : Thread Cert.Kernel3Ideal.nD Cert.Kernel3Ideal.τ).loc Cert.Kernel3Ideal.main_v13_1)) (v2 : (c : Dev Cert.Kernel3Ideal.nD) → Buf (Elt Ideal) ((c.tc : Thread Cert.Kernel3Ideal.nD Cert.Kernel3Ideal.τ).loc Cert.Kernel3Ideal.main_v13_2)) (v3 : (c : Dev Cert.Kernel3Ideal.nD) → Buf (Elt Ideal) ((c.tc : Thread Cert.Kernel3Ideal.nD Cert.Kernel3Ideal.τ).loc Cert.Kernel3Ideal.main_v13_3)) (v4 : (c : Dev Cert.Kernel3Ideal.nD) → Buf (Elt Ideal) ((c.tc : Thread Cert.Kernel3Ideal.nD Cert.Kernel3Ideal.τ).loc Cert.Kernel3Ideal.main_v13_4)) (v5 : (c : Dev Cert.Kernel3Ideal.nD) → Buf (Elt Ideal) ((c.tc : Thread Cert.Kernel3Ideal.nD Cert.Kernel3Ideal.τ).loc Cert.Kernel3Ideal.main_v13_5)) (v6 : (c : Dev Cert.Kernel3Ideal.nD) → Buf (Elt Ideal) ((c.tc : Thread Cert.Kernel3Ideal.nD Cert.Kernel3Ideal.τ).loc Cert.Kernel3Ideal.main_v13_6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v13_0) = v0 c
          ∧ r.2.mem ((c.tc : Thread Cert.Kernel3Ideal.nD Cert.Kernel3Ideal.τ).loc Cert.Kernel3Ideal.main_v13_1) = v1 c
          ∧ r.2.mem ((c.tc : Thread Cert.Kernel3Ideal.nD Cert.Kernel3Ideal.τ).loc Cert.Kernel3Ideal.main_v13_2) = v2 c
          ∧ r.2.mem ((c.tc : Thread Cert.Kernel3Ideal.nD Cert.Kernel3Ideal.τ).loc Cert.Kernel3Ideal.main_v13_3) = v3 c
          ∧ r.2.mem ((c.tc : Thread Cert.Kernel3Ideal.nD Cert.Kernel3Ideal.τ).loc Cert.Kernel3Ideal.main_v13_4) = v4 c
          ∧ r.2.mem ((c.tc : Thread Cert.Kernel3Ideal.nD Cert.Kernel3Ideal.τ).loc Cert.Kernel3Ideal.main_v13_5) = v5 c
          ∧ r.2.mem ((c.tc : Thread Cert.Kernel3Ideal.nD Cert.Kernel3Ideal.τ).loc Cert.Kernel3Ideal.main_v13_6) = v6 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v17) = v0 c
          ∧ r.2.mem ((c.tc : Thread Cert.Reference3Ideal.nD Cert.Reference3Ideal.τ).loc Cert.Reference3Ideal.main_v26) = v1 c
          ∧ r.2.mem ((c.tc : Thread Cert.Reference3Ideal.nD Cert.Reference3Ideal.τ).loc Cert.Reference3Ideal.main_v25) = v2 c
          ∧ r.2.mem ((c.tc : Thread Cert.Reference3Ideal.nD Cert.Reference3Ideal.τ).loc Cert.Reference3Ideal.main_v28) = v3 c
          ∧ r.2.mem ((c.tc : Thread Cert.Reference3Ideal.nD Cert.Reference3Ideal.τ).loc Cert.Reference3Ideal.main_v30) = v4 c
          ∧ r.2.mem ((c.tc : Thread Cert.Reference3Ideal.nD Cert.Reference3Ideal.τ).loc Cert.Reference3Ideal.main_v31) = v5 c
          ∧ r.2.mem ((c.tc : Thread Cert.Reference3Ideal.nD Cert.Reference3Ideal.τ).loc Cert.Reference3Ideal.main_v32) = v6 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v8)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v8) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v29) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)) →
    ∃ (v0 : (c : Dev Cert.Kernel5Ideal.nD) → Buf (Elt Ideal) ((c.tc : Thread Cert.Kernel5Ideal.nD Cert.Kernel5Ideal.τ).loc Cert.Kernel5Ideal.main_v38_0)) (v1 : (c : Dev Cert.Kernel5Ideal.nD) → Buf (Elt Ideal) ((c.tc : Thread Cert.Kernel5Ideal.nD Cert.Kernel5Ideal.τ).loc Cert.Kernel5Ideal.main_v38_1)) (v2 : (c : Dev Cert.Kernel5Ideal.nD) → Buf (Elt Ideal) ((c.tc : Thread Cert.Kernel5Ideal.nD Cert.Kernel5Ideal.τ).loc Cert.Kernel5Ideal.main_v38_2)) (v3 : (c : Dev Cert.Kernel5Ideal.nD) → Buf (Elt Ideal) ((c.tc : Thread Cert.Kernel5Ideal.nD Cert.Kernel5Ideal.τ).loc Cert.Kernel5Ideal.main_v38_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v38_0) = v0 c
          ∧ r.2.mem ((c.tc : Thread Cert.Kernel5Ideal.nD Cert.Kernel5Ideal.τ).loc Cert.Kernel5Ideal.main_v38_1) = v1 c
          ∧ r.2.mem ((c.tc : Thread Cert.Kernel5Ideal.nD Cert.Kernel5Ideal.τ).loc Cert.Kernel5Ideal.main_v38_2) = v2 c
          ∧ r.2.mem ((c.tc : Thread Cert.Kernel5Ideal.nD Cert.Kernel5Ideal.τ).loc Cert.Kernel5Ideal.main_v38_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v157) = v0 c
          ∧ r.2.mem ((c.tc : Thread Cert.Reference5Ideal.nD Cert.Reference5Ideal.τ).loc Cert.Reference5Ideal.main_v159) = v1 c
          ∧ r.2.mem ((c.tc : Thread Cert.Reference5Ideal.nD Cert.Reference5Ideal.τ).loc Cert.Reference5Ideal.main_v160) = v2 c
          ∧ r.2.mem ((c.tc : Thread Cert.Reference5Ideal.nD Cert.Reference5Ideal.τ).loc Cert.Reference5Ideal.main_v163) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite.lean ====
abbrev S4x8x16x256x512 : Shape := ⟨5, ![4, 8, 16, 256, 512]⟩
abbrev S4x8x8192x128 : Shape := ⟨4, ![4, 8, 8192, 128]⟩
abbrev S4x8192x128 : Shape := ⟨3, ![4, 8192, 128]⟩
abbrev S4x8x16x128x512 : Shape := ⟨5, ![4, 8, 16, 128, 512]⟩
abbrev S_ : Shape := ⟨0, ![]⟩

class Facts : Prop where
  bitsLt_bf16_f32 : FTy.bits .bf16 < FTy.bits .f32
  bcast_S_S4x8x16x256x512 : S_.BroadcastsInDim S4x8x16x256x512 (![] : Fin 0 → Fin S4x8x16x256x512.rank)
  bcast_S_S4x8x8192x128 : S_.BroadcastsInDim S4x8x8192x128 (![] : Fin 0 → Fin S4x8x8192x128.rank)
  bcast_S_S4x8192x128 : S_.BroadcastsInDim S4x8192x128 (![] : Fin 0 → Fin S4x8192x128.rank)

variable [Facts]

def fn {F : FTy → Type} [FloatOps F] (main_arg0 : FVec F S4x8x16x256x512 .bf16) (main_arg1 : FVec F S4x8x8192x128 .bf16) (main_arg2 : FVec F S4x8192x128 .bf16) (main_arg3 : FVec F S4x8x16x128x512 .bf16) : IVec S4x8x16x256x512 1 × IVec S4x8x8192x128 1 × IVec S4x8192x128 1 :=
  let main_v0 : FVec F S4x8x16x256x512 .f32 := (extf .f32 · bitsLt_bf16_f32) main_arg0
  let main_v1 : FVec F S4x8x16x256x512 .f32 := Host.absf main_v0
  let main_cst : FVec F S_ .f32 := constant S_ .f32 0x7F800000#32
  let main_v2 : FVec F S4x8x16x256x512 .f32 := broadcastInDim S4x8x16x256x512 ![] bcast_S_S4x8x16x256x512 main_cst
  let main_v3 : IVec S4x8x16x256x512 1 := cmpf .olt main_v1 main_v2
  let main_v4 : FVec F S4x8x8192x128 .f32 := (extf .f32 · bitsLt_bf16_f32) main_arg1
  let main_v5 : FVec F S4x8x8192x128 .f32 := Host.absf main_v4
  let main_cst_0 : FVec F S_ .f32 := constant S_ .f32 0x7F800000#32
  let main_v6 : FVec F S4x8x8192x128 .f32 := broadcastInDim S4x8x8192x128 ![] bcast_S_S4x8x8192x128 main_cst_0
  let main_v7 : IVec S4x8x8192x128 1 := cmpf .olt main_v5 main_v6
  let main_v8 : FVec F S4x8192x128 .f32 := (extf .f32 · bitsLt_bf16_f32) main_arg2
  let main_v9 : FVec F S4x8192x128 .f32 := Host.absf main_v8
  let main_cst_1 : FVec F S_ .f32 := constant S_ .f32 0x7F800000#32
  let main_v10 : FVec F S4x8192x128 .f32 := broadcastInDim S4x8192x128 ![] bcast_S_S4x8192x128 main_cst_1
  let main_v11 : IVec S4x8192x128 1 := cmpf .olt main_v9 main_v10
  (main_v3, main_v7, main_v11)
-- ==== Kernel.lean ====
abbrev S4x8x16x256x512 : Shape := ⟨5, ![4, 8, 16, 256, 512]⟩
abbrev S4x8x8192x128 : Shape := ⟨4, ![4, 8, 8192, 128]⟩
abbrev S4x8192x128 : Shape := ⟨3, ![4, 8192, 128]⟩
abbrev S4x8x16x128x512 : Shape := ⟨5, ![4, 8, 16, 128, 512]⟩
abbrev S138 : Shape := ⟨1, ![138]⟩
abbrev S4x8192x1024 : Shape := ⟨3, ![4, 8192, 1024]⟩
abbrev S1x1x16x256x512 : Shape := ⟨5, ![1, 1, 16, 256, 512]⟩
abbrev S1x1x8192x128 : Shape := ⟨4, ![1, 1, 8192, 128]⟩
abbrev S1x8192x128 : Shape := ⟨3, ![1, 8192, 128]⟩
abbrev S1x1x16x128x512 : Shape := ⟨5, ![1, 1, 16, 128, 512]⟩
abbrev S512x512 : Shape := ⟨2, ![512, 512]⟩
abbrev S16x144x512 : Shape := ⟨3, ![16, 144, 512]⟩
abbrev S16x512 : Shape := ⟨2, ![16, 512]⟩
abbrev S1 : Shape := ⟨1, ![1]⟩
abbrev S1x1x512x128 : Shape := ⟨4, ![1, 1, 512, 128]⟩
abbrev S512x128 : Shape := ⟨2, ![512, 128]⟩
abbrev S1x512x128 : Shape := ⟨3, ![1, 512, 128]⟩
abbrev S512x256 : Shape := ⟨2, ![512, 256]⟩
abbrev S1x1x1x256x512 : Shape := ⟨5, ![1, 1, 1, 256, 512]⟩
abbrev S256x512 : Shape := ⟨2, ![256, 512]⟩
abbrev S256x256 : Shape := ⟨2, ![256, 256]⟩
abbrev S1x1x1x128x512 : Shape := ⟨5, ![1, 1, 1, 128, 512]⟩
abbrev S128x512 : Shape := ⟨2, ![128, 512]⟩
abbrev S144x512 : Shape := ⟨2, ![144, 512]⟩
abbrev S1x144x256 : Shape := ⟨3, ![1, 144, 256]⟩
abbrev S144x256 : Shape := ⟨2, ![144, 256]⟩
abbrev S1x144x512 : Shape := ⟨3, ![1, 144, 512]⟩
abbrev S1x128x512 : Shape := ⟨3, ![1, 128, 512]⟩
abbrev S1x1x512 : Shape := ⟨3, ![1, 1, 512]⟩
abbrev S1x512 : Shape := ⟨2, ![1, 512]⟩

abbrev nBuf : Space → Nat
  | .hbm => 5
  | .vmem => 15
  | .smem => 2
  | _ => 0

abbrev bufTy : (tb : Table) → Fin (tcTables nBuf tb) → BufTy
  | .hbm, ⟨0, _⟩ => ⟨S4x8x16x256x512, .bf16⟩
  | .hbm, ⟨1, _⟩ => ⟨S4x8x8192x128, .bf16⟩
  | .hbm, ⟨2, _⟩ => ⟨S4x8192x128, .bf16⟩
  | .hbm, ⟨3, _⟩ => ⟨S4x8x16x128x512, .bf16⟩
  | .hbm, ⟨4, _⟩ => ⟨S4x8192x1024, .bf16⟩
  | .local _ .vmem, ⟨0, _⟩ => ⟨S1x1x16x256x512, .bf16⟩
  | .local _ .vmem, ⟨1, _⟩ => ⟨S1x1x16x256x512, .bf16⟩
  | .local _ .vmem, ⟨2, _⟩ => ⟨S1x1x8192x128, .bf16⟩
  | .local _ .vmem, ⟨3, _⟩ => ⟨S1x1x8192x128, .bf16⟩
  | .local _ .vmem, ⟨4, _⟩ => ⟨S1x8192x128, .bf16⟩
  | .local _ .vmem, ⟨5, _⟩ => ⟨S1x8192x128, .bf16⟩
  | .local _ .vmem, ⟨6, _⟩ => ⟨S1x1x16x128x512, .bf16⟩
  | .local _ .vmem, ⟨7, _⟩ => ⟨S1x1x16x128x512, .bf16⟩
  | .local _ .vmem, ⟨8, _⟩ => ⟨S1x8192x128, .bf16⟩
  | .local _ .vmem, ⟨9, _⟩ => ⟨S1x8192x128, .bf16⟩
  | .local _ .vmem, ⟨10, _⟩ => ⟨S512x512, .f32⟩
  | .local _ .vmem, ⟨11, _⟩ => ⟨S512x512, .f32⟩
  | .local _ .vmem, ⟨12, _⟩ => ⟨S512x512, .bf16⟩
  | .local _ .vmem, ⟨13, _⟩ => ⟨S512x512, .bf16⟩
  | .local _ .vmem, ⟨14, _⟩ => ⟨S16x144x512, .f32⟩
  | .local _ .smem, ⟨0, _⟩ => ⟨S138, .i32⟩
  | .local _ .smem, ⟨1, _⟩ => ⟨S138, .i32⟩
  | _, _ => ⟨S4x8x16x256x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 8], ![false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_mult1 (v5 : BitVec 32) : BitVec 32 :=
  let c512_i32 : BitVec 32 := 512#32
  let v6 : BitVec 32 := Scalar.muli v5 c512_i32
  v6

def k0_off1 (v5 : BitVec 32) : Fin 4 → Nat :=
  let c0_4 : Index := 0#32
  let c0_5 : Index := 0#32
  let c512_i32 : BitVec 32 := 512#32
  let v6 : BitVec 32 := Scalar.muli v5 c512_i32
  let v7 : BitVec 32 := v6
  let v8 : Index := Scalar.indexCast v7
  let c0_6 : Index := 0#32
  ![0, 0, v8.toNat, 0]
def k0_off2 (v5 : BitVec 32) : Fin 3 → Nat :=
  let c0_7 : Index := 0#32
  let c512_i32 : BitVec 32 := 512#32
  let v6 : BitVec 32 := Scalar.muli v5 c512_i32
  let v7 : BitVec 32 := v6
  let v11 : Index := Scalar.indexCast v7
  let c0_8 : Index := 0#32
  ![0, v11.toNat, 0]

def k0_chk1 (v5 : BitVec 32) : Prop :=
  (512 ∣ (k0_mult1 v5).toNat) ∧
  (∀ a, (k0_off1 v5) a + S1x1x512x128.size a ≤ S1x1x8192x128.size a) ∧
  (∀ a, (k0_off2 v5) a + S1x512x128.size a ≤ S1x8192x128.size a)
theorem k0_mult1_dvd : ∀ (v5 : BitVec 32) (k0_hw1 : k0_chk1 v5), 512 ∣ (k0_mult1 v5).toNat := fun v5 k0_hw1 => k0_hw1.1
theorem k0_off1_inb : ∀ (v5 : BitVec 32) (k0_hw1 : k0_chk1 v5), ∀ a, (k0_off1 v5) a + S1x1x512x128.size a ≤ S1x1x8192x128.size a := fun v5 k0_hw1 => k0_hw1.2.1
theorem k0_off2_inb : ∀ (v5 : BitVec 32) (k0_hw1 : k0_chk1 v5), ∀ a, (k0_off2 v5) a + S1x512x128.size a ≤ S1x8192x128.size a := fun v5 k0_hw1 => k0_hw1.2.2

def k0_off3 (v15 : BitVec 32) : Fin 5 → Nat :=
  let c0_10 : Index := 0#32
  let c0_11 : Index := 0#32
  let v16 : Index := Scalar.indexCast v15
  let c0_12 : Index := 0#32
  let c0_13 : Index := 0#32
  ![0, 0, v16.toNat, 0, 0]

def k0_chk2 (v15 : BitVec 32) : Prop :=
  (∀ a, (k0_off3 v15) a + S1x1x1x256x512.size a ≤ S1x1x16x256x512.size a)
theorem k0_off3_inb : ∀ (v15 : BitVec 32) (k0_hw2 : k0_chk2 v15), ∀ a, (k0_off3 v15) a + S1x1x1x256x512.size a ≤ S1x1x16x256x512.size a := fun v15 k0_hw2 => k0_hw2

def k0_mult2 (v30 : BitVec 32) : BitVec 32 :=
  let c512_i32_19 : BitVec 32 := 512#32
  let v31 : BitVec 32 := Scalar.muli v30 c512_i32_19
  v31

def k0_off4 (v30 : BitVec 32) : Fin 4 → Nat :=
  let c0_20 : Index := 0#32
  let c0_21 : Index := 0#32
  let c512_i32_19 : BitVec 32 := 512#32
  let v31 : BitVec 32 := Scalar.muli v30 c512_i32_19
  let v32 : BitVec 32 := v31
  let v33 : Index := Scalar.indexCast v32
  let c0_22 : Index := 0#32
  ![0, 0, v33.toNat, 0]
def k0_off5 (v30 : BitVec 32) : Fin 3 → Nat :=
  let c0_23 : Index := 0#32
  let c512_i32_19 : BitVec 32 := 512#32
  let v31 : BitVec 32 := Scalar.muli v30 c512_i32_19
  let v32 : BitVec 32 := v31
  let v36 : Index := Scalar.indexCast v32
  let c0_24 : Index := 0#32
  ![0, v36.toNat, 0]

def k0_chk3 (v30 : BitVec 32) : Prop :=
  (512 ∣ (k0_mult2 v30).toNat) ∧
  (∀ a, (k0_off4 v30) a + S1x1x512x128.size a ≤ S1x1x8192x128.size a) ∧
  (∀ a, (k0_off5 v30) a + S1x512x128.size a ≤ S1x8192x128.size a)
theorem k0_mult2_dvd : ∀ (v30 : BitVec 32) (k0_hw3 : k0_chk3 v30), 512 ∣ (k0_mult2 v30).toNat := fun v30 k0_hw3 => k0_hw3.1
theorem k0_off4_inb : ∀ (v30 : BitVec 32) (k0_hw3 : k0_chk3 v30), ∀ a, (k0_off4 v30) a + S1x1x512x128.size a ≤ S1x1x8192x128.size a := fun v30 k0_hw3 => k0_hw3.2.1
theorem k0_off5_inb : ∀ (v30 : BitVec 32) (k0_hw3 : k0_chk3 v30), ∀ a, (k0_off5 v30) a + S1x512x128.size a ≤ S1x8192x128.size a := fun v30 k0_hw3 => k0_hw3.2.2

def k0_off6 (v40 : BitVec 32) : Fin 5 → Nat :=
  let c0_26 : Index := 0#32
  let c0_27 : Index := 0#32
  let v41 : Index := Scalar.indexCast v40
  let c0_28 : Index := 0#32
  let c0_29 : Index := 0#32
  ![0, 0, v41.toNat, 0, 0]

def k0_chk4 (v40 : BitVec 32) : Prop :=
  (∀ a, (k0_off6 v40) a + S1x1x1x256x512.size a ≤ S1x1x16x256x512.size a)
theorem k0_off6_inb : ∀ (v40 : BitVec 32) (k0_hw4 : k0_chk4 v40), ∀ a, (k0_off6 v40) a + S1x1x1x256x512.size a ≤ S1x1x16x256x512.size a := fun v40 k0_hw4 => k0_hw4

@[reducible] def k0_t1_loop : Scf.Loop 32 :=
  let c0_i32 : BitVec 32 := 0#32
  let c4_i32 : BitVec 32 := 4#32
  let v77 : BitVec 32 := Scalar.addi c0_i32 c4_i32
  let c1_i32 : BitVec 32 := 1#32
  ⟨c0_i32, v77, c1_i32⟩
def k0_off7 (k0_t1 : Fin k0_t1_loop.trips) : Fin 1 → Nat :=
  let c34_i32 : BitVec 32 := 34#32
  let c0_i32 : BitVec 32 := 0#32
  let c1_i32 : BitVec 32 := 1#32
  let arg14 : BitVec 32 := Scf.iv c0_i32 c1_i32 k0_t1
  let v254 : BitVec 32 := Scalar.muli c34_i32 arg14
  let c0_i32_161 : BitVec 32 := 0#32
  let v255 : BitVec 32 := Scalar.addi v254 c0_i32_161
  let c2_i32 : BitVec 32 := 2#32
  let v256 : BitVec 32 := Scalar.addi v255 c2_i32
  let v257 : Index := Scalar.indexCast v256
  ![v257.toNat]
def k0_mult3 (v258 : BitVec 32) : BitVec 32 :=
  let c512_i32_162 : BitVec 32 := 512#32
  let v259 : BitVec 32 := Scalar.muli v258 c512_i32_162
  v259

def k0_off8 (v258 : BitVec 32) : Fin 4 → Nat :=
  let c0_163 : Index := 0#32
  let c0_164 : Index := 0#32
  let c512_i32_162 : BitVec 32 := 512#32
  let v259 : BitVec 32 := Scalar.muli v258 c512_i32_162
  let v260 : BitVec 32 := v259
  let v261 : Index := Scalar.indexCast v260
  let c0_165 : Index := 0#32
  ![0, 0, v261.toNat, 0]
def k0_off9 (v258 : BitVec 32) : Fin 3 → Nat :=
  let c0_166 : Index := 0#32
  let c512_i32_162 : BitVec 32 := 512#32
  let v259 : BitVec 32 := Scalar.muli v258 c512_i32_162
  let v260 : BitVec 32 := v259
  let v264 : Index := Scalar.indexCast v260
  let c0_167 : Index := 0#32
  ![0, v264.toNat, 0]

def k0_chk5 (v258 : BitVec 32) : Prop :=
  (512 ∣ (k0_mult3 v258).toNat) ∧
  (∀ a, (k0_off8 v258) a + S1x1x512x128.size a ≤ S1x1x8192x128.size a) ∧
  (∀ a, (k0_off9 v258) a + S1x512x128.size a ≤ S1x8192x128.size a)
theorem k0_mult3_dvd : ∀ (v258 : BitVec 32) (k0_hw5 : k0_chk5 v258), 512 ∣ (k0_mult3 v258).toNat := fun v258 k0_hw5 => k0_hw5.1
theorem k0_off8_inb : ∀ (v258 : BitVec 32) (k0_hw5 : k0_chk5 v258), ∀ a, (k0_off8 v258) a + S1x1x512x128.size a ≤ S1x1x8192x128.size a := fun v258 k0_hw5 => k0_hw5.2.1
theorem k0_off9_inb : ∀ (v258 : BitVec 32) (k0_hw5 : k0_chk5 v258), ∀ a, (k0_off9 v258) a + S1x512x128.size a ≤ S1x8192x128.size a := fun v258 k0_hw5 => k0_hw5.2.2

def k0_off10 (k0_t1 : Fin k0_t1_loop.trips) : Fin 1 → Nat :=
  let c34_i32 : BitVec 32 := 34#32
  let c0_i32 : BitVec 32 := 0#32
  let c1_i32 : BitVec 32 := 1#32
  let arg14 : BitVec 32 := Scf.iv c0_i32 c1_i32 k0_t1
  let v254 : BitVec 32 := Scalar.muli c34_i32 arg14
  let c0_i32_161 : BitVec 32 := 0#32
  let v255 : BitVec 32 := Scalar.addi v254 c0_i32_161
  let c2_i32 : BitVec 32 := 2#32
  let v256 : BitVec 32 := Scalar.addi v255 c2_i32
  let v268 : Index := Scalar.indexCast v256
  ![v268.toNat]
def k0_off11 (v269 : BitVec 32) : Fin 5 → Nat :=
  let c0_168 : Index := 0#32
  let c0_169 : Index := 0#32
  let v270 : Index := Scalar.indexCast v269
  let c0_170 : Index := 0#32
  let c0_171 : Index := 0#32
  ![0, 0, v270.toNat, 0, 0]

def k0_chk6 (v269 : BitVec 32) : Prop :=
  (∀ a, (k0_off11 v269) a + S1x1x1x256x512.size a ≤ S1x1x16x256x512.size a)
theorem k0_off11_inb : ∀ (v269 : BitVec 32) (k0_hw6 : k0_chk6 v269), ∀ a, (k0_off11 v269) a + S1x1x1x256x512.size a ≤ S1x1x16x256x512.size a := fun v269 k0_hw6 => k0_hw6

def k0_off12 (k0_t1 : Fin k0_t1_loop.trips) : Fin 1 → Nat :=
  let c34_i32 : BitVec 32 := 34#32
  let c0_i32 : BitVec 32 := 0#32
  let c1_i32 : BitVec 32 := 1#32
  let arg14 : BitVec 32 := Scf.iv c0_i32 c1_i32 k0_t1
  let v254 : BitVec 32 := Scalar.muli c34_i32 arg14
  let c0_i32_161 : BitVec 32 := 0#32
  let v255 : BitVec 32 := Scalar.addi v254 c0_i32_161
  let v306 : Index := Scalar.indexCast v255
  ![v306.toNat]
def k0_off13 (v309 : BitVec 32) : Fin 5 → Nat :=
  let c0_188 : Index := 0#32
  let c0_189 : Index := 0#32
  let v310 : Index := Scalar.indexCast v309
  let c0_190 : Index := 0#32
  let c0_191 : Index := 0#32
  ![0, 0, v310.toNat, 0, 0]

def k0_chk7 (v309 : BitVec 32) : Prop :=
  (∀ a, (k0_off13 v309) a + S1x1x1x128x512.size a ≤ S1x1x16x128x512.size a)
theorem k0_off13_inb : ∀ (v309 : BitVec 32) (k0_hw7 : k0_chk7 v309), ∀ a, (k0_off13 v309) a + S1x1x1x128x512.size a ≤ S1x1x16x128x512.size a := fun v309 k0_hw7 => k0_hw7

def k0_off14 (v307 : BitVec 32) : Fin 3 → Nat :=
  let v314 : Index := Scalar.indexCast v307
  let c0_192 : Index := 0#32
  let c0_193 : Index := 0#32
  ![v314.toNat, 0, 0]

def k0_off15 (v307 : BitVec 32) : Fin 3 → Nat :=
  let v325 : Index := Scalar.indexCast v307
  let c0_199 : Index := 0#32
  let c256_200 : Index := 256#32
  ![v325.toNat, 0, 256]

def k0_chk8 (v307 : BitVec 32) : Prop :=
  (∀ a, (k0_off14 v307) a + S1x144x256.size a ≤ S16x144x512.size a) ∧
  (∀ a, (k0_off15 v307) a + S1x144x256.size a ≤ S16x144x512.size a)
theorem k0_off14_inb : ∀ (v307 : BitVec 32) (k0_hw8 : k0_chk8 v307), ∀ a, (k0_off14 v307) a + S1x144x256.size a ≤ S16x144x512.size a := fun v307 k0_hw8 => k0_hw8.1
theorem k0_off15_inb : ∀ (v307 : BitVec 32) (k0_hw8 : k0_chk8 v307), ∀ a, (k0_off15 v307) a + S1x144x256.size a ≤ S16x144x512.size a := fun v307 k0_hw8 => k0_hw8.2

def k0_off16 (k0_t1 : Fin k0_t1_loop.trips) : Fin 1 → Nat :=
  let c34_i32_206 : BitVec 32 := 34#32
  let c0_i32 : BitVec 32 := 0#32
  let c1_i32 : BitVec 32 := 1#32
  let arg14 : BitVec 32 := Scf.iv c0_i32 c1_i32 k0_t1
  let v335 : BitVec 32 := Scalar.muli c34_i32_206 arg14
  let c1_i32_207 : BitVec 32 := 1#32
  let v336 : BitVec 32 := Scalar.addi v335 c1_i32_207
  let c2_i32_208 : BitVec 32 := 2#32
  let v337 : BitVec 32 := Scalar.addi v336 c2_i32_208
  let v338 : Index := Scalar.indexCast v337
  ![v338.toNat]
def k0_mult4 (v339 : BitVec 32) : BitVec 32 :=
  let c512_i32_209 : BitVec 32 := 512#32
  let v340 : BitVec 32 := Scalar.muli v339 c512_i32_209
  v340

def k0_off17 (v339 : BitVec 32) : Fin 4 → Nat :=
  let c0_210 : Index := 0#32
  let c0_211 : Index := 0#32
  let c512_i32_209 : BitVec 32 := 512#32
  let v340 : BitVec 32 := Scalar.muli v339 c512_i32_209
  let v341 : BitVec 32 := v340
  let v342 : Index := Scalar.indexCast v341
  let c0_212 : Index := 0#32
  ![0, 0, v342.toNat, 0]
def k0_off18 (v339 : BitVec 32) : Fin 3 → Nat :=
  let c0_213 : Index := 0#32
  let c512_i32_209 : BitVec 32 := 512#32
  let v340 : BitVec 32 := Scalar.muli v339 c512_i32_209
  let v341 : BitVec 32 := v340
  let v345 : Index := Scalar.indexCast v341
  let c0_214 : Index := 0#32
  ![0, v345.toNat, 0]

def k0_chk9 (v339 : BitVec 32) : Prop :=
  (512 ∣ (k0_mult4 v339).toNat) ∧
  (∀ a, (k0_off17 v339) a + S1x1x512x128.size a ≤ S1x1x8192x128.size a) ∧
  (∀ a, (k0_off18 v339) a + S1x512x128.size a ≤ S1x8192x128.size a)
theorem k0_mult4_dvd : ∀ (v339 : BitVec 32) (k0_hw9 : k0_chk9 v339), 512 ∣ (k0_mult4 v339).toNat := fun v339 k0_hw9 => k0_hw9.1
theorem k0_off17_inb : ∀ (v339 : BitVec 32) (k0_hw9 : k0_chk9 v339), ∀ a, (k0_off17 v339) a + S1x1x512x128.size a ≤ S1x1x8192x128.size a := fun v339 k0_hw9 => k0_hw9.2.1
theorem k0_off18_inb : ∀ (v339 : BitVec 32) (k0_hw9 : k0_chk9 v339), ∀ a, (k0_off18 v339) a + S1x512x128.size a ≤ S1x8192x128.size a := fun v339 k0_hw9 => k0_hw9.2.2

def k0_off19 (k0_t1 : Fin k0_t1_loop.trips) : Fin 1 → Nat :=
  let c34_i32_206 : BitVec 32 := 34#32
  let c0_i32 : BitVec 32 := 0#32
  let c1_i32 : BitVec 32 := 1#32
  let arg14 : BitVec 32 := Scf.iv c0_i32 c1_i32 k0_t1
  let v335 : BitVec 32 := Scalar.muli c34_i32_206 arg14
  let c1_i32_207 : BitVec 32 := 1#32
  let v336 : BitVec 32 := Scalar.addi v335 c1_i32_207
  let c2_i32_208 : BitVec 32 := 2#32
  let v337 : BitVec 32 := Scalar.addi v336 c2_i32_208
  let v349 : Index := Scalar.indexCast v337
  ![v349.toNat]
def k0_off20 (v350 : BitVec 32) : Fin 5 → Nat :=
  let c0_215 : Index := 0#32
  let c0_216 : Index := 0#32
  let v351 : Index := Scalar.indexCast v350
  let c0_217 : Index := 0#32
  let c0_218 : Index := 0#32
  ![0, 0, v351.toNat, 0, 0]

def k0_chk10 (v350 : BitVec 32) : Prop :=
  (∀ a, (k0_off20 v350) a + S1x1x1x256x512.size a ≤ S1x1x16x256x512.size a)
theorem k0_off20_inb : ∀ (v350 : BitVec 32) (k0_hw10 : k0_chk10 v350), ∀ a, (k0_off20 v350) a + S1x1x1x256x512.size a ≤ S1x1x16x256x512.size a := fun v350 k0_hw10 => k0_hw10

def k0_off21 (k0_t1 : Fin k0_t1_loop.trips) : Fin 1 → Nat :=
  let c34_i32_206 : BitVec 32 := 34#32
  let c0_i32 : BitVec 32 := 0#32
  let c1_i32 : BitVec 32 := 1#32
  let arg14 : BitVec 32 := Scf.iv c0_i32 c1_i32 k0_t1
  let v335 : BitVec 32 := Scalar.muli c34_i32_206 arg14
  let c1_i32_207 : BitVec 32 := 1#32
  let v336 : BitVec 32 := Scalar.addi v335 c1_i32_207
  let v387 : Index := Scalar.indexCast v336
  ![v387.toNat]
def k0_off22 (v390 : BitVec 32) : Fin 5 → Nat :=
  let c0_235 : Index := 0#32
  let c0_236 : Index := 0#32
  let v391 : Index := Scalar.indexCast v390
  let c0_237 : Index := 0#32
  let c0_238 : Index := 0#32
  ![0, 0, v391.toNat, 0, 0]

def k0_chk11 (v390 : BitVec 32) : Prop :=
  (∀ a, (k0_off22 v390) a + S1x1x1x128x512.size a ≤ S1x1x16x128x512.size a)
theorem k0_off22_inb : ∀ (v390 : BitVec 32) (k0_hw11 : k0_chk11 v390), ∀ a, (k0_off22 v390) a + S1x1x1x128x512.size a ≤ S1x1x16x128x512.size a := fun v390 k0_hw11 => k0_hw11

def k0_off23 (v388 : BitVec 32) : Fin 3 → Nat :=
  let v395 : Index := Scalar.indexCast v388
  let c0_239 : Index := 0#32
  let c0_240 : Index := 0#32
  ![v395.toNat, 0, 0]

def k0_off24 (v388 : BitVec 32) : Fin 3 → Nat :=
  let v406 : Index := Scalar.indexCast v388
  let c0_246 : Index := 0#32
  let c256_247 : Index := 256#32
  ![v406.toNat, 0, 256]

def k0_chk12 (v388 : BitVec 32) : Prop :=
  (∀ a, (k0_off23 v388) a + S1x144x256.size a ≤ S16x144x512.size a) ∧
  (∀ a, (k0_off24 v388) a + S1x144x256.size a ≤ S16x144x512.size a)
theorem k0_off23_inb : ∀ (v388 : BitVec 32) (k0_hw12 : k0_chk12 v388), ∀ a, (k0_off23 v388) a + S1x144x256.size a ≤ S16x144x512.size a := fun v388 k0_hw12 => k0_hw12.1
theorem k0_off24_inb : ∀ (v388 : BitVec 32) (k0_hw12 : k0_chk12 v388), ∀ a, (k0_off24 v388) a + S1x144x256.size a ≤ S16x144x512.size a := fun v388 k0_hw12 => k0_hw12.2

def k0_off25 (k0_t1 : Fin k0_t1_loop.trips) : Fin 1 → Nat :=
  let c34_i32_253 : BitVec 32 := 34#32
  let c0_i32 : BitVec 32 := 0#32
  let c1_i32 : BitVec 32 := 1#32
  let arg14 : BitVec 32 := Scf.iv c0_i32 c1_i32 k0_t1
  let v416 : BitVec 32 := Scalar.muli c34_i32_253 arg14
  let c2_i32_254 : BitVec 32 := 2#32
  let v417 : BitVec 32 := Scalar.addi v416 c2_i32_254
  let c2_i32_255 : BitVec 32 := 2#32
  let v418 : BitVec 32 := Scalar.addi v417 c2_i32_255
  let v419 : Index := Scalar.indexCast v418
  ![v419.toNat]
def k0_mult5 (v422 : BitVec 32) : BitVec 32 :=
  let c512_i32_256 : BitVec 32 := 512#32
  let v423 : BitVec 32 := Scalar.muli v422 c512_i32_256
  v423

def k0_off26 (v422 : BitVec 32) : Fin 4 → Nat :=
  let c0_257 : Index := 0#32
  let c0_258 : Index := 0#32
  let c512_i32_256 : BitVec 32 := 512#32
  let v423 : BitVec 32 := Scalar.muli v422 c512_i32_256
  let v424 : BitVec 32 := v423
  let v425 : Index := Scalar.indexCast v424
  let c0_259 : Index := 0#32
  ![0, 0, v425.toNat, 0]
def k0_off27 (v422 : BitVec 32) : Fin 3 → Nat :=
  let c0_260 : Index := 0#32
  let c512_i32_256 : BitVec 32 := 512#32
  let v423 : BitVec 32 := Scalar.muli v422 c512_i32_256
  let v424 : BitVec 32 := v423
  let v428 : Index := Scalar.indexCast v424
  let c0_261 : Index := 0#32
  ![0, v428.toNat, 0]

def k0_chk13 (v422 : BitVec 32) : Prop :=
  (512 ∣ (k0_mult5 v422).toNat) ∧
  (∀ a, (k0_off26 v422) a + S1x1x512x128.size a ≤ S1x1x8192x128.size a) ∧
  (∀ a, (k0_off27 v422) a + S1x512x128.size a ≤ S1x8192x128.size a)
theorem k0_mult5_dvd : ∀ (v422 : BitVec 32) (k0_hw13 : k0_chk13 v422), 512 ∣ (k0_mult5 v422).toNat := fun v422 k0_hw13 => k0_hw13.1
theorem k0_off26_inb : ∀ (v422 : BitVec 32) (k0_hw13 : k0_chk13 v422), ∀ a, (k0_off26 v422) a + S1x1x512x128.size a ≤ S1x1x8192x128.size a := fun v422 k0_hw13 => k0_hw13.2.1
theorem k0_off27_inb : ∀ (v422 : BitVec 32) (k0_hw13 : k0_chk13 v422), ∀ a, (k0_off27 v422) a + S1x512x128.size a ≤ S1x8192x128.size a := fun v422 k0_hw13 => k0_hw13.2.2

def k0_off28 (v420 : BitVec 32) : Fin 5 → Nat :=
  let c0_262 : Index := 0#32
  let c0_263 : Index := 0#32
  let v432 : Index := Scalar.indexCast v420
  let c0_264 : Index := 0#32
  let c0_265 : Index := 0#32
  ![0, 0, v432.toNat, 0, 0]

def k0_chk14 (v420 : BitVec 32) : Prop :=
  (∀ a, (k0_off28 v420) a + S1x1x1x256x512.size a ≤ S1x1x16x256x512.size a)
theorem k0_off28_inb : ∀ (v420 : BitVec 32) (k0_hw14 : k0_chk14 v420), ∀ a, (k0_off28 v420) a + S1x1x1x256x512.size a ≤ S1x1x16x256x512.size a := fun v420 k0_hw14 => k0_hw14

def k0_off29 (k0_t1 : Fin k0_t1_loop.trips) : Fin 1 → Nat :=
  let c34_i32_253 : BitVec 32 := 34#32
  let c0_i32 : BitVec 32 := 0#32
  let c1_i32 : BitVec 32 := 1#32
  let arg14 : BitVec 32 := Scf.iv c0_i32 c1_i32 k0_t1
  let v416 : BitVec 32 := Scalar.muli c34_i32_253 arg14
  let c2_i32_254 : BitVec 32 := 2#32
  let v417 : BitVec 32 := Scalar.addi v416 c2_i32_254
  let v461 : Index := Scalar.indexCast v417
  ![v461.toNat]
def k0_off30 (v464 : BitVec 32) : Fin 5 → Nat :=
  let c0_279 : Index := 0#32
  let c0_280 : Index := 0#32
  let v465 : Index := Scalar.indexCast v464
  let c0_281 : Index := 0#32
  let c0_282 : Index := 0#32
  ![0, 0, v465.toNat, 0, 0]

def k0_chk15 (v464 : BitVec 32) : Prop :=
  (∀ a, (k0_off30 v464) a + S1x1x1x128x512.size a ≤ S1x1x16x128x512.size a)
theorem k0_off30_inb : ∀ (v464 : BitVec 32) (k0_hw15 : k0_chk15 v464), ∀ a, (k0_off30 v464) a + S1x1x1x128x512.size a ≤ S1x1x16x128x512.size a := fun v464 k0_hw15 => k0_hw15

def k0_off31 (v462 : BitVec 32) : Fin 3 → Nat :=
  let v469 : Index := Scalar.indexCast v462
  let c0_283 : Index := 0#32
  let c0_284 : Index := 0#32
  ![v469.toNat, 0, 0]

def k0_off32 (v462 : BitVec 32) : Fin 3 → Nat :=
  let v480 : Index := Scalar.indexCast v462
  let c0_290 : Index := 0#32
  let c256_291 : Index := 256#32
  ![v480.toNat, 0, 256]

def k0_chk16 (v462 : BitVec 32) : Prop :=
  (∀ a, (k0_off31 v462) a + S1x144x256.size a ≤ S16x144x512.size a) ∧
  (∀ a, (k0_off32 v462) a + S1x144x256.size a ≤ S16x144x512.size a)
theorem k0_off31_inb : ∀ (v462 : BitVec 32) (k0_hw16 : k0_chk16 v462), ∀ a, (k0_off31 v462) a + S1x144x256.size a ≤ S16x144x512.size a := fun v462 k0_hw16 => k0_hw16.1
theorem k0_off32_inb : ∀ (v462 : BitVec 32) (k0_hw16 : k0_chk16 v462), ∀ a, (k0_off32 v462) a + S1x144x256.size a ≤ S16x144x512.size a := fun v462 k0_hw16 => k0_hw16.2

def k0_off33 (k0_t1 : Fin k0_t1_loop.trips) : Fin 1 → Nat :=
  let c34_i32_297 : BitVec 32 := 34#32
  let c0_i32 : BitVec 32 := 0#32
  let c1_i32 : BitVec 32 := 1#32
  let arg14 : BitVec 32 := Scf.iv c0_i32 c1_i32 k0_t1
  let v490 : BitVec 32 := Scalar.muli c34_i32_297 arg14
  let c3_i32 : BitVec 32 := 3#32
  let v491 : BitVec 32 := Scalar.addi v490 c3_i32
  let c2_i32_298 : BitVec 32 := 2#32
  let v492 : BitVec 32 := Scalar.addi v491 c2_i32_298
  let v493 : Index := Scalar.indexCast v492
  ![v493.toNat]
def k0_mult6 (v496 : BitVec 32) : BitVec 32 :=
  let c512_i32_299 : BitVec 32 := 512#32
  let v497 : BitVec 32 := Scalar.muli v496 c512_i32_299
  v497

def k0_off34 (v496 : BitVec 32) : Fin 4 → Nat :=
  let c0_300 : Index := 0#32
  let c0_301 : Index := 0#32
  let c512_i32_299 : BitVec 32 := 512#32
  let v497 : BitVec 32 := Scalar.muli v496 c512_i32_299
  let v498 : BitVec 32 := v497
  let v499 : Index := Scalar.indexCast v498
  let c0_302 : Index := 0#32
  ![0, 0, v499.toNat, 0]
def k0_off35 (v496 : BitVec 32) : Fin 3 → Nat :=
  let c0_303 : Index := 0#32
  let c512_i32_299 : BitVec 32 := 512#32
  let v497 : BitVec 32 := Scalar.muli v496 c512_i32_299
  let v498 : BitVec 32 := v497
  let v502 : Index := Scalar.indexCast v498
  let c0_304 : Index := 0#32
  ![0, v502.toNat, 0]

def k0_chk17 (v496 : BitVec 32) : Prop :=
  (512 ∣ (k0_mult6 v496).toNat) ∧
  (∀ a, (k0_off34 v496) a + S1x1x512x128.size a ≤ S1x1x8192x128.size a) ∧
  (∀ a, (k0_off35 v496) a + S1x512x128.size a ≤ S1x8192x128.size a)
theorem k0_mult6_dvd : ∀ (v496 : BitVec 32) (k0_hw17 : k0_chk17 v496), 512 ∣ (k0_mult6 v496).toNat := fun v496 k0_hw17 => k0_hw17.1
theorem k0_off34_inb : ∀ (v496 : BitVec 32) (k0_hw17 : k0_chk17 v496), ∀ a, (k0_off34 v496) a + S1x1x512x128.size a ≤ S1x1x8192x128.size a := fun v496 k0_hw17 => k0_hw17.2.1
theorem k0_off35_inb : ∀ (v496 : BitVec 32) (k0_hw17 : k0_chk17 v496), ∀ a, (k0_off35 v496) a + S1x512x128.size a ≤ S1x8192x128.size a := fun v496 k0_hw17 => k0_hw17.2.2

def k0_off36 (v494 : BitVec 32) : Fin 5 → Nat :=
  let c0_305 : Index := 0#32
  let c0_306 : Index := 0#32
  let v506 : Index := Scalar.indexCast v494
  let c0_307 : Index := 0#32
  let c0_308 : Index := 0#32
  ![0, 0, v506.toNat, 0, 0]

def k0_chk18 (v494 : BitVec 32) : Prop :=
  (∀ a, (k0_off36 v494) a + S1x1x1x256x512.size a ≤ S1x1x16x256x512.size a)
theorem k0_off36_inb : ∀ (v494 : BitVec 32) (k0_hw18 : k0_chk18 v494), ∀ a, (k0_off36 v494) a + S1x1x1x256x512.size a ≤ S1x1x16x256x512.size a := fun v494 k0_hw18 => k0_hw18

def k0_off37 (k0_t1 : Fin k0_t1_loop.trips) : Fin 1 → Nat :=
  let c34_i32_297 : BitVec 32 := 34#32
  let c0_i32 : BitVec 32 := 0#32
  let c1_i32 : BitVec 32 := 1#32
  let arg14 : BitVec 32 := Scf.iv c0_i32 c1_i32 k0_t1
  let v490 : BitVec 32 := Scalar.muli c34_i32_297 arg14
  let c3_i32 : BitVec 32 := 3#32
  let v491 : BitVec 32 := Scalar.addi v490 c3_i32
  let v519 : Index := Scalar.indexCast v491
  ![v519.toNat]
def k0_off38 (v522 : BitVec 32) : Fin 5 → Nat :=
  let c0_316 : Index := 0#32
  let c0_317 : Index := 0#32
  let v523 : Index := Scalar.indexCast v522
  let c0_318 : Index := 0#32
  let c0_319 : Index := 0#32
  ![0, 0, v523.toNat, 0, 0]

def k0_chk19 (v522 : BitVec 32) : Prop :=
  (∀ a, (k0_off38 v522) a + S1x1x1x128x512.size a ≤ S1x1x16x128x512.size a)
theorem k0_off38_inb : ∀ (v522 : BitVec 32) (k0_hw19 : k0_chk19 v522), ∀ a, (k0_off38 v522) a + S1x1x1x128x512.size a ≤ S1x1x16x128x512.size a := fun v522 k0_hw19 => k0_hw19

def k0_off39 (v520 : BitVec 32) : Fin 3 → Nat :=
  let v527 : Index := Scalar.indexCast v520
  let c0_320 : Index := 0#32
  let c0_321 : Index := 0#32
  ![v527.toNat, 0, 0]

def k0_off40 (v520 : BitVec 32) : Fin 3 → Nat :=
  let v538 : Index := Scalar.indexCast v520
  let c0_327 : Index := 0#32
  let c256_328 : Index := 256#32
  ![v538.toNat, 0, 256]

def k0_chk20 (v520 : BitVec 32) : Prop :=
  (∀ a, (k0_off39 v520) a + S1x144x256.size a ≤ S16x144x512.size a) ∧
  (∀ a, (k0_off40 v520) a + S1x144x256.size a ≤ S16x144x512.size a)
theorem k0_off39_inb : ∀ (v520 : BitVec 32) (k0_hw20 : k0_chk20 v520), ∀ a, (k0_off39 v520) a + S1x144x256.size a ≤ S16x144x512.size a := fun v520 k0_hw20 => k0_hw20.1
theorem k0_off40_inb : ∀ (v520 : BitVec 32) (k0_hw20 : k0_chk20 v520), ∀ a, (k0_off40 v520) a + S1x144x256.size a ≤ S16x144x512.size a := fun v520 k0_hw20 => k0_hw20.2

def k0_off41 (k0_t1 : Fin k0_t1_loop.trips) : Fin 1 → Nat :=
  let c34_i32_334 : BitVec 32 := 34#32
  let c0_i32 : BitVec 32 := 0#32
  let c1_i32 : BitVec 32 := 1#32
  let arg14 : BitVec 32 := Scf.iv c0_i32 c1_i32 k0_t1
  let v548 : BitVec 32 := Scalar.muli c34_i32_334 arg14
  let c4_i32_335 : BitVec 32 := 4#32
  let v549 : BitVec 32 := Scalar.addi v548 c4_i32_335
  let c2_i32_336 : BitVec 32 := 2#32
  let v550 : BitVec 32 := Scalar.addi v549 c2_i32_336
  let v551 : Index := Scalar.indexCast v550
  ![v551.toNat]
def k0_mult7 (v554 : BitVec 32) : BitVec 32 :=
  let c512_i32_337 : BitVec 32 := 512#32
  let v555 : BitVec 32 := Scalar.muli v554 c512_i32_337
  v555

def k0_off42 (v554 : BitVec 32) : Fin 4 → Nat :=
  let c0_338 : Index := 0#32
  let c0_339 : Index := 0#32
  let c512_i32_337 : BitVec 32 := 512#32
  let v555 : BitVec 32 := Scalar.muli v554 c512_i32_337
  let v556 : BitVec 32 := v555
  let v557 : Index := Scalar.indexCast v556
  let c0_340 : Index := 0#32
  ![0, 0, v557.toNat, 0]
def k0_off43 (v554 : BitVec 32) : Fin 3 → Nat :=
  let c0_341 : Index := 0#32
  let c512_i32_337 : BitVec 32 := 512#32
  let v555 : BitVec 32 := Scalar.muli v554 c512_i32_337
  let v556 : BitVec 32 := v555
  let v560 : Index := Scalar.indexCast v556
  let c0_342 : Index := 0#32
  ![0, v560.toNat, 0]

def k0_chk21 (v554 : BitVec 32) : Prop :=
  (512 ∣ (k0_mult7 v554).toNat) ∧
  (∀ a, (k0_off42 v554) a + S1x1x512x128.size a ≤ S1x1x8192x128.size a) ∧
  (∀ a, (k0_off43 v554) a + S1x512x128.size a ≤ S1x8192x128.size a)
theorem k0_mult7_dvd : ∀ (v554 : BitVec 32) (k0_hw21 : k0_chk21 v554), 512 ∣ (k0_mult7 v554).toNat := fun v554 k0_hw21 => k0_hw21.1
theorem k0_off42_inb : ∀ (v554 : BitVec 32) (k0_hw21 : k0_chk21 v554), ∀ a, (k0_off42 v554) a + S1x1x512x128.size a ≤ S1x1x8192x128.size a := fun v554 k0_hw21 => k0_hw21.2.1
theorem k0_off43_inb : ∀ (v554 : BitVec 32) (k0_hw21 : k0_chk21 v554), ∀ a, (k0_off43 v554) a + S1x512x128.size a ≤ S1x8192x128.size a := fun v554 k0_hw21 => k0_hw21.2.2

def k0_off44 (v552 : BitVec 32) : Fin 5 → Nat :=
  let c0_343 : Index := 0#32
  let c0_344 : Index := 0#32
  let v564 : Index := Scalar.indexCast v552
  let c0_345 : Index := 0#32
  let c0_346 : Index := 0#32
  ![0, 0, v564.toNat, 0, 0]

def k0_chk22 (v552 : BitVec 32) : Prop :=
  (∀ a, (k0_off44 v552) a + S1x1x1x256x512.size a ≤ S1x1x16x256x512.size a)
theorem k0_off44_inb : ∀ (v552 : BitVec 32) (k0_hw22 : k0_chk22 v552), ∀ a, (k0_off44 v552) a + S1x1x1x256x512.size a ≤ S1x1x16x256x512.size a := fun v552 k0_hw22 => k0_hw22

def k0_off45 (k0_t1 : Fin k0_t1_loop.trips) : Fin 1 → Nat :=
  let c34_i32_334 : BitVec 32 := 34#32
  let c0_i32 : BitVec 32 := 0#32
  let c1_i32 : BitVec 32 := 1#32
  let arg14 : BitVec 32 := Scf.iv c0_i32 c1_i32 k0_t1
  let v548 : BitVec 32 := Scalar.muli c34_i32_334 arg14
  let c4_i32_335 : BitVec 32 := 4#32
  let v549 : BitVec 32 := Scalar.addi v548 c4_i32_335
  let v577 : Index := Scalar.indexCast v549
  ![v577.toNat]
def k0_off46 (v580 : BitVec 32) : Fin 5 → Nat :=
  let c0_354 : Index := 0#32
  let c0_355 : Index := 0#32
  let v581 : Index := Scalar.indexCast v580
  let c0_356 : Index := 0#32
  let c0_357 : Index := 0#32
  ![0, 0, v581.toNat, 0, 0]

def k0_chk23 (v580 : BitVec 32) : Prop :=
  (∀ a, (k0_off46 v580) a + S1x1x1x128x512.size a ≤ S1x1x16x128x512.size a)
theorem k0_off46_inb : ∀ (v580 : BitVec 32) (k0_hw23 : k0_chk23 v580), ∀ a, (k0_off46 v580) a + S1x1x1x128x512.size a ≤ S1x1x16x128x512.size a := fun v580 k0_hw23 => k0_hw23

def k0_off47 (v578 : BitVec 32) : Fin 3 → Nat :=
  let v585 : Index := Scalar.indexCast v578
  let c0_358 : Index := 0#32
  let c0_359 : Index := 0#32
  ![v585.toNat, 0, 0]

def k0_chk24 (v578 : BitVec 32) : Prop :=
  (∀ a, (k0_off47 v578) a + S1x144x512.size a ≤ S16x144x512.size a)
theorem k0_off47_inb : ∀ (v578 : BitVec 32) (k0_hw24 : k0_chk24 v578), ∀ a, (k0_off47 v578) a + S1x144x512.size a ≤ S16x144x512.size a := fun v578 k0_hw24 => k0_hw24

def k0_off48 (k0_t1 : Fin k0_t1_loop.trips) : Fin 1 → Nat :=
  let c34_i32_365 : BitVec 32 := 34#32
  let c0_i32 : BitVec 32 := 0#32
  let c1_i32 : BitVec 32 := 1#32
  let arg14 : BitVec 32 := Scf.iv c0_i32 c1_i32 k0_t1
  let v595 : BitVec 32 := Scalar.muli c34_i32_365 arg14
  let c5_i32 : BitVec 32 := 5#32
  let v596 : BitVec 32 := Scalar.addi v595 c5_i32
  let c2_i32_366 : BitVec 32 := 2#32
  let v597 : BitVec 32 := Scalar.addi v596 c2_i32_366
  let v598 : Index := Scalar.indexCast v597
  ![v598.toNat]
def k0_mult8 (v601 : BitVec 32) : BitVec 32 :=
  let c512_i32_367 : BitVec 32 := 512#32
  let v602 : BitVec 32 := Scalar.muli v601 c512_i32_367
  v602

def k0_off49 (v601 : BitVec 32) : Fin 4 → Nat :=
  let c0_368 : Index := 0#32
  let c0_369 : Index := 0#32
  let c512_i32_367 : BitVec 32 := 512#32
  let v602 : BitVec 32 := Scalar.muli v601 c512_i32_367
  let v603 : BitVec 32 := v602
  let v604 : Index := Scalar.indexCast v603
  let c0_370 : Index := 0#32
  ![0, 0, v604.toNat, 0]
def k0_off50 (v601 : BitVec 32) : Fin 3 → Nat :=
  let c0_371 : Index := 0#32
  let c512_i32_367 : BitVec 32 := 512#32
  let v602 : BitVec 32 := Scalar.muli v601 c512_i32_367
  let v603 : BitVec 32 := v602
  let v607 : Index := Scalar.indexCast v603
  let c0_372 : Index := 0#32
  ![0, v607.toNat, 0]

def k0_chk25 (v601 : BitVec 32) : Prop :=
  (512 ∣ (k0_mult8 v601).toNat) ∧
  (∀ a, (k0_off49 v601) a + S1x1x512x128.size a ≤ S1x1x8192x128.size a) ∧
  (∀ a, (k0_off50 v601) a + S1x512x128.size a ≤ S1x8192x128.size a)
theorem k0_mult8_dvd : ∀ (v601 : BitVec 32) (k0_hw25 : k0_chk25 v601), 512 ∣ (k0_mult8 v601).toNat := fun v601 k0_hw25 => k0_hw25.1
theorem k0_off49_inb : ∀ (v601 : BitVec 32) (k0_hw25 : k0_chk25 v601), ∀ a, (k0_off49 v601) a + S1x1x512x128.size a ≤ S1x1x8192x128.size a := fun v601 k0_hw25 => k0_hw25.2.1
theorem k0_off50_inb : ∀ (v601 : BitVec 32) (k0_hw25 : k0_chk25 v601), ∀ a, (k0_off50 v601) a + S1x512x128.size a ≤ S1x8192x128.size a := fun v601 k0_hw25 => k0_hw25.2.2

def k0_off51 (v599 : BitVec 32) : Fin 5 → Nat :=
  let c0_373 : Index := 0#32
  let c0_374 : Index := 0#32
  let v611 : Index := Scalar.indexCast v599
  let c0_375 : Index := 0#32
  let c0_376 : Index := 0#32
  ![0, 0, v611.toNat, 0, 0]

def k0_chk26 (v599 : BitVec 32) : Prop :=
  (∀ a, (k0_off51 v599) a + S1x1x1x256x512.size a ≤ S1x1x16x256x512.size a)
theorem k0_off51_inb : ∀ (v599 : BitVec 32) (k0_hw26 : k0_chk26 v599), ∀ a, (k0_off51 v599) a + S1x1x1x256x512.size a ≤ S1x1x16x256x512.size a := fun v599 k0_hw26 => k0_hw26

def k0_off52 (k0_t1 : Fin k0_t1_loop.trips) : Fin 1 → Nat :=
  let c34_i32_365 : BitVec 32 := 34#32
  let c0_i32 : BitVec 32 := 0#32
  let c1_i32 : BitVec 32 := 1#32
  let arg14 : BitVec 32 := Scf.iv c0_i32 c1_i32 k0_t1
  let v595 : BitVec 32 := Scalar.muli c34_i32_365 arg14
  let c5_i32 : BitVec 32 := 5#32
  let v596 : BitVec 32 := Scalar.addi v595 c5_i32
  let v624 : Index := Scalar.indexCast v596
  ![v624.toNat]
def k0_off53 (v627 : BitVec 32) : Fin 5 → Nat :=
  let c0_384 : Index := 0#32
  let c0_385 : Index := 0#32
  let v628 : Index := Scalar.indexCast v627
  let c0_386 : Index := 0#32
  let c0_387 : Index := 0#32
  ![0, 0, v628.toNat, 0, 0]

def k0_chk27 (v627 : BitVec 32) : Prop :=
  (∀ a, (k0_off53 v627) a + S1x1x1x128x512.size a ≤ S1x1x16x128x512.size a)
theorem k0_off53_inb : ∀ (v627 : BitVec 32) (k0_hw27 : k0_chk27 v627), ∀ a, (k0_off53 v627) a + S1x1x1x128x512.size a ≤ S1x1x16x128x512.size a := fun v627 k0_hw27 => k0_hw27

def k0_off54 (v625 : BitVec 32) : Fin 3 → Nat :=
  let v632 : Index := Scalar.indexCast v625
  let c0_388 : Index := 0#32
  let c0_389 : Index := 0#32
  ![v632.toNat, 0, 0]

def k0_chk28 (v625 : BitVec 32) : Prop :=
  (∀ a, (k0_off54 v625) a + S1x144x512.size a ≤ S16x144x512.size a)
theorem k0_off54_inb : ∀ (v625 : BitVec 32) (k0_hw28 : k0_chk28 v625), ∀ a, (k0_off54 v625) a + S1x144x512.size a ≤ S16x144x512.size a := fun v625 k0_hw28 => k0_hw28

def k0_off55 (k0_t1 : Fin k0_t1_loop.trips) : Fin 1 → Nat :=
  let c34_i32_395 : BitVec 32 := 34#32
  let c0_i32 : BitVec 32 := 0#32
  let c1_i32 : BitVec 32 := 1#32
  let arg14 : BitVec 32 := Scf.iv c0_i32 c1_i32 k0_t1
  let v642 : BitVec 32 := Scalar.muli c34_i32_395 arg14
  let c6_i32 : BitVec 32 := 6#32
  let v643 : BitVec 32 := Scalar.addi v642 c6_i32
  let c2_i32_396 : BitVec 32 := 2#32
  let v644 : BitVec 32 := Scalar.addi v643 c2_i32_396
  let v645 : Index := Scalar.indexCast v644
  ![v645.toNat]
def k0_mult9 (v648 : BitVec 32) : BitVec 32 :=
  let c512_i32_397 : BitVec 32 := 512#32
  let v649 : BitVec 32 := Scalar.muli v648 c512_i32_397
  v649

def k0_off56 (v648 : BitVec 32) : Fin 4 → Nat :=
  let c0_398 : Index := 0#32
  let c0_399 : Index := 0#32
  let c512_i32_397 : BitVec 32 := 512#32
  let v649 : BitVec 32 := Scalar.muli v648 c512_i32_397
  let v650 : BitVec 32 := v649
  let v651 : Index := Scalar.indexCast v650
  let c0_400 : Index := 0#32
  ![0, 0, v651.toNat, 0]
def k0_off57 (v648 : BitVec 32) : Fin 3 → Nat :=
  let c0_401 : Index := 0#32
  let c512_i32_397 : BitVec 32 := 512#32
  let v649 : BitVec 32 := Scalar.muli v648 c512_i32_397
  let v650 : BitVec 32 := v649
  let v654 : Index := Scalar.indexCast v650
  let c0_402 : Index := 0#32
  ![0, v654.toNat, 0]

def k0_chk29 (v648 : BitVec 32) : Prop :=
  (512 ∣ (k0_mult9 v648).toNat) ∧
  (∀ a, (k0_off56 v648) a + S1x1x512x128.size a ≤ S1x1x8192x128.size a) ∧
  (∀ a, (k0_off57 v648) a + S1x512x128.size a ≤ S1x8192x128.size a)
theorem k0_mult9_dvd : ∀ (v648 : BitVec 32) (k0_hw29 : k0_chk29 v648), 512 ∣ (k0_mult9 v648).toNat := fun v648 k0_hw29 => k0_hw29.1
theorem k0_off56_inb : ∀ (v648 : BitVec 32) (k0_hw29 : k0_chk29 v648), ∀ a, (k0_off56 v648) a + S1x1x512x128.size a ≤ S1x1x8192x128.size a := fun v648 k0_hw29 => k0_hw29.2.1
theorem k0_off57_inb : ∀ (v648 : BitVec 32) (k0_hw29 : k0_chk29 v648), ∀ a, (k0_off57 v648) a + S1x512x128.size a ≤ S1x8192x128.size a := fun v648 k0_hw29 => k0_hw29.2.2

def k0_off58 (v646 : BitVec 32) : Fin 5 → Nat :=
  let c0_403 : Index := 0#32
  let c0_404 : Index := 0#32
  let v658 : Index := Scalar.indexCast v646
  let c0_405 : Index := 0#32
  let c0_406 : Index := 0#32
  ![0, 0, v658.toNat, 0, 0]

def k0_chk30 (v646 : BitVec 32) : Prop :=
  (∀ a, (k0_off58 v646) a + S1x1x1x256x512.size a ≤ S1x1x16x256x512.size a)
theorem k0_off58_inb : ∀ (v646 : BitVec 32) (k0_hw30 : k0_chk30 v646), ∀ a, (k0_off58 v646) a + S1x1x1x256x512.size a ≤ S1x1x16x256x512.size a := fun v646 k0_hw30 => k0_hw30

def k0_off59 (k0_t1 : Fin k0_t1_loop.trips) : Fin 1 → Nat :=
  let c34_i32_395 : BitVec 32 := 34#32
  let c0_i32 : BitVec 32 := 0#32
  let c1_i32 : BitVec 32 := 1#32
  let arg14 : BitVec 32 := Scf.iv c0_i32 c1_i32 k0_t1
  let v642 : BitVec 32 := Scalar.muli c34_i32_395 arg14
  let c6_i32 : BitVec 32 := 6#32
  let v643 : BitVec 32 := Scalar.addi v642 c6_i32
  let v671 : Index := Scalar.indexCast v643
  ![v671.toNat]
def k0_off60 (v674 : BitVec 32) : Fin 5 → Nat :=
  let c0_414 : Index := 0#32
  let c0_415 : Index := 0#32
  let v675 : Index := Scalar.indexCast v674
  let c0_416 : Index := 0#32
  let c0_417 : Index := 0#32
  ![0, 0, v675.toNat, 0, 0]

def k0_chk31 (v674 : BitVec 32) : Prop :=
  (∀ a, (k0_off60 v674) a + S1x1x1x128x512.size a ≤ S1x1x16x128x512.size a)
theorem k0_off60_inb : ∀ (v674 : BitVec 32) (k0_hw31 : k0_chk31 v674), ∀ a, (k0_off60 v674) a + S1x1x1x128x512.size a ≤ S1x1x16x128x512.size a := fun v674 k0_hw31 => k0_hw31

def k0_off61 (v672 : BitVec 32) : Fin 3 → Nat :=
  let v679 : Index := Scalar.indexCast v672
  let c0_418 : Index := 0#32
  let c0_419 : Index := 0#32
  ![v679.toNat, 0, 0]

def k0_chk32 (v672 : BitVec 32) : Prop :=
  (∀ a, (k0_off61 v672) a + S1x144x512.size a ≤ S16x144x512.size a)
theorem k0_off61_inb : ∀ (v672 : BitVec 32) (k0_hw32 : k0_chk32 v672), ∀ a, (k0_off61 v672) a + S1x144x512.size a ≤ S16x144x512.size a := fun v672 k0_hw32 => k0_hw32

def k0_off62 (k0_t1 : Fin k0_t1_loop.trips) : Fin 1 → Nat :=
  let c34_i32_425 : BitVec 32 := 34#32
  let c0_i32 : BitVec 32 := 0#32
  let c1_i32 : BitVec 32 := 1#32
  let arg14 : BitVec 32 := Scf.iv c0_i32 c1_i32 k0_t1
  let v689 : BitVec 32 := Scalar.muli c34_i32_425 arg14
  let c7_i32 : BitVec 32 := 7#32
  let v690 : BitVec 32 := Scalar.addi v689 c7_i32
  let c2_i32_426 : BitVec 32 := 2#32
  let v691 : BitVec 32 := Scalar.addi v690 c2_i32_426
  let v692 : Index := Scalar.indexCast v691
  ![v692.toNat]
def k0_mult10 (v695 : BitVec 32) : BitVec 32 :=
  let c512_i32_427 : BitVec 32 := 512#32
  let v696 : BitVec 32 := Scalar.muli v695 c512_i32_427
  v696

def k0_off63 (v695 : BitVec 32) : Fin 4 → Nat :=
  let c0_428 : Index := 0#32
  let c0_429 : Index := 0#32
  let c512_i32_427 : BitVec 32 := 512#32
  let v696 : BitVec 32 := Scalar.muli v695 c512_i32_427
  let v697 : BitVec 32 := v696
  let v698 : Index := Scalar.indexCast v697
  let c0_430 : Index := 0#32
  ![0, 0, v698.toNat, 0]
def k0_off64 (v695 : BitVec 32) : Fin 3 → Nat :=
  let c0_431 : Index := 0#32
  let c512_i32_427 : BitVec 32 := 512#32
  let v696 : BitVec 32 := Scalar.muli v695 c512_i32_427
  let v697 : BitVec 32 := v696
  let v701 : Index := Scalar.indexCast v697
  let c0_432 : Index := 0#32
  ![0, v701.toNat, 0]

def k0_chk33 (v695 : BitVec 32) : Prop :=
  (512 ∣ (k0_mult10 v695).toNat) ∧
  (∀ a, (k0_off63 v695) a + S1x1x512x128.size a ≤ S1x1x8192x128.size a) ∧
  (∀ a, (k0_off64 v695) a + S1x512x128.size a ≤ S1x8192x128.size a)
theorem k0_mult10_dvd : ∀ (v695 : BitVec 32) (k0_hw33 : k0_chk33 v695), 512 ∣ (k0_mult10 v695).toNat := fun v695 k0_hw33 => k0_hw33.1
theorem k0_off63_inb : ∀ (v695 : BitVec 32) (k0_hw33 : k0_chk33 v695), ∀ a, (k0_off63 v695) a + S1x1x512x128.size a ≤ S1x1x8192x128.size a := fun v695 k0_hw33 => k0_hw33.2.1
theorem k0_off64_inb : ∀ (v695 : BitVec 32) (k0_hw33 : k0_chk33 v695), ∀ a, (k0_off64 v695) a + S1x512x128.size a ≤ S1x8192x128.size a := fun v695 k0_hw33 => k0_hw33.2.2

def k0_off65 (v693 : BitVec 32) : Fin 5 → Nat :=
  let c0_433 : Index := 0#32
  let c0_434 : Index := 0#32
  let v705 : Index := Scalar.indexCast v693
  let c0_435 : Index := 0#32
  let c0_436 : Index := 0#32
  ![0, 0, v705.toNat, 0, 0]

def k0_chk34 (v693 : BitVec 32) : Prop :=
  (∀ a, (k0_off65 v693) a + S1x1x1x256x512.size a ≤ S1x1x16x256x512.size a)
theorem k0_off65_inb : ∀ (v693 : BitVec 32) (k0_hw34 : k0_chk34 v693), ∀ a, (k0_off65 v693) a + S1x1x1x256x512.size a ≤ S1x1x16x256x512.size a := fun v693 k0_hw34 => k0_hw34

def k0_off66 (k0_t1 : Fin k0_t1_loop.trips) : Fin 1 → Nat :=
  let c34_i32_425 : BitVec 32 := 34#32
  let c0_i32 : BitVec 32 := 0#32
  let c1_i32 : BitVec 32 := 1#32
  let arg14 : BitVec 32 := Scf.iv c0_i32 c1_i32 k0_t1
  let v689 : BitVec 32 := Scalar.muli c34_i32_425 arg14
  let c7_i32 : BitVec 32 := 7#32
  let v690 : BitVec 32 := Scalar.addi v689 c7_i32
  let v718 : Index := Scalar.indexCast v690
  ![v718.toNat]
def k0_off67 (v721 : BitVec 32) : Fin 5 → Nat :=
  let c0_444 : Index := 0#32
  let c0_445 : Index := 0#32
  let v722 : Index := Scalar.indexCast v721
  let c0_446 : Index := 0#32
  let c0_447 : Index := 0#32
  ![0, 0, v722.toNat, 0, 0]

def k0_chk35 (v721 : BitVec 32) : Prop :=
  (∀ a, (k0_off67 v721) a + S1x1x1x128x512.size a ≤ S1x1x16x128x512.size a)
theorem k0_off67_inb : ∀ (v721 : BitVec 32) (k0_hw35 : k0_chk35 v721), ∀ a, (k0_off67 v721) a + S1x1x1x128x512.size a ≤ S1x1x16x128x512.size a := fun v721 k0_hw35 => k0_hw35

def k0_off68 (v719 : BitVec 32) : Fin 3 → Nat :=
  let v726 : Index := Scalar.indexCast v719
  let c0_448 : Index := 0#32
  let c0_449 : Index := 0#32
  ![v726.toNat, 0, 0]

def k0_chk36 (v719 : BitVec 32) : Prop :=
  (∀ a, (k0_off68 v719) a + S1x144x512.size a ≤ S16x144x512.size a)
theorem k0_off68_inb : ∀ (v719 : BitVec 32) (k0_hw36 : k0_chk36 v719), ∀ a, (k0_off68 v719) a + S1x144x512.size a ≤ S16x144x512.size a := fun v719 k0_hw36 => k0_hw36

def k0_off69 (k0_t1 : Fin k0_t1_loop.trips) : Fin 1 → Nat :=
  let c34_i32_455 : BitVec 32 := 34#32
  let c0_i32 : BitVec 32 := 0#32
  let c1_i32 : BitVec 32 := 1#32
  let arg14 : BitVec 32 := Scf.iv c0_i32 c1_i32 k0_t1
  let v736 : BitVec 32 := Scalar.muli c34_i32_455 arg14
  let c8_i32 : BitVec 32 := 8#32
  let v737 : BitVec 32 := Scalar.addi v736 c8_i32
  let c2_i32_456 : BitVec 32 := 2#32
  let v738 : BitVec 32 := Scalar.addi v737 c2_i32_456
  let v739 : Index := Scalar.indexCast v738
  ![v739.toNat]
def k0_mult11 (v742 : BitVec 32) : BitVec 32 :=
  let c512_i32_457 : BitVec 32 := 512#32
  let v743 : BitVec 32 := Scalar.muli v742 c512_i32_457
  v743

def k0_off70 (v742 : BitVec 32) : Fin 4 → Nat :=
  let c0_458 : Index := 0#32
  let c0_459 : Index := 0#32
  let c512_i32_457 : BitVec 32 := 512#32
  let v743 : BitVec 32 := Scalar.muli v742 c512_i32_457
  let v744 : BitVec 32 := v743
  let v745 : Index := Scalar.indexCast v744
  let c0_460 : Index := 0#32
  ![0, 0, v745.toNat, 0]
def k0_off71 (v742 : BitVec 32) : Fin 3 → Nat :=
  let c0_461 : Index := 0#32
  let c512_i32_457 : BitVec 32 := 512#32
  let v743 : BitVec 32 := Scalar.muli v742 c512_i32_457
  let v744 : BitVec 32 := v743
  let v748 : Index := Scalar.indexCast v744
  let c0_462 : Index := 0#32
  ![0, v748.toNat, 0]

def k0_chk37 (v742 : BitVec 32) : Prop :=
  (512 ∣ (k0_mult11 v742).toNat) ∧
  (∀ a, (k0_off70 v742) a + S1x1x512x128.size a ≤ S1x1x8192x128.size a) ∧
  (∀ a, (k0_off71 v742) a + S1x512x128.size a ≤ S1x8192x128.size a)
theorem k0_mult11_dvd : ∀ (v742 : BitVec 32) (k0_hw37 : k0_chk37 v742), 512 ∣ (k0_mult11 v742).toNat := fun v742 k0_hw37 => k0_hw37.1
theorem k0_off70_inb : ∀ (v742 : BitVec 32) (k0_hw37 : k0_chk37 v742), ∀ a, (k0_off70 v742) a + S1x1x512x128.size a ≤ S1x1x8192x128.size a := fun v742 k0_hw37 => k0_hw37.2.1
theorem k0_off71_inb : ∀ (v742 : BitVec 32) (k0_hw37 : k0_chk37 v742), ∀ a, (k0_off71 v742) a + S1x512x128.size a ≤ S1x8192x128.size a := fun v742 k0_hw37 => k0_hw37.2.2

def k0_off72 (v740 : BitVec 32) : Fin 5 → Nat :=
  let c0_463 : Index := 0#32
  let c0_464 : Index := 0#32
  let v752 : Index := Scalar.indexCast v740
  let c0_465 : Index := 0#32
  let c0_466 : Index := 0#32
  ![0, 0, v752.toNat, 0, 0]

def k0_chk38 (v740 : BitVec 32) : Prop :=
  (∀ a, (k0_off72 v740) a + S1x1x1x256x512.size a ≤ S1x1x16x256x512.size a)
theorem k0_off72_inb : ∀ (v740 : BitVec 32) (k0_hw38 : k0_chk38 v740), ∀ a, (k0_off72 v740) a + S1x1x1x256x512.size a ≤ S1x1x16x256x512.size a := fun v740 k0_hw38 => k0_hw38

def k0_off73 (k0_t1 : Fin k0_t1_loop.trips) : Fin 1 → Nat :=
  let c34_i32_455 : BitVec 32 := 34#32
  let c0_i32 : BitVec 32 := 0#32
  let c1_i32 : BitVec 32 := 1#32
  let arg14 : BitVec 32 := Scf.iv c0_i32 c1_i32 k0_t1
  let v736 : BitVec 32 := Scalar.muli c34_i32_455 arg14
  let c8_i32 : BitVec 32 := 8#32
  let v737 : BitVec 32 := Scalar.addi v736 c8_i32
  let v765 : Index := Scalar.indexCast v737
  ![v765.toNat]
def k0_off74 (v768 : BitVec 32) : Fin 5 → Nat :=
  let c0_474 : Index := 0#32
  let c0_475 : Index := 0#32
  let v769 : Index := Scalar.indexCast v768
  let c0_476 : Index := 0#32
  let c0_477 : Index := 0#32
  ![0, 0, v769.toNat, 0, 0]

def k0_chk39 (v768 : BitVec 32) : Prop :=
  (∀ a, (k0_off74 v768) a + S1x1x1x128x512.size a ≤ S1x1x16x128x512.size a)
theorem k0_off74_inb : ∀ (v768 : BitVec 32) (k0_hw39 : k0_chk39 v768), ∀ a, (k0_off74 v768) a + S1x1x1x128x512.size a ≤ S1x1x16x128x512.size a := fun v768 k0_hw39 => k0_hw39

def k0_off75 (v766 : BitVec 32) : Fin 3 → Nat :=
  let v773 : Index := Scalar.indexCast v766
  let c0_478 : Index := 0#32
  let c0_479 : Index := 0#32
  ![v773.toNat, 0, 0]

def k0_chk40 (v766 : BitVec 32) : Prop :=
  (∀ a, (k0_off75 v766) a + S1x144x512.size a ≤ S16x144x512.size a)
theorem k0_off75_inb : ∀ (v766 : BitVec 32) (k0_hw40 : k0_chk40 v766), ∀ a, (k0_off75 v766) a + S1x144x512.size a ≤ S16x144x512.size a := fun v766 k0_hw40 => k0_hw40

def k0_off76 (k0_t1 : Fin k0_t1_loop.trips) : Fin 1 → Nat :=
  let c34_i32_485 : BitVec 32 := 34#32
  let c0_i32 : BitVec 32 := 0#32
  let c1_i32 : BitVec 32 := 1#32
  let arg14 : BitVec 32 := Scf.iv c0_i32 c1_i32 k0_t1
  let v783 : BitVec 32 := Scalar.muli c34_i32_485 arg14
  let c9_i32 : BitVec 32 := 9#32
  let v784 : BitVec 32 := Scalar.addi v783 c9_i32
  let c2_i32_486 : BitVec 32 := 2#32
  let v785 : BitVec 32 := Scalar.addi v784 c2_i32_486
  let v786 : Index := Scalar.indexCast v785
  ![v786.toNat]
def k0_mult12 (v789 : BitVec 32) : BitVec 32 :=
  let c512_i32_487 : BitVec 32 := 512#32
  let v790 : BitVec 32 := Scalar.muli v789 c512_i32_487
  v790

def k0_off77 (v789 : BitVec 32) : Fin 4 → Nat :=
  let c0_488 : Index := 0#32
  let c0_489 : Index := 0#32
  let c512_i32_487 : BitVec 32 := 512#32
  let v790 : BitVec 32 := Scalar.muli v789 c512_i32_487
  let v791 : BitVec 32 := v790
  let v792 : Index := Scalar.indexCast v791
  let c0_490 : Index := 0#32
  ![0, 0, v792.toNat, 0]
def k0_off78 (v789 : BitVec 32) : Fin 3 → Nat :=
  let c0_491 : Index := 0#32
  let c512_i32_487 : BitVec 32 := 512#32
  let v790 : BitVec 32 := Scalar.muli v789 c512_i32_487
  let v791 : BitVec 32 := v790
  let v795 : Index := Scalar.indexCast v791
  let c0_492 : Index := 0#32
  ![0, v795.toNat, 0]

def k0_chk41 (v789 : BitVec 32) : Prop :=
  (512 ∣ (k0_mult12 v789).toNat) ∧
  (∀ a, (k0_off77 v789) a + S1x1x512x128.size a ≤ S1x1x8192x128.size a) ∧
  (∀ a, (k0_off78 v789) a + S1x512x128.size a ≤ S1x8192x128.size a)
theorem k0_mult12_dvd : ∀ (v789 : BitVec 32) (k0_hw41 : k0_chk41 v789), 512 ∣ (k0_mult12 v789).toNat := fun v789 k0_hw41 => k0_hw41.1
theorem k0_off77_inb : ∀ (v789 : BitVec 32) (k0_hw41 : k0_chk41 v789), ∀ a, (k0_off77 v789) a + S1x1x512x128.size a ≤ S1x1x8192x128.size a := fun v789 k0_hw41 => k0_hw41.2.1
theorem k0_off78_inb : ∀ (v789 : BitVec 32) (k0_hw41 : k0_chk41 v789), ∀ a, (k0_off78 v789) a + S1x512x128.size a ≤ S1x8192x128.size a := fun v789 k0_hw41 => k0_hw41.2.2

def k0_off79 (v787 : BitVec 32) : Fin 5 → Nat :=
  let c0_493 : Index := 0#32
  let c0_494 : Index := 0#32
  let v799 : Index := Scalar.indexCast v787
  let c0_495 : Index := 0#32
  let c0_496 : Index := 0#32
  ![0, 0, v799.toNat, 0, 0]

def k0_chk42 (v787 : BitVec 32) : Prop :=
  (∀ a, (k0_off79 v787) a + S1x1x1x256x512.size a ≤ S1x1x16x256x512.size a)
theorem k0_off79_inb : ∀ (v787 : BitVec 32) (k0_hw42 : k0_chk42 v787), ∀ a, (k0_off79 v787) a + S1x1x1x256x512.size a ≤ S1x1x16x256x512.size a := fun v787 k0_hw42 => k0_hw42

def k0_off80 (k0_t1 : Fin k0_t1_loop.trips) : Fin 1 → Nat :=
  let c34_i32_485 : BitVec 32 := 34#32
  let c0_i32 : BitVec 32 := 0#32
  let c1_i32 : BitVec 32 := 1#32
  let arg14 : BitVec 32 := Scf.iv c0_i32 c1_i32 k0_t1
  let v783 : BitVec 32 := Scalar.muli c34_i32_485 arg14
  let c9_i32 : BitVec 32 := 9#32
  let v784 : BitVec 32 := Scalar.addi v783 c9_i32
  let v812 : Index := Scalar.indexCast v784
  ![v812.toNat]
def k0_off81 (v815 : BitVec 32) : Fin 5 → Nat :=
  let c0_504 : Index := 0#32
  let c0_505 : Index := 0#32
  let v816 : Index := Scalar.indexCast v815
  let c0_506 : Index := 0#32
  let c0_507 : Index := 0#32
  ![0, 0, v816.toNat, 0, 0]

def k0_chk43 (v815 : BitVec 32) : Prop :=
  (∀ a, (k0_off81 v815) a + S1x1x1x128x512.size a ≤ S1x1x16x128x512.size a)
theorem k0_off81_inb : ∀ (v815 : BitVec 32) (k0_hw43 : k0_chk43 v815), ∀ a, (k0_off81 v815) a + S1x1x1x128x512.size a ≤ S1x1x16x128x512.size a := fun v815 k0_hw43 => k0_hw43

def k0_off82 (v813 : BitVec 32) : Fin 3 → Nat :=
  let v820 : Index := Scalar.indexCast v813
  let c0_508 : Index := 0#32
  let c0_509 : Index := 0#32
  ![v820.toNat, 0, 0]

def k0_chk44 (v813 : BitVec 32) : Prop :=
  (∀ a, (k0_off82 v813) a + S1x144x512.size a ≤ S16x144x512.size a)
theorem k0_off82_inb : ∀ (v813 : BitVec 32) (k0_hw44 : k0_chk44 v813), ∀ a, (k0_off82 v813) a + S1x144x512.size a ≤ S16x144x512.size a := fun v813 k0_hw44 => k0_hw44

def k0_off83 (k0_t1 : Fin k0_t1_loop.trips) : Fin 1 → Nat :=
  let c34_i32_515 : BitVec 32 := 34#32
  let c0_i32 : BitVec 32 := 0#32
  let c1_i32 : BitVec 32 := 1#32
  let arg14 : BitVec 32 := Scf.iv c0_i32 c1_i32 k0_t1
  let v830 : BitVec 32 := Scalar.muli c34_i32_515 arg14
  let c10_i32 : BitVec 32 := 10#32
  let v831 : BitVec 32 := Scalar.addi v830 c10_i32
  let c2_i32_516 : BitVec 32 := 2#32
  let v832 : BitVec 32 := Scalar.addi v831 c2_i32_516
  let v833 : Index := Scalar.indexCast v832
  ![v833.toNat]
def k0_mult13 (v836 : BitVec 32) : BitVec 32 :=
  let c512_i32_517 : BitVec 32 := 512#32
  let v837 : BitVec 32 := Scalar.muli v836 c512_i32_517
  v837

def k0_off84 (v836 : BitVec 32) : Fin 4 → Nat :=
  let c0_518 : Index := 0#32
  let c0_519 : Index := 0#32
  let c512_i32_517 : BitVec 32 := 512#32
  let v837 : BitVec 32 := Scalar.muli v836 c512_i32_517
  let v838 : BitVec 32 := v837
  let v839 : Index := Scalar.indexCast v838
  let c0_520 : Index := 0#32
  ![0, 0, v839.toNat, 0]
def k0_off85 (v836 : BitVec 32) : Fin 3 → Nat :=
  let c0_521 : Index := 0#32
  let c512_i32_517 : BitVec 32 := 512#32
  let v837 : BitVec 32 := Scalar.muli v836 c512_i32_517
  let v838 : BitVec 32 := v837
  let v842 : Index := Scalar.indexCast v838
  let c0_522 : Index := 0#32
  ![0, v842.toNat, 0]

def k0_chk45 (v836 : BitVec 32) : Prop :=
  (512 ∣ (k0_mult13 v836).toNat) ∧
  (∀ a, (k0_off84 v836) a + S1x1x512x128.size a ≤ S1x1x8192x128.size a) ∧
  (∀ a, (k0_off85 v836) a + S1x512x128.size a ≤ S1x8192x128.size a)
theorem k0_mult13_dvd : ∀ (v836 : BitVec 32) (k0_hw45 : k0_chk45 v836), 512 ∣ (k0_mult13 v836).toNat := fun v836 k0_hw45 => k0_hw45.1
theorem k0_off84_inb : ∀ (v836 : BitVec 32) (k0_hw45 : k0_chk45 v836), ∀ a, (k0_off84 v836) a + S1x1x512x128.size a ≤ S1x1x8192x128.size a := fun v836 k0_hw45 => k0_hw45.2.1
theorem k0_off85_inb : ∀ (v836 : BitVec 32) (k0_hw45 : k0_chk45 v836), ∀ a, (k0_off85 v836) a + S1x512x128.size a ≤ S1x8192x128.size a := fun v836 k0_hw45 => k0_hw45.2.2

def k0_off86 (v834 : BitVec 32) : Fin 5 → Nat :=
  let c0_523 : Index := 0#32
  let c0_524 : Index := 0#32
  let v846 : Index := Scalar.indexCast v834
  let c0_525 : Index := 0#32
  let c0_526 : Index := 0#32
  ![0, 0, v846.toNat, 0, 0]

def k0_chk46 (v834 : BitVec 32) : Prop :=
  (∀ a, (k0_off86 v834) a + S1x1x1x256x512.size a ≤ S1x1x16x256x512.size a)
theorem k0_off86_inb : ∀ (v834 : BitVec 32) (k0_hw46 : k0_chk46 v834), ∀ a, (k0_off86 v834) a + S1x1x1x256x512.size a ≤ S1x1x16x256x512.size a := fun v834 k0_hw46 => k0_hw46

def k0_off87 (k0_t1 : Fin k0_t1_loop.trips) : Fin 1 → Nat :=
  let c34_i32_515 : BitVec 32 := 34#32
  let c0_i32 : BitVec 32 := 0#32
  let c1_i32 : BitVec 32 := 1#32
  let arg14 : BitVec 32 := Scf.iv c0_i32 c1_i32 k0_t1
  let v830 : BitVec 32 := Scalar.muli c34_i32_515 arg14
  let c10_i32 : BitVec 32 := 10#32
  let v831 : BitVec 32 := Scalar.addi v830 c10_i32
  let v859 : Index := Scalar.indexCast v831
  ![v859.toNat]
def k0_off88 (v862 : BitVec 32) : Fin 5 → Nat :=
  let c0_534 : Index := 0#32
  let c0_535 : Index := 0#32
  let v863 : Index := Scalar.indexCast v862
  let c0_536 : Index := 0#32
  let c0_537 : Index := 0#32
  ![0, 0, v863.toNat, 0, 0]

def k0_chk47 (v862 : BitVec 32) : Prop :=
  (∀ a, (k0_off88 v862) a + S1x1x1x128x512.size a ≤ S1x1x16x128x512.size a)
theorem k0_off88_inb : ∀ (v862 : BitVec 32) (k0_hw47 : k0_chk47 v862), ∀ a, (k0_off88 v862) a + S1x1x1x128x512.size a ≤ S1x1x16x128x512.size a := fun v862 k0_hw47 => k0_hw47

def k0_off89 (v860 : BitVec 32) : Fin 3 → Nat :=
  let v867 : Index := Scalar.indexCast v860
  let c0_538 : Index := 0#32
  let c0_539 : Index := 0#32
  ![v867.toNat, 0, 0]

def k0_chk48 (v860 : BitVec 32) : Prop :=
  (∀ a, (k0_off89 v860) a + S1x144x512.size a ≤ S16x144x512.size a)
theorem k0_off89_inb : ∀ (v860 : BitVec 32) (k0_hw48 : k0_chk48 v860), ∀ a, (k0_off89 v860) a + S1x144x512.size a ≤ S16x144x512.size a := fun v860 k0_hw48 => k0_hw48

def k0_off90 (k0_t1 : Fin k0_t1_loop.trips) : Fin 1 → Nat :=
  let c34_i32_545 : BitVec 32 := 34#32
  let c0_i32 : BitVec 32 := 0#32
  let c1_i32 : BitVec 32 := 1#32
  let arg14 : BitVec 32 := Scf.iv c0_i32 c1_i32 k0_t1
  let v877 : BitVec 32 := Scalar.muli c34_i32_545 arg14
  let c11_i32 : BitVec 32 := 11#32
  let v878 : BitVec 32 := Scalar.addi v877 c11_i32
  let c2_i32_546 : BitVec 32 := 2#32
  let v879 : BitVec 32 := Scalar.addi v878 c2_i32_546
  let v880 : Index := Scalar.indexCast v879
  ![v880.toNat]
def k0_mult14 (v883 : BitVec 32) : BitVec 32 :=
  let c512_i32_547 : BitVec 32 := 512#32
  let v884 : BitVec 32 := Scalar.muli v883 c512_i32_547
  v884

def k0_off91 (v883 : BitVec 32) : Fin 4 → Nat :=
  let c0_548 : Index := 0#32
  let c0_549 : Index := 0#32
  let c512_i32_547 : BitVec 32 := 512#32
  let v884 : BitVec 32 := Scalar.muli v883 c512_i32_547
  let v885 : BitVec 32 := v884
  let v886 : Index := Scalar.indexCast v885
  let c0_550 : Index := 0#32
  ![0, 0, v886.toNat, 0]
def k0_off92 (v883 : BitVec 32) : Fin 3 → Nat :=
  let c0_551 : Index := 0#32
  let c512_i32_547 : BitVec 32 := 512#32
  let v884 : BitVec 32 := Scalar.muli v883 c512_i32_547
  let v885 : BitVec 32 := v884
  let v889 : Index := Scalar.indexCast v885
  let c0_552 : Index := 0#32
  ![0, v889.toNat, 0]

def k0_chk49 (v883 : BitVec 32) : Prop :=
  (512 ∣ (k0_mult14 v883).toNat) ∧
  (∀ a, (k0_off91 v883) a + S1x1x512x128.size a ≤ S1x1x8192x128.size a) ∧
  (∀ a, (k0_off92 v883) a + S1x512x128.size a ≤ S1x8192x128.size a)
theorem k0_mult14_dvd : ∀ (v883 : BitVec 32) (k0_hw49 : k0_chk49 v883), 512 ∣ (k0_mult14 v883).toNat := fun v883 k0_hw49 => k0_hw49.1
theorem k0_off91_inb : ∀ (v883 : BitVec 32) (k0_hw49 : k0_chk49 v883), ∀ a, (k0_off91 v883) a + S1x1x512x128.size a ≤ S1x1x8192x128.size a := fun v883 k0_hw49 => k0_hw49.2.1
theorem k0_off92_inb : ∀ (v883 : BitVec 32) (k0_hw49 : k0_chk49 v883), ∀ a, (k0_off92 v883) a + S1x512x128.size a ≤ S1x8192x128.size a := fun v883 k0_hw49 => k0_hw49.2.2

def k0_off93 (v881 : BitVec 32) : Fin 5 → Nat :=
  let c0_553 : Index := 0#32
  let c0_554 : Index := 0#32
  let v893 : Index := Scalar.indexCast v881
  let c0_555 : Index := 0#32
  let c0_556 : Index := 0#32
  ![0, 0, v893.toNat, 0, 0]

def k0_chk50 (v881 : BitVec 32) : Prop :=
  (∀ a, (k0_off93 v881) a + S1x1x1x256x512.size a ≤ S1x1x16x256x512.size a)
theorem k0_off93_inb : ∀ (v881 : BitVec 32) (k0_hw50 : k0_chk50 v881), ∀ a, (k0_off93 v881) a + S1x1x1x256x512.size a ≤ S1x1x16x256x512.size a := fun v881 k0_hw50 => k0_hw50

def k0_off94 (k0_t1 : Fin k0_t1_loop.trips) : Fin 1 → Nat :=
  let c34_i32_545 : BitVec 32 := 34#32
  let c0_i32 : BitVec 32 := 0#32
  let c1_i32 : BitVec 32 := 1#32
  let arg14 : BitVec 32 := Scf.iv c0_i32 c1_i32 k0_t1
  let v877 : BitVec 32 := Scalar.muli c34_i32_545 arg14
  let c11_i32 : BitVec 32 := 11#32
  let v878 : BitVec 32 := Scalar.addi v877 c11_i32
  let v906 : Index := Scalar.indexCast v878
  ![v906.toNat]
def k0_off95 (v909 : BitVec 32) : Fin 5 → Nat :=
  let c0_564 : Index := 0#32
  let c0_565 : Index := 0#32
  let v910 : Index := Scalar.indexCast v909
  let c0_566 : Index := 0#32
  let c0_567 : Index := 0#32
  ![0, 0, v910.toNat, 0, 0]

def k0_chk51 (v909 : BitVec 32) : Prop :=
  (∀ a, (k0_off95 v909) a + S1x1x1x128x512.size a ≤ S1x1x16x128x512.size a)
theorem k0_off95_inb : ∀ (v909 : BitVec 32) (k0_hw51 : k0_chk51 v909), ∀ a, (k0_off95 v909) a + S1x1x1x128x512.size a ≤ S1x1x16x128x512.size a := fun v909 k0_hw51 => k0_hw51

def k0_off96 (v907 : BitVec 32) : Fin 3 → Nat :=
  let v914 : Index := Scalar.indexCast v907
  let c0_568 : Index := 0#32
  let c0_569 : Index := 0#32
  ![v914.toNat, 0, 0]

def k0_chk52 (v907 : BitVec 32) : Prop :=
  (∀ a, (k0_off96 v907) a + S1x144x512.size a ≤ S16x144x512.size a)
theorem k0_off96_inb : ∀ (v907 : BitVec 32) (k0_hw52 : k0_chk52 v907), ∀ a, (k0_off96 v907) a + S1x144x512.size a ≤ S16x144x512.size a := fun v907 k0_hw52 => k0_hw52

def k0_off97 (k0_t1 : Fin k0_t1_loop.trips) : Fin 1 → Nat :=
  let c34_i32_575 : BitVec 32 := 34#32
  let c0_i32 : BitVec 32 := 0#32
  let c1_i32 : BitVec 32 := 1#32
  let arg14 : BitVec 32 := Scf.iv c0_i32 c1_i32 k0_t1
  let v924 : BitVec 32 := Scalar.muli c34_i32_575 arg14
  let c12_i32 : BitVec 32 := 12#32
  let v925 : BitVec 32 := Scalar.addi v924 c12_i32
  let c2_i32_576 : BitVec 32 := 2#32
  let v926 : BitVec 32 := Scalar.addi v925 c2_i32_576
  let v927 : Index := Scalar.indexCast v926
  ![v927.toNat]
def k0_mult15 (v930 : BitVec 32) : BitVec 32 :=
  let c512_i32_577 : BitVec 32 := 512#32
  let v931 : BitVec 32 := Scalar.muli v930 c512_i32_577
  v931

def k0_off98 (v930 : BitVec 32) : Fin 4 → Nat :=
  let c0_578 : Index := 0#32
  let c0_579 : Index := 0#32
  let c512_i32_577 : BitVec 32 := 512#32
  let v931 : BitVec 32 := Scalar.muli v930 c512_i32_577
  let v932 : BitVec 32 := v931
  let v933 : Index := Scalar.indexCast v932
  let c0_580 : Index := 0#32
  ![0, 0, v933.toNat, 0]
def k0_off99 (v930 : BitVec 32) : Fin 3 → Nat :=
  let c0_581 : Index := 0#32
  let c512_i32_577 : BitVec 32 := 512#32
  let v931 : BitVec 32 := Scalar.muli v930 c512_i32_577
  let v932 : BitVec 32 := v931
  let v936 : Index := Scalar.indexCast v932
  let c0_582 : Index := 0#32
  ![0, v936.toNat, 0]

def k0_chk53 (v930 : BitVec 32) : Prop :=
  (512 ∣ (k0_mult15 v930).toNat) ∧
  (∀ a, (k0_off98 v930) a + S1x1x512x128.size a ≤ S1x1x8192x128.size a) ∧
  (∀ a, (k0_off99 v930) a + S1x512x128.size a ≤ S1x8192x128.size a)
theorem k0_mult15_dvd : ∀ (v930 : BitVec 32) (k0_hw53 : k0_chk53 v930), 512 ∣ (k0_mult15 v930).toNat := fun v930 k0_hw53 => k0_hw53.1
theorem k0_off98_inb : ∀ (v930 : BitVec 32) (k0_hw53 : k0_chk53 v930), ∀ a, (k0_off98 v930) a + S1x1x512x128.size a ≤ S1x1x8192x128.size a := fun v930 k0_hw53 => k0_hw53.2.1
theorem k0_off99_inb : ∀ (v930 : BitVec 32) (k0_hw53 : k0_chk53 v930), ∀ a, (k0_off99 v930) a + S1x512x128.size a ≤ S1x8192x128.size a := fun v930 k0_hw53 => k0_hw53.2.2

def k0_off100 (v928 : BitVec 32) : Fin 5 → Nat :=
  let c0_583 : Index := 0#32
  let c0_584 : Index := 0#32
  let v940 : Index := Scalar.indexCast v928
  let c0_585 : Index := 0#32
  let c0_586 : Index := 0#32
  ![0, 0, v940.toNat, 0, 0]

def k0_chk54 (v928 : BitVec 32) : Prop :=
  (∀ a, (k0_off100 v928) a + S1x1x1x256x512.size a ≤ S1x1x16x256x512.size a)
theorem k0_off100_inb : ∀ (v928 : BitVec 32) (k0_hw54 : k0_chk54 v928), ∀ a, (k0_off100 v928) a + S1x1x1x256x512.size a ≤ S1x1x16x256x512.size a := fun v928 k0_hw54 => k0_hw54

def k0_off101 (k0_t1 : Fin k0_t1_loop.trips) : Fin 1 → Nat :=
  let c34_i32_575 : BitVec 32 := 34#32
  let c0_i32 : BitVec 32 := 0#32
  let c1_i32 : BitVec 32 := 1#32
  let arg14 : BitVec 32 := Scf.iv c0_i32 c1_i32 k0_t1
  let v924 : BitVec 32 := Scalar.muli c34_i32_575 arg14
  let c12_i32 : BitVec 32 := 12#32
  let v925 : BitVec 32 := Scalar.addi v924 c12_i32
  let v953 : Index := Scalar.indexCast v925
  ![v953.toNat]
def k0_off102 (v956 : BitVec 32) : Fin 5 → Nat :=
  let c0_594 : Index := 0#32
  let c0_595 : Index := 0#32
  let v957 : Index := Scalar.indexCast v956
  let c0_596 : Index := 0#32
  let c0_597 : Index := 0#32
  ![0, 0, v957.toNat, 0, 0]

def k0_chk55 (v956 : BitVec 32) : Prop :=
  (∀ a, (k0_off102 v956) a + S1x1x1x128x512.size a ≤ S1x1x16x128x512.size a)
theorem k0_off102_inb : ∀ (v956 : BitVec 32) (k0_hw55 : k0_chk55 v956), ∀ a, (k0_off102 v956) a + S1x1x1x128x512.size a ≤ S1x1x16x128x512.size a := fun v956 k0_hw55 => k0_hw55

def k0_off103 (v954 : BitVec 32) : Fin 3 → Nat :=
  let v961 : Index := Scalar.indexCast v954
  let c0_598 : Index := 0#32
  let c0_599 : Index := 0#32
  ![v961.toNat, 0, 0]

def k0_chk56 (v954 : BitVec 32) : Prop :=
  (∀ a, (k0_off103 v954) a + S1x144x512.size a ≤ S16x144x512.size a)
theorem k0_off103_inb : ∀ (v954 : BitVec 32) (k0_hw56 : k0_chk56 v954), ∀ a, (k0_off103 v954) a + S1x144x512.size a ≤ S16x144x512.size a := fun v954 k0_hw56 => k0_hw56

def k0_off104 (k0_t1 : Fin k0_t1_loop.trips) : Fin 1 → Nat :=
  let c34_i32_605 : BitVec 32 := 34#32
  let c0_i32 : BitVec 32 := 0#32
  let c1_i32 : BitVec 32 := 1#32
  let arg14 : BitVec 32 := Scf.iv c0_i32 c1_i32 k0_t1
  let v971 : BitVec 32 := Scalar.muli c34_i32_605 arg14
  let c13_i32 : BitVec 32 := 13#32
  let v972 : BitVec 32 := Scalar.addi v971 c13_i32
  let c2_i32_606 : BitVec 32 := 2#32
  let v973 : BitVec 32 := Scalar.addi v972 c2_i32_606
  let v974 : Index := Scalar.indexCast v973
  ![v974.toNat]
def k0_mult16 (v977 : BitVec 32) : BitVec 32 :=
  let c512_i32_607 : BitVec 32 := 512#32
  let v978 : BitVec 32 := Scalar.muli v977 c512_i32_607
  v978

def k0_off105 (v977 : BitVec 32) : Fin 4 → Nat :=
  let c0_608 : Index := 0#32
  let c0_609 : Index := 0#32
  let c512_i32_607 : BitVec 32 := 512#32
  let v978 : BitVec 32 := Scalar.muli v977 c512_i32_607
  let v979 : BitVec 32 := v978
  let v980 : Index := Scalar.indexCast v979
  let c0_610 : Index := 0#32
  ![0, 0, v980.toNat, 0]
def k0_off106 (v977 : BitVec 32) : Fin 3 → Nat :=
  let c0_611 : Index := 0#32
  let c512_i32_607 : BitVec 32 := 512#32
  let v978 : BitVec 32 := Scalar.muli v977 c512_i32_607
  let v979 : BitVec 32 := v978
  let v983 : Index := Scalar.indexCast v979
  let c0_612 : Index := 0#32
  ![0, v983.toNat, 0]

def k0_chk57 (v977 : BitVec 32) : Prop :=
  (512 ∣ (k0_mult16 v977).toNat) ∧
  (∀ a, (k0_off105 v977) a + S1x1x512x128.size a ≤ S1x1x8192x128.size a) ∧
  (∀ a, (k0_off106 v977) a + S1x512x128.size a ≤ S1x8192x128.size a)
theorem k0_mult16_dvd : ∀ (v977 : BitVec 32) (k0_hw57 : k0_chk57 v977), 512 ∣ (k0_mult16 v977).toNat := fun v977 k0_hw57 => k0_hw57.1
theorem k0_off105_inb : ∀ (v977 : BitVec 32) (k0_hw57 : k0_chk57 v977), ∀ a, (k0_off105 v977) a + S1x1x512x128.size a ≤ S1x1x8192x128.size a := fun v977 k0_hw57 => k0_hw57.2.1
theorem k0_off106_inb : ∀ (v977 : BitVec 32) (k0_hw57 : k0_chk57 v977), ∀ a, (k0_off106 v977) a + S1x512x128.size a ≤ S1x8192x128.size a := fun v977 k0_hw57 => k0_hw57.2.2

def k0_off107 (v975 : BitVec 32) : Fin 5 → Nat :=
  let c0_613 : Index := 0#32
  let c0_614 : Index := 0#32
  let v987 : Index := Scalar.indexCast v975
  let c0_615 : Index := 0#32
  let c0_616 : Index := 0#32
  ![0, 0, v987.toNat, 0, 0]

def k0_chk58 (v975 : BitVec 32) : Prop :=
  (∀ a, (k0_off107 v975) a + S1x1x1x256x512.size a ≤ S1x1x16x256x512.size a)
theorem k0_off107_inb : ∀ (v975 : BitVec 32) (k0_hw58 : k0_chk58 v975), ∀ a, (k0_off107 v975) a + S1x1x1x256x512.size a ≤ S1x1x16x256x512.size a := fun v975 k0_hw58 => k0_hw58

def k0_off108 (k0_t1 : Fin k0_t1_loop.trips) : Fin 1 → Nat :=
  let c34_i32_605 : BitVec 32 := 34#32
  let c0_i32 : BitVec 32 := 0#32
  let c1_i32 : BitVec 32 := 1#32
  let arg14 : BitVec 32 := Scf.iv c0_i32 c1_i32 k0_t1
  let v971 : BitVec 32 := Scalar.muli c34_i32_605 arg14
  let c13_i32 : BitVec 32 := 13#32
  let v972 : BitVec 32 := Scalar.addi v971 c13_i32
  let v1000 : Index := Scalar.indexCast v972
  ![v1000.toNat]
def k0_off109 (v1003 : BitVec 32) : Fin 5 → Nat :=
  let c0_624 : Index := 0#32
  let c0_625 : Index := 0#32
  let v1004 : Index := Scalar.indexCast v1003
  let c0_626 : Index := 0#32
  let c0_627 : Index := 0#32
  ![0, 0, v1004.toNat, 0, 0]

def k0_chk59 (v1003 : BitVec 32) : Prop :=
  (∀ a, (k0_off109 v1003) a + S1x1x1x128x512.size a ≤ S1x1x16x128x512.size a)
theorem k0_off109_inb : ∀ (v1003 : BitVec 32) (k0_hw59 : k0_chk59 v1003), ∀ a, (k0_off109 v1003) a + S1x1x1x128x512.size a ≤ S1x1x16x128x512.size a := fun v1003 k0_hw59 => k0_hw59

def k0_off110 (v1001 : BitVec 32) : Fin 3 → Nat :=
  let v1008 : Index := Scalar.indexCast v1001
  let c0_628 : Index := 0#32
  let c0_629 : Index := 0#32
  ![v1008.toNat, 0, 0]

def k0_chk60 (v1001 : BitVec 32) : Prop :=
  (∀ a, (k0_off110 v1001) a + S1x144x512.size a ≤ S16x144x512.size a)
theorem k0_off110_inb : ∀ (v1001 : BitVec 32) (k0_hw60 : k0_chk60 v1001), ∀ a, (k0_off110 v1001) a + S1x144x512.size a ≤ S16x144x512.size a := fun v1001 k0_hw60 => k0_hw60

def k0_off111 (k0_t1 : Fin k0_t1_loop.trips) : Fin 1 → Nat :=
  let c34_i32_635 : BitVec 32 := 34#32
  let c0_i32 : BitVec 32 := 0#32
  let c1_i32 : BitVec 32 := 1#32
  let arg14 : BitVec 32 := Scf.iv c0_i32 c1_i32 k0_t1
  let v1018 : BitVec 32 := Scalar.muli c34_i32_635 arg14
  let c14_i32 : BitVec 32 := 14#32
  let v1019 : BitVec 32 := Scalar.addi v1018 c14_i32
  let c2_i32_636 : BitVec 32 := 2#32
  let v1020 : BitVec 32 := Scalar.addi v1019 c2_i32_636
  let v1021 : Index := Scalar.indexCast v1020
  ![v1021.toNat]
def k0_mult17 (v1024 : BitVec 32) : BitVec 32 :=
  let c512_i32_637 : BitVec 32 := 512#32
  let v1025 : BitVec 32 := Scalar.muli v1024 c512_i32_637
  v1025

def k0_off112 (v1024 : BitVec 32) : Fin 4 → Nat :=
  let c0_638 : Index := 0#32
  let c0_639 : Index := 0#32
  let c512_i32_637 : BitVec 32 := 512#32
  let v1025 : BitVec 32 := Scalar.muli v1024 c512_i32_637
  let v1026 : BitVec 32 := v1025
  let v1027 : Index := Scalar.indexCast v1026
  let c0_640 : Index := 0#32
  ![0, 0, v1027.toNat, 0]
def k0_off113 (v1024 : BitVec 32) : Fin 3 → Nat :=
  let c0_641 : Index := 0#32
  let c512_i32_637 : BitVec 32 := 512#32
  let v1025 : BitVec 32 := Scalar.muli v1024 c512_i32_637
  let v1026 : BitVec 32 := v1025
  let v1030 : Index := Scalar.indexCast v1026
  let c0_642 : Index := 0#32
  ![0, v1030.toNat, 0]

def k0_chk61 (v1024 : BitVec 32) : Prop :=
  (512 ∣ (k0_mult17 v1024).toNat) ∧
  (∀ a, (k0_off112 v1024) a + S1x1x512x128.size a ≤ S1x1x8192x128.size a) ∧
  (∀ a, (k0_off113 v1024) a + S1x512x128.size a ≤ S1x8192x128.size a)
theorem k0_mult17_dvd : ∀ (v1024 : BitVec 32) (k0_hw61 : k0_chk61 v1024), 512 ∣ (k0_mult17 v1024).toNat := fun v1024 k0_hw61 => k0_hw61.1
theorem k0_off112_inb : ∀ (v1024 : BitVec 32) (k0_hw61 : k0_chk61 v1024), ∀ a, (k0_off112 v1024) a + S1x1x512x128.size a ≤ S1x1x8192x128.size a := fun v1024 k0_hw61 => k0_hw61.2.1
theorem k0_off113_inb : ∀ (v1024 : BitVec 32) (k0_hw61 : k0_chk61 v1024), ∀ a, (k0_off113 v1024) a + S1x512x128.size a ≤ S1x8192x128.size a := fun v1024 k0_hw61 => k0_hw61.2.2

def k0_off114 (v1022 : BitVec 32) : Fin 5 → Nat :=
  let c0_643 : Index := 0#32
  let c0_644 : Index := 0#32
  let v1034 : Index := Scalar.indexCast v1022
  let c0_645 : Index := 0#32
  let c0_646 : Index := 0#32
  ![0, 0, v1034.toNat, 0, 0]

def k0_chk62 (v1022 : BitVec 32) : Prop :=
  (∀ a, (k0_off114 v1022) a + S1x1x1x256x512.size a ≤ S1x1x16x256x512.size a)
theorem k0_off114_inb : ∀ (v1022 : BitVec 32) (k0_hw62 : k0_chk62 v1022), ∀ a, (k0_off114 v1022) a + S1x1x1x256x512.size a ≤ S1x1x16x256x512.size a := fun v1022 k0_hw62 => k0_hw62

def k0_off115 (k0_t1 : Fin k0_t1_loop.trips) : Fin 1 → Nat :=
  let c34_i32_635 : BitVec 32 := 34#32
  let c0_i32 : BitVec 32 := 0#32
  let c1_i32 : BitVec 32 := 1#32
  let arg14 : BitVec 32 := Scf.iv c0_i32 c1_i32 k0_t1
  let v1018 : BitVec 32 := Scalar.muli c34_i32_635 arg14
  let c14_i32 : BitVec 32 := 14#32
  let v1019 : BitVec 32 := Scalar.addi v1018 c14_i32
  let v1047 : Index := Scalar.indexCast v1019
  ![v1047.toNat]
def k0_off116 (v1050 : BitVec 32) : Fin 5 → Nat :=
  let c0_654 : Index := 0#32
  let c0_655 : Index := 0#32
  let v1051 : Index := Scalar.indexCast v1050
  let c0_656 : Index := 0#32
  let c0_657 : Index := 0#32
  ![0, 0, v1051.toNat, 0, 0]

def k0_chk63 (v1050 : BitVec 32) : Prop :=
  (∀ a, (k0_off116 v1050) a + S1x1x1x128x512.size a ≤ S1x1x16x128x512.size a)
theorem k0_off116_inb : ∀ (v1050 : BitVec 32) (k0_hw63 : k0_chk63 v1050), ∀ a, (k0_off116 v1050) a + S1x1x1x128x512.size a ≤ S1x1x16x128x512.size a := fun v1050 k0_hw63 => k0_hw63

def k0_off117 (v1048 : BitVec 32) : Fin 3 → Nat :=
  let v1055 : Index := Scalar.indexCast v1048
  let c0_658 : Index := 0#32
  let c0_659 : Index := 0#32
  ![v1055.toNat, 0, 0]

def k0_chk64 (v1048 : BitVec 32) : Prop :=
  (∀ a, (k0_off117 v1048) a + S1x144x512.size a ≤ S16x144x512.size a)
theorem k0_off117_inb : ∀ (v1048 : BitVec 32) (k0_hw64 : k0_chk64 v1048), ∀ a, (k0_off117 v1048) a + S1x144x512.size a ≤ S16x144x512.size a := fun v1048 k0_hw64 => k0_hw64

def k0_off118 (k0_t1 : Fin k0_t1_loop.trips) : Fin 1 → Nat :=
  let c34_i32_665 : BitVec 32 := 34#32
  let c0_i32 : BitVec 32 := 0#32
  let c1_i32 : BitVec 32 := 1#32
  let arg14 : BitVec 32 := Scf.iv c0_i32 c1_i32 k0_t1
  let v1065 : BitVec 32 := Scalar.muli c34_i32_665 arg14
  let c15_i32 : BitVec 32 := 15#32
  let v1066 : BitVec 32 := Scalar.addi v1065 c15_i32
  let c2_i32_666 : BitVec 32 := 2#32
  let v1067 : BitVec 32 := Scalar.addi v1066 c2_i32_666
  let v1068 : Index := Scalar.indexCast v1067
  ![v1068.toNat]
def k0_mult18 (v1071 : BitVec 32) : BitVec 32 :=
  let c512_i32_667 : BitVec 32 := 512#32
  let v1072 : BitVec 32 := Scalar.muli v1071 c512_i32_667
  v1072

def k0_off119 (v1071 : BitVec 32) : Fin 4 → Nat :=
  let c0_668 : Index := 0#32
  let c0_669 : Index := 0#32
  let c512_i32_667 : BitVec 32 := 512#32
  let v1072 : BitVec 32 := Scalar.muli v1071 c512_i32_667
  let v1073 : BitVec 32 := v1072
  let v1074 : Index := Scalar.indexCast v1073
  let c0_670 : Index := 0#32
  ![0, 0, v1074.toNat, 0]
def k0_off120 (v1071 : BitVec 32) : Fin 3 → Nat :=
  let c0_671 : Index := 0#32
  let c512_i32_667 : BitVec 32 := 512#32
  let v1072 : BitVec 32 := Scalar.muli v1071 c512_i32_667
  let v1073 : BitVec 32 := v1072
  let v1077 : Index := Scalar.indexCast v1073
  let c0_672 : Index := 0#32
  ![0, v1077.toNat, 0]

def k0_chk65 (v1071 : BitVec 32) : Prop :=
  (512 ∣ (k0_mult18 v1071).toNat) ∧
  (∀ a, (k0_off119 v1071) a + S1x1x512x128.size a ≤ S1x1x8192x128.size a) ∧
  (∀ a, (k0_off120 v1071) a + S1x512x128.size a ≤ S1x8192x128.size a)
theorem k0_mult18_dvd : ∀ (v1071 : BitVec 32) (k0_hw65 : k0_chk65 v1071), 512 ∣ (k0_mult18 v1071).toNat := fun v1071 k0_hw65 => k0_hw65.1
theorem k0_off119_inb : ∀ (v1071 : BitVec 32) (k0_hw65 : k0_chk65 v1071), ∀ a, (k0_off119 v1071) a + S1x1x512x128.size a ≤ S1x1x8192x128.size a := fun v1071 k0_hw65 => k0_hw65.2.1
theorem k0_off120_inb : ∀ (v1071 : BitVec 32) (k0_hw65 : k0_chk65 v1071), ∀ a, (k0_off120 v1071) a + S1x512x128.size a ≤ S1x8192x128.size a := fun v1071 k0_hw65 => k0_hw65.2.2

def k0_off121 (v1069 : BitVec 32) : Fin 5 → Nat :=
  let c0_673 : Index := 0#32
  let c0_674 : Index := 0#32
  let v1081 : Index := Scalar.indexCast v1069
  let c0_675 : Index := 0#32
  let c0_676 : Index := 0#32
  ![0, 0, v1081.toNat, 0, 0]

def k0_chk66 (v1069 : BitVec 32) : Prop :=
  (∀ a, (k0_off121 v1069) a + S1x1x1x256x512.size a ≤ S1x1x16x256x512.size a)
theorem k0_off121_inb : ∀ (v1069 : BitVec 32) (k0_hw66 : k0_chk66 v1069), ∀ a, (k0_off121 v1069) a + S1x1x1x256x512.size a ≤ S1x1x16x256x512.size a := fun v1069 k0_hw66 => k0_hw66

def k0_off122 (k0_t1 : Fin k0_t1_loop.trips) : Fin 1 → Nat :=
  let c34_i32_665 : BitVec 32 := 34#32
  let c0_i32 : BitVec 32 := 0#32
  let c1_i32 : BitVec 32 := 1#32
  let arg14 : BitVec 32 := Scf.iv c0_i32 c1_i32 k0_t1
  let v1065 : BitVec 32 := Scalar.muli c34_i32_665 arg14
  let c15_i32 : BitVec 32 := 15#32
  let v1066 : BitVec 32 := Scalar.addi v1065 c15_i32
  let v1094 : Index := Scalar.indexCast v1066
  ![v1094.toNat]
def k0_off123 (v1097 : BitVec 32) : Fin 5 → Nat :=
  let c0_684 : Index := 0#32
  let c0_685 : Index := 0#32
  let v1098 : Index := Scalar.indexCast v1097
  let c0_686 : Index := 0#32
  let c0_687 : Index := 0#32
  ![0, 0, v1098.toNat, 0, 0]

def k0_chk67 (v1097 : BitVec 32) : Prop :=
  (∀ a, (k0_off123 v1097) a + S1x1x1x128x512.size a ≤ S1x1x16x128x512.size a)
theorem k0_off123_inb : ∀ (v1097 : BitVec 32) (k0_hw67 : k0_chk67 v1097), ∀ a, (k0_off123 v1097) a + S1x1x1x128x512.size a ≤ S1x1x16x128x512.size a := fun v1097 k0_hw67 => k0_hw67

def k0_off124 (v1095 : BitVec 32) : Fin 3 → Nat :=
  let v1102 : Index := Scalar.indexCast v1095
  let c0_688 : Index := 0#32
  let c0_689 : Index := 0#32
  ![v1102.toNat, 0, 0]

def k0_chk68 (v1095 : BitVec 32) : Prop :=
  (∀ a, (k0_off124 v1095) a + S1x144x512.size a ≤ S16x144x512.size a)
theorem k0_off124_inb : ∀ (v1095 : BitVec 32) (k0_hw68 : k0_chk68 v1095), ∀ a, (k0_off124 v1095) a + S1x144x512.size a ≤ S16x144x512.size a := fun v1095 k0_hw68 => k0_hw68

def k0_off125 (k0_t1 : Fin k0_t1_loop.trips) : Fin 1 → Nat :=
  let c34_i32_695 : BitVec 32 := 34#32
  let c0_i32 : BitVec 32 := 0#32
  let c1_i32 : BitVec 32 := 1#32
  let arg14 : BitVec 32 := Scf.iv c0_i32 c1_i32 k0_t1
  let v1112 : BitVec 32 := Scalar.muli c34_i32_695 arg14
  let c16_i32 : BitVec 32 := 16#32
  let v1113 : BitVec 32 := Scalar.addi v1112 c16_i32
  let c2_i32_696 : BitVec 32 := 2#32
  let v1114 : BitVec 32 := Scalar.addi v1113 c2_i32_696
  let v1115 : Index := Scalar.indexCast v1114
  ![v1115.toNat]
def k0_mult19 (v1118 : BitVec 32) : BitVec 32 :=
  let c512_i32_697 : BitVec 32 := 512#32
  let v1119 : BitVec 32 := Scalar.muli v1118 c512_i32_697
  v1119

def k0_off126 (v1118 : BitVec 32) : Fin 4 → Nat :=
  let c0_698 : Index := 0#32
  let c0_699 : Index := 0#32
  let c512_i32_697 : BitVec 32 := 512#32
  let v1119 : BitVec 32 := Scalar.muli v1118 c512_i32_697
  let v1120 : BitVec 32 := v1119
  let v1121 : Index := Scalar.indexCast v1120
  let c0_700 : Index := 0#32
  ![0, 0, v1121.toNat, 0]
def k0_off127 (v1118 : BitVec 32) : Fin 3 → Nat :=
  let c0_701 : Index := 0#32
  let c512_i32_697 : BitVec 32 := 512#32
  let v1119 : BitVec 32 := Scalar.muli v1118 c512_i32_697
  let v1120 : BitVec 32 := v1119
  let v1124 : Index := Scalar.indexCast v1120
  let c0_702 : Index := 0#32
  ![0, v1124.toNat, 0]

def k0_chk69 (v1118 : BitVec 32) : Prop :=
  (512 ∣ (k0_mult19 v1118).toNat) ∧
  (∀ a, (k0_off126 v1118) a + S1x1x512x128.size a ≤ S1x1x8192x128.size a) ∧
  (∀ a, (k0_off127 v1118) a + S1x512x128.size a ≤ S1x8192x128.size a)
theorem k0_mult19_dvd : ∀ (v1118 : BitVec 32) (k0_hw69 : k0_chk69 v1118), 512 ∣ (k0_mult19 v1118).toNat := fun v1118 k0_hw69 => k0_hw69.1
theorem k0_off126_inb : ∀ (v1118 : BitVec 32) (k0_hw69 : k0_chk69 v1118), ∀ a, (k0_off126 v1118) a + S1x1x512x128.size a ≤ S1x1x8192x128.size a := fun v1118 k0_hw69 => k0_hw69.2.1
theorem k0_off127_inb : ∀ (v1118 : BitVec 32) (k0_hw69 : k0_chk69 v1118), ∀ a, (k0_off127 v1118) a + S1x512x128.size a ≤ S1x8192x128.size a := fun v1118 k0_hw69 => k0_hw69.2.2

def k0_off128 (v1116 : BitVec 32) : Fin 5 → Nat :=
  let c0_703 : Index := 0#32
  let c0_704 : Index := 0#32
  let v1128 : Index := Scalar.indexCast v1116
  let c0_705 : Index := 0#32
  let c0_706 : Index := 0#32
  ![0, 0, v1128.toNat, 0, 0]

def k0_chk70 (v1116 : BitVec 32) : Prop :=
  (∀ a, (k0_off128 v1116) a + S1x1x1x256x512.size a ≤ S1x1x16x256x512.size a)
theorem k0_off128_inb : ∀ (v1116 : BitVec 32) (k0_hw70 : k0_chk70 v1116), ∀ a, (k0_off128 v1116) a + S1x1x1x256x512.size a ≤ S1x1x16x256x512.size a := fun v1116 k0_hw70 => k0_hw70

def k0_off129 (k0_t1 : Fin k0_t1_loop.trips) : Fin 1 → Nat :=
  let c34_i32_695 : BitVec 32 := 34#32
  let c0_i32 : BitVec 32 := 0#32
  let c1_i32 : BitVec 32 := 1#32
  let arg14 : BitVec 32 := Scf.iv c0_i32 c1_i32 k0_t1
  let v1112 : BitVec 32 := Scalar.muli c34_i32_695 arg14
  let c16_i32 : BitVec 32 := 16#32
  let v1113 : BitVec 32 := Scalar.addi v1112 c16_i32
  let v1141 : Index := Scalar.indexCast v1113
  ![v1141.toNat]
def k0_off130 (v1144 : BitVec 32) : Fin 5 → Nat :=
  let c0_714 : Index := 0#32
  let c0_715 : Index := 0#32
  let v1145 : Index := Scalar.indexCast v1144
  let c0_716 : Index := 0#32
  let c0_717 : Index := 0#32
  ![0, 0, v1145.toNat, 0, 0]

def k0_chk71 (v1144 : BitVec 32) : Prop :=
  (∀ a, (k0_off130 v1144) a + S1x1x1x128x512.size a ≤ S1x1x16x128x512.size a)
theorem k0_off130_inb : ∀ (v1144 : BitVec 32) (k0_hw71 : k0_chk71 v1144), ∀ a, (k0_off130 v1144) a + S1x1x1x128x512.size a ≤ S1x1x16x128x512.size a := fun v1144 k0_hw71 => k0_hw71

def k0_off131 (v1142 : BitVec 32) : Fin 3 → Nat :=
  let v1149 : Index := Scalar.indexCast v1142
  let c0_718 : Index := 0#32
  let c0_719 : Index := 0#32
  ![v1149.toNat, 0, 0]

def k0_chk72 (v1142 : BitVec 32) : Prop :=
  (∀ a, (k0_off131 v1142) a + S1x144x512.size a ≤ S16x144x512.size a)
theorem k0_off131_inb : ∀ (v1142 : BitVec 32) (k0_hw72 : k0_chk72 v1142), ∀ a, (k0_off131 v1142) a + S1x144x512.size a ≤ S16x144x512.size a := fun v1142 k0_hw72 => k0_hw72

def k0_off132 (k0_t1 : Fin k0_t1_loop.trips) : Fin 1 → Nat :=
  let c34_i32_725 : BitVec 32 := 34#32
  let c0_i32 : BitVec 32 := 0#32
  let c1_i32 : BitVec 32 := 1#32
  let arg14 : BitVec 32 := Scf.iv c0_i32 c1_i32 k0_t1
  let v1159 : BitVec 32 := Scalar.muli c34_i32_725 arg14
  let c17_i32 : BitVec 32 := 17#32
  let v1160 : BitVec 32 := Scalar.addi v1159 c17_i32
  let c2_i32_726 : BitVec 32 := 2#32
  let v1161 : BitVec 32 := Scalar.addi v1160 c2_i32_726
  let v1162 : Index := Scalar.indexCast v1161
  ![v1162.toNat]
def k0_mult20 (v1165 : BitVec 32) : BitVec 32 :=
  let c512_i32_727 : BitVec 32 := 512#32
  let v1166 : BitVec 32 := Scalar.muli v1165 c512_i32_727
  v1166

def k0_off133 (v1165 : BitVec 32) : Fin 4 → Nat :=
  let c0_728 : Index := 0#32
  let c0_729 : Index := 0#32
  let c512_i32_727 : BitVec 32 := 512#32
  let v1166 : BitVec 32 := Scalar.muli v1165 c512_i32_727
  let v1167 : BitVec 32 := v1166
  let v1168 : Index := Scalar.indexCast v1167
  let c0_730 : Index := 0#32
  ![0, 0, v1168.toNat, 0]
def k0_off134 (v1165 : BitVec 32) : Fin 3 → Nat :=
  let c0_731 : Index := 0#32
  let c512_i32_727 : BitVec 32 := 512#32
  let v1166 : BitVec 32 := Scalar.muli v1165 c512_i32_727
  let v1167 : BitVec 32 := v1166
  let v1171 : Index := Scalar.indexCast v1167
  let c0_732 : Index := 0#32
  ![0, v1171.toNat, 0]

def k0_chk73 (v1165 : BitVec 32) : Prop :=
  (512 ∣ (k0_mult20 v1165).toNat) ∧
  (∀ a, (k0_off133 v1165) a + S1x1x512x128.size a ≤ S1x1x8192x128.size a) ∧
  (∀ a, (k0_off134 v1165) a + S1x512x128.size a ≤ S1x8192x128.size a)
theorem k0_mult20_dvd : ∀ (v1165 : BitVec 32) (k0_hw73 : k0_chk73 v1165), 512 ∣ (k0_mult20 v1165).toNat := fun v1165 k0_hw73 => k0_hw73.1
theorem k0_off133_inb : ∀ (v1165 : BitVec 32) (k0_hw73 : k0_chk73 v1165), ∀ a, (k0_off133 v1165) a + S1x1x512x128.size a ≤ S1x1x8192x128.size a := fun v1165 k0_hw73 => k0_hw73.2.1
theorem k0_off134_inb : ∀ (v1165 : BitVec 32) (k0_hw73 : k0_chk73 v1165), ∀ a, (k0_off134 v1165) a + S1x512x128.size a ≤ S1x8192x128.size a := fun v1165 k0_hw73 => k0_hw73.2.2

def k0_off135 (v1163 : BitVec 32) : Fin 5 → Nat :=
  let c0_733 : Index := 0#32
  let c0_734 : Index := 0#32
  let v1175 : Index := Scalar.indexCast v1163
  let c0_735 : Index := 0#32
  let c0_736 : Index := 0#32
  ![0, 0, v1175.toNat, 0, 0]

def k0_chk74 (v1163 : BitVec 32) : Prop :=
  (∀ a, (k0_off135 v1163) a + S1x1x1x256x512.size a ≤ S1x1x16x256x512.size a)
theorem k0_off135_inb : ∀ (v1163 : BitVec 32) (k0_hw74 : k0_chk74 v1163), ∀ a, (k0_off135 v1163) a + S1x1x1x256x512.size a ≤ S1x1x16x256x512.size a := fun v1163 k0_hw74 => k0_hw74

def k0_off136 (k0_t1 : Fin k0_t1_loop.trips) : Fin 1 → Nat :=
  let c34_i32_725 : BitVec 32 := 34#32
  let c0_i32 : BitVec 32 := 0#32
  let c1_i32 : BitVec 32 := 1#32
  let arg14 : BitVec 32 := Scf.iv c0_i32 c1_i32 k0_t1
  let v1159 : BitVec 32 := Scalar.muli c34_i32_725 arg14
  let c17_i32 : BitVec 32 := 17#32
  let v1160 : BitVec 32 := Scalar.addi v1159 c17_i32
  let v1188 : Index := Scalar.indexCast v1160
  ![v1188.toNat]
def k0_off137 (v1191 : BitVec 32) : Fin 5 → Nat :=
  let c0_744 : Index := 0#32
  let c0_745 : Index := 0#32
  let v1192 : Index := Scalar.indexCast v1191
  let c0_746 : Index := 0#32
  let c0_747 : Index := 0#32
  ![0, 0, v1192.toNat, 0, 0]

def k0_chk75 (v1191 : BitVec 32) : Prop :=
  (∀ a, (k0_off137 v1191) a + S1x1x1x128x512.size a ≤ S1x1x16x128x512.size a)
theorem k0_off137_inb : ∀ (v1191 : BitVec 32) (k0_hw75 : k0_chk75 v1191), ∀ a, (k0_off137 v1191) a + S1x1x1x128x512.size a ≤ S1x1x16x128x512.size a := fun v1191 k0_hw75 => k0_hw75

def k0_off138 (v1189 : BitVec 32) : Fin 3 → Nat :=
  let v1196 : Index := Scalar.indexCast v1189
  let c0_748 : Index := 0#32
  let c0_749 : Index := 0#32
  ![v1196.toNat, 0, 0]

def k0_chk76 (v1189 : BitVec 32) : Prop :=
  (∀ a, (k0_off138 v1189) a + S1x144x512.size a ≤ S16x144x512.size a)
theorem k0_off138_inb : ∀ (v1189 : BitVec 32) (k0_hw76 : k0_chk76 v1189), ∀ a, (k0_off138 v1189) a + S1x144x512.size a ≤ S16x144x512.size a := fun v1189 k0_hw76 => k0_hw76

def k0_off139 (k0_t1 : Fin k0_t1_loop.trips) : Fin 1 → Nat :=
  let c34_i32_755 : BitVec 32 := 34#32
  let c0_i32 : BitVec 32 := 0#32
  let c1_i32 : BitVec 32 := 1#32
  let arg14 : BitVec 32 := Scf.iv c0_i32 c1_i32 k0_t1
  let v1206 : BitVec 32 := Scalar.muli c34_i32_755 arg14
  let c18_i32 : BitVec 32 := 18#32
  let v1207 : BitVec 32 := Scalar.addi v1206 c18_i32
  let c2_i32_756 : BitVec 32 := 2#32
  let v1208 : BitVec 32 := Scalar.addi v1207 c2_i32_756
  let v1209 : Index := Scalar.indexCast v1208
  ![v1209.toNat]
def k0_mult21 (v1212 : BitVec 32) : BitVec 32 :=
  let c512_i32_757 : BitVec 32 := 512#32
  let v1213 : BitVec 32 := Scalar.muli v1212 c512_i32_757
  v1213

def k0_off140 (v1212 : BitVec 32) : Fin 4 → Nat :=
  let c0_758 : Index := 0#32
  let c0_759 : Index := 0#32
  let c512_i32_757 : BitVec 32 := 512#32
  let v1213 : BitVec 32 := Scalar.muli v1212 c512_i32_757
  let v1214 : BitVec 32 := v1213
  let v1215 : Index := Scalar.indexCast v1214
  let c0_760 : Index := 0#32
  ![0, 0, v1215.toNat, 0]
def k0_off141 (v1212 : BitVec 32) : Fin 3 → Nat :=
  let c0_761 : Index := 0#32
  let c512_i32_757 : BitVec 32 := 512#32
  let v1213 : BitVec 32 := Scalar.muli v1212 c512_i32_757
  let v1214 : BitVec 32 := v1213
  let v1218 : Index := Scalar.indexCast v1214
  let c0_762 : Index := 0#32
  ![0, v1218.toNat, 0]

def k0_chk77 (v1212 : BitVec 32) : Prop :=
  (512 ∣ (k0_mult21 v1212).toNat) ∧
  (∀ a, (k0_off140 v1212) a + S1x1x512x128.size a ≤ S1x1x8192x128.size a) ∧
  (∀ a, (k0_off141 v1212) a + S1x512x128.size a ≤ S1x8192x128.size a)
theorem k0_mult21_dvd : ∀ (v1212 : BitVec 32) (k0_hw77 : k0_chk77 v1212), 512 ∣ (k0_mult21 v1212).toNat := fun v1212 k0_hw77 => k0_hw77.1
theorem k0_off140_inb : ∀ (v1212 : BitVec 32) (k0_hw77 : k0_chk77 v1212), ∀ a, (k0_off140 v1212) a + S1x1x512x128.size a ≤ S1x1x8192x128.size a := fun v1212 k0_hw77 => k0_hw77.2.1
theorem k0_off141_inb : ∀ (v1212 : BitVec 32) (k0_hw77 : k0_chk77 v1212), ∀ a, (k0_off141 v1212) a + S1x512x128.size a ≤ S1x8192x128.size a := fun v1212 k0_hw77 => k0_hw77.2.2

def k0_off142 (v1210 : BitVec 32) : Fin 5 → Nat :=
  let c0_763 : Index := 0#32
  let c0_764 : Index := 0#32
  let v1222 : Index := Scalar.indexCast v1210
  let c0_765 : Index := 0#32
  let c0_766 : Index := 0#32
  ![0, 0, v1222.toNat, 0, 0]

def k0_chk78 (v1210 : BitVec 32) : Prop :=
  (∀ a, (k0_off142 v1210) a + S1x1x1x256x512.size a ≤ S1x1x16x256x512.size a)
theorem k0_off142_inb : ∀ (v1210 : BitVec 32) (k0_hw78 : k0_chk78 v1210), ∀ a, (k0_off142 v1210) a + S1x1x1x256x512.size a ≤ S1x1x16x256x512.size a := fun v1210 k0_hw78 => k0_hw78

def k0_off143 (k0_t1 : Fin k0_t1_loop.trips) : Fin 1 → Nat :=
  let c34_i32_755 : BitVec 32 := 34#32
  let c0_i32 : BitVec 32 := 0#32
  let c1_i32 : BitVec 32 := 1#32
  let arg14 : BitVec 32 := Scf.iv c0_i32 c1_i32 k0_t1
  let v1206 : BitVec 32 := Scalar.muli c34_i32_755 arg14
  let c18_i32 : BitVec 32 := 18#32
  let v1207 : BitVec 32 := Scalar.addi v1206 c18_i32
  let v1235 : Index := Scalar.indexCast v1207
  ![v1235.toNat]
def k0_off144 (v1238 : BitVec 32) : Fin 5 → Nat :=
  let c0_774 : Index := 0#32
  let c0_775 : Index := 0#32
  let v1239 : Index := Scalar.indexCast v1238
  let c0_776 : Index := 0#32
  let c0_777 : Index := 0#32
  ![0, 0, v1239.toNat, 0, 0]

def k0_chk79 (v1238 : BitVec 32) : Prop :=
  (∀ a, (k0_off144 v1238) a + S1x1x1x128x512.size a ≤ S1x1x16x128x512.size a)
theorem k0_off144_inb : ∀ (v1238 : BitVec 32) (k0_hw79 : k0_chk79 v1238), ∀ a, (k0_off144 v1238) a + S1x1x1x128x512.size a ≤ S1x1x16x128x512.size a := fun v1238 k0_hw79 => k0_hw79

def k0_off145 (v1236 : BitVec 32) : Fin 3 → Nat :=
  let v1243 : Index := Scalar.indexCast v1236
  let c0_778 : Index := 0#32
  let c0_779 : Index := 0#32
  ![v1243.toNat, 0, 0]

def k0_chk80 (v1236 : BitVec 32) : Prop :=
  (∀ a, (k0_off145 v1236) a + S1x144x512.size a ≤ S16x144x512.size a)
theorem k0_off145_inb : ∀ (v1236 : BitVec 32) (k0_hw80 : k0_chk80 v1236), ∀ a, (k0_off145 v1236) a + S1x144x512.size a ≤ S16x144x512.size a := fun v1236 k0_hw80 => k0_hw80

def k0_off146 (k0_t1 : Fin k0_t1_loop.trips) : Fin 1 → Nat :=
  let c34_i32_785 : BitVec 32 := 34#32
  let c0_i32 : BitVec 32 := 0#32
  let c1_i32 : BitVec 32 := 1#32
  let arg14 : BitVec 32 := Scf.iv c0_i32 c1_i32 k0_t1
  let v1253 : BitVec 32 := Scalar.muli c34_i32_785 arg14
  let c19_i32 : BitVec 32 := 19#32
  let v1254 : BitVec 32 := Scalar.addi v1253 c19_i32
  let c2_i32_786 : BitVec 32 := 2#32
  let v1255 : BitVec 32 := Scalar.addi v1254 c2_i32_786
  let v1256 : Index := Scalar.indexCast v1255
  ![v1256.toNat]
def k0_mult22 (v1259 : BitVec 32) : BitVec 32 :=
  let c512_i32_787 : BitVec 32 := 512#32
  let v1260 : BitVec 32 := Scalar.muli v1259 c512_i32_787
  v1260

def k0_off147 (v1259 : BitVec 32) : Fin 4 → Nat :=
  let c0_788 : Index := 0#32
  let c0_789 : Index := 0#32
  let c512_i32_787 : BitVec 32 := 512#32
  let v1260 : BitVec 32 := Scalar.muli v1259 c512_i32_787
  let v1261 : BitVec 32 := v1260
  let v1262 : Index := Scalar.indexCast v1261
  let c0_790 : Index := 0#32
  ![0, 0, v1262.toNat, 0]
def k0_off148 (v1259 : BitVec 32) : Fin 3 → Nat :=
  let c0_791 : Index := 0#32
  let c512_i32_787 : BitVec 32 := 512#32
  let v1260 : BitVec 32 := Scalar.muli v1259 c512_i32_787
  let v1261 : BitVec 32 := v1260
  let v1265 : Index := Scalar.indexCast v1261
  let c0_792 : Index := 0#32
  ![0, v1265.toNat, 0]

def k0_chk81 (v1259 : BitVec 32) : Prop :=
  (512 ∣ (k0_mult22 v1259).toNat) ∧
  (∀ a, (k0_off147 v1259) a + S1x1x512x128.size a ≤ S1x1x8192x128.size a) ∧
  (∀ a, (k0_off148 v1259) a + S1x512x128.size a ≤ S1x8192x128.size a)
theorem k0_mult22_dvd : ∀ (v1259 : BitVec 32) (k0_hw81 : k0_chk81 v1259), 512 ∣ (k0_mult22 v1259).toNat := fun v1259 k0_hw81 => k0_hw81.1
theorem k0_off147_inb : ∀ (v1259 : BitVec 32) (k0_hw81 : k0_chk81 v1259), ∀ a, (k0_off147 v1259) a + S1x1x512x128.size a ≤ S1x1x8192x128.size a := fun v1259 k0_hw81 => k0_hw81.2.1
theorem k0_off148_inb : ∀ (v1259 : BitVec 32) (k0_hw81 : k0_chk81 v1259), ∀ a, (k0_off148 v1259) a + S1x512x128.size a ≤ S1x8192x128.size a := fun v1259 k0_hw81 => k0_hw81.2.2

def k0_off149 (v1257 : BitVec 32) : Fin 5 → Nat :=
  let c0_793 : Index := 0#32
  let c0_794 : Index := 0#32
  let v1269 : Index := Scalar.indexCast v1257
  let c0_795 : Index := 0#32
  let c0_796 : Index := 0#32
  ![0, 0, v1269.toNat, 0, 0]

def k0_chk82 (v1257 : BitVec 32) : Prop :=
  (∀ a, (k0_off149 v1257) a + S1x1x1x256x512.size a ≤ S1x1x16x256x512.size a)
theorem k0_off149_inb : ∀ (v1257 : BitVec 32) (k0_hw82 : k0_chk82 v1257), ∀ a, (k0_off149 v1257) a + S1x1x1x256x512.size a ≤ S1x1x16x256x512.size a := fun v1257 k0_hw82 => k0_hw82

def k0_off150 (k0_t1 : Fin k0_t1_loop.trips) : Fin 1 → Nat :=
  let c34_i32_785 : BitVec 32 := 34#32
  let c0_i32 : BitVec 32 := 0#32
  let c1_i32 : BitVec 32 := 1#32
  let arg14 : BitVec 32 := Scf.iv c0_i32 c1_i32 k0_t1
  let v1253 : BitVec 32 := Scalar.muli c34_i32_785 arg14
  let c19_i32 : BitVec 32 := 19#32
  let v1254 : BitVec 32 := Scalar.addi v1253 c19_i32
  let v1282 : Index := Scalar.indexCast v1254
  ![v1282.toNat]
def k0_off151 (v1285 : BitVec 32) : Fin 5 → Nat :=
  let c0_804 : Index := 0#32
  let c0_805 : Index := 0#32
  let v1286 : Index := Scalar.indexCast v1285
  let c0_806 : Index := 0#32
  let c0_807 : Index := 0#32
  ![0, 0, v1286.toNat, 0, 0]

def k0_chk83 (v1285 : BitVec 32) : Prop :=
  (∀ a, (k0_off151 v1285) a + S1x1x1x128x512.size a ≤ S1x1x16x128x512.size a)
theorem k0_off151_inb : ∀ (v1285 : BitVec 32) (k0_hw83 : k0_chk83 v1285), ∀ a, (k0_off151 v1285) a + S1x1x1x128x512.size a ≤ S1x1x16x128x512.size a := fun v1285 k0_hw83 => k0_hw83

def k0_off152 (v1283 : BitVec 32) : Fin 3 → Nat :=
  let v1290 : Index := Scalar.indexCast v1283
  let c0_808 : Index := 0#32
  let c0_809 : Index := 0#32
  ![v1290.toNat, 0, 0]

def k0_chk84 (v1283 : BitVec 32) : Prop :=
  (∀ a, (k0_off152 v1283) a + S1x144x512.size a ≤ S16x144x512.size a)
theorem k0_off152_inb : ∀ (v1283 : BitVec 32) (k0_hw84 : k0_chk84 v1283), ∀ a, (k0_off152 v1283) a + S1x144x512.size a ≤ S16x144x512.size a := fun v1283 k0_hw84 => k0_hw84

def k0_off153 (k0_t1 : Fin k0_t1_loop.trips) : Fin 1 → Nat :=
  let c34_i32_815 : BitVec 32 := 34#32
  let c0_i32 : BitVec 32 := 0#32
  let c1_i32 : BitVec 32 := 1#32
  let arg14 : BitVec 32 := Scf.iv c0_i32 c1_i32 k0_t1
  let v1300 : BitVec 32 := Scalar.muli c34_i32_815 arg14
  let c20_i32 : BitVec 32 := 20#32
  let v1301 : BitVec 32 := Scalar.addi v1300 c20_i32
  let c2_i32_816 : BitVec 32 := 2#32
  let v1302 : BitVec 32 := Scalar.addi v1301 c2_i32_816
  let v1303 : Index := Scalar.indexCast v1302
  ![v1303.toNat]
def k0_mult23 (v1306 : BitVec 32) : BitVec 32 :=
  let c512_i32_817 : BitVec 32 := 512#32
  let v1307 : BitVec 32 := Scalar.muli v1306 c512_i32_817
  v1307

def k0_off154 (v1306 : BitVec 32) : Fin 4 → Nat :=
  let c0_818 : Index := 0#32
  let c0_819 : Index := 0#32
  let c512_i32_817 : BitVec 32 := 512#32
  let v1307 : BitVec 32 := Scalar.muli v1306 c512_i32_817
  let v1308 : BitVec 32 := v1307
  let v1309 : Index := Scalar.indexCast v1308
  let c0_820 : Index := 0#32
  ![0, 0, v1309.toNat, 0]
def k0_off155 (v1306 : BitVec 32) : Fin 3 → Nat :=
  let c0_821 : Index := 0#32
  let c512_i32_817 : BitVec 32 := 512#32
  let v1307 : BitVec 32 := Scalar.muli v1306 c512_i32_817
  let v1308 : BitVec 32 := v1307
  let v1312 : Index := Scalar.indexCast v1308
  let c0_822 : Index := 0#32
  ![0, v1312.toNat, 0]

def k0_chk85 (v1306 : BitVec 32) : Prop :=
  (512 ∣ (k0_mult23 v1306).toNat) ∧
  (∀ a, (k0_off154 v1306) a + S1x1x512x128.size a ≤ S1x1x8192x128.size a) ∧
  (∀ a, (k0_off155 v1306) a + S1x512x128.size a ≤ S1x8192x128.size a)
theorem k0_mult23_dvd : ∀ (v1306 : BitVec 32) (k0_hw85 : k0_chk85 v1306), 512 ∣ (k0_mult23 v1306).toNat := fun v1306 k0_hw85 => k0_hw85.1
theorem k0_off154_inb : ∀ (v1306 : BitVec 32) (k0_hw85 : k0_chk85 v1306), ∀ a, (k0_off154 v1306) a + S1x1x512x128.size a ≤ S1x1x8192x128.size a := fun v1306 k0_hw85 => k0_hw85.2.1
theorem k0_off155_inb : ∀ (v1306 : BitVec 32) (k0_hw85 : k0_chk85 v1306), ∀ a, (k0_off155 v1306) a + S1x512x128.size a ≤ S1x8192x128.size a := fun v1306 k0_hw85 => k0_hw85.2.2

def k0_off156 (v1304 : BitVec 32) : Fin 5 → Nat :=
  let c0_823 : Index := 0#32
  let c0_824 : Index := 0#32
  let v1316 : Index := Scalar.indexCast v1304
  let c0_825 : Index := 0#32
  let c0_826 : Index := 0#32
  ![0, 0, v1316.toNat, 0, 0]

def k0_chk86 (v1304 : BitVec 32) : Prop :=
  (∀ a, (k0_off156 v1304) a + S1x1x1x256x512.size a ≤ S1x1x16x256x512.size a)
theorem k0_off156_inb : ∀ (v1304 : BitVec 32) (k0_hw86 : k0_chk86 v1304), ∀ a, (k0_off156 v1304) a + S1x1x1x256x512.size a ≤ S1x1x16x256x512.size a := fun v1304 k0_hw86 => k0_hw86

def k0_off157 (k0_t1 : Fin k0_t1_loop.trips) : Fin 1 → Nat :=
  let c34_i32_815 : BitVec 32 := 34#32
  let c0_i32 : BitVec 32 := 0#32
  let c1_i32 : BitVec 32 := 1#32
  let arg14 : BitVec 32 := Scf.iv c0_i32 c1_i32 k0_t1
  let v1300 : BitVec 32 := Scalar.muli c34_i32_815 arg14
  let c20_i32 : BitVec 32 := 20#32
  let v1301 : BitVec 32 := Scalar.addi v1300 c20_i32
  let v1329 : Index := Scalar.indexCast v1301
  ![v1329.toNat]
def k0_off158 (v1332 : BitVec 32) : Fin 5 → Nat :=
  let c0_834 : Index := 0#32
  let c0_835 : Index := 0#32
  let v1333 : Index := Scalar.indexCast v1332
  let c0_836 : Index := 0#32
  let c0_837 : Index := 0#32
  ![0, 0, v1333.toNat, 0, 0]

def k0_chk87 (v1332 : BitVec 32) : Prop :=
  (∀ a, (k0_off158 v1332) a + S1x1x1x128x512.size a ≤ S1x1x16x128x512.size a)
theorem k0_off158_inb : ∀ (v1332 : BitVec 32) (k0_hw87 : k0_chk87 v1332), ∀ a, (k0_off158 v1332) a + S1x1x1x128x512.size a ≤ S1x1x16x128x512.size a := fun v1332 k0_hw87 => k0_hw87

def k0_off159 (v1330 : BitVec 32) : Fin 3 → Nat :=
  let v1337 : Index := Scalar.indexCast v1330
  let c0_838 : Index := 0#32
  let c0_839 : Index := 0#32
  ![v1337.toNat, 0, 0]

def k0_chk88 (v1330 : BitVec 32) : Prop :=
  (∀ a, (k0_off159 v1330) a + S1x144x512.size a ≤ S16x144x512.size a)
theorem k0_off159_inb : ∀ (v1330 : BitVec 32) (k0_hw88 : k0_chk88 v1330), ∀ a, (k0_off159 v1330) a + S1x144x512.size a ≤ S16x144x512.size a := fun v1330 k0_hw88 => k0_hw88

def k0_off160 (k0_t1 : Fin k0_t1_loop.trips) : Fin 1 → Nat :=
  let c34_i32_845 : BitVec 32 := 34#32
  let c0_i32 : BitVec 32 := 0#32
  let c1_i32 : BitVec 32 := 1#32
  let arg14 : BitVec 32 := Scf.iv c0_i32 c1_i32 k0_t1
  let v1347 : BitVec 32 := Scalar.muli c34_i32_845 arg14
  let c21_i32 : BitVec 32 := 21#32
  let v1348 : BitVec 32 := Scalar.addi v1347 c21_i32
  let c2_i32_846 : BitVec 32 := 2#32
  let v1349 : BitVec 32 := Scalar.addi v1348 c2_i32_846
  let v1350 : Index := Scalar.indexCast v1349
  ![v1350.toNat]
def k0_mult24 (v1353 : BitVec 32) : BitVec 32 :=
  let c512_i32_847 : BitVec 32 := 512#32
  let v1354 : BitVec 32 := Scalar.muli v1353 c512_i32_847
  v1354

def k0_off161 (v1353 : BitVec 32) : Fin 4 → Nat :=
  let c0_848 : Index := 0#32
  let c0_849 : Index := 0#32
  let c512_i32_847 : BitVec 32 := 512#32
  let v1354 : BitVec 32 := Scalar.muli v1353 c512_i32_847
  let v1355 : BitVec 32 := v1354
  let v1356 : Index := Scalar.indexCast v1355
  let c0_850 : Index := 0#32
  ![0, 0, v1356.toNat, 0]
def k0_off162 (v1353 : BitVec 32) : Fin 3 → Nat :=
  let c0_851 : Index := 0#32
  let c512_i32_847 : BitVec 32 := 512#32
  let v1354 : BitVec 32 := Scalar.muli v1353 c512_i32_847
  let v1355 : BitVec 32 := v1354
  let v1359 : Index := Scalar.indexCast v1355
  let c0_852 : Index := 0#32
  ![0, v1359.toNat, 0]

def k0_chk89 (v1353 : BitVec 32) : Prop :=
  (512 ∣ (k0_mult24 v1353).toNat) ∧
  (∀ a, (k0_off161 v1353) a + S1x1x512x128.size a ≤ S1x1x8192x128.size a) ∧
  (∀ a, (k0_off162 v1353) a + S1x512x128.size a ≤ S1x8192x128.size a)
theorem k0_mult24_dvd : ∀ (v1353 : BitVec 32) (k0_hw89 : k0_chk89 v1353), 512 ∣ (k0_mult24 v1353).toNat := fun v1353 k0_hw89 => k0_hw89.1
theorem k0_off161_inb : ∀ (v1353 : BitVec 32) (k0_hw89 : k0_chk89 v1353), ∀ a, (k0_off161 v1353) a + S1x1x512x128.size a ≤ S1x1x8192x128.size a := fun v1353 k0_hw89 => k0_hw89.2.1
theorem k0_off162_inb : ∀ (v1353 : BitVec 32) (k0_hw89 : k0_chk89 v1353), ∀ a, (k0_off162 v1353) a + S1x512x128.size a ≤ S1x8192x128.size a := fun v1353 k0_hw89 => k0_hw89.2.2

def k0_off163 (v1351 : BitVec 32) : Fin 5 → Nat :=
  let c0_853 : Index := 0#32
  let c0_854 : Index := 0#32
  let v1363 : Index := Scalar.indexCast v1351
  let c0_855 : Index := 0#32
  let c0_856 : Index := 0#32
  ![0, 0, v1363.toNat, 0, 0]

def k0_chk90 (v1351 : BitVec 32) : Prop :=
  (∀ a, (k0_off163 v1351) a + S1x1x1x256x512.size a ≤ S1x1x16x256x512.size a)
theorem k0_off163_inb : ∀ (v1351 : BitVec 32) (k0_hw90 : k0_chk90 v1351), ∀ a, (k0_off163 v1351) a + S1x1x1x256x512.size a ≤ S1x1x16x256x512.size a := fun v1351 k0_hw90 => k0_hw90

def k0_off164 (k0_t1 : Fin k0_t1_loop.trips) : Fin 1 → Nat :=
  let c34_i32_845 : BitVec 32 := 34#32
  let c0_i32 : BitVec 32 := 0#32
  let c1_i32 : BitVec 32 := 1#32
  let arg14 : BitVec 32 := Scf.iv c0_i32 c1_i32 k0_t1
  let v1347 : BitVec 32 := Scalar.muli c34_i32_845 arg14
  let c21_i32 : BitVec 32 := 21#32
  let v1348 : BitVec 32 := Scalar.addi v1347 c21_i32
  let v1376 : Index := Scalar.indexCast v1348
  ![v1376.toNat]
def k0_off165 (v1379 : BitVec 32) : Fin 5 → Nat :=
  let c0_864 : Index := 0#32
  let c0_865 : Index := 0#32
  let v1380 : Index := Scalar.indexCast v1379
  let c0_866 : Index := 0#32
  let c0_867 : Index := 0#32
  ![0, 0, v1380.toNat, 0, 0]

def k0_chk91 (v1379 : BitVec 32) : Prop :=
  (∀ a, (k0_off165 v1379) a + S1x1x1x128x512.size a ≤ S1x1x16x128x512.size a)
theorem k0_off165_inb : ∀ (v1379 : BitVec 32) (k0_hw91 : k0_chk91 v1379), ∀ a, (k0_off165 v1379) a + S1x1x1x128x512.size a ≤ S1x1x16x128x512.size a := fun v1379 k0_hw91 => k0_hw91

def k0_off166 (v1377 : BitVec 32) : Fin 3 → Nat :=
  let v1384 : Index := Scalar.indexCast v1377
  let c0_868 : Index := 0#32
  let c0_869 : Index := 0#32
  ![v1384.toNat, 0, 0]

def k0_chk92 (v1377 : BitVec 32) : Prop :=
  (∀ a, (k0_off166 v1377) a + S1x144x512.size a ≤ S16x144x512.size a)
theorem k0_off166_inb : ∀ (v1377 : BitVec 32) (k0_hw92 : k0_chk92 v1377), ∀ a, (k0_off166 v1377) a + S1x144x512.size a ≤ S16x144x512.size a := fun v1377 k0_hw92 => k0_hw92

def k0_off167 (k0_t1 : Fin k0_t1_loop.trips) : Fin 1 → Nat :=
  let c34_i32_875 : BitVec 32 := 34#32
  let c0_i32 : BitVec 32 := 0#32
  let c1_i32 : BitVec 32 := 1#32
  let arg14 : BitVec 32 := Scf.iv c0_i32 c1_i32 k0_t1
  let v1394 : BitVec 32 := Scalar.muli c34_i32_875 arg14
  let c22_i32 : BitVec 32 := 22#32
  let v1395 : BitVec 32 := Scalar.addi v1394 c22_i32
  let c2_i32_876 : BitVec 32 := 2#32
  let v1396 : BitVec 32 := Scalar.addi v1395 c2_i32_876
  let v1397 : Index := Scalar.indexCast v1396
  ![v1397.toNat]
def k0_mult25 (v1400 : BitVec 32) : BitVec 32 :=
  let c512_i32_877 : BitVec 32 := 512#32
  let v1401 : BitVec 32 := Scalar.muli v1400 c512_i32_877
  v1401

def k0_off168 (v1400 : BitVec 32) : Fin 4 → Nat :=
  let c0_878 : Index := 0#32
  let c0_879 : Index := 0#32
  let c512_i32_877 : BitVec 32 := 512#32
  let v1401 : BitVec 32 := Scalar.muli v1400 c512_i32_877
  let v1402 : BitVec 32 := v1401
  let v1403 : Index := Scalar.indexCast v1402
  let c0_880 : Index := 0#32
  ![0, 0, v1403.toNat, 0]
def k0_off169 (v1400 : BitVec 32) : Fin 3 → Nat :=
  let c0_881 : Index := 0#32
  let c512_i32_877 : BitVec 32 := 512#32
  let v1401 : BitVec 32 := Scalar.muli v1400 c512_i32_877
  let v1402 : BitVec 32 := v1401
  let v1406 : Index := Scalar.indexCast v1402
  let c0_882 : Index := 0#32
  ![0, v1406.toNat, 0]

def k0_chk93 (v1400 : BitVec 32) : Prop :=
  (512 ∣ (k0_mult25 v1400).toNat) ∧
  (∀ a, (k0_off168 v1400) a + S1x1x512x128.size a ≤ S1x1x8192x128.size a) ∧
  (∀ a, (k0_off169 v1400) a + S1x512x128.size a ≤ S1x8192x128.size a)
theorem k0_mult25_dvd : ∀ (v1400 : BitVec 32) (k0_hw93 : k0_chk93 v1400), 512 ∣ (k0_mult25 v1400).toNat := fun v1400 k0_hw93 => k0_hw93.1
theorem k0_off168_inb : ∀ (v1400 : BitVec 32) (k0_hw93 : k0_chk93 v1400), ∀ a, (k0_off168 v1400) a + S1x1x512x128.size a ≤ S1x1x8192x128.size a := fun v1400 k0_hw93 => k0_hw93.2.1
theorem k0_off169_inb : ∀ (v1400 : BitVec 32) (k0_hw93 : k0_chk93 v1400), ∀ a, (k0_off169 v1400) a + S1x512x128.size a ≤ S1x8192x128.size a := fun v1400 k0_hw93 => k0_hw93.2.2

def k0_off170 (v1398 : BitVec 32) : Fin 5 → Nat :=
  let c0_883 : Index := 0#32
  let c0_884 : Index := 0#32
  let v1410 : Index := Scalar.indexCast v1398
  let c0_885 : Index := 0#32
  let c0_886 : Index := 0#32
  ![0, 0, v1410.toNat, 0, 0]

def k0_chk94 (v1398 : BitVec 32) : Prop :=
  (∀ a, (k0_off170 v1398) a + S1x1x1x256x512.size a ≤ S1x1x16x256x512.size a)
theorem k0_off170_inb : ∀ (v1398 : BitVec 32) (k0_hw94 : k0_chk94 v1398), ∀ a, (k0_off170 v1398) a + S1x1x1x256x512.size a ≤ S1x1x16x256x512.size a := fun v1398 k0_hw94 => k0_hw94

def k0_off171 (k0_t1 : Fin k0_t1_loop.trips) : Fin 1 → Nat :=
  let c34_i32_875 : BitVec 32 := 34#32
  let c0_i32 : BitVec 32 := 0#32
  let c1_i32 : BitVec 32 := 1#32
  let arg14 : BitVec 32 := Scf.iv c0_i32 c1_i32 k0_t1
  let v1394 : BitVec 32 := Scalar.muli c34_i32_875 arg14
  let c22_i32 : BitVec 32 := 22#32
  let v1395 : BitVec 32 := Scalar.addi v1394 c22_i32
  let v1423 : Index := Scalar.indexCast v1395
  ![v1423.toNat]
def k0_off172 (v1426 : BitVec 32) : Fin 5 → Nat :=
  let c0_894 : Index := 0#32
  let c0_895 : Index := 0#32
  let v1427 : Index := Scalar.indexCast v1426
  let c0_896 : Index := 0#32
  let c0_897 : Index := 0#32
  ![0, 0, v1427.toNat, 0, 0]

def k0_chk95 (v1426 : BitVec 32) : Prop :=
  (∀ a, (k0_off172 v1426) a + S1x1x1x128x512.size a ≤ S1x1x16x128x512.size a)
theorem k0_off172_inb : ∀ (v1426 : BitVec 32) (k0_hw95 : k0_chk95 v1426), ∀ a, (k0_off172 v1426) a + S1x1x1x128x512.size a ≤ S1x1x16x128x512.size a := fun v1426 k0_hw95 => k0_hw95

def k0_off173 (v1424 : BitVec 32) : Fin 3 → Nat :=
  let v1431 : Index := Scalar.indexCast v1424
  let c0_898 : Index := 0#32
  let c0_899 : Index := 0#32
  ![v1431.toNat, 0, 0]

def k0_chk96 (v1424 : BitVec 32) : Prop :=
  (∀ a, (k0_off173 v1424) a + S1x144x512.size a ≤ S16x144x512.size a)
theorem k0_off173_inb : ∀ (v1424 : BitVec 32) (k0_hw96 : k0_chk96 v1424), ∀ a, (k0_off173 v1424) a + S1x144x512.size a ≤ S16x144x512.size a := fun v1424 k0_hw96 => k0_hw96

def k0_off174 (k0_t1 : Fin k0_t1_loop.trips) : Fin 1 → Nat :=
  let c34_i32_905 : BitVec 32 := 34#32
  let c0_i32 : BitVec 32 := 0#32
  let c1_i32 : BitVec 32 := 1#32
  let arg14 : BitVec 32 := Scf.iv c0_i32 c1_i32 k0_t1
  let v1441 : BitVec 32 := Scalar.muli c34_i32_905 arg14
  let c23_i32 : BitVec 32 := 23#32
  let v1442 : BitVec 32 := Scalar.addi v1441 c23_i32
  let c2_i32_906 : BitVec 32 := 2#32
  let v1443 : BitVec 32 := Scalar.addi v1442 c2_i32_906
  let v1444 : Index := Scalar.indexCast v1443
  ![v1444.toNat]
def k0_mult26 (v1447 : BitVec 32) : BitVec 32 :=
  let c512_i32_907 : BitVec 32 := 512#32
  let v1448 : BitVec 32 := Scalar.muli v1447 c512_i32_907
  v1448

def k0_off175 (v1447 : BitVec 32) : Fin 4 → Nat :=
  let c0_908 : Index := 0#32
  let c0_909 : Index := 0#32
  let c512_i32_907 : BitVec 32 := 512#32
  let v1448 : BitVec 32 := Scalar.muli v1447 c512_i32_907
  let v1449 : BitVec 32 := v1448
  let v1450 : Index := Scalar.indexCast v1449
  let c0_910 : Index := 0#32
  ![0, 0, v1450.toNat, 0]
def k0_off176 (v1447 : BitVec 32) : Fin 3 → Nat :=
  let c0_911 : Index := 0#32
  let c512_i32_907 : BitVec 32 := 512#32
  let v1448 : BitVec 32 := Scalar.muli v1447 c512_i32_907
  let v1449 : BitVec 32 := v1448
  let v1453 : Index := Scalar.indexCast v1449
  let c0_912 : Index := 0#32
  ![0, v1453.toNat, 0]

def k0_chk97 (v1447 : BitVec 32) : Prop :=
  (512 ∣ (k0_mult26 v1447).toNat) ∧
  (∀ a, (k0_off175 v1447) a + S1x1x512x128.size a ≤ S1x1x8192x128.size a) ∧
  (∀ a, (k0_off176 v1447) a + S1x512x128.size a ≤ S1x8192x128.size a)
theorem k0_mult26_dvd : ∀ (v1447 : BitVec 32) (k0_hw97 : k0_chk97 v1447), 512 ∣ (k0_mult26 v1447).toNat := fun v1447 k0_hw97 => k0_hw97.1
theorem k0_off175_inb : ∀ (v1447 : BitVec 32) (k0_hw97 : k0_chk97 v1447), ∀ a, (k0_off175 v1447) a + S1x1x512x128.size a ≤ S1x1x8192x128.size a := fun v1447 k0_hw97 => k0_hw97.2.1
theorem k0_off176_inb : ∀ (v1447 : BitVec 32) (k0_hw97 : k0_chk97 v1447), ∀ a, (k0_off176 v1447) a + S1x512x128.size a ≤ S1x8192x128.size a := fun v1447 k0_hw97 => k0_hw97.2.2

def k0_off177 (v1445 : BitVec 32) : Fin 5 → Nat :=
  let c0_913 : Index := 0#32
  let c0_914 : Index := 0#32
  let v1457 : Index := Scalar.indexCast v1445
  let c0_915 : Index := 0#32
  let c0_916 : Index := 0#32
  ![0, 0, v1457.toNat, 0, 0]

def k0_chk98 (v1445 : BitVec 32) : Prop :=
  (∀ a, (k0_off177 v1445) a + S1x1x1x256x512.size a ≤ S1x1x16x256x512.size a)
theorem k0_off177_inb : ∀ (v1445 : BitVec 32) (k0_hw98 : k0_chk98 v1445), ∀ a, (k0_off177 v1445) a + S1x1x1x256x512.size a ≤ S1x1x16x256x512.size a := fun v1445 k0_hw98 => k0_hw98

def k0_off178 (k0_t1 : Fin k0_t1_loop.trips) : Fin 1 → Nat :=
  let c34_i32_905 : BitVec 32 := 34#32
  let c0_i32 : BitVec 32 := 0#32
  let c1_i32 : BitVec 32 := 1#32
  let arg14 : BitVec 32 := Scf.iv c0_i32 c1_i32 k0_t1
  let v1441 : BitVec 32 := Scalar.muli c34_i32_905 arg14
  let c23_i32 : BitVec 32 := 23#32
  let v1442 : BitVec 32 := Scalar.addi v1441 c23_i32
  let v1470 : Index := Scalar.indexCast v1442
  ![v1470.toNat]
def k0_off179 (v1473 : BitVec 32) : Fin 5 → Nat :=
  let c0_924 : Index := 0#32
  let c0_925 : Index := 0#32
  let v1474 : Index := Scalar.indexCast v1473
  let c0_926 : Index := 0#32
  let c0_927 : Index := 0#32
  ![0, 0, v1474.toNat, 0, 0]

def k0_chk99 (v1473 : BitVec 32) : Prop :=
  (∀ a, (k0_off179 v1473) a + S1x1x1x128x512.size a ≤ S1x1x16x128x512.size a)
theorem k0_off179_inb : ∀ (v1473 : BitVec 32) (k0_hw99 : k0_chk99 v1473), ∀ a, (k0_off179 v1473) a + S1x1x1x128x512.size a ≤ S1x1x16x128x512.size a := fun v1473 k0_hw99 => k0_hw99

def k0_off180 (v1471 : BitVec 32) : Fin 3 → Nat :=
  let v1478 : Index := Scalar.indexCast v1471
  let c0_928 : Index := 0#32
  let c0_929 : Index := 0#32
  ![v1478.toNat, 0, 0]

def k0_chk100 (v1471 : BitVec 32) : Prop :=
  (∀ a, (k0_off180 v1471) a + S1x144x512.size a ≤ S16x144x512.size a)
theorem k0_off180_inb : ∀ (v1471 : BitVec 32) (k0_hw100 : k0_chk100 v1471), ∀ a, (k0_off180 v1471) a + S1x144x512.size a ≤ S16x144x512.size a := fun v1471 k0_hw100 => k0_hw100

def k0_off181 (k0_t1 : Fin k0_t1_loop.trips) : Fin 1 → Nat :=
  let c34_i32_935 : BitVec 32 := 34#32
  let c0_i32 : BitVec 32 := 0#32
  let c1_i32 : BitVec 32 := 1#32
  let arg14 : BitVec 32 := Scf.iv c0_i32 c1_i32 k0_t1
  let v1488 : BitVec 32 := Scalar.muli c34_i32_935 arg14
  let c24_i32 : BitVec 32 := 24#32
  let v1489 : BitVec 32 := Scalar.addi v1488 c24_i32
  let c2_i32_936 : BitVec 32 := 2#32
  let v1490 : BitVec 32 := Scalar.addi v1489 c2_i32_936
  let v1491 : Index := Scalar.indexCast v1490
  ![v1491.toNat]
def k0_mult27 (v1494 : BitVec 32) : BitVec 32 :=
  let c512_i32_937 : BitVec 32 := 512#32
  let v1495 : BitVec 32 := Scalar.muli v1494 c512_i32_937
  v1495

def k0_off182 (v1494 : BitVec 32) : Fin 4 → Nat :=
  let c0_938 : Index := 0#32
  let c0_939 : Index := 0#32
  let c512_i32_937 : BitVec 32 := 512#32
  let v1495 : BitVec 32 := Scalar.muli v1494 c512_i32_937
  let v1496 : BitVec 32 := v1495
  let v1497 : Index := Scalar.indexCast v1496
  let c0_940 : Index := 0#32
  ![0, 0, v1497.toNat, 0]
def k0_off183 (v1494 : BitVec 32) : Fin 3 → Nat :=
  let c0_941 : Index := 0#32
  let c512_i32_937 : BitVec 32 := 512#32
  let v1495 : BitVec 32 := Scalar.muli v1494 c512_i32_937
  let v1496 : BitVec 32 := v1495
  let v1500 : Index := Scalar.indexCast v1496
  let c0_942 : Index := 0#32
  ![0, v1500.toNat, 0]

def k0_chk101 (v1494 : BitVec 32) : Prop :=
  (512 ∣ (k0_mult27 v1494).toNat) ∧
  (∀ a, (k0_off182 v1494) a + S1x1x512x128.size a ≤ S1x1x8192x128.size a) ∧
  (∀ a, (k0_off183 v1494) a + S1x512x128.size a ≤ S1x8192x128.size a)
theorem k0_mult27_dvd : ∀ (v1494 : BitVec 32) (k0_hw101 : k0_chk101 v1494), 512 ∣ (k0_mult27 v1494).toNat := fun v1494 k0_hw101 => k0_hw101.1
theorem k0_off182_inb : ∀ (v1494 : BitVec 32) (k0_hw101 : k0_chk101 v1494), ∀ a, (k0_off182 v1494) a + S1x1x512x128.size a ≤ S1x1x8192x128.size a := fun v1494 k0_hw101 => k0_hw101.2.1
theorem k0_off183_inb : ∀ (v1494 : BitVec 32) (k0_hw101 : k0_chk101 v1494), ∀ a, (k0_off183 v1494) a + S1x512x128.size a ≤ S1x8192x128.size a := fun v1494 k0_hw101 => k0_hw101.2.2

def k0_off184 (v1492 : BitVec 32) : Fin 5 → Nat :=
  let c0_943 : Index := 0#32
  let c0_944 : Index := 0#32
  let v1504 : Index := Scalar.indexCast v1492
  let c0_945 : Index := 0#32
  let c0_946 : Index := 0#32
  ![0, 0, v1504.toNat, 0, 0]

def k0_chk102 (v1492 : BitVec 32) : Prop :=
  (∀ a, (k0_off184 v1492) a + S1x1x1x256x512.size a ≤ S1x1x16x256x512.size a)
theorem k0_off184_inb : ∀ (v1492 : BitVec 32) (k0_hw102 : k0_chk102 v1492), ∀ a, (k0_off184 v1492) a + S1x1x1x256x512.size a ≤ S1x1x16x256x512.size a := fun v1492 k0_hw102 => k0_hw102

def k0_off185 (k0_t1 : Fin k0_t1_loop.trips) : Fin 1 → Nat :=
  let c34_i32_935 : BitVec 32 := 34#32
  let c0_i32 : BitVec 32 := 0#32
  let c1_i32 : BitVec 32 := 1#32
  let arg14 : BitVec 32 := Scf.iv c0_i32 c1_i32 k0_t1
  let v1488 : BitVec 32 := Scalar.muli c34_i32_935 arg14
  let c24_i32 : BitVec 32 := 24#32
  let v1489 : BitVec 32 := Scalar.addi v1488 c24_i32
  let v1517 : Index := Scalar.indexCast v1489
  ![v1517.toNat]
def k0_off186 (v1520 : BitVec 32) : Fin 5 → Nat :=
  let c0_954 : Index := 0#32
  let c0_955 : Index := 0#32
  let v1521 : Index := Scalar.indexCast v1520
  let c0_956 : Index := 0#32
  let c0_957 : Index := 0#32
  ![0, 0, v1521.toNat, 0, 0]

def k0_chk103 (v1520 : BitVec 32) : Prop :=
  (∀ a, (k0_off186 v1520) a + S1x1x1x128x512.size a ≤ S1x1x16x128x512.size a)
theorem k0_off186_inb : ∀ (v1520 : BitVec 32) (k0_hw103 : k0_chk103 v1520), ∀ a, (k0_off186 v1520) a + S1x1x1x128x512.size a ≤ S1x1x16x128x512.size a := fun v1520 k0_hw103 => k0_hw103

def k0_off187 (v1518 : BitVec 32) : Fin 3 → Nat :=
  let v1525 : Index := Scalar.indexCast v1518
  let c0_958 : Index := 0#32
  let c0_959 : Index := 0#32
  ![v1525.toNat, 0, 0]

def k0_chk104 (v1518 : BitVec 32) : Prop :=
  (∀ a, (k0_off187 v1518) a + S1x144x512.size a ≤ S16x144x512.size a)
theorem k0_off187_inb : ∀ (v1518 : BitVec 32) (k0_hw104 : k0_chk104 v1518), ∀ a, (k0_off187 v1518) a + S1x144x512.size a ≤ S16x144x512.size a := fun v1518 k0_hw104 => k0_hw104

def k0_off188 (k0_t1 : Fin k0_t1_loop.trips) : Fin 1 → Nat :=
  let c34_i32_965 : BitVec 32 := 34#32
  let c0_i32 : BitVec 32 := 0#32
  let c1_i32 : BitVec 32 := 1#32
  let arg14 : BitVec 32 := Scf.iv c0_i32 c1_i32 k0_t1
  let v1535 : BitVec 32 := Scalar.muli c34_i32_965 arg14
  let c25_i32 : BitVec 32 := 25#32
  let v1536 : BitVec 32 := Scalar.addi v1535 c25_i32
  let c2_i32_966 : BitVec 32 := 2#32
  let v1537 : BitVec 32 := Scalar.addi v1536 c2_i32_966
  let v1538 : Index := Scalar.indexCast v1537
  ![v1538.toNat]
def k0_mult28 (v1541 : BitVec 32) : BitVec 32 :=
  let c512_i32_967 : BitVec 32 := 512#32
  let v1542 : BitVec 32 := Scalar.muli v1541 c512_i32_967
  v1542

def k0_off189 (v1541 : BitVec 32) : Fin 4 → Nat :=
  let c0_968 : Index := 0#32
  let c0_969 : Index := 0#32
  let c512_i32_967 : BitVec 32 := 512#32
  let v1542 : BitVec 32 := Scalar.muli v1541 c512_i32_967
  let v1543 : BitVec 32 := v1542
  let v1544 : Index := Scalar.indexCast v1543
  let c0_970 : Index := 0#32
  ![0, 0, v1544.toNat, 0]
def k0_off190 (v1541 : BitVec 32) : Fin 3 → Nat :=
  let c0_971 : Index := 0#32
  let c512_i32_967 : BitVec 32 := 512#32
  let v1542 : BitVec 32 := Scalar.muli v1541 c512_i32_967
  let v1543 : BitVec 32 := v1542
  let v1547 : Index := Scalar.indexCast v1543
  let c0_972 : Index := 0#32
  ![0, v1547.toNat, 0]

def k0_chk105 (v1541 : BitVec 32) : Prop :=
  (512 ∣ (k0_mult28 v1541).toNat) ∧
  (∀ a, (k0_off189 v1541) a + S1x1x512x128.size a ≤ S1x1x8192x128.size a) ∧
  (∀ a, (k0_off190 v1541) a + S1x512x128.size a ≤ S1x8192x128.size a)
theorem k0_mult28_dvd : ∀ (v1541 : BitVec 32) (k0_hw105 : k0_chk105 v1541), 512 ∣ (k0_mult28 v1541).toNat := fun v1541 k0_hw105 => k0_hw105.1
theorem k0_off189_inb : ∀ (v1541 : BitVec 32) (k0_hw105 : k0_chk105 v1541), ∀ a, (k0_off189 v1541) a + S1x1x512x128.size a ≤ S1x1x8192x128.size a := fun v1541 k0_hw105 => k0_hw105.2.1
theorem k0_off190_inb : ∀ (v1541 : BitVec 32) (k0_hw105 : k0_chk105 v1541), ∀ a, (k0_off190 v1541) a + S1x512x128.size a ≤ S1x8192x128.size a := fun v1541 k0_hw105 => k0_hw105.2.2

def k0_off191 (v1539 : BitVec 32) : Fin 5 → Nat :=
  let c0_973 : Index := 0#32
  let c0_974 : Index := 0#32
  let v1551 : Index := Scalar.indexCast v1539
  let c0_975 : Index := 0#32
  let c0_976 : Index := 0#32
  ![0, 0, v1551.toNat, 0, 0]

def k0_chk106 (v1539 : BitVec 32) : Prop :=
  (∀ a, (k0_off191 v1539) a + S1x1x1x256x512.size a ≤ S1x1x16x256x512.size a)
theorem k0_off191_inb : ∀ (v1539 : BitVec 32) (k0_hw106 : k0_chk106 v1539), ∀ a, (k0_off191 v1539) a + S1x1x1x256x512.size a ≤ S1x1x16x256x512.size a := fun v1539 k0_hw106 => k0_hw106

def k0_off192 (k0_t1 : Fin k0_t1_loop.trips) : Fin 1 → Nat :=
  let c34_i32_965 : BitVec 32 := 34#32
  let c0_i32 : BitVec 32 := 0#32
  let c1_i32 : BitVec 32 := 1#32
  let arg14 : BitVec 32 := Scf.iv c0_i32 c1_i32 k0_t1
  let v1535 : BitVec 32 := Scalar.muli c34_i32_965 arg14
  let c25_i32 : BitVec 32 := 25#32
  let v1536 : BitVec 32 := Scalar.addi v1535 c25_i32
  let v1564 : Index := Scalar.indexCast v1536
  ![v1564.toNat]
def k0_off193 (v1567 : BitVec 32) : Fin 5 → Nat :=
  let c0_984 : Index := 0#32
  let c0_985 : Index := 0#32
  let v1568 : Index := Scalar.indexCast v1567
  let c0_986 : Index := 0#32
  let c0_987 : Index := 0#32
  ![0, 0, v1568.toNat, 0, 0]

def k0_chk107 (v1567 : BitVec 32) : Prop :=
  (∀ a, (k0_off193 v1567) a + S1x1x1x128x512.size a ≤ S1x1x16x128x512.size a)
theorem k0_off193_inb : ∀ (v1567 : BitVec 32) (k0_hw107 : k0_chk107 v1567), ∀ a, (k0_off193 v1567) a + S1x1x1x128x512.size a ≤ S1x1x16x128x512.size a := fun v1567 k0_hw107 => k0_hw107

def k0_off194 (v1565 : BitVec 32) : Fin 3 → Nat :=
  let v1572 : Index := Scalar.indexCast v1565
  let c0_988 : Index := 0#32
  let c0_989 : Index := 0#32
  ![v1572.toNat, 0, 0]

def k0_chk108 (v1565 : BitVec 32) : Prop :=
  (∀ a, (k0_off194 v1565) a + S1x144x512.size a ≤ S16x144x512.size a)
theorem k0_off194_inb : ∀ (v1565 : BitVec 32) (k0_hw108 : k0_chk108 v1565), ∀ a, (k0_off194 v1565) a + S1x144x512.size a ≤ S16x144x512.size a := fun v1565 k0_hw108 => k0_hw108

def k0_off195 (k0_t1 : Fin k0_t1_loop.trips) : Fin 1 → Nat :=
  let c34_i32_995 : BitVec 32 := 34#32
  let c0_i32 : BitVec 32 := 0#32
  let c1_i32 : BitVec 32 := 1#32
  let arg14 : BitVec 32 := Scf.iv c0_i32 c1_i32 k0_t1
  let v1582 : BitVec 32 := Scalar.muli c34_i32_995 arg14
  let c26_i32 : BitVec 32 := 26#32
  let v1583 : BitVec 32 := Scalar.addi v1582 c26_i32
  let c2_i32_996 : BitVec 32 := 2#32
  let v1584 : BitVec 32 := Scalar.addi v1583 c2_i32_996
  let v1585 : Index := Scalar.indexCast v1584
  ![v1585.toNat]
def k0_mult29 (v1588 : BitVec 32) : BitVec 32 :=
  let c512_i32_997 : BitVec 32 := 512#32
  let v1589 : BitVec 32 := Scalar.muli v1588 c512_i32_997
  v1589

def k0_off196 (v1588 : BitVec 32) : Fin 4 → Nat :=
  let c0_998 : Index := 0#32
  let c0_999 : Index := 0#32
  let c512_i32_997 : BitVec 32 := 512#32
  let v1589 : BitVec 32 := Scalar.muli v1588 c512_i32_997
  let v1590 : BitVec 32 := v1589
  let v1591 : Index := Scalar.indexCast v1590
  let c0_1000 : Index := 0#32
  ![0, 0, v1591.toNat, 0]
def k0_off197 (v1588 : BitVec 32) : Fin 3 → Nat :=
  let c0_1001 : Index := 0#32
  let c512_i32_997 : BitVec 32 := 512#32
  let v1589 : BitVec 32 := Scalar.muli v1588 c512_i32_997
  let v1590 : BitVec 32 := v1589
  let v1594 : Index := Scalar.indexCast v1590
  let c0_1002 : Index := 0#32
  ![0, v1594.toNat, 0]

def k0_chk109 (v1588 : BitVec 32) : Prop :=
  (512 ∣ (k0_mult29 v1588).toNat) ∧
  (∀ a, (k0_off196 v1588) a + S1x1x512x128.size a ≤ S1x1x8192x128.size a) ∧
  (∀ a, (k0_off197 v1588) a + S1x512x128.size a ≤ S1x8192x128.size a)
theorem k0_mult29_dvd : ∀ (v1588 : BitVec 32) (k0_hw109 : k0_chk109 v1588), 512 ∣ (k0_mult29 v1588).toNat := fun v1588 k0_hw109 => k0_hw109.1
theorem k0_off196_inb : ∀ (v1588 : BitVec 32) (k0_hw109 : k0_chk109 v1588), ∀ a, (k0_off196 v1588) a + S1x1x512x128.size a ≤ S1x1x8192x128.size a := fun v1588 k0_hw109 => k0_hw109.2.1
theorem k0_off197_inb : ∀ (v1588 : BitVec 32) (k0_hw109 : k0_chk109 v1588), ∀ a, (k0_off197 v1588) a + S1x512x128.size a ≤ S1x8192x128.size a := fun v1588 k0_hw109 => k0_hw109.2.2

def k0_off198 (v1586 : BitVec 32) : Fin 5 → Nat :=
  let c0_1003 : Index := 0#32
  let c0_1004 : Index := 0#32
  let v1598 : Index := Scalar.indexCast v1586
  let c0_1005 : Index := 0#32
  let c0_1006 : Index := 0#32
  ![0, 0, v1598.toNat, 0, 0]

def k0_chk110 (v1586 : BitVec 32) : Prop :=
  (∀ a, (k0_off198 v1586) a + S1x1x1x256x512.size a ≤ S1x1x16x256x512.size a)
theorem k0_off198_inb : ∀ (v1586 : BitVec 32) (k0_hw110 : k0_chk110 v1586), ∀ a, (k0_off198 v1586) a + S1x1x1x256x512.size a ≤ S1x1x16x256x512.size a := fun v1586 k0_hw110 => k0_hw110

def k0_off199 (k0_t1 : Fin k0_t1_loop.trips) : Fin 1 → Nat :=
  let c34_i32_995 : BitVec 32 := 34#32
  let c0_i32 : BitVec 32 := 0#32
  let c1_i32 : BitVec 32 := 1#32
  let arg14 : BitVec 32 := Scf.iv c0_i32 c1_i32 k0_t1
  let v1582 : BitVec 32 := Scalar.muli c34_i32_995 arg14
  let c26_i32 : BitVec 32 := 26#32
  let v1583 : BitVec 32 := Scalar.addi v1582 c26_i32
  let v1611 : Index := Scalar.indexCast v1583
  ![v1611.toNat]
def k0_off200 (v1614 : BitVec 32) : Fin 5 → Nat :=
  let c0_1014 : Index := 0#32
  let c0_1015 : Index := 0#32
  let v1615 : Index := Scalar.indexCast v1614
  let c0_1016 : Index := 0#32
  let c0_1017 : Index := 0#32
  ![0, 0, v1615.toNat, 0, 0]

def k0_chk111 (v1614 : BitVec 32) : Prop :=
  (∀ a, (k0_off200 v1614) a + S1x1x1x128x512.size a ≤ S1x1x16x128x512.size a)
theorem k0_off200_inb : ∀ (v1614 : BitVec 32) (k0_hw111 : k0_chk111 v1614), ∀ a, (k0_off200 v1614) a + S1x1x1x128x512.size a ≤ S1x1x16x128x512.size a := fun v1614 k0_hw111 => k0_hw111

def k0_off201 (v1612 : BitVec 32) : Fin 3 → Nat :=
  let v1619 : Index := Scalar.indexCast v1612
  let c0_1018 : Index := 0#32
  let c0_1019 : Index := 0#32
  ![v1619.toNat, 0, 0]

def k0_chk112 (v1612 : BitVec 32) : Prop :=
  (∀ a, (k0_off201 v1612) a + S1x144x512.size a ≤ S16x144x512.size a)
theorem k0_off201_inb : ∀ (v1612 : BitVec 32) (k0_hw112 : k0_chk112 v1612), ∀ a, (k0_off201 v1612) a + S1x144x512.size a ≤ S16x144x512.size a := fun v1612 k0_hw112 => k0_hw112

def k0_off202 (k0_t1 : Fin k0_t1_loop.trips) : Fin 1 → Nat :=
  let c34_i32_1025 : BitVec 32 := 34#32
  let c0_i32 : BitVec 32 := 0#32
  let c1_i32 : BitVec 32 := 1#32
  let arg14 : BitVec 32 := Scf.iv c0_i32 c1_i32 k0_t1
  let v1629 : BitVec 32 := Scalar.muli c34_i32_1025 arg14
  let c27_i32 : BitVec 32 := 27#32
  let v1630 : BitVec 32 := Scalar.addi v1629 c27_i32
  let c2_i32_1026 : BitVec 32 := 2#32
  let v1631 : BitVec 32 := Scalar.addi v1630 c2_i32_1026
  let v1632 : Index := Scalar.indexCast v1631
  ![v1632.toNat]
def k0_mult30 (v1635 : BitVec 32) : BitVec 32 :=
  let c512_i32_1027 : BitVec 32 := 512#32
  let v1636 : BitVec 32 := Scalar.muli v1635 c512_i32_1027
  v1636

def k0_off203 (v1635 : BitVec 32) : Fin 4 → Nat :=
  let c0_1028 : Index := 0#32
  let c0_1029 : Index := 0#32
  let c512_i32_1027 : BitVec 32 := 512#32
  let v1636 : BitVec 32 := Scalar.muli v1635 c512_i32_1027
  let v1637 : BitVec 32 := v1636
  let v1638 : Index := Scalar.indexCast v1637
  let c0_1030 : Index := 0#32
  ![0, 0, v1638.toNat, 0]
def k0_off204 (v1635 : BitVec 32) : Fin 3 → Nat :=
  let c0_1031 : Index := 0#32
  let c512_i32_1027 : BitVec 32 := 512#32
  let v1636 : BitVec 32 := Scalar.muli v1635 c512_i32_1027
  let v1637 : BitVec 32 := v1636
  let v1641 : Index := Scalar.indexCast v1637
  let c0_1032 : Index := 0#32
  ![0, v1641.toNat, 0]

def k0_chk113 (v1635 : BitVec 32) : Prop :=
  (512 ∣ (k0_mult30 v1635).toNat) ∧
  (∀ a, (k0_off203 v1635) a + S1x1x512x128.size a ≤ S1x1x8192x128.size a) ∧
  (∀ a, (k0_off204 v1635) a + S1x512x128.size a ≤ S1x8192x128.size a)
theorem k0_mult30_dvd : ∀ (v1635 : BitVec 32) (k0_hw113 : k0_chk113 v1635), 512 ∣ (k0_mult30 v1635).toNat := fun v1635 k0_hw113 => k0_hw113.1
theorem k0_off203_inb : ∀ (v1635 : BitVec 32) (k0_hw113 : k0_chk113 v1635), ∀ a, (k0_off203 v1635) a + S1x1x512x128.size a ≤ S1x1x8192x128.size a := fun v1635 k0_hw113 => k0_hw113.2.1
theorem k0_off204_inb : ∀ (v1635 : BitVec 32) (k0_hw113 : k0_chk113 v1635), ∀ a, (k0_off204 v1635) a + S1x512x128.size a ≤ S1x8192x128.size a := fun v1635 k0_hw113 => k0_hw113.2.2

def k0_off205 (v1633 : BitVec 32) : Fin 5 → Nat :=
  let c0_1033 : Index := 0#32
  let c0_1034 : Index := 0#32
  let v1645 : Index := Scalar.indexCast v1633
  let c0_1035 : Index := 0#32
  let c0_1036 : Index := 0#32
  ![0, 0, v1645.toNat, 0, 0]

def k0_chk114 (v1633 : BitVec 32) : Prop :=
  (∀ a, (k0_off205 v1633) a + S1x1x1x256x512.size a ≤ S1x1x16x256x512.size a)
theorem k0_off205_inb : ∀ (v1633 : BitVec 32) (k0_hw114 : k0_chk114 v1633), ∀ a, (k0_off205 v1633) a + S1x1x1x256x512.size a ≤ S1x1x16x256x512.size a := fun v1633 k0_hw114 => k0_hw114

def k0_off206 (k0_t1 : Fin k0_t1_loop.trips) : Fin 1 → Nat :=
  let c34_i32_1025 : BitVec 32 := 34#32
  let c0_i32 : BitVec 32 := 0#32
  let c1_i32 : BitVec 32 := 1#32
  let arg14 : BitVec 32 := Scf.iv c0_i32 c1_i32 k0_t1
  let v1629 : BitVec 32 := Scalar.muli c34_i32_1025 arg14
  let c27_i32 : BitVec 32 := 27#32
  let v1630 : BitVec 32 := Scalar.addi v1629 c27_i32
  let v1658 : Index := Scalar.indexCast v1630
  ![v1658.toNat]
def k0_off207 (v1661 : BitVec 32) : Fin 5 → Nat :=
  let c0_1044 : Index := 0#32
  let c0_1045 : Index := 0#32
  let v1662 : Index := Scalar.indexCast v1661
  let c0_1046 : Index := 0#32
  let c0_1047 : Index := 0#32
  ![0, 0, v1662.toNat, 0, 0]

def k0_chk115 (v1661 : BitVec 32) : Prop :=
  (∀ a, (k0_off207 v1661) a + S1x1x1x128x512.size a ≤ S1x1x16x128x512.size a)
theorem k0_off207_inb : ∀ (v1661 : BitVec 32) (k0_hw115 : k0_chk115 v1661), ∀ a, (k0_off207 v1661) a + S1x1x1x128x512.size a ≤ S1x1x16x128x512.size a := fun v1661 k0_hw115 => k0_hw115

def k0_off208 (v1659 : BitVec 32) : Fin 3 → Nat :=
  let v1666 : Index := Scalar.indexCast v1659
  let c0_1048 : Index := 0#32
  let c0_1049 : Index := 0#32
  ![v1666.toNat, 0, 0]

def k0_chk116 (v1659 : BitVec 32) : Prop :=
  (∀ a, (k0_off208 v1659) a + S1x144x512.size a ≤ S16x144x512.size a)
theorem k0_off208_inb : ∀ (v1659 : BitVec 32) (k0_hw116 : k0_chk116 v1659), ∀ a, (k0_off208 v1659) a + S1x144x512.size a ≤ S16x144x512.size a := fun v1659 k0_hw116 => k0_hw116

def k0_off209 (k0_t1 : Fin k0_t1_loop.trips) : Fin 1 → Nat :=
  let c34_i32_1055 : BitVec 32 := 34#32
  let c0_i32 : BitVec 32 := 0#32
  let c1_i32 : BitVec 32 := 1#32
  let arg14 : BitVec 32 := Scf.iv c0_i32 c1_i32 k0_t1
  let v1676 : BitVec 32 := Scalar.muli c34_i32_1055 arg14
  let c28_i32 : BitVec 32 := 28#32
  let v1677 : BitVec 32 := Scalar.addi v1676 c28_i32
  let c2_i32_1056 : BitVec 32 := 2#32
  let v1678 : BitVec 32 := Scalar.addi v1677 c2_i32_1056
  let v1679 : Index := Scalar.indexCast v1678
  ![v1679.toNat]
def k0_mult31 (v1682 : BitVec 32) : BitVec 32 :=
  let c512_i32_1057 : BitVec 32 := 512#32
  let v1683 : BitVec 32 := Scalar.muli v1682 c512_i32_1057
  v1683

def k0_off210 (v1682 : BitVec 32) : Fin 4 → Nat :=
  let c0_1058 : Index := 0#32
  let c0_1059 : Index := 0#32
  let c512_i32_1057 : BitVec 32 := 512#32
  let v1683 : BitVec 32 := Scalar.muli v1682 c512_i32_1057
  let v1684 : BitVec 32 := v1683
  let v1685 : Index := Scalar.indexCast v1684
  let c0_1060 : Index := 0#32
  ![0, 0, v1685.toNat, 0]
def k0_off211 (v1682 : BitVec 32) : Fin 3 → Nat :=
  let c0_1061 : Index := 0#32
  let c512_i32_1057 : BitVec 32 := 512#32
  let v1683 : BitVec 32 := Scalar.muli v1682 c512_i32_1057
  let v1684 : BitVec 32 := v1683
  let v1688 : Index := Scalar.indexCast v1684
  let c0_1062 : Index := 0#32
  ![0, v1688.toNat, 0]

def k0_chk117 (v1682 : BitVec 32) : Prop :=
  (512 ∣ (k0_mult31 v1682).toNat) ∧
  (∀ a, (k0_off210 v1682) a + S1x1x512x128.size a ≤ S1x1x8192x128.size a) ∧
  (∀ a, (k0_off211 v1682) a + S1x512x128.size a ≤ S1x8192x128.size a)
theorem k0_mult31_dvd : ∀ (v1682 : BitVec 32) (k0_hw117 : k0_chk117 v1682), 512 ∣ (k0_mult31 v1682).toNat := fun v1682 k0_hw117 => k0_hw117.1
theorem k0_off210_inb : ∀ (v1682 : BitVec 32) (k0_hw117 : k0_chk117 v1682), ∀ a, (k0_off210 v1682) a + S1x1x512x128.size a ≤ S1x1x8192x128.size a := fun v1682 k0_hw117 => k0_hw117.2.1
theorem k0_off211_inb : ∀ (v1682 : BitVec 32) (k0_hw117 : k0_chk117 v1682), ∀ a, (k0_off211 v1682) a + S1x512x128.size a ≤ S1x8192x128.size a := fun v1682 k0_hw117 => k0_hw117.2.2

def k0_off212 (v1680 : BitVec 32) : Fin 5 → Nat :=
  let c0_1063 : Index := 0#32
  let c0_1064 : Index := 0#32
  let v1692 : Index := Scalar.indexCast v1680
  let c0_1065 : Index := 0#32
  let c0_1066 : Index := 0#32
  ![0, 0, v1692.toNat, 0, 0]

def k0_chk118 (v1680 : BitVec 32) : Prop :=
  (∀ a, (k0_off212 v1680) a + S1x1x1x256x512.size a ≤ S1x1x16x256x512.size a)
theorem k0_off212_inb : ∀ (v1680 : BitVec 32) (k0_hw118 : k0_chk118 v1680), ∀ a, (k0_off212 v1680) a + S1x1x1x256x512.size a ≤ S1x1x16x256x512.size a := fun v1680 k0_hw118 => k0_hw118

def k0_off213 (k0_t1 : Fin k0_t1_loop.trips) : Fin 1 → Nat :=
  let c34_i32_1055 : BitVec 32 := 34#32
  let c0_i32 : BitVec 32 := 0#32
  let c1_i32 : BitVec 32 := 1#32
  let arg14 : BitVec 32 := Scf.iv c0_i32 c1_i32 k0_t1
  let v1676 : BitVec 32 := Scalar.muli c34_i32_1055 arg14
  let c28_i32 : BitVec 32 := 28#32
  let v1677 : BitVec 32 := Scalar.addi v1676 c28_i32
  let v1705 : Index := Scalar.indexCast v1677
  ![v1705.toNat]
def k0_off214 (v1708 : BitVec 32) : Fin 5 → Nat :=
  let c0_1074 : Index := 0#32
  let c0_1075 : Index := 0#32
  let v1709 : Index := Scalar.indexCast v1708
  let c0_1076 : Index := 0#32
  let c0_1077 : Index := 0#32
  ![0, 0, v1709.toNat, 0, 0]

def k0_chk119 (v1708 : BitVec 32) : Prop :=
  (∀ a, (k0_off214 v1708) a + S1x1x1x128x512.size a ≤ S1x1x16x128x512.size a)
theorem k0_off214_inb : ∀ (v1708 : BitVec 32) (k0_hw119 : k0_chk119 v1708), ∀ a, (k0_off214 v1708) a + S1x1x1x128x512.size a ≤ S1x1x16x128x512.size a := fun v1708 k0_hw119 => k0_hw119

def k0_off215 (v1706 : BitVec 32) : Fin 3 → Nat :=
  let v1713 : Index := Scalar.indexCast v1706
  let c0_1078 : Index := 0#32
  let c0_1079 : Index := 0#32
  ![v1713.toNat, 0, 0]

def k0_chk120 (v1706 : BitVec 32) : Prop :=
  (∀ a, (k0_off215 v1706) a + S1x144x512.size a ≤ S16x144x512.size a)
theorem k0_off215_inb : ∀ (v1706 : BitVec 32) (k0_hw120 : k0_chk120 v1706), ∀ a, (k0_off215 v1706) a + S1x144x512.size a ≤ S16x144x512.size a := fun v1706 k0_hw120 => k0_hw120

def k0_off216 (k0_t1 : Fin k0_t1_loop.trips) : Fin 1 → Nat :=
  let c34_i32_1085 : BitVec 32 := 34#32
  let c0_i32 : BitVec 32 := 0#32
  let c1_i32 : BitVec 32 := 1#32
  let arg14 : BitVec 32 := Scf.iv c0_i32 c1_i32 k0_t1
  let v1723 : BitVec 32 := Scalar.muli c34_i32_1085 arg14
  let c29_i32 : BitVec 32 := 29#32
  let v1724 : BitVec 32 := Scalar.addi v1723 c29_i32
  let c2_i32_1086 : BitVec 32 := 2#32
  let v1725 : BitVec 32 := Scalar.addi v1724 c2_i32_1086
  let v1726 : Index := Scalar.indexCast v1725
  ![v1726.toNat]
def k0_mult32 (v1729 : BitVec 32) : BitVec 32 :=
  let c512_i32_1087 : BitVec 32 := 512#32
  let v1730 : BitVec 32 := Scalar.muli v1729 c512_i32_1087
  v1730

def k0_off217 (v1729 : BitVec 32) : Fin 4 → Nat :=
  let c0_1088 : Index := 0#32
  let c0_1089 : Index := 0#32
  let c512_i32_1087 : BitVec 32 := 512#32
  let v1730 : BitVec 32 := Scalar.muli v1729 c512_i32_1087
  let v1731 : BitVec 32 := v1730
  let v1732 : Index := Scalar.indexCast v1731
  let c0_1090 : Index := 0#32
  ![0, 0, v1732.toNat, 0]
def k0_off218 (v1729 : BitVec 32) : Fin 3 → Nat :=
  let c0_1091 : Index := 0#32
  let c512_i32_1087 : BitVec 32 := 512#32
  let v1730 : BitVec 32 := Scalar.muli v1729 c512_i32_1087
  let v1731 : BitVec 32 := v1730
  let v1735 : Index := Scalar.indexCast v1731
  let c0_1092 : Index := 0#32
  ![0, v1735.toNat, 0]

def k0_chk121 (v1729 : BitVec 32) : Prop :=
  (512 ∣ (k0_mult32 v1729).toNat) ∧
  (∀ a, (k0_off217 v1729) a + S1x1x512x128.size a ≤ S1x1x8192x128.size a) ∧
  (∀ a, (k0_off218 v1729) a + S1x512x128.size a ≤ S1x8192x128.size a)
theorem k0_mult32_dvd : ∀ (v1729 : BitVec 32) (k0_hw121 : k0_chk121 v1729), 512 ∣ (k0_mult32 v1729).toNat := fun v1729 k0_hw121 => k0_hw121.1
theorem k0_off217_inb : ∀ (v1729 : BitVec 32) (k0_hw121 : k0_chk121 v1729), ∀ a, (k0_off217 v1729) a + S1x1x512x128.size a ≤ S1x1x8192x128.size a := fun v1729 k0_hw121 => k0_hw121.2.1
theorem k0_off218_inb : ∀ (v1729 : BitVec 32) (k0_hw121 : k0_chk121 v1729), ∀ a, (k0_off218 v1729) a + S1x512x128.size a ≤ S1x8192x128.size a := fun v1729 k0_hw121 => k0_hw121.2.2

def k0_off219 (v1727 : BitVec 32) : Fin 5 → Nat :=
  let c0_1093 : Index := 0#32
  let c0_1094 : Index := 0#32
  let v1739 : Index := Scalar.indexCast v1727
  let c0_1095 : Index := 0#32
  let c0_1096 : Index := 0#32
  ![0, 0, v1739.toNat, 0, 0]

def k0_chk122 (v1727 : BitVec 32) : Prop :=
  (∀ a, (k0_off219 v1727) a + S1x1x1x256x512.size a ≤ S1x1x16x256x512.size a)
theorem k0_off219_inb : ∀ (v1727 : BitVec 32) (k0_hw122 : k0_chk122 v1727), ∀ a, (k0_off219 v1727) a + S1x1x1x256x512.size a ≤ S1x1x16x256x512.size a := fun v1727 k0_hw122 => k0_hw122

def k0_off220 (k0_t1 : Fin k0_t1_loop.trips) : Fin 1 → Nat :=
  let c34_i32_1085 : BitVec 32 := 34#32
  let c0_i32 : BitVec 32 := 0#32
  let c1_i32 : BitVec 32 := 1#32
  let arg14 : BitVec 32 := Scf.iv c0_i32 c1_i32 k0_t1
  let v1723 : BitVec 32 := Scalar.muli c34_i32_1085 arg14
  let c29_i32 : BitVec 32 := 29#32
  let v1724 : BitVec 32 := Scalar.addi v1723 c29_i32
  let v1752 : Index := Scalar.indexCast v1724
  ![v1752.toNat]
def k0_off221 (v1755 : BitVec 32) : Fin 5 → Nat :=
  let c0_1104 : Index := 0#32
  let c0_1105 : Index := 0#32
  let v1756 : Index := Scalar.indexCast v1755
  let c0_1106 : Index := 0#32
  let c0_1107 : Index := 0#32
  ![0, 0, v1756.toNat, 0, 0]

def k0_chk123 (v1755 : BitVec 32) : Prop :=
  (∀ a, (k0_off221 v1755) a + S1x1x1x128x512.size a ≤ S1x1x16x128x512.size a)
theorem k0_off221_inb : ∀ (v1755 : BitVec 32) (k0_hw123 : k0_chk123 v1755), ∀ a, (k0_off221 v1755) a + S1x1x1x128x512.size a ≤ S1x1x16x128x512.size a := fun v1755 k0_hw123 => k0_hw123

def k0_off222 (v1753 : BitVec 32) : Fin 3 → Nat :=
  let v1760 : Index := Scalar.indexCast v1753
  let c0_1108 : Index := 0#32
  let c0_1109 : Index := 0#32
  ![v1760.toNat, 0, 0]

def k0_chk124 (v1753 : BitVec 32) : Prop :=
  (∀ a, (k0_off222 v1753) a + S1x144x512.size a ≤ S16x144x512.size a)
theorem k0_off222_inb : ∀ (v1753 : BitVec 32) (k0_hw124 : k0_chk124 v1753), ∀ a, (k0_off222 v1753) a + S1x144x512.size a ≤ S16x144x512.size a := fun v1753 k0_hw124 => k0_hw124

def k0_off223 (k0_t1 : Fin k0_t1_loop.trips) : Fin 1 → Nat :=
  let c34_i32_1115 : BitVec 32 := 34#32
  let c0_i32 : BitVec 32 := 0#32
  let c1_i32 : BitVec 32 := 1#32
  let arg14 : BitVec 32 := Scf.iv c0_i32 c1_i32 k0_t1
  let v1770 : BitVec 32 := Scalar.muli c34_i32_1115 arg14
  let c30_i32 : BitVec 32 := 30#32
  let v1771 : BitVec 32 := Scalar.addi v1770 c30_i32
  let c2_i32_1116 : BitVec 32 := 2#32
  let v1772 : BitVec 32 := Scalar.addi v1771 c2_i32_1116
  let v1773 : Index := Scalar.indexCast v1772
  ![v1773.toNat]
def k0_mult33 (v1776 : BitVec 32) : BitVec 32 :=
  let c512_i32_1117 : BitVec 32 := 512#32
  let v1777 : BitVec 32 := Scalar.muli v1776 c512_i32_1117
  v1777

def k0_off224 (v1776 : BitVec 32) : Fin 4 → Nat :=
  let c0_1118 : Index := 0#32
  let c0_1119 : Index := 0#32
  let c512_i32_1117 : BitVec 32 := 512#32
  let v1777 : BitVec 32 := Scalar.muli v1776 c512_i32_1117
  let v1778 : BitVec 32 := v1777
  let v1779 : Index := Scalar.indexCast v1778
  let c0_1120 : Index := 0#32
  ![0, 0, v1779.toNat, 0]
def k0_off225 (v1776 : BitVec 32) : Fin 3 → Nat :=
  let c0_1121 : Index := 0#32
  let c512_i32_1117 : BitVec 32 := 512#32
  let v1777 : BitVec 32 := Scalar.muli v1776 c512_i32_1117
  let v1778 : BitVec 32 := v1777
  let v1782 : Index := Scalar.indexCast v1778
  let c0_1122 : Index := 0#32
  ![0, v1782.toNat, 0]

def k0_chk125 (v1776 : BitVec 32) : Prop :=
  (512 ∣ (k0_mult33 v1776).toNat) ∧
  (∀ a, (k0_off224 v1776) a + S1x1x512x128.size a ≤ S1x1x8192x128.size a) ∧
  (∀ a, (k0_off225 v1776) a + S1x512x128.size a ≤ S1x8192x128.size a)
theorem k0_mult33_dvd : ∀ (v1776 : BitVec 32) (k0_hw125 : k0_chk125 v1776), 512 ∣ (k0_mult33 v1776).toNat := fun v1776 k0_hw125 => k0_hw125.1
theorem k0_off224_inb : ∀ (v1776 : BitVec 32) (k0_hw125 : k0_chk125 v1776), ∀ a, (k0_off224 v1776) a + S1x1x512x128.size a ≤ S1x1x8192x128.size a := fun v1776 k0_hw125 => k0_hw125.2.1
theorem k0_off225_inb : ∀ (v1776 : BitVec 32) (k0_hw125 : k0_chk125 v1776), ∀ a, (k0_off225 v1776) a + S1x512x128.size a ≤ S1x8192x128.size a := fun v1776 k0_hw125 => k0_hw125.2.2

def k0_off226 (v1774 : BitVec 32) : Fin 5 → Nat :=
  let c0_1123 : Index := 0#32
  let c0_1124 : Index := 0#32
  let v1786 : Index := Scalar.indexCast v1774
  let c0_1125 : Index := 0#32
  let c0_1126 : Index := 0#32
  ![0, 0, v1786.toNat, 0, 0]

def k0_chk126 (v1774 : BitVec 32) : Prop :=
  (∀ a, (k0_off226 v1774) a + S1x1x1x256x512.size a ≤ S1x1x16x256x512.size a)
theorem k0_off226_inb : ∀ (v1774 : BitVec 32) (k0_hw126 : k0_chk126 v1774), ∀ a, (k0_off226 v1774) a + S1x1x1x256x512.size a ≤ S1x1x16x256x512.size a := fun v1774 k0_hw126 => k0_hw126

def k0_off227 (k0_t1 : Fin k0_t1_loop.trips) : Fin 1 → Nat :=
  let c34_i32_1115 : BitVec 32 := 34#32
  let c0_i32 : BitVec 32 := 0#32
  let c1_i32 : BitVec 32 := 1#32
  let arg14 : BitVec 32 := Scf.iv c0_i32 c1_i32 k0_t1
  let v1770 : BitVec 32 := Scalar.muli c34_i32_1115 arg14
  let c30_i32 : BitVec 32 := 30#32
  let v1771 : BitVec 32 := Scalar.addi v1770 c30_i32
  let v1799 : Index := Scalar.indexCast v1771
  ![v1799.toNat]
def k0_off228 (v1802 : BitVec 32) : Fin 5 → Nat :=
  let c0_1134 : Index := 0#32
  let c0_1135 : Index := 0#32
  let v1803 : Index := Scalar.indexCast v1802
  let c0_1136 : Index := 0#32
  let c0_1137 : Index := 0#32
  ![0, 0, v1803.toNat, 0, 0]

def k0_chk127 (v1802 : BitVec 32) : Prop :=
  (∀ a, (k0_off228 v1802) a + S1x1x1x128x512.size a ≤ S1x1x16x128x512.size a)
theorem k0_off228_inb : ∀ (v1802 : BitVec 32) (k0_hw127 : k0_chk127 v1802), ∀ a, (k0_off228 v1802) a + S1x1x1x128x512.size a ≤ S1x1x16x128x512.size a := fun v1802 k0_hw127 => k0_hw127

def k0_off229 (v1800 : BitVec 32) : Fin 3 → Nat :=
  let v1807 : Index := Scalar.indexCast v1800
  let c0_1138 : Index := 0#32
  let c0_1139 : Index := 0#32
  ![v1807.toNat, 0, 0]

def k0_chk128 (v1800 : BitVec 32) : Prop :=
  (∀ a, (k0_off229 v1800) a + S1x144x512.size a ≤ S16x144x512.size a)
theorem k0_off229_inb : ∀ (v1800 : BitVec 32) (k0_hw128 : k0_chk128 v1800), ∀ a, (k0_off229 v1800) a + S1x144x512.size a ≤ S16x144x512.size a := fun v1800 k0_hw128 => k0_hw128

def k0_off230 (k0_t1 : Fin k0_t1_loop.trips) : Fin 1 → Nat :=
  let c34_i32_1145 : BitVec 32 := 34#32
  let c0_i32 : BitVec 32 := 0#32
  let c1_i32 : BitVec 32 := 1#32
  let arg14 : BitVec 32 := Scf.iv c0_i32 c1_i32 k0_t1
  let v1817 : BitVec 32 := Scalar.muli c34_i32_1145 arg14
  let c31_i32 : BitVec 32 := 31#32
  let v1818 : BitVec 32 := Scalar.addi v1817 c31_i32
  let c2_i32_1146 : BitVec 32 := 2#32
  let v1819 : BitVec 32 := Scalar.addi v1818 c2_i32_1146
  let v1820 : Index := Scalar.indexCast v1819
  ![v1820.toNat]
def k0_mult34 (v1823 : BitVec 32) : BitVec 32 :=
  let c512_i32_1147 : BitVec 32 := 512#32
  let v1824 : BitVec 32 := Scalar.muli v1823 c512_i32_1147
  v1824

def k0_off231 (v1823 : BitVec 32) : Fin 4 → Nat :=
  let c0_1148 : Index := 0#32
  let c0_1149 : Index := 0#32
  let c512_i32_1147 : BitVec 32 := 512#32
  let v1824 : BitVec 32 := Scalar.muli v1823 c512_i32_1147
  let v1825 : BitVec 32 := v1824
  let v1826 : Index := Scalar.indexCast v1825
  let c0_1150 : Index := 0#32
  ![0, 0, v1826.toNat, 0]
def k0_off232 (v1823 : BitVec 32) : Fin 3 → Nat :=
  let c0_1151 : Index := 0#32
  let c512_i32_1147 : BitVec 32 := 512#32
  let v1824 : BitVec 32 := Scalar.muli v1823 c512_i32_1147
  let v1825 : BitVec 32 := v1824
  let v1829 : Index := Scalar.indexCast v1825
  let c0_1152 : Index := 0#32
  ![0, v1829.toNat, 0]

def k0_chk129 (v1823 : BitVec 32) : Prop :=
  (512 ∣ (k0_mult34 v1823).toNat) ∧
  (∀ a, (k0_off231 v1823) a + S1x1x512x128.size a ≤ S1x1x8192x128.size a) ∧
  (∀ a, (k0_off232 v1823) a + S1x512x128.size a ≤ S1x8192x128.size a)
theorem k0_mult34_dvd : ∀ (v1823 : BitVec 32) (k0_hw129 : k0_chk129 v1823), 512 ∣ (k0_mult34 v1823).toNat := fun v1823 k0_hw129 => k0_hw129.1
theorem k0_off231_inb : ∀ (v1823 : BitVec 32) (k0_hw129 : k0_chk129 v1823), ∀ a, (k0_off231 v1823) a + S1x1x512x128.size a ≤ S1x1x8192x128.size a := fun v1823 k0_hw129 => k0_hw129.2.1
theorem k0_off232_inb : ∀ (v1823 : BitVec 32) (k0_hw129 : k0_chk129 v1823), ∀ a, (k0_off232 v1823) a + S1x512x128.size a ≤ S1x8192x128.size a := fun v1823 k0_hw129 => k0_hw129.2.2

def k0_off233 (v1821 : BitVec 32) : Fin 5 → Nat :=
  let c0_1153 : Index := 0#32
  let c0_1154 : Index := 0#32
  let v1833 : Index := Scalar.indexCast v1821
  let c0_1155 : Index := 0#32
  let c0_1156 : Index := 0#32
  ![0, 0, v1833.toNat, 0, 0]

def k0_chk130 (v1821 : BitVec 32) : Prop :=
  (∀ a, (k0_off233 v1821) a + S1x1x1x256x512.size a ≤ S1x1x16x256x512.size a)
theorem k0_off233_inb : ∀ (v1821 : BitVec 32) (k0_hw130 : k0_chk130 v1821), ∀ a, (k0_off233 v1821) a + S1x1x1x256x512.size a ≤ S1x1x16x256x512.size a := fun v1821 k0_hw130 => k0_hw130

def k0_off234 (k0_t1 : Fin k0_t1_loop.trips) : Fin 1 → Nat :=
  let c34_i32_1145 : BitVec 32 := 34#32
  let c0_i32 : BitVec 32 := 0#32
  let c1_i32 : BitVec 32 := 1#32
  let arg14 : BitVec 32 := Scf.iv c0_i32 c1_i32 k0_t1
  let v1817 : BitVec 32 := Scalar.muli c34_i32_1145 arg14
  let c31_i32 : BitVec 32 := 31#32
  let v1818 : BitVec 32 := Scalar.addi v1817 c31_i32
  let v1846 : Index := Scalar.indexCast v1818
  ![v1846.toNat]
def k0_off235 (v1849 : BitVec 32) : Fin 5 → Nat :=
  let c0_1164 : Index := 0#32
  let c0_1165 : Index := 0#32
  let v1850 : Index := Scalar.indexCast v1849
  let c0_1166 : Index := 0#32
  let c0_1167 : Index := 0#32
  ![0, 0, v1850.toNat, 0, 0]

def k0_chk131 (v1849 : BitVec 32) : Prop :=
  (∀ a, (k0_off235 v1849) a + S1x1x1x128x512.size a ≤ S1x1x16x128x512.size a)
theorem k0_off235_inb : ∀ (v1849 : BitVec 32) (k0_hw131 : k0_chk131 v1849), ∀ a, (k0_off235 v1849) a + S1x1x1x128x512.size a ≤ S1x1x16x128x512.size a := fun v1849 k0_hw131 => k0_hw131

def k0_off236 (v1847 : BitVec 32) : Fin 3 → Nat :=
  let v1854 : Index := Scalar.indexCast v1847
  let c0_1168 : Index := 0#32
  let c0_1169 : Index := 0#32
  ![v1854.toNat, 0, 0]

def k0_chk132 (v1847 : BitVec 32) : Prop :=
  (∀ a, (k0_off236 v1847) a + S1x144x512.size a ≤ S16x144x512.size a)
theorem k0_off236_inb : ∀ (v1847 : BitVec 32) (k0_hw132 : k0_chk132 v1847), ∀ a, (k0_off236 v1847) a + S1x144x512.size a ≤ S16x144x512.size a := fun v1847 k0_hw132 => k0_hw132

def k0_off237 (k0_t1 : Fin k0_t1_loop.trips) : Fin 1 → Nat :=
  let c34_i32_1175 : BitVec 32 := 34#32
  let c0_i32 : BitVec 32 := 0#32
  let c1_i32 : BitVec 32 := 1#32
  let arg14 : BitVec 32 := Scf.iv c0_i32 c1_i32 k0_t1
  let v1864 : BitVec 32 := Scalar.muli c34_i32_1175 arg14
  let c32_i32 : BitVec 32 := 32#32
  let v1865 : BitVec 32 := Scalar.addi v1864 c32_i32
  let c2_i32_1176 : BitVec 32 := 2#32
  let v1866 : BitVec 32 := Scalar.addi v1865 c2_i32_1176
  let v1867 : Index := Scalar.indexCast v1866
  ![v1867.toNat]
def k0_mult35 (v1868 : BitVec 32) : BitVec 32 :=
  let c512_i32_1177 : BitVec 32 := 512#32
  let v1869 : BitVec 32 := Scalar.muli v1868 c512_i32_1177
  v1869

def k0_off238 (v1868 : BitVec 32) : Fin 4 → Nat :=
  let c0_1178 : Index := 0#32
  let c0_1179 : Index := 0#32
  let c512_i32_1177 : BitVec 32 := 512#32
  let v1869 : BitVec 32 := Scalar.muli v1868 c512_i32_1177
  let v1870 : BitVec 32 := v1869
  let v1871 : Index := Scalar.indexCast v1870
  let c0_1180 : Index := 0#32
  ![0, 0, v1871.toNat, 0]
def k0_off239 (v1868 : BitVec 32) : Fin 3 → Nat :=
  let c0_1181 : Index := 0#32
  let c512_i32_1177 : BitVec 32 := 512#32
  let v1869 : BitVec 32 := Scalar.muli v1868 c512_i32_1177
  let v1870 : BitVec 32 := v1869
  let v1874 : Index := Scalar.indexCast v1870
  let c0_1182 : Index := 0#32
  ![0, v1874.toNat, 0]

def k0_chk133 (v1868 : BitVec 32) : Prop :=
  (512 ∣ (k0_mult35 v1868).toNat) ∧
  (∀ a, (k0_off238 v1868) a + S1x1x512x128.size a ≤ S1x1x8192x128.size a) ∧
  (∀ a, (k0_off239 v1868) a + S1x512x128.size a ≤ S1x8192x128.size a)
theorem k0_mult35_dvd : ∀ (v1868 : BitVec 32) (k0_hw133 : k0_chk133 v1868), 512 ∣ (k0_mult35 v1868).toNat := fun v1868 k0_hw133 => k0_hw133.1
theorem k0_off238_inb : ∀ (v1868 : BitVec 32) (k0_hw133 : k0_chk133 v1868), ∀ a, (k0_off238 v1868) a + S1x1x512x128.size a ≤ S1x1x8192x128.size a := fun v1868 k0_hw133 => k0_hw133.2.1
theorem k0_off239_inb : ∀ (v1868 : BitVec 32) (k0_hw133 : k0_chk133 v1868), ∀ a, (k0_off239 v1868) a + S1x512x128.size a ≤ S1x8192x128.size a := fun v1868 k0_hw133 => k0_hw133.2.2

def k0_off240 (k0_t1 : Fin k0_t1_loop.trips) : Fin 1 → Nat :=
  let c34_i32_1175 : BitVec 32 := 34#32
  let c0_i32 : BitVec 32 := 0#32
  let c1_i32 : BitVec 32 := 1#32
  let arg14 : BitVec 32 := Scf.iv c0_i32 c1_i32 k0_t1
  let v1864 : BitVec 32 := Scalar.muli c34_i32_1175 arg14
  let c32_i32 : BitVec 32 := 32#32
  let v1865 : BitVec 32 := Scalar.addi v1864 c32_i32
  let c2_i32_1176 : BitVec 32 := 2#32
  let v1866 : BitVec 32 := Scalar.addi v1865 c2_i32_1176
  let v1878 : Index := Scalar.indexCast v1866
  ![v1878.toNat]
def k0_off241 (v1879 : BitVec 32) : Fin 5 → Nat :=
  let c0_1183 : Index := 0#32
  let c0_1184 : Index := 0#32
  let v1880 : Index := Scalar.indexCast v1879
  let c0_1185 : Index := 0#32
  let c0_1186 : Index := 0#32
  ![0, 0, v1880.toNat, 0, 0]

def k0_chk134 (v1879 : BitVec 32) : Prop :=
  (∀ a, (k0_off241 v1879) a + S1x1x1x256x512.size a ≤ S1x1x16x256x512.size a)
theorem k0_off241_inb : ∀ (v1879 : BitVec 32) (k0_hw134 : k0_chk134 v1879), ∀ a, (k0_off241 v1879) a + S1x1x1x256x512.size a ≤ S1x1x16x256x512.size a := fun v1879 k0_hw134 => k0_hw134

def k0_off242 (k0_t1 : Fin k0_t1_loop.trips) : Fin 1 → Nat :=
  let c34_i32_1175 : BitVec 32 := 34#32
  let c0_i32 : BitVec 32 := 0#32
  let c1_i32 : BitVec 32 := 1#32
  let arg14 : BitVec 32 := Scf.iv c0_i32 c1_i32 k0_t1
  let v1864 : BitVec 32 := Scalar.muli c34_i32_1175 arg14
  let c32_i32 : BitVec 32 := 32#32
  let v1865 : BitVec 32 := Scalar.addi v1864 c32_i32
  let v1900 : Index := Scalar.indexCast v1865
  ![v1900.toNat]
def k0_off243 (v1903 : BitVec 32) : Fin 5 → Nat :=
  let c0_1197 : Index := 0#32
  let c0_1198 : Index := 0#32
  let v1904 : Index := Scalar.indexCast v1903
  let c0_1199 : Index := 0#32
  let c0_1200 : Index := 0#32
  ![0, 0, v1904.toNat, 0, 0]

def k0_chk135 (v1903 : BitVec 32) : Prop :=
  (∀ a, (k0_off243 v1903) a + S1x1x1x128x512.size a ≤ S1x1x16x128x512.size a)
theorem k0_off243_inb : ∀ (v1903 : BitVec 32) (k0_hw135 : k0_chk135 v1903), ∀ a, (k0_off243 v1903) a + S1x1x1x128x512.size a ≤ S1x1x16x128x512.size a := fun v1903 k0_hw135 => k0_hw135

def k0_off244 (v1901 : BitVec 32) : Fin 3 → Nat :=
  let v1908 : Index := Scalar.indexCast v1901
  let c0_1201 : Index := 0#32
  let c0_1202 : Index := 0#32
  ![v1908.toNat, 0, 0]

def k0_chk136 (v1901 : BitVec 32) : Prop :=
  (∀ a, (k0_off244 v1901) a + S1x144x512.size a ≤ S16x144x512.size a)
theorem k0_off244_inb : ∀ (v1901 : BitVec 32) (k0_hw136 : k0_chk136 v1901), ∀ a, (k0_off244 v1901) a + S1x144x512.size a ≤ S16x144x512.size a := fun v1901 k0_hw136 => k0_hw136

def k0_off245 (k0_t1 : Fin k0_t1_loop.trips) : Fin 1 → Nat :=
  let c34_i32_1208 : BitVec 32 := 34#32
  let c0_i32 : BitVec 32 := 0#32
  let c1_i32 : BitVec 32 := 1#32
  let arg14 : BitVec 32 := Scf.iv c0_i32 c1_i32 k0_t1
  let v1918 : BitVec 32 := Scalar.muli c34_i32_1208 arg14
  let c33_i32 : BitVec 32 := 33#32
  let v1919 : BitVec 32 := Scalar.addi v1918 c33_i32
  let c2_i32_1209 : BitVec 32 := 2#32
  let v1920 : BitVec 32 := Scalar.addi v1919 c2_i32_1209
  let v1921 : Index := Scalar.indexCast v1920
  ![v1921.toNat]
def k0_mult36 (v1922 : BitVec 32) : BitVec 32 :=
  let c512_i32_1210 : BitVec 32 := 512#32
  let v1923 : BitVec 32 := Scalar.muli v1922 c512_i32_1210
  v1923

def k0_off246 (v1922 : BitVec 32) : Fin 4 → Nat :=
  let c0_1211 : Index := 0#32
  let c0_1212 : Index := 0#32
  let c512_i32_1210 : BitVec 32 := 512#32
  let v1923 : BitVec 32 := Scalar.muli v1922 c512_i32_1210
  let v1924 : BitVec 32 := v1923
  let v1925 : Index := Scalar.indexCast v1924
  let c0_1213 : Index := 0#32
  ![0, 0, v1925.toNat, 0]
def k0_off247 (v1922 : BitVec 32) : Fin 3 → Nat :=
  let c0_1214 : Index := 0#32
  let c512_i32_1210 : BitVec 32 := 512#32
  let v1923 : BitVec 32 := Scalar.muli v1922 c512_i32_1210
  let v1924 : BitVec 32 := v1923
  let v1928 : Index := Scalar.indexCast v1924
  let c0_1215 : Index := 0#32
  ![0, v1928.toNat, 0]

def k0_chk137 (v1922 : BitVec 32) : Prop :=
  (512 ∣ (k0_mult36 v1922).toNat) ∧
  (∀ a, (k0_off246 v1922) a + S1x1x512x128.size a ≤ S1x1x8192x128.size a) ∧
  (∀ a, (k0_off247 v1922) a + S1x512x128.size a ≤ S1x8192x128.size a)
theorem k0_mult36_dvd : ∀ (v1922 : BitVec 32) (k0_hw137 : k0_chk137 v1922), 512 ∣ (k0_mult36 v1922).toNat := fun v1922 k0_hw137 => k0_hw137.1
theorem k0_off246_inb : ∀ (v1922 : BitVec 32) (k0_hw137 : k0_chk137 v1922), ∀ a, (k0_off246 v1922) a + S1x1x512x128.size a ≤ S1x1x8192x128.size a := fun v1922 k0_hw137 => k0_hw137.2.1
theorem k0_off247_inb : ∀ (v1922 : BitVec 32) (k0_hw137 : k0_chk137 v1922), ∀ a, (k0_off247 v1922) a + S1x512x128.size a ≤ S1x8192x128.size a := fun v1922 k0_hw137 => k0_hw137.2.2

def k0_off248 (k0_t1 : Fin k0_t1_loop.trips) : Fin 1 → Nat :=
  let c34_i32_1208 : BitVec 32 := 34#32
  let c0_i32 : BitVec 32 := 0#32
  let c1_i32 : BitVec 32 := 1#32
  let arg14 : BitVec 32 := Scf.iv c0_i32 c1_i32 k0_t1
  let v1918 : BitVec 32 := Scalar.muli c34_i32_1208 arg14
  let c33_i32 : BitVec 32 := 33#32
  let v1919 : BitVec 32 := Scalar.addi v1918 c33_i32
  let c2_i32_1209 : BitVec 32 := 2#32
  let v1920 : BitVec 32 := Scalar.addi v1919 c2_i32_1209
  let v1932 : Index := Scalar.indexCast v1920
  ![v1932.toNat]
def k0_off249 (v1933 : BitVec 32) : Fin 5 → Nat :=
  let c0_1216 : Index := 0#32
  let c0_1217 : Index := 0#32
  let v1934 : Index := Scalar.indexCast v1933
  let c0_1218 : Index := 0#32
  let c0_1219 : Index := 0#32
  ![0, 0, v1934.toNat, 0, 0]

def k0_chk138 (v1933 : BitVec 32) : Prop :=
  (∀ a, (k0_off249 v1933) a + S1x1x1x256x512.size a ≤ S1x1x16x256x512.size a)
theorem k0_off249_inb : ∀ (v1933 : BitVec 32) (k0_hw138 : k0_chk138 v1933), ∀ a, (k0_off249 v1933) a + S1x1x1x256x512.size a ≤ S1x1x16x256x512.size a := fun v1933 k0_hw138 => k0_hw138

def k0_off250 (k0_t1 : Fin k0_t1_loop.trips) : Fin 1 → Nat :=
  let c34_i32_1208 : BitVec 32 := 34#32
  let c0_i32 : BitVec 32 := 0#32
  let c1_i32 : BitVec 32 := 1#32
  let arg14 : BitVec 32 := Scf.iv c0_i32 c1_i32 k0_t1
  let v1918 : BitVec 32 := Scalar.muli c34_i32_1208 arg14
  let c33_i32 : BitVec 32 := 33#32
  let v1919 : BitVec 32 := Scalar.addi v1918 c33_i32
  let v1970 : Index := Scalar.indexCast v1919
  ![v1970.toNat]
def k0_off251 (v1973 : BitVec 32) : Fin 5 → Nat :=
  let c0_1236 : Index := 0#32
  let c0_1237 : Index := 0#32
  let v1974 : Index := Scalar.indexCast v1973
  let c0_1238 : Index := 0#32
  let c0_1239 : Index := 0#32
  ![0, 0, v1974.toNat, 0, 0]

def k0_chk139 (v1973 : BitVec 32) : Prop :=
  (∀ a, (k0_off251 v1973) a + S1x1x1x128x512.size a ≤ S1x1x16x128x512.size a)
theorem k0_off251_inb : ∀ (v1973 : BitVec 32) (k0_hw139 : k0_chk139 v1973), ∀ a, (k0_off251 v1973) a + S1x1x1x128x512.size a ≤ S1x1x16x128x512.size a := fun v1973 k0_hw139 => k0_hw139

def k0_off252 (v1971 : BitVec 32) : Fin 3 → Nat :=
  let v1978 : Index := Scalar.indexCast v1971
  let c0_1240 : Index := 0#32
  let c0_1241 : Index := 0#32
  ![v1978.toNat, 0, 0]

def k0_chk140 (v1971 : BitVec 32) : Prop :=
  (∀ a, (k0_off252 v1971) a + S1x144x512.size a ≤ S16x144x512.size a)
theorem k0_off252_inb : ∀ (v1971 : BitVec 32) (k0_hw140 : k0_chk140 v1971), ∀ a, (k0_off252 v1971) a + S1x144x512.size a ≤ S16x144x512.size a := fun v1971 k0_hw140 => k0_hw140

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1x16x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x16x128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8192x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S4x8x16x256x512 : Shape := ⟨5, ![4, 8, 16, 256, 512]⟩
abbrev S4x8x8192x128 : Shape := ⟨4, ![4, 8, 8192, 128]⟩
abbrev S4x8192x128 : Shape := ⟨3, ![4, 8192, 128]⟩
abbrev S4x8x16x128x512 : Shape := ⟨5, ![4, 8, 16, 128, 512]⟩
abbrev S4x8x16x512x256 : Shape := ⟨5, ![4, 8, 16, 512, 256]⟩
abbrev S4x8x8192x256 : Shape := ⟨4, ![4, 8, 8192, 256]⟩
abbrev S4x1x8192x128 : Shape := ⟨4, ![4, 1, 8192, 128]⟩
abbrev S4x8x16x512x128 : Shape := ⟨5, ![4, 8, 16, 512, 128]⟩
abbrev S4x8x8192x8192 : Shape := ⟨4, ![4, 8, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S_ : Shape := ⟨0, ![]⟩
abbrev S4x8x8192 : Shape := ⟨3, ![4, 8, 8192]⟩
abbrev S4x8x8192x1 : Shape := ⟨4, ![4, 8, 8192, 1]⟩
abbrev S4x8192x8x128 : Shape := ⟨4, ![4, 8192, 8, 128]⟩
abbrev S4x8192x1024 : Shape := ⟨3, ![4, 8192, 1024]⟩

abbrev nBuf : Space → Nat
  | .hbm => 44
  | .vmem => 0
  | .smem => 0
  | _ => 0

abbrev bufTy : (tb : Table) → Fin (tcTables nBuf tb) → BufTy
  | .hbm, ⟨0, _⟩ => ⟨S4x8x16x256x512, .bf16⟩
  | .hbm, ⟨1, _⟩ => ⟨S4x8x8192x128, .bf16⟩
  | .hbm, ⟨2, _⟩ => ⟨S4x8192x128, .bf16⟩
  | .hbm, ⟨3, _⟩ => ⟨S4x8x16x128x512, .bf16⟩
  | .hbm, ⟨4, _⟩ => ⟨S4x8x16x256x512, .f32⟩
  | .hbm, ⟨5, _⟩ => ⟨S4x8x16x512x256, .f32⟩
  | .hbm, ⟨6, _⟩ => ⟨S4x8x8192x256, .f32⟩
  | .hbm, ⟨7, _⟩ => ⟨S4x8192x128, .f32⟩
  | .hbm, ⟨8, _⟩ => ⟨S4x1x8192x128, .f32⟩
  | .hbm, ⟨9, _⟩ => ⟨S4x8x8192x128, .f32⟩
  | .hbm, ⟨10, _⟩ => ⟨S4x8x8192x128, .f32⟩
  | .hbm, ⟨11, _⟩ => ⟨S4x8x8192x256, .f32⟩
  | .hbm, ⟨12, _⟩ => ⟨S4x8x16x128x512, .f32⟩
  | .hbm, ⟨13, _⟩ => ⟨S4x8x16x512x128, .f32⟩
  | .hbm, ⟨14, _⟩ => ⟨S4x8x8192x128, .f32⟩
  | .hbm, ⟨15, _⟩ => ⟨S4x8x8192x8192, .f32⟩
  | .hbm, ⟨16, _⟩ => ⟨S8192, .i32⟩
  | .hbm, ⟨17, _⟩ => ⟨S1x8192, .i32⟩
  | .hbm, ⟨18, _⟩ => ⟨S8192x1, .i32⟩
  | .hbm, ⟨19, _⟩ => ⟨S8192x8192, .i32⟩
  | .hbm, ⟨20, _⟩ => ⟨S8192x8192, .i32⟩
  | .hbm, ⟨21, _⟩ => ⟨S8192x8192, .i1⟩
  | .hbm, ⟨22, _⟩ => ⟨S_, .f32⟩
  | .hbm, ⟨23, _⟩ => ⟨S_, .f32⟩
  | .hbm, ⟨24, _⟩ => ⟨S4x8x8192x8192, .i1⟩
  | .hbm, ⟨25, _⟩ => ⟨S4x8x8192x8192, .f32⟩
  | .hbm, ⟨26, _⟩ => ⟨S4x8x8192x8192, .f32⟩
  | .hbm, ⟨27, _⟩ => ⟨S_, .f32⟩
  | .hbm, ⟨28, _⟩ => ⟨S4x8x8192, .f32⟩
  | .hbm, ⟨29, _⟩ => ⟨S4x8x8192x1, .f32⟩
  | .hbm, ⟨30, _⟩ => ⟨S4x8x8192x8192, .f32⟩
  | .hbm, ⟨31, _⟩ => ⟨S4x8x8192x8192, .f32⟩
  | .hbm, ⟨32, _⟩ => ⟨S_, .f32⟩
  | .hbm, ⟨33, _⟩ => ⟨S4x8x8192x8192, .f32⟩
  | .hbm, ⟨34, _⟩ => ⟨S4x8x8192x8192, .f32⟩
  | .hbm, ⟨35, _⟩ => ⟨S_, .f32⟩
  | .hbm, ⟨36, _⟩ => ⟨S4x8x8192, .f32⟩
  | .hbm, ⟨37, _⟩ => ⟨S4x8x8192x1, .f32⟩
  | .hbm, ⟨38, _⟩ => ⟨S4x8x8192x8192, .f32⟩
  | .hbm, ⟨39, _⟩ => ⟨S4x8x8192x8192, .f32⟩
  | .hbm, ⟨40, _⟩ => ⟨S4x8x8192x128, .f32⟩
  | .hbm, ⟨41, _⟩ => ⟨S4x8192x8x128, .f32⟩
  | .hbm, ⟨42, _⟩ => ⟨S4x8192x1024, .f32⟩
  | .hbm, ⟨43, _⟩ => ⟨S4x8192x1024, .bf16⟩
  | _, _ => ⟨S4x8x16x256x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_v18 : Ref sig .tc := ⟨.hbm, 26, rfl⟩
abbrev main_cst_0 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_1 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩

abbrev nD : Nat := 1
abbrev τ : Topo := Topo.v7x

variable {F : FTy → Type} [FloatOps F]
-- ==== Kernel2.lean ====
abbrev S4x8192x1024 : Shape := ⟨3, ![4, 8192, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S32768x1024 : Shape := ⟨2, ![32768, 1024]⟩
abbrev S1024 : Shape := ⟨1, ![1024]⟩
abbrev S1024x2816 : Shape := ⟨2, ![1024, 2816]⟩
abbrev S2816x1024 : Shape := ⟨2, ![2816, 1024]⟩
abbrev S512x1024 : Shape := ⟨2, ![512, 1024]⟩
abbrev S512 : Shape := ⟨1, ![512]⟩
abbrev S512x1 : Shape := ⟨2, ![512, 1]⟩
abbrev S512x2816 : Shape := ⟨2, ![512, 2816]⟩

abbrev nBuf : Space → Nat
  | .hbm => 15
  | .vmem => 8
  | .smem => 0
  | _ => 0

abbrev bufTy : (tb : Table) → Fin (tcTables nBuf tb) → BufTy
  | .hbm, ⟨0, _⟩ => ⟨S4x8192x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S32768x1024, .f32⟩
  | .hbm, ⟨6, _⟩ => ⟨S1024, .f32⟩
  | .hbm, ⟨7, _⟩ => ⟨S1x1024, .f32⟩
  | .hbm, ⟨8, _⟩ => ⟨S1024x2816, .f32⟩
  | .hbm, ⟨9, _⟩ => ⟨S1024x2816, .bf16⟩
  | .hbm, ⟨10, _⟩ => ⟨S1024x2816, .f32⟩
  | .hbm, ⟨11, _⟩ => ⟨S1024x2816, .bf16⟩
  | .hbm, ⟨12, _⟩ => ⟨S2816x1024, .f32⟩
  | .hbm, ⟨13, _⟩ => ⟨S2816x1024, .bf16⟩
  | .hbm, ⟨14, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S4x8192x1024 : Shape := ⟨3, ![4, 8192, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S1024x2816 : Shape := ⟨2, ![1024, 2816]⟩
abbrev S4x8192x2816 : Shape := ⟨3, ![4, 8192, 2816]⟩
abbrev S2816x1024 : Shape := ⟨2, ![2816, 1024]⟩
abbrev S32768x1024 : Shape := ⟨2, ![32768, 1024]⟩

abbrev nBuf : Space → Nat
  | .hbm => 40
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S1024, .f32⟩
  | .hbm, ⟨6, _⟩ => ⟨S4x8192x1024, .f32⟩
  | .hbm, ⟨7, _⟩ => ⟨S_, .f32⟩
  | .hbm, ⟨8, _⟩ => ⟨S4x8192, .f32⟩
  | .hbm, ⟨9, _⟩ => ⟨S4x8192x1, .f32⟩
  | .hbm, ⟨10, _⟩ => ⟨S_, .f32⟩
  | .hbm, ⟨11, _⟩ => ⟨S4x8192x1, .f32⟩
  | .hbm, ⟨12, _⟩ => ⟨S4x8192x1, .f32⟩
  | .hbm, ⟨13, _⟩ => ⟨S_, .f32⟩
  | .hbm, ⟨14, _⟩ => ⟨S4x8192x1, .f32⟩
  | .hbm, ⟨15, _⟩ => ⟨S4x8192x1, .f32⟩
  | .hbm, ⟨16, _⟩ => ⟨S4x8192x1, .f32⟩
  | .hbm, ⟨17, _⟩ => ⟨S4x8192x1024, .f32⟩
  | .hbm, ⟨18, _⟩ => ⟨S4x8192x1024, .f32⟩
  | .hbm, ⟨19, _⟩ => ⟨S1x1x1024, .f32⟩
  | .hbm, ⟨20, _⟩ => ⟨S4x8192x1024, .f32⟩
  | .hbm, ⟨21, _⟩ => ⟨S4x8192x1024, .f32⟩
  | .hbm, ⟨22, _⟩ => ⟨S1024x2816, .f32⟩
  | .hbm, ⟨23, _⟩ => ⟨S4x8192x2816, .f32⟩
  | .hbm, ⟨24, _⟩ => ⟨S4x8192x2816, .f32⟩
  | .hbm, ⟨25, _⟩ => ⟨S4x8192x2816, .f32⟩
  | .hbm, ⟨26, _⟩ => ⟨S_, .f32⟩
  | .hbm, ⟨27, _⟩ => ⟨S4x8192x2816, .f32⟩
  | .hbm, ⟨28, _⟩ => ⟨S4x8192x2816, .f32⟩
  | .hbm, ⟨29, _⟩ => ⟨S_, .f32⟩
  | .hbm, ⟨30, _⟩ => ⟨S4x8192x2816, .f32⟩
  | .hbm, ⟨31, _⟩ => ⟨S4x8192x2816, .f32⟩
  | .hbm, ⟨32, _⟩ => ⟨S4x8192x2816, .f32⟩
  | .hbm, ⟨33, _⟩ => ⟨S1024x2816, .f32⟩
  | .hbm, ⟨34, _⟩ => ⟨S4x8192x2816, .f32⟩
  | .hbm, ⟨35, _⟩ => ⟨S4x8192x2816, .f32⟩
  | .hbm, ⟨36, _⟩ => ⟨S2816x1024, .f32⟩
  | .hbm, ⟨37, _⟩ => ⟨S4x8192x1024, .f32⟩
  | .hbm, ⟨38, _⟩ => ⟨S4x8192x1024, .f32⟩
  | .hbm, ⟨39, _⟩ => ⟨S32768x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩

abbrev nD : Nat := 1
abbrev τ : Topo := Topo.v7x

variable {F : FTy → Type} [FloatOps F]
-- ==== Kernel3.lean ====
abbrev S4x8192x1024 : Shape := ⟨3, ![4, 8192, 1024]⟩
abbrev S1x1024 : Shape := ⟨2, ![1, 1024]⟩
abbrev S1x1024x4672 : Shape := ⟨3, ![1, 1024, 4672]⟩
abbrev S32768x1024 : Shape := ⟨2, ![32768, 1024]⟩
abbrev S1024x4672 : Shape := ⟨2, ![1024, 4672]⟩
abbrev S1024x64 : Shape := ⟨2, ![1024, 64]⟩
abbrev S_ : Shape := ⟨0, ![]⟩
abbrev S1024x128 : Shape := ⟨2, ![1024, 128]⟩
abbrev S1024x256 : Shape := ⟨2, ![1024, 256]⟩
abbrev S1024x1024 : Shape := ⟨2, ![1024, 1024]⟩
abbrev S1024 : Shape := ⟨1, ![1024]⟩
abbrev S32768x256 : Shape := ⟨2, ![32768, 256]⟩
abbrev S32768x128 : Shape := ⟨2, ![32768, 128]⟩
abbrev S8x32768x128 : Shape := ⟨3, ![8, 32768, 128]⟩
abbrev S8x1024x128 : Shape := ⟨3, ![8, 1024, 128]⟩
abbrev S1024x1 : Shape := ⟨2, ![1024, 1]⟩
abbrev S1x1024x128 : Shape := ⟨3, ![1, 1024, 128]⟩

abbrev nBuf : Space → Nat
  | .hbm => 25
  | .vmem => 24
  | .smem => 0
  | _ => 0

abbrev bufTy : (tb : Table) → Fin (tcTables nBuf tb) → BufTy
  | .hbm, ⟨0, _⟩ => ⟨S4x8192x1024, .f32⟩
  | .hbm, ⟨1, _⟩ => ⟨S1x1024, .f32⟩
  | .hbm, ⟨2, _⟩ => ⟨S1x1024x4672, .f32⟩
  | .hbm, ⟨3, _⟩ => ⟨S32768x1024, .f32⟩
  | .hbm, ⟨4, _⟩ => ⟨S1024x4672, .f32⟩
  | .hbm, ⟨5, _⟩ => ⟨S1024x4672, .bf16⟩
  | .hbm, ⟨6, _⟩ => ⟨S1024x64, .bf16⟩
  | .hbm, ⟨7, _⟩ => ⟨S_, .i32⟩
  | .hbm, ⟨8, _⟩ => ⟨S_, .bf16⟩
  | .hbm, ⟨9, _⟩ => ⟨S1024x128, .bf16⟩
  | .hbm, ⟨10, _⟩ => ⟨S1024x256, .bf16⟩
  | .hbm, ⟨11, _⟩ => ⟨S1024x256, .bf16⟩
  | .hbm, ⟨12, _⟩ => ⟨S1024x1024, .bf16⟩
  | .hbm, ⟨13, _⟩ => ⟨S1024x1024, .bf16⟩
  | .hbm, ⟨14, _⟩ => ⟨S1024x1024, .bf16⟩
  | .hbm, ⟨15, _⟩ => ⟨S1024x1024, .bf16⟩
  | .hbm, ⟨16, _⟩ => ⟨S1024, .f32⟩
  | .hbm, ⟨17, _⟩ => ⟨S1x1024, .f32⟩
  | .hbm, ⟨18, _⟩ => ⟨S32768x256, .f32⟩
  | .hbm, ⟨19, _⟩ => ⟨S32768x256, .f32⟩
  | .hbm, ⟨20, _⟩ => ⟨S32768x128, .f32⟩
  | .hbm, ⟨21, _⟩ => ⟨S8x32768x128, .f32⟩
  | .hbm, ⟨22, _⟩ => ⟨S8x32768x128, .f32⟩
  | .hbm, ⟨23, _⟩ => ⟨S32768x1024, .bf16⟩
  | .hbm, ⟨24, _⟩ => ⟨S32768x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x256, .bf16⟩
  | .local _ .vmem, ⟨4, _⟩ => ⟨S1024x256, .bf16⟩
  | .local _ .vmem, ⟨5, _⟩ => ⟨S1024x128, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x256, .f32⟩
  | .local _ .vmem, ⟨11, _⟩ => ⟨S1024x256, .f32⟩
  | .local _ .vmem, ⟨12, _⟩ => ⟨S1024x256, .f32⟩
  | .local _ .vmem, ⟨13, _⟩ => ⟨S1024x256, .f32⟩
  | .local _ .vmem, ⟨14, _⟩ => ⟨S1024x128, .f32⟩
  | .local _ .vmem, ⟨15, _⟩ => ⟨S1024x128, .f32⟩
  | .local _ .vmem, ⟨16, _⟩ => ⟨S8x1024x128, .f32⟩
  | .local _ .vmem, ⟨17, _⟩ => ⟨S8x1024x128, .f32⟩
  | .local _ .vmem, ⟨18, _⟩ => ⟨S8x1024x128, .f32⟩
  | .local _ .vmem, ⟨19, _⟩ => ⟨S8x1024x128, .f32⟩
  | .local _ .vmem, ⟨20, _⟩ => ⟨S1024x1024, .bf16⟩
  | .local _ .vmem, ⟨21, _⟩ => ⟨S1024x1024, .bf16⟩
  | .local _ .vmem, ⟨22, _⟩ => ⟨S1024x1024, .bf16⟩
  | .local _ .vmem, ⟨23, _⟩ => ⟨S1024x1024, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13_0 : Ref sig .tc := ⟨.hbm, 18, rfl⟩
abbrev main_v13_1 : Ref sig .tc := ⟨.hbm, 19, rfl⟩
abbrev main_v13_2 : Ref sig .tc := ⟨.hbm, 20, rfl⟩
abbrev main_v13_3 : Ref sig .tc := ⟨.hbm, 21, rfl⟩
abbrev main_v13_4 : Ref sig .tc := ⟨.hbm, 22, rfl⟩
abbrev main_v13_5 : Ref sig .tc := ⟨.hbm, 23, rfl⟩
abbrev main_v13_6 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S8x1024x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S8x1024x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1024x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1024x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference3Ideal.lean ====
abbrev S4x8192x1024 : Shape := ⟨3, ![4, 8192, 1024]⟩
abbrev S1x1024 : Shape := ⟨2, ![1, 1024]⟩
abbrev S1x1024x4672 : Shape := ⟨3, ![1, 1024, 4672]⟩
abbrev S1024 : Shape := ⟨1, ![1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S1024x4672 : Shape := ⟨2, ![1024, 4672]⟩
abbrev S4x8192x4672 : Shape := ⟨3, ![4, 8192, 4672]⟩
abbrev S32768x4672 : Shape := ⟨2, ![32768, 4672]⟩
abbrev S32768x256 : Shape := ⟨2, ![32768, 256]⟩
abbrev S32768x320 : Shape := ⟨2, ![32768, 320]⟩
abbrev S32768x1024 : Shape := ⟨2, ![32768, 1024]⟩
abbrev S32768x64 : Shape := ⟨2, ![32768, 64]⟩
abbrev S32768x128 : Shape := ⟨2, ![32768, 128]⟩
abbrev S32768x8x128 : Shape := ⟨3, ![32768, 8, 128]⟩
abbrev S8x32768x128 : Shape := ⟨3, ![8, 32768, 128]⟩

abbrev nBuf : Space → Nat
  | .hbm => 40
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1x1024, .f32⟩
  | .hbm, ⟨2, _⟩ => ⟨S1x1024x4672, .f32⟩
  | .hbm, ⟨3, _⟩ => ⟨S1024, .f32⟩
  | .hbm, ⟨4, _⟩ => ⟨S4x8192x1024, .f32⟩
  | .hbm, ⟨5, _⟩ => ⟨S_, .f32⟩
  | .hbm, ⟨6, _⟩ => ⟨S4x8192, .f32⟩
  | .hbm, ⟨7, _⟩ => ⟨S4x8192x1, .f32⟩
  | .hbm, ⟨8, _⟩ => ⟨S_, .f32⟩
  | .hbm, ⟨9, _⟩ => ⟨S4x8192x1, .f32⟩
  | .hbm, ⟨10, _⟩ => ⟨S4x8192x1, .f32⟩
  | .hbm, ⟨11, _⟩ => ⟨S_, .f32⟩
  | .hbm, ⟨12, _⟩ => ⟨S4x8192x1, .f32⟩
  | .hbm, ⟨13, _⟩ => ⟨S4x8192x1, .f32⟩
  | .hbm, ⟨14, _⟩ => ⟨S4x8192x1, .f32⟩
  | .hbm, ⟨15, _⟩ => ⟨S4x8192x1024, .f32⟩
  | .hbm, ⟨16, _⟩ => ⟨S4x8192x1024, .f32⟩
  | .hbm, ⟨17, _⟩ => ⟨S1x1x1024, .f32⟩
  | .hbm, ⟨18, _⟩ => ⟨S4x8192x1024, .f32⟩
  | .hbm, ⟨19, _⟩ => ⟨S4x8192x1024, .f32⟩
  | .hbm, ⟨20, _⟩ => ⟨S1024x4672, .f32⟩
  | .hbm, ⟨21, _⟩ => ⟨S4x8192x4672, .f32⟩
  | .hbm, ⟨22, _⟩ => ⟨S32768x4672, .f32⟩
  | .hbm, ⟨23, _⟩ => ⟨S32768x256, .f32⟩
  | .hbm, ⟨24, _⟩ => ⟨S32768x320, .f32⟩
  | .hbm, ⟨25, _⟩ => ⟨S32768x1024, .f32⟩
  | .hbm, ⟨26, _⟩ => ⟨S32768x1024, .f32⟩
  | .hbm, ⟨27, _⟩ => ⟨S32768x1024, .f32⟩
  | .hbm, ⟨28, _⟩ => ⟨S32768x1024, .f32⟩
  | .hbm, ⟨29, _⟩ => ⟨S32768x64, .f32⟩
  | .hbm, ⟨30, _⟩ => ⟨S_, .f32⟩
  | .hbm, ⟨31, _⟩ => ⟨S32768x64, .f32⟩
  | .hbm, ⟨32, _⟩ => ⟨S32768x128, .f32⟩
  | .hbm, ⟨33, _⟩ => ⟨S32768x256, .f32⟩
  | .hbm, ⟨34, _⟩ => ⟨S32768x8x128, .f32⟩
  | .hbm, ⟨35, _⟩ => ⟨S8x32768x128, .f32⟩
  | .hbm, ⟨36, _⟩ => ⟨S32768x8x128, .f32⟩
  | .hbm, ⟨37, _⟩ => ⟨S8x32768x128, .f32⟩
  | .hbm, ⟨38, _⟩ => ⟨S32768x1024, .bf16⟩
  | .hbm, ⟨39, _⟩ => ⟨S32768x1024, .bf16⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_2 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩

abbrev nD : Nat := 1
abbrev τ : Topo := Topo.v7x

variable {F : FTy → Type} [FloatOps F]
-- ==== Kernel4.lean ====
abbrev S4x8192x1024 : Shape := ⟨3, ![4, 8192, 1024]⟩
abbrev S8x32768x128 : Shape := ⟨3, ![8, 32768, 128]⟩
abbrev S32768x1024 : Shape := ⟨2, ![32768, 1024]⟩
abbrev S1x1024x1024 : Shape := ⟨3, ![1, 1024, 1024]⟩
abbrev S1024x1024 : Shape := ⟨2, ![1024, 1024]⟩
abbrev S8x1024x128 : Shape := ⟨3, ![8, 1024, 128]⟩
abbrev S1x1024x128 : Shape := ⟨3, ![1, 1024, 128]⟩
abbrev S1024x128 : Shape := ⟨2, ![1024, 128]⟩

abbrev nBuf : Space → Nat
  | .hbm => 17
  | .vmem => 15
  | .smem => 0
  | _ => 0

abbrev bufTy : (tb : Table) → Fin (tcTables nBuf tb) → BufTy
  | .hbm, ⟨0, _⟩ => ⟨S4x8192x1024, .f32⟩
  | .hbm, ⟨1, _⟩ => ⟨S4x8192x1024, .bf16⟩
  | .hbm, ⟨2, _⟩ => ⟨S8x32768x128, .f32⟩
  | .hbm, ⟨3, _⟩ => ⟨S32768x1024, .bf16⟩
  | .hbm, ⟨4, _⟩ => ⟨S32768x1024, .bf16⟩
  | .hbm, ⟨5, _⟩ => ⟨S1x1024x1024, .f32⟩
  | .hbm, ⟨6, _⟩ => ⟨S1x1024x1024, .f32⟩
  | .hbm, ⟨7, _⟩ => ⟨S1x1024x1024, .f32⟩
  | .hbm, ⟨8, _⟩ => ⟨S32768x1024, .f32⟩
  | .hbm, ⟨9, _⟩ => ⟨S32768x1024, .bf16⟩
  | .hbm, ⟨10, _⟩ => ⟨S1024x1024, .f32⟩
  | .hbm, ⟨11, _⟩ => ⟨S1024x1024, .bf16⟩
  | .hbm, ⟨12, _⟩ => ⟨S1024x1024, .f32⟩
  | .hbm, ⟨13, _⟩ => ⟨S1024x1024, .bf16⟩
  | .hbm, ⟨14, _⟩ => ⟨S1024x1024, .f32⟩
  | .hbm, ⟨15, _⟩ => ⟨S1024x1024, .bf16⟩
  | .hbm, ⟨16, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S8x1024x128, .f32⟩
  | .local _ .vmem, ⟨5, _⟩ => ⟨S8x1024x128, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .f32⟩
  | .local _ .vmem, ⟨14, _⟩ => ⟨S1024x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference4Ideal.lean ====
abbrev S4x8192x1024 : Shape := ⟨3, ![4, 8192, 1024]⟩
abbrev S8x32768x128 : Shape := ⟨3, ![8, 32768, 128]⟩
abbrev S32768x1024 : Shape := ⟨2, ![32768, 1024]⟩
abbrev S1x1024x1024 : Shape := ⟨3, ![1, 1024, 1024]⟩
abbrev S32768x8x128 : Shape := ⟨3, ![32768, 8, 128]⟩
abbrev S_ : Shape := ⟨0, ![]⟩
abbrev S1024x1024 : Shape := ⟨2, ![1024, 1024]⟩

abbrev nBuf : Space → Nat
  | .hbm => 42
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x8192x1024, .bf16⟩
  | .hbm, ⟨2, _⟩ => ⟨S8x32768x128, .f32⟩
  | .hbm, ⟨3, _⟩ => ⟨S32768x1024, .bf16⟩
  | .hbm, ⟨4, _⟩ => ⟨S32768x1024, .bf16⟩
  | .hbm, ⟨5, _⟩ => ⟨S1x1024x1024, .f32⟩
  | .hbm, ⟨6, _⟩ => ⟨S1x1024x1024, .f32⟩
  | .hbm, ⟨7, _⟩ => ⟨S1x1024x1024, .f32⟩
  | .hbm, ⟨8, _⟩ => ⟨S32768x8x128, .f32⟩
  | .hbm, ⟨9, _⟩ => ⟨S4x8192x1024, .f32⟩
  | .hbm, ⟨10, _⟩ => ⟨S32768x1024, .f32⟩
  | .hbm, ⟨11, _⟩ => ⟨S4x8192x1024, .f32⟩
  | .hbm, ⟨12, _⟩ => ⟨S4x8192x1024, .f32⟩
  | .hbm, ⟨13, _⟩ => ⟨S4x8192x1024, .f32⟩
  | .hbm, ⟨14, _⟩ => ⟨S_, .f32⟩
  | .hbm, ⟨15, _⟩ => ⟨S4x8192x1024, .f32⟩
  | .hbm, ⟨16, _⟩ => ⟨S4x8192x1024, .f32⟩
  | .hbm, ⟨17, _⟩ => ⟨S_, .f32⟩
  | .hbm, ⟨18, _⟩ => ⟨S4x8192x1024, .f32⟩
  | .hbm, ⟨19, _⟩ => ⟨S4x8192x1024, .f32⟩
  | .hbm, ⟨20, _⟩ => ⟨S4x8192x1024, .f32⟩
  | .hbm, ⟨21, _⟩ => ⟨S1024x1024, .f32⟩
  | .hbm, ⟨22, _⟩ => ⟨S4x8192x1024, .f32⟩
  | .hbm, ⟨23, _⟩ => ⟨S4x8192x1024, .f32⟩
  | .hbm, ⟨24, _⟩ => ⟨S32768x1024, .f32⟩
  | .hbm, ⟨25, _⟩ => ⟨S4x8192x1024, .f32⟩
  | .hbm, ⟨26, _⟩ => ⟨S4x8192x1024, .f32⟩
  | .hbm, ⟨27, _⟩ => ⟨S4x8192x1024, .f32⟩
  | .hbm, ⟨28, _⟩ => ⟨S_, .f32⟩
  | .hbm, ⟨29, _⟩ => ⟨S4x8192x1024, .f32⟩
  | .hbm, ⟨30, _⟩ => ⟨S4x8192x1024, .f32⟩
  | .hbm, ⟨31, _⟩ => ⟨S_, .f32⟩
  | .hbm, ⟨32, _⟩ => ⟨S4x8192x1024, .f32⟩
  | .hbm, ⟨33, _⟩ => ⟨S4x8192x1024, .f32⟩
  | .hbm, ⟨34, _⟩ => ⟨S1024x1024, .f32⟩
  | .hbm, ⟨35, _⟩ => ⟨S4x8192x1024, .f32⟩
  | .hbm, ⟨36, _⟩ => ⟨S4x8192x1024, .f32⟩
  | .hbm, ⟨37, _⟩ => ⟨S4x8192x1024, .f32⟩
  | .hbm, ⟨38, _⟩ => ⟨S1024x1024, .f32⟩
  | .hbm, ⟨39, _⟩ => ⟨S4x8192x1024, .f32⟩
  | .hbm, ⟨40, _⟩ => ⟨S4x8192x1024, .f32⟩
  | .hbm, ⟨41, _⟩ => ⟨S32768x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩

abbrev nD : Nat := 1
abbrev τ : Topo := Topo.v7x

variable {F : FTy → Type} [FloatOps F]
-- ==== Kernel5.lean ====
abbrev S32768x256 : Shape := ⟨2, ![32768, 256]⟩
abbrev S32768x128 : Shape := ⟨2, ![32768, 128]⟩
abbrev S4x8192 : Shape := ⟨2, ![4, 8192]⟩
abbrev S1x1 : Shape := ⟨2, ![1, 1]⟩
abbrev S1x256 : Shape := ⟨2, ![1, 256]⟩
abbrev S1x256x1536 : Shape := ⟨3, ![1, 256, 1536]⟩
abbrev S1x256x2048 : Shape := ⟨3, ![1, 256, 2048]⟩
abbrev S1x192 : Shape := ⟨2, ![1, 192]⟩
abbrev S32 : Shape := ⟨1, ![32]⟩
abbrev S_ : Shape := ⟨0, ![]⟩
abbrev S32x1 : Shape := ⟨2, ![32, 1]⟩
abbrev S4x1x8192 : Shape := ⟨3, ![4, 1, 8192]⟩
abbrev S256x2048 : Shape := ⟨2, ![256, 2048]⟩
abbrev S256x8x256 : Shape := ⟨3, ![256, 8, 256]⟩
abbrev S256x8x128 : Shape := ⟨3, ![256, 8, 128]⟩
abbrev S256x1024 : Shape := ⟨2, ![256, 1024]⟩
abbrev S1024x256 : Shape := ⟨2, ![1024, 256]⟩
abbrev S256x1536 : Shape := ⟨2, ![256, 1536]⟩
abbrev S1536x256 : Shape := ⟨2, ![1536, 256]⟩
abbrev S192 : Shape := ⟨1, ![192]⟩
abbrev S256 : Shape := ⟨1, ![256]⟩
abbrev S128 : Shape := ⟨1, ![128]⟩
abbrev S128x1 : Shape := ⟨2, ![128, 1]⟩
abbrev S64 : Shape := ⟨1, ![64]⟩
abbrev S64x1 : Shape := ⟨2, ![64, 1]⟩
abbrev S1x128 : Shape := ⟨2, ![1, 128]⟩
abbrev S4x8x16x256x512 : Shape := ⟨5, ![4, 8, 16, 256, 512]⟩
abbrev S4x8x8192x128 : Shape := ⟨4, ![4, 8, 8192, 128]⟩
abbrev S4x8192x128 : Shape := ⟨3, ![4, 8192, 128]⟩
abbrev S4x8x16x128x512 : Shape := ⟨5, ![4, 8, 16, 128, 512]⟩
abbrev S2048x256 : Shape := ⟨2, ![2048, 256]⟩
abbrev S2048x128 : Shape := ⟨2, ![2048, 128]⟩
abbrev S1x1x2048 : Shape := ⟨3, ![1, 1, 2048]⟩
abbrev S1x8x4x256x512 : Shape := ⟨5, ![1, 8, 4, 256, 512]⟩
abbrev S1x8x2048x128 : Shape := ⟨4, ![1, 8, 2048, 128]⟩
abbrev S1x2048x128 : Shape := ⟨3, ![1, 2048, 128]⟩
abbrev S1x8x4x128x512 : Shape := ⟨5, ![1, 8, 4, 128, 512]⟩
abbrev S64x2048 : Shape := ⟨2, ![64, 2048]⟩
abbrev S1x2048 : Shape := ⟨2, ![1, 2048]⟩
abbrev S32x2048 : Shape := ⟨2, ![32, 2048]⟩
abbrev S2048 : Shape := ⟨1, ![2048]⟩
abbrev S2048x1 : Shape := ⟨2, ![2048, 1]⟩
abbrev S1536x2048 : Shape := ⟨2, ![1536, 2048]⟩
abbrev S128x2048 : Shape := ⟨2, ![128, 2048]⟩
abbrev S256x512 : Shape := ⟨2, ![256, 512]⟩
abbrev S1x1x1x256x512 : Shape := ⟨5, ![1, 1, 1, 256, 512]⟩
abbrev S2048x1024 : Shape := ⟨2, ![2048, 1024]⟩
abbrev S1024x2048 : Shape := ⟨2, ![1024, 2048]⟩
abbrev S1x1x2048x128 : Shape := ⟨4, ![1, 1, 2048, 128]⟩
abbrev S128x512 : Shape := ⟨2, ![128, 512]⟩
abbrev S1x1x1x128x512 : Shape := ⟨5, ![1, 1, 1, 128, 512]⟩

abbrev nBuf : Space → Nat
  | .hbm => 57
  | .vmem => 27
  | .smem => 0
  | _ => 0

abbrev bufTy : (tb : Table) → Fin (tcTables nBuf tb) → BufTy
  | .hbm, ⟨0, _⟩ => ⟨S32768x256, .f32⟩
  | .hbm, ⟨1, _⟩ => ⟨S32768x256, .f32⟩
  | .hbm, ⟨2, _⟩ => ⟨S32768x128, .f32⟩
  | .hbm, ⟨3, _⟩ => ⟨S4x8192, .i32⟩
  | .hbm, ⟨4, _⟩ => ⟨S1x1, .f32⟩
  | .hbm, ⟨5, _⟩ => ⟨S1x256, .f32⟩
  | .hbm, ⟨6, _⟩ => ⟨S1x256x1536, .f32⟩
  | .hbm, ⟨7, _⟩ => ⟨S1x256, .f32⟩
  | .hbm, ⟨8, _⟩ => ⟨S1x256x2048, .f32⟩
  | .hbm, ⟨9, _⟩ => ⟨S1x192, .f32⟩
  | .hbm, ⟨10, _⟩ => ⟨S1x192, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S32x1, .f32⟩
  | .hbm, ⟨20, _⟩ => ⟨S4x1x8192, .i32⟩
  | .hbm, ⟨21, _⟩ => ⟨S256x2048, .f32⟩
  | .hbm, ⟨22, _⟩ => ⟨S256x2048, .bf16⟩
  | .hbm, ⟨23, _⟩ => ⟨S256x8x256, .bf16⟩
  | .hbm, ⟨24, _⟩ => ⟨S256x8x128, .bf16⟩
  | .hbm, ⟨25, _⟩ => ⟨S256x1024, .bf16⟩
  | .hbm, ⟨26, _⟩ => ⟨S256x8x128, .bf16⟩
  | .hbm, ⟨27, _⟩ => ⟨S256x1024, .bf16⟩
  | .hbm, ⟨28, _⟩ => ⟨S1024x256, .bf16⟩
  | .hbm, ⟨29, _⟩ => ⟨S256x1536, .f32⟩
  | .hbm, ⟨30, _⟩ => ⟨S256x1536, .bf16⟩
  | .hbm, ⟨31, _⟩ => ⟨S1536x256, .bf16⟩
  | .hbm, ⟨32, _⟩ => ⟨S192, .f32⟩
  | .hbm, ⟨33, _⟩ => ⟨S256, .f32⟩
  | .hbm, ⟨34, _⟩ => ⟨S1x256, .f32⟩
  | .hbm, ⟨35, _⟩ => ⟨S256, .f32⟩
  | .hbm, ⟨36, _⟩ => ⟨S1x256, .f32⟩
  | .hbm, ⟨37, _⟩ => ⟨S128, .f32⟩
  | .hbm, ⟨38, _⟩ => ⟨S_, .f32⟩
  | .hbm, ⟨39, _⟩ => ⟨S128, .f32⟩
  | .hbm, ⟨40, _⟩ => ⟨S128, .f32⟩
  | .hbm, ⟨41, _⟩ => ⟨S128x1, .f32⟩
  | .hbm, ⟨42, _⟩ => ⟨S64, .f32⟩
  | .hbm, ⟨43, _⟩ => ⟨S_, .f32⟩
  | .hbm, ⟨44, _⟩ => ⟨S64, .f32⟩
  | .hbm, ⟨45, _⟩ => ⟨S64, .f32⟩
  | .hbm, ⟨46, _⟩ => ⟨S64x1, .f32⟩
  | .hbm, ⟨47, _⟩ => ⟨S192, .f32⟩
  | .hbm, ⟨48, _⟩ => ⟨S128, .f32⟩
  | .hbm, ⟨49, _⟩ => ⟨S1x128, .f32⟩
  | .hbm, ⟨50, _⟩ => ⟨S192, .f32⟩
  | .hbm, ⟨51, _⟩ => ⟨S64, .f32⟩
  | .hbm, ⟨52, _⟩ => ⟨S64x1, .f32⟩
  | .hbm, ⟨53, _⟩ => ⟨S4x8x16x256x512, .bf16⟩
  | .hbm, ⟨54, _⟩ => ⟨S4x8x8192x128, .bf16⟩
  | .hbm, ⟨55, _⟩ => ⟨S4x8192x128, .bf16⟩
  | .hbm, ⟨56, _⟩ => ⟨S4x8x16x128x512, .bf16⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S2048x128, .f32⟩
  | .local _ .vmem, ⟨5, _⟩ => ⟨S2048x128, .f32⟩
  | .local _ .vmem, ⟨6, _⟩ => ⟨S1x1x2048, .i32⟩
  | .local _ .vmem, ⟨7, _⟩ => ⟨S1x1x2048, .i32⟩
  | .local _ .vmem, ⟨8, _⟩ => ⟨S32x1, .f32⟩
  | .local _ .vmem, ⟨9, _⟩ => ⟨S1x1, .f32⟩
  | .local _ .vmem, ⟨10, _⟩ => ⟨S1x256, .f32⟩
  | .local _ .vmem, ⟨11, _⟩ => ⟨S1x256, .f32⟩
  | .local _ .vmem, ⟨12, _⟩ => ⟨S1536x256, .bf16⟩
  | .local _ .vmem, ⟨13, _⟩ => ⟨S256x1024, .bf16⟩
  | .local _ .vmem, ⟨14, _⟩ => ⟨S1024x256, .bf16⟩
  | .local _ .vmem, ⟨15, _⟩ => ⟨S128x1, .f32⟩
  | .local _ .vmem, ⟨16, _⟩ => ⟨S64x1, .f32⟩
  | .local _ .vmem, ⟨17, _⟩ => ⟨S1x128, .f32⟩
  | .local _ .vmem, ⟨18, _⟩ => ⟨S64x1, .f32⟩
  | .local _ .vmem, ⟨19, _⟩ => ⟨S1x8x4x256x512, .bf16⟩
  | .local _ .vmem, ⟨20, _⟩ => ⟨S1x8x4x256x512, .bf16⟩
  | .local _ .vmem, ⟨21, _⟩ => ⟨S1x8x2048x128, .bf16⟩
  | .local _ .vmem, ⟨22, _⟩ => ⟨S1x8x2048x128, .bf16⟩
  | .local _ .vmem, ⟨23, _⟩ => ⟨S1x2048x128, .bf16⟩
  | .local _ .vmem, ⟨24, _⟩ => ⟨S1x2048x128, .bf16⟩
  | .local _ .vmem, ⟨25, _⟩ => ⟨S1x8x4x128x512, .bf16⟩
  | .local _ .vmem, ⟨26, _⟩ => ⟨S1x8x4x128x512, .bf16⟩
  | _, _ => ⟨S32768x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_1 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_2 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38_0 : Ref sig .tc := ⟨.hbm, 53, rfl⟩
abbrev main_v38_1 : Ref sig .tc := ⟨.hbm, 54, rfl⟩
abbrev main_v38_2 : Ref sig .tc := ⟨.hbm, 55, rfl⟩
abbrev main_v38_3 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_stg17_0 : Ref sig .tc := ⟨.vmem, 23, rfl⟩
abbrev cc0_stg17_1 : Ref sig .tc := ⟨.vmem, 24, rfl⟩
abbrev cc0_stg18_0 : Ref sig .tc := ⟨.vmem, 25, rfl⟩
abbrev cc0_stg18_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem15_1 : DmaSem sig := 20
abbrev cc0_sem16_0 : DmaSem sig := 21
abbrev cc0_sem16_1 : DmaSem sig := 22
abbrev cc0_sem17_0 : DmaSem sig := 23
abbrev cc0_sem17_1 : DmaSem sig := 24
abbrev cc0_sem18_0 : DmaSem sig := 25
abbrev cc0_sem18_1 : DmaSem sig := 26

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_16 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S32x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1536x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S128x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S64x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S64x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1x8x4x256x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x8x2048x128 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x2048x128 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x8x4x128x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]
-- ==== Reference5Ideal.lean ====
abbrev S32768x256 : Shape := ⟨2, ![32768, 256]⟩
abbrev S32768x128 : Shape := ⟨2, ![32768, 128]⟩
abbrev S4x8192 : Shape := ⟨2, ![4, 8192]⟩
abbrev S1x1 : Shape := ⟨2, ![1, 1]⟩
abbrev S1x256 : Shape := ⟨2, ![1, 256]⟩
abbrev S1x256x1536 : Shape := ⟨3, ![1, 256, 1536]⟩
abbrev S1x256x2048 : Shape := ⟨3, ![1, 256, 2048]⟩
abbrev S1x192 : Shape := ⟨2, ![1, 192]⟩
abbrev S32 : Shape := ⟨1, ![32]⟩
abbrev S_ : Shape := ⟨0, ![]⟩
abbrev S4x8192x1 : Shape := ⟨3, ![4, 8192, 1]⟩
abbrev S1x1x32 : Shape := ⟨3, ![1, 1, 32]⟩
abbrev S4x8192x32 : Shape := ⟨3, ![4, 8192, 32]⟩
abbrev S4x8192x1x32 : Shape := ⟨4, ![4, 8192, 1, 32]⟩
abbrev S4x8192x256 : Shape := ⟨3, ![4, 8192, 256]⟩
abbrev S256 : Shape := ⟨1, ![256]⟩
abbrev S1x1x256 : Shape := ⟨3, ![1, 1, 256]⟩
abbrev S256x1536 : Shape := ⟨2, ![256, 1536]⟩
abbrev S4x8192x1536 : Shape := ⟨3, ![4, 8192, 1536]⟩
abbrev S4x8192x8x192 : Shape := ⟨4, ![4, 8192, 8, 192]⟩
abbrev S256x2048 : Shape := ⟨2, ![256, 2048]⟩
abbrev S4x8192x2048 : Shape := ⟨3, ![4, 8192, 2048]⟩
abbrev S4x8192x8x256 : Shape := ⟨4, ![4, 8192, 8, 256]⟩
abbrev S4x8192x8x128 : Shape := ⟨4, ![4, 8192, 8, 128]⟩
abbrev S4x8192x128 : Shape := ⟨3, ![4, 8192, 128]⟩
abbrev S4x8192x64 : Shape := ⟨3, ![4, 8192, 64]⟩
abbrev S4x8192x1x64 : Shape := ⟨4, ![4, 8192, 1, 64]⟩
abbrev S192 : Shape := ⟨1, ![192]⟩
abbrev S128 : Shape := ⟨1, ![128]⟩
abbrev S4x8192x8 : Shape := ⟨3, ![4, 8192, 8]⟩
abbrev S4x8192x8x1 : Shape := ⟨4, ![4, 8192, 8, 1]⟩
abbrev S1x1x1x128 : Shape := ⟨4, ![1, 1, 1, 128]⟩
abbrev S4x8192x8x64 : Shape := ⟨4, ![4, 8192, 8, 64]⟩
abbrev S64 : Shape := ⟨1, ![64]⟩
abbrev S1x1x1x64 : Shape := ⟨4, ![1, 1, 1, 64]⟩
abbrev S1x128 : Shape := ⟨2, ![1, 128]⟩
abbrev S1x64 : Shape := ⟨2, ![1, 64]⟩
abbrev S4x8192x1x1 : Shape := ⟨4, ![4, 8192, 1, 1]⟩
abbrev S4x8192x8x32 : Shape := ⟨4, ![4, 8192, 8, 32]⟩
abbrev S4x8192x8x63 : Shape := ⟨4, ![4, 8192, 8, 63]⟩
abbrev S4x8192x1x63 : Shape := ⟨4, ![4, 8192, 1, 63]⟩
abbrev S4x8192x63 : Shape := ⟨3, ![4, 8192, 63]⟩
abbrev S4x16x512x8x256 : Shape := ⟨5, ![4, 16, 512, 8, 256]⟩
abbrev S4x8x16x256x512 : Shape := ⟨5, ![4, 8, 16, 256, 512]⟩
abbrev S4x8x8192x128 : Shape := ⟨4, ![4, 8, 8192, 128]⟩
abbrev S4x16x512x8x128 : Shape := ⟨5, ![4, 16, 512, 8, 128]⟩
abbrev S4x8x16x128x512 : Shape := ⟨5, ![4, 8, 16, 128, 512]⟩

abbrev nBuf : Space → Nat
  | .hbm => 198
  | .vmem => 0
  | .smem => 0
  | _ => 0

abbrev hbmTy0_0 (i : Nat) : BufTy := match i % 128 with
  | 0 => ⟨S32768x256, .f32⟩
  | 1 => ⟨S32768x256, .f32⟩
  | 2 => ⟨S32768x128, .f32⟩
  | 3 => ⟨S4x8192, .i32⟩
  | 4 => ⟨S1x1, .f32⟩
  | 5 => ⟨S1x256, .f32⟩
  | 6 => ⟨S1x256x1536, .f32⟩
  | 7 => ⟨S1x256, .f32⟩
  | 8 => ⟨S1x256x2048, .f32⟩
  | 9 => ⟨S1x192, .f32⟩
  | 10 => ⟨S1x192, .f32⟩
  | 11 => ⟨S32, .f32⟩
  | 12 => ⟨S32, .f32⟩
  | 13 => ⟨S_, .f32⟩
  | 14 => ⟨S32, .f32⟩
  | 15 => ⟨S32, .f32⟩
  | 16 => ⟨S_, .f32⟩
  | 17 => ⟨S32, .f32⟩
  | 18 => ⟨S32, .f32⟩
  | 19 => ⟨S4x8192, .f32⟩
  | 20 => ⟨S4x8192x1, .f32⟩
  | 21 => ⟨S1x1x32, .f32⟩
  | 22 => ⟨S4x8192x32, .f32⟩
  | 23 => ⟨S4x8192x32, .f32⟩
  | 24 => ⟨S4x8192x32, .f32⟩
  | 25 => ⟨S4x8192x32, .f32⟩
  | 26 => ⟨S4x8192x1x32, .f32⟩
  | 27 => ⟨S4x8192x32, .f32⟩
  | 28 => ⟨S4x8192x1x32, .f32⟩
  | 29 => ⟨S4x8192x256, .f32⟩
  | 30 => ⟨S256, .f32⟩
  | 31 => ⟨S4x8192x256, .f32⟩
  | 32 => ⟨S_, .f32⟩
  | 33 => ⟨S4x8192, .f32⟩
  | 34 => ⟨S4x8192x1, .f32⟩
  | 35 => ⟨S_, .f32⟩
  | 36 => ⟨S4x8192x1, .f32⟩
  | 37 => ⟨S4x8192x1, .f32⟩
  | 38 => ⟨S_, .f32⟩
  | 39 => ⟨S4x8192x1, .f32⟩
  | 40 => ⟨S4x8192x1, .f32⟩
  | 41 => ⟨S4x8192x1, .f32⟩
  | 42 => ⟨S4x8192x256, .f32⟩
  | 43 => ⟨S4x8192x256, .f32⟩
  | 44 => ⟨S1x1x256, .f32⟩
  | 45 => ⟨S4x8192x256, .f32⟩
  | 46 => ⟨S4x8192x256, .f32⟩
  | 47 => ⟨S256x1536, .f32⟩
  | 48 => ⟨S4x8192x1536, .f32⟩
  | 49 => ⟨S4x8192x8x192, .f32⟩
  | 50 => ⟨S4x8192x256, .f32⟩
  | 51 => ⟨S256, .f32⟩
  | 52 => ⟨S4x8192x256, .f32⟩
  | 53 => ⟨S_, .f32⟩
  | 54 => ⟨S4x8192, .f32⟩
  | 55 => ⟨S4x8192x1, .f32⟩
  | 56 => ⟨S_, .f32⟩
  | 57 => ⟨S4x8192x1, .f32⟩
  | 58 => ⟨S4x8192x1, .f32⟩
  | 59 => ⟨S_, .f32⟩
  | 60 => ⟨S4x8192x1, .f32⟩
  | 61 => ⟨S4x8192x1, .f32⟩
  | 62 => ⟨S4x8192x1, .f32⟩
  | 63 => ⟨S4x8192x256, .f32⟩
  | 64 => ⟨S4x8192x256, .f32⟩
  | 65 => ⟨S1x1x256, .f32⟩
  | 66 => ⟨S4x8192x256, .f32⟩
  | 67 => ⟨S4x8192x256, .f32⟩
  | 68 => ⟨S256x2048, .f32⟩
  | 69 => ⟨S4x8192x2048, .f32⟩
  | 70 => ⟨S4x8192x8x256, .f32⟩
  | 71 => ⟨S4x8192x8x128, .f32⟩
  | 72 => ⟨S4x8192x8x128, .f32⟩
  | 73 => ⟨S4x8192x128, .f32⟩
  | 74 => ⟨S4x8192x64, .f32⟩
  | 75 => ⟨S4x8192x1x64, .f32⟩
  | 76 => ⟨S192, .f32⟩
  | 77 => ⟨S4x8192x8x128, .f32⟩
  | 78 => ⟨S128, .f32⟩
  | 79 => ⟨S4x8192x8x128, .f32⟩
  | 80 => ⟨S_, .f32⟩
  | 81 => ⟨S4x8192x8, .f32⟩
  | 82 => ⟨S4x8192x8x1, .f32⟩
  | 83 => ⟨S_, .f32⟩
  | 84 => ⟨S4x8192x8x1, .f32⟩
  | 85 => ⟨S4x8192x8x1, .f32⟩
  | 86 => ⟨S_, .f32⟩
  | 87 => ⟨S4x8192x8x1, .f32⟩
  | 88 => ⟨S4x8192x8x1, .f32⟩
  | 89 => ⟨S4x8192x8x1, .f32⟩
  | 90 => ⟨S4x8192x8x128, .f32⟩
  | 91 => ⟨S4x8192x8x128, .f32⟩
  | 92 => ⟨S1x1x1x128, .f32⟩
  | 93 => ⟨S4x8192x8x128, .f32⟩
  | 94 => ⟨S4x8192x8x128, .f32⟩
  | 95 => ⟨S4x8192x8x64, .f32⟩
  | 96 => ⟨S64, .f32⟩
  | 97 => ⟨S4x8192x8x64, .f32⟩
  | 98 => ⟨S_, .f32⟩
  | 99 => ⟨S4x8192x8, .f32⟩
  | 100 => ⟨S4x8192x8x1, .f32⟩
  | 101 => ⟨S_, .f32⟩
  | 102 => ⟨S4x8192x8x1, .f32⟩
  | 103 => ⟨S4x8192x8x1, .f32⟩
  | 104 => ⟨S_, .f32⟩
  | 105 => ⟨S4x8192x8x1, .f32⟩
  | 106 => ⟨S4x8192x8x1, .f32⟩
  | 107 => ⟨S4x8192x8x1, .f32⟩
  | 108 => ⟨S4x8192x8x64, .f32⟩
  | 109 => ⟨S4x8192x8x64, .f32⟩
  | 110 => ⟨S1x1x1x64, .f32⟩
  | 111 => ⟨S4x8192x8x64, .f32⟩
  | 112 => ⟨S4x8192x8x64, .f32⟩
  | 113 => ⟨S4x8192x8x192, .f32⟩
  | 114 => ⟨S_, .f32⟩
  | 115 => ⟨S4x8192x8x192, .f32⟩
  | 116 => ⟨S4x8192x8x192, .f32⟩
  | 117 => ⟨S1x128, .f32⟩
  | 118 => ⟨S128, .f32⟩
  | 119 => ⟨S4x8192x8x128, .f32⟩
  | 120 => ⟨S_, .f32⟩
  | 121 => ⟨S4x8192x8, .f32⟩
  | 122 => ⟨S4x8192x8x1, .f32⟩
  | 123 => ⟨S_, .f32⟩
  | 124 => ⟨S4x8192x8x1, .f32⟩
  | 125 => ⟨S4x8192x8x1, .f32⟩
  | 126 => ⟨S_, .f32⟩
  | 127 => ⟨S4x8192x8x1, .f32⟩
  | _ => ⟨S32768x256, .f32⟩

abbrev hbmTy0_1 (i : Nat) : BufTy := match i % 128 with
  | 0 => ⟨S4x8192x8x1, .f32⟩
  | 1 => ⟨S4x8192x8x1, .f32⟩
  | 2 => ⟨S4x8192x8x128, .f32⟩
  | 3 => ⟨S4x8192x8x128, .f32⟩
  | 4 => ⟨S1x1x1x128, .f32⟩
  | 5 => ⟨S4x8192x8x128, .f32⟩
  | 6 => ⟨S4x8192x8x128, .f32⟩
  | 7 => ⟨S1x64, .f32⟩
  | 8 => ⟨S64, .f32⟩
  | 9 => ⟨S4x8192x1x64, .f32⟩
  | 10 => ⟨S_, .f32⟩
  | 11 => ⟨S4x8192x1, .f32⟩
  | 12 => ⟨S4x8192x1x1, .f32⟩
  | 13 => ⟨S_, .f32⟩
  | 14 => ⟨S4x8192x1x1, .f32⟩
  | 15 => ⟨S4x8192x1x1, .f32⟩
  | 16 => ⟨S_, .f32⟩
  | 17 => ⟨S4x8192x1x1, .f32⟩
  | 18 => ⟨S4x8192x1x1, .f32⟩
  | 19 => ⟨S4x8192x1x1, .f32⟩
  | 20 => ⟨S4x8192x1x64, .f32⟩
  | 21 => ⟨S4x8192x1x64, .f32⟩
  | 22 => ⟨S1x1x1x64, .f32⟩
  | 23 => ⟨S4x8192x1x64, .f32⟩
  | 24 => ⟨S4x8192x1x64, .f32⟩
  | 25 => ⟨S4x8192x8x128, .f32⟩
  | 26 => ⟨S4x8192x8x64, .f32⟩
  | 27 => ⟨S4x8192x8x32, .f32⟩
  | 28 => ⟨S4x8192x8x32, .f32⟩
  | 29 => ⟨S4x8192x8x32, .f32⟩
  | 30 => ⟨S4x8192x8x32, .f32⟩
  | 31 => ⟨S4x8192x8x32, .f32⟩
  | 32 => ⟨S4x8192x8x32, .f32⟩
  | 33 => ⟨S4x8192x8x32, .f32⟩
  | 34 => ⟨S4x8192x8x32, .f32⟩
  | 35 => ⟨S4x8192x8x32, .f32⟩
  | 36 => ⟨S4x8192x8x32, .f32⟩
  | 37 => ⟨S4x8192x8x32, .f32⟩
  | 38 => ⟨S4x8192x8x32, .f32⟩
  | 39 => ⟨S4x8192x8x64, .f32⟩
  | 40 => ⟨S4x8192x8x192, .f32⟩
  | 41 => ⟨S4x8192x1x32, .f32⟩
  | 42 => ⟨S4x8192x1x32, .f32⟩
  | 43 => ⟨S4x8192x1x32, .f32⟩
  | 44 => ⟨S4x8192x1x32, .f32⟩
  | 45 => ⟨S4x8192x1x32, .f32⟩
  | 46 => ⟨S4x8192x1x32, .f32⟩
  | 47 => ⟨S4x8192x1x32, .f32⟩
  | 48 => ⟨S4x8192x1x32, .f32⟩
  | 49 => ⟨S4x8192x1x64, .f32⟩
  | 50 => ⟨S4x8192x64, .f32⟩
  | 51 => ⟨S_, .f32⟩
  | 52 => ⟨S4x8192x8x63, .f32⟩
  | 53 => ⟨S_, .f32⟩
  | 54 => ⟨S4x8192x8x1, .f32⟩
  | 55 => ⟨S4x8192x8x256, .f32⟩
  | 56 => ⟨S_, .f32⟩
  | 57 => ⟨S4x8192x1, .f32⟩
  | 58 => ⟨S4x8192x1x63, .f32⟩
  | 59 => ⟨S4x8192x63, .f32⟩
  | 60 => ⟨S4x8192x128, .f32⟩
  | 61 => ⟨S4x16x512x8x256, .f32⟩
  | 62 => ⟨S4x8x16x256x512, .f32⟩
  | 63 => ⟨S4x8x16x256x512, .bf16⟩
  | 64 => ⟨S4x8x8192x128, .f32⟩
  | 65 => ⟨S4x8x8192x128, .bf16⟩
  | 66 => ⟨S4x8192x128, .bf16⟩
  | 67 => ⟨S4x16x512x8x128, .f32⟩
  | 68 => ⟨S4x8x16x128x512, .f32⟩
  | 69 => ⟨S4x8x16x128x512, .bf16⟩
  | _ => ⟨S32768x256, .f32⟩

abbrev hbmTy (i : Nat) : BufTy := match i / 128 with
  | 0 => hbmTy0_0 i
  | 1 => hbmTy0_1 i
  | _ => ⟨S32768x256, .f32⟩

abbrev bufTy : (tb : Table) → Fin (tcTables nBuf tb) → BufTy
  | .hbm, ⟨i, _⟩ => hbmTy i
  | _, _ => ⟨S32768x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_1 : Ref sig .tc := ⟨.hbm, 32, rfl⟩
abbrev main_v19 : Ref sig .tc := ⟨.hbm, 33, rfl⟩
abbrev main_v20 : Ref sig .tc := ⟨.hbm, 34, rfl⟩
abbrev main_cst_2 : Ref sig .tc := ⟨.hbm, 35, rfl⟩
abbrev main_v21 : Ref sig .tc := ⟨.hbm, 36, rfl⟩
abbrev main_v22 : Ref sig .tc := ⟨.hbm, 37, rfl⟩
abbrev main_cst_3 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_4 : Ref sig .tc := ⟨.hbm, 53, rfl⟩
abbrev main_v37 : Ref sig .tc := ⟨.hbm, 54, rfl⟩
abbrev main_v38 : Ref sig .tc := ⟨.hbm, 55, rfl⟩
abbrev main_cst_5 : Ref sig .tc := ⟨.hbm, 56, rfl⟩
abbrev main_v39 : Ref sig .tc := ⟨.hbm, 57, rfl⟩
abbrev main_v40 : Ref sig .tc := ⟨.hbm, 58, rfl⟩
abbrev main_cst_6 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_cst_7 : Ref sig .tc := ⟨.hbm, 80, rfl⟩
abbrev main_v61 : Ref sig .tc := ⟨.hbm, 81, rfl⟩
abbrev main_v62 : Ref sig .tc := ⟨.hbm, 82, rfl⟩
abbrev main_cst_8 : Ref sig .tc := ⟨.hbm, 83, rfl⟩
abbrev main_v63 : Ref sig .tc := ⟨.hbm, 84, rfl⟩
abbrev main_v64 : Ref sig .tc := ⟨.hbm, 85, rfl⟩
abbrev main_cst_9 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_cst_10 : Ref sig .tc := ⟨.hbm, 98, rfl⟩
abbrev main_v76 : Ref sig .tc := ⟨.hbm, 99, rfl⟩
abbrev main_v77 : Ref sig .tc := ⟨.hbm, 100, rfl⟩
abbrev main_cst_11 : Ref sig .tc := ⟨.hbm, 101, rfl⟩
abbrev main_v78 : Ref sig .tc := ⟨.hbm, 102, rfl⟩
abbrev main_v79 : Ref sig .tc := ⟨.hbm, 103, rfl⟩
abbrev main_cst_12 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_cst_13 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_cst_14 : Ref sig .tc := ⟨.hbm, 120, rfl⟩
abbrev main_v94 : Ref sig .tc := ⟨.hbm, 121, rfl⟩
abbrev main_v95 : Ref sig .tc := ⟨.hbm, 122, rfl⟩
abbrev main_cst_15 : Ref sig .tc := ⟨.hbm, 123, rfl⟩
abbrev main_v96 : Ref sig .tc := ⟨.hbm, 124, rfl⟩
abbrev main_v97 : Ref sig .tc := ⟨.hbm, 125, rfl⟩
abbrev main_cst_16 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_cst_17 : Ref sig .tc := ⟨.hbm, 138, rfl⟩
abbrev main_v109 : Ref sig .tc := ⟨.hbm, 139, rfl⟩
abbrev main_v110 : Ref sig .tc := ⟨.hbm, 140, rfl⟩
abbrev main_cst_18 : Ref sig .tc := ⟨.hbm, 141, rfl⟩
abbrev main_v111 : Ref sig .tc := ⟨.hbm, 142, rfl⟩
abbrev main_v112 : Ref sig .tc := ⟨.hbm, 143, rfl⟩
abbrev main_cst_19 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_v130 : Ref sig .tc := ⟨.hbm, 162, rfl⟩
abbrev main_v131 : Ref sig .tc := ⟨.hbm, 163, rfl⟩
abbrev main_v132 : Ref sig .tc := ⟨.hbm, 164, rfl⟩
abbrev main_v133 : Ref sig .tc := ⟨.hbm, 165, rfl⟩
abbrev main_v134 : Ref sig .tc := ⟨.hbm, 166, rfl⟩
abbrev main_v135 : Ref sig .tc := ⟨.hbm, 167, rfl⟩
abbrev main_v136 : Ref sig .tc := ⟨.hbm, 168, rfl⟩
abbrev main_v137 : Ref sig .tc := ⟨.hbm, 169, rfl⟩
abbrev main_v138 : Ref sig .tc := ⟨.hbm, 170, rfl⟩
abbrev main_v139 : Ref sig .tc := ⟨.hbm, 171, rfl⟩
abbrev main_v140 : Ref sig .tc := ⟨.hbm, 172, rfl⟩
abbrev main_v141 : Ref sig .tc := ⟨.hbm, 173, rfl⟩
abbrev main_v142 : Ref sig .tc := ⟨.hbm, 174, rfl⟩
abbrev main_v143 : Ref sig .tc := ⟨.hbm, 175, rfl⟩
abbrev main_v144 : Ref sig .tc := ⟨.hbm, 176, rfl⟩
abbrev main_v145 : Ref sig .tc := ⟨.hbm, 177, rfl⟩
abbrev main_v146 : Ref sig .tc := ⟨.hbm, 178, rfl⟩
abbrev main_cst_20 : Ref sig .tc := ⟨.hbm, 179, rfl⟩
abbrev main_v147 : Ref sig .tc := ⟨.hbm, 180, rfl⟩
abbrev main_v148 : Ref sig .tc := ⟨.hbm, 181, rfl⟩
abbrev main_v149 : Ref sig .tc := ⟨.hbm, 182, rfl⟩
abbrev main_v150 : Ref sig .tc := ⟨.hbm, 183, rfl⟩
abbrev main_cst_21 : Ref sig .tc := ⟨.hbm, 184, rfl⟩
abbrev main_v151 : Ref sig .tc := ⟨.hbm, 185, rfl⟩
abbrev main_v152 : Ref sig .tc := ⟨.hbm, 186, rfl⟩
abbrev main_v153 : Ref sig .tc := ⟨.hbm, 187, rfl⟩
abbrev main_v154 : Ref sig .tc := ⟨.hbm, 188, rfl⟩
abbrev main_v155 : Ref sig .tc := ⟨.hbm, 189, rfl⟩
abbrev main_v156 : Ref sig .tc := ⟨.hbm, 190, rfl⟩
abbrev main_v157 : Ref sig .tc := ⟨.hbm, 191, rfl⟩
abbrev main_v158 : Ref sig .tc := ⟨.hbm, 192, rfl⟩
abbrev main_v159 : Ref sig .tc := ⟨.hbm, 193, rfl⟩
abbrev main_v160 : Ref sig .tc := ⟨.hbm, 194, rfl⟩
abbrev main_v161 : Ref sig .tc := ⟨.hbm, 195, rfl⟩
abbrev main_v162 : Ref sig .tc := ⟨.hbm, 196, rfl⟩
abbrev main_v163 : Ref sig .tc := ⟨.hbm, 197, rfl⟩

abbrev nD : Nat := 1
abbrev τ : Topo := Topo.v7x

variable {F : FTy → Type} [FloatOps F]
-- ==== Proof.KStages.lean ====
/-
  The attention kernel's body, restated as a sequence of STAGES.

  The kernel walks the pairs (query tile, key tile) of a table, and for every pair runs three stages: the scores of the
  pair after next, the exponentials of the next pair, and the update of the running numerator and denominator by the
  pair itself. Each stage has a form for a pair on the diagonal (two of the four half-tiles, masked) and a form for a
  pair below it (the whole tile). Here every stage is ONE program, over the table position and the scratch buffers it
  works on, and the printed loop body is shown to be the list of them in order.
-/
module

public import proofs.«01_k».proof.Proof.Gen.KernelIdeal.Skeleton
public import proofs.«01_k».proof.Proof.Gen.KernelIdeal.Launch
public import Idealize.ShloMosaic.Lib.Exec
public import Idealize.ShloMosaic.Lib.Tactic

@[expose] public section

set_option synthInstance.maxSize 4096

noncomputable section

namespace Cert.KernelIdeal.Att

open Cert.KernelIdeal Cert.KernelIdeal.Gen
open Idealize.ShloMosaic Idealize.ShloMosaic.TcCoe Idealize.SL.Sem

variable {F : FTy → Type} [FloatOps F]

/-- The programs of the kernel's calls. -/
abbrev Pr (F : FTy → Type) [FloatOps F] (α : Type) := Prog (TpuEff nD τ sig (Elt F) Λ₀ .tc) α

/-! ## The values the stages store -/

/-- The keys of a tile: its 128 plain features beside its 128 rotary ones. -/
def keyTile (a : Vec F S1x1x512x128 .bf16) (b : Vec F S1x512x128 .bf16) : FVec F S512x256 .bf16 :=
  concatenate S512x256 1 [⟨S512x128, shapeCast S512x128 a shapeCasts_S1x1x512x128_S512x128⟩, ⟨S512x128, shapeCast S512x128 b shapeCasts_S1x512x128_S512x128⟩] concatenates_S512x128_S512x128_S512x256_d1

/-- The queries of a tile, features down, queries across. -/
def qryTile (q : Vec F S1x1x1x256x512 .bf16) : FVec F S256x512 .bf16 := shapeCast S256x512 q shapeCasts_S1x1x1x256x512_S256x512

/-- The whole tile of scores. -/
def scoreAll (a : Vec F S1x1x512x128 .bf16) (b : Vec F S1x512x128 .bf16) (q : Vec F S1x1x1x256x512 .bf16) : FVec F S512x512 .f32 :=
  shapeCast S512x512 (matmul dot_S512x256_S256x512_S512x512_1_0_0_1_n_n none (keyTile a b) (qryTile q) (constant S512x512 .f32 0x00000000#32)) shapeCasts_S512x512_S512x512

/-- The scores of the first 256 keys against all queries. -/
def scoreTop (a : Vec F S1x1x512x128 .bf16) (b : Vec F S1x512x128 .bf16) (q : Vec F S1x1x1x256x512 .bf16) : FVec F S256x512 .f32 :=
  shapeCast S256x512 (matmul dot_S256x256_S256x512_S256x512_1_0_0_1_n_n none (extractStridedSlice S256x256 ![0, 0] (keyTile a b) slices_S512x256_o0_0_S256x256) (qryTile q) (constant S256x512 .f32 0x00000000#32)) shapeCasts_S256x512_S256x512

/-- The scores of the last 256 keys against the last 256 queries. -/
def scoreLow (a : Vec F S1x1x512x128 .bf16) (b : Vec F S1x512x128 .bf16) (q : Vec F S1x1x1x256x512 .bf16) : FVec F S256x256 .f32 :=
  shapeCast S256x256 (matmul dot_S256x256_S256x256_S256x256_1_0_0_1_n_n none (extractStridedSlice S256x256 ![256, 0] (keyTile a b) slices_S512x256_o256_0_S256x256) (extractStridedSlice S256x256 ![0, 256] (qryTile q) slices_S256x512_o0_256_S256x256) (constant S256x256 .f32 0x00000000#32)) shapeCasts_S256x256_S256x256

/-- The exponentials of a whole tile of scores. -/
def expAll (s : Vec F S512x512 .f32) : FVec F S512x512 .bf16 :=
  shapeCast S512x512 (truncf .bf16 (exp2 s) bitsLt_bf16_f32) shapeCasts_S512x512_S512x512

/-- The exponentials of the scores of the first 256 keys, zero above the diagonal. -/
def expTop (s : Vec F S256x512 .f32) : FVec F S256x512 .bf16 :=
  shapeCast S256x512 (truncf .bf16 (exp2 (select (cmpi .sle (iota .tc S256x512 32 [0] iota_S256x512_d0_w32) (iota .tc S256x512 32 [1] iota_S256x512_d1_w32)) s (broadcast S256x512 (Scalar.ofBits .f32 0xFF800000#32)))) bitsLt_bf16_f32) shapeCasts_S256x512_S256x512

/-- The exponentials of the scores of the last 256 keys, zero above the diagonal. -/
def expLow (s : Vec F S256x256 .f32) : FVec F S256x256 .bf16 :=
  shapeCast S256x256 (truncf .bf16 (exp2 (select (cmpi .sle (iota .tc S256x256 32 [0] iota_S256x256_d0_w32) (iota .tc S256x256 32 [1] iota_S256x256_d1_w32)) s (broadcast S256x256 (Scalar.ofBits .f32 0xFF800000#32)))) bitsLt_bf16_f32) shapeCasts_S256x256_S256x256

/-- The values of a tile with sixteen rows of ones below. -/
def valTile (v0 : FVec F S16x512 .bf16) (v : Vec F S1x1x1x128x512 .bf16) : FVec F S144x512 .bf16 :=
  concatenate S144x512 0 [⟨S128x512, shapeCast S128x512 v shapeCasts_S1x1x1x128x512_S128x512⟩, ⟨S16x512, v0⟩] concatenates_S128x512_S16x512_S144x512_d0

/-- The accumulator's tile after a whole pair. -/
def accAll (v0 : FVec F S16x512 .bf16) (v : Vec F S1x1x1x128x512 .bf16) (a : Vec F S1x144x512 .f32) (p : Vec F S512x512 .bf16) : FVec F S1x144x512 .f32 :=
  shapeCast S1x144x512 (addf (shapeCast S144x512 a shapeCasts_S1x144x512_S144x512) (matmul dot_S144x512_S512x512_S144x512_1_0_0_1_n_n none (valTile v0 v) p (constant S144x512 .f32 0x00000000#32))) shapeCasts_S144x512_S1x144x512

/-- The accumulator's first 256 queries after a diagonal pair. -/
def accLeft (v0 : FVec F S16x512 .bf16) (v : Vec F S1x1x1x128x512 .bf16) (a : Vec F S1x144x256 .f32) (p : Vec F S256x256 .bf16) : FVec F S1x144x256 .f32 :=
  shapeCast S1x144x256 (addf (shapeCast S144x256 a shapeCasts_S1x144x256_S144x256) (matmul dot_S144x256_S256x256_S144x256_1_0_0_1_n_n none (extractStridedSlice S144x256 ![0, 0] (valTile v0 v) slices_S144x512_o0_0_S144x256) p (constant S144x256 .f32 0x00000000#32))) shapeCasts_S144x256_S1x144x256

/-- The accumulator's last 256 queries after a diagonal pair. -/
def accRight (v0 : FVec F S16x512 .bf16) (v : Vec F S1x1x1x128x512 .bf16) (a : Vec F S1x144x256 .f32) (p : Vec F S512x256 .bf16) : FVec F S1x144x256 .f32 :=
  shapeCast S1x144x256 (addf (shapeCast S144x256 a shapeCasts_S1x144x256_S144x256) (matmul dot_S144x512_S512x256_S144x256_1_0_0_1_n_n none (valTile v0 v) p (constant S144x256 .f32 0x00000000#32))) shapeCasts_S144x256_S1x144x256

/-! ## The stages -/

section
variable (arg2 : Memref sig .tc .smem S138 .i32) (arg3 : Memref sig .tc .smem S138 .i32) (arg4 : Memref sig .tc .vmem S1x1x16x256x512 .bf16) (arg5 : Memref sig .tc .vmem S1x1x8192x128 .bf16) (arg6 : Memref sig .tc .vmem S1x8192x128 .bf16) (arg7 : Memref sig .tc .vmem S1x1x16x128x512 .bf16)
  (sref : Memref sig .tc .vmem S512x512 .f32) (pref : Memref sig .tc .vmem S512x512 .bf16) (hp : pref.IsWhole) (arg13 : Memref sig .tc .vmem S16x144x512 .f32)
  (v0 : FVec F S16x512 .bf16) (off : Fin 1 → Nat) (hoff : ∀ a, off a + S1.size a ≤ S138.size a)

/-- The scores of a diagonal pair. -/
def scoresD : Pr F Unit := do
  let j : Elt F .i32 ← smemLoad arg3 (Rect.unit (s := S138) off S1.size hoff) numel1_S1 rfl
  have hj : k0_chk5 j := (← Prog.lift (TpuEff.assume (k0_chk5 j) (k0_chk5.dec j))).down
  let a : Vec F S1x1x512x128 .bf16 ← Prog.lift (.load arg5 (Rect.unit (s := S1x1x8192x128) (k0_off8 j) S1x1x512x128.size (k0_off8_inb j hj)).toLoadRect (View.loadsAt_vmem h_S1x1x512x128))
  let b : Vec F S1x512x128 .bf16 ← Prog.lift (.load arg6 (Rect.unit (s := S1x8192x128) (k0_off9 j) S1x512x128.size (k0_off9_inb j hj)).toLoadRect (View.loadsAt_vmem h_S1x512x128))
  let i : Elt F .i32 ← smemLoad arg2 (Rect.unit (s := S138) off S1.size hoff) numel1_S1 rfl
  have hi : k0_chk6 i := (← Prog.lift (TpuEff.assume (k0_chk6 i) (k0_chk6.dec i))).down
  let q : Vec F S1x1x1x256x512 .bf16 ← Prog.lift (.load arg4 (Rect.unit (s := S1x1x16x256x512) (k0_off11 i) S1x1x1x256x512.size (k0_off11_inb i hi)).toLoadRect (View.loadsAt_vmem h_S1x1x1x256x512))
  let _ : Vec F S256x512 .f32 ← Prog.lift (.load sref (Rect.unit (s := S512x512) ![0, 0] S256x512.size inb_S512x512_S256x512_0_0).toLoadRect (View.loadsAt_vmem h_S256x512))
  Prog.lift (.store sref (Rect.unit (s := S512x512) ![0, 0] S256x512.size inb_S512x512_S256x512_0_0) (scoreTop a b q) Finset.univ (View.stores_vmem_bits_univ h_S256x512 rfl) (.inl rfl))
  let _ : Vec F S256x256 .f32 ← Prog.lift (.load sref (Rect.unit (s := S512x512) ![256, 256] S256x256.size inb_S512x512_S256x256_256_256).toLoadRect (View.loadsAt_vmem h_S256x256))
  Prog.lift (.store sref (Rect.unit (s := S512x512) ![256, 256] S256x256.size inb_S512x512_S256x256_256_256) (scoreLow a b q) Finset.univ (View.stores_vmem_bits_univ h_S256x256 rfl) (.inl rfl))

/-- The scores of a pair below the diagonal. -/
def scoresB : Pr F Unit := do
  let i : Elt F .i32 ← smemLoad arg2 (Rect.unit (s := S138) off S1.size hoff) numel1_S1 rfl
  have hi : k0_chk6 i := (← Prog.lift (TpuEff.assume (k0_chk6 i) (k0_chk6.dec i))).down
  let j : Elt F .i32 ← smemLoad arg3 (Rect.unit (s := S138) off S1.size hoff) numel1_S1 rfl
  have hj : k0_chk5 j := (← Prog.lift (TpuEff.assume (k0_chk5 j) (k0_chk5.dec j))).down
  let a : Vec F S1x1x512x128 .bf16 ← Prog.lift (.load arg5 (Rect.unit (s := S1x1x8192x128) (k0_off8 j) S1x1x512x128.size (k0_off8_inb j hj)).toLoadRect (View.loadsAt_vmem h_S1x1x512x128))
  let b : Vec F S1x512x128 .bf16 ← Prog.lift (.load arg6 (Rect.unit (s := S1x8192x128) (k0_off9 j) S1x512x128.size (k0_off9_inb j hj)).toLoadRect (View.loadsAt_vmem h_S1x512x128))
  let q : Vec F S1x1x1x256x512 .bf16 ← Prog.lift (.load arg4 (Rect.unit (s := S1x1x16x256x512) (k0_off11 i) S1x1x1x256x512.size (k0_off11_inb i hi)).toLoadRect (View.loadsAt_vmem h_S1x1x1x256x512))
  let _ : Vec F S512x512 .f32 ← Prog.lift (.load sref (Rect.unit (s := S512x512) ![0, 0] S512x512.size inb_S512x512_S512x512_0_0).toLoadRect (View.loadsAt_vmem h_S512x512))
  Prog.lift (.store sref (Rect.unit (s := S512x512) ![0, 0] S512x512.size inb_S512x512_S512x512_0_0) (scoreAll a b q) Finset.univ (View.stores_vmem_bits_univ h_S512x512 rfl) (.inl rfl))

/-- The exponentials of a diagonal pair. -/
def probsD : Pr F Unit := do
  let s : Vec F S256x512 .f32 ← Prog.lift (.load sref (Rect.unit (s := S512x512) ![0, 0] S256x512.size inb_S512x512_S256x512_0_0).toLoadRect (View.loadsAt_vmem h_S256x512))
  let _ : Vec F S256x512 .bf16 ← Prog.lift (.load pref (Rect.unit (s := S512x512) ![0, 0] S256x512.size inb_S512x512_S256x512_0_0).toLoadRect (View.loadsAt_vmem h_S256x512))
  Prog.lift (.store pref (Rect.unit (s := S512x512) ![0, 0] S256x512.size inb_S512x512_S256x512_0_0) (expTop s) Finset.univ (View.stores_vmem h_S256x512 (hp.storeExact_slice rfl _ packedbf16_S512x512_S256x512_0_0) (fun _ => rfl)) (.inl rfl))
  let s' : Vec F S256x256 .f32 ← Prog.lift (.load sref (Rect.unit (s := S512x512) ![256, 256] S256x256.size inb_S512x512_S256x256_256_256).toLoadRect (View.loadsAt_vmem h_S256x256))
  let _ : Vec F S256x256 .bf16 ← Prog.lift (.load pref (Rect.unit (s := S512x512) ![256, 256] S256x256.size inb_S512x512_S256x256_256_256).toLoadRect (View.loadsAt_vmem h_S256x256))
  Prog.lift (.store pref (Rect.unit (s := S512x512) ![256, 256] S256x256.size inb_S512x512_S256x256_256_256) (expLow s') Finset.univ (View.stores_vmem h_S256x256 (hp.storeExact_slice rfl _ packedbf16_S512x512_S256x256_256_256) (fun _ => rfl)) (.inl rfl))

/-- The exponentials of a pair below the diagonal. -/
def probsB : Pr F Unit := do
  let s : Vec F S512x512 .f32 ← Prog.lift (.load sref (Rect.unit (s := S512x512) ![0, 0] S512x512.size inb_S512x512_S512x512_0_0).toLoadRect (View.loadsAt_vmem h_S512x512))
  let _ : Vec F S512x512 .bf16 ← Prog.lift (.load pref (Rect.unit (s := S512x512) ![0, 0] S512x512.size inb_S512x512_S512x512_0_0).toLoadRect (View.loadsAt_vmem h_S512x512))
  Prog.lift (.store pref (Rect.unit (s := S512x512) ![0, 0] S512x512.size inb_S512x512_S512x512_0_0) (expAll s) Finset.univ (View.stores_vmem h_S512x512 (hp.storeExact_slice rfl _ packedbf16_S512x512_S512x512_0_0) (fun _ => rfl)) (.inl rfl))

/-- The accumulator's update by a diagonal pair. -/
def valuesD : Pr F Unit := do
  let i : Elt F .i32 ← smemLoad arg2 (Rect.unit (s := S138) off S1.size hoff) numel1_S1 rfl
  have hi : k0_chk8 i := (← Prog.lift (TpuEff.assume (k0_chk8 i) (k0_chk8.dec i))).down
  let j : Elt F .i32 ← smemLoad arg3 (Rect.unit (s := S138) off S1.size hoff) numel1_S1 rfl
  have hj : k0_chk7 j := (← Prog.lift (TpuEff.assume (k0_chk7 j) (k0_chk7.dec j))).down
  let v : Vec F S1x1x1x128x512 .bf16 ← Prog.lift (.load arg7 (Rect.unit (s := S1x1x16x128x512) (k0_off13 j) S1x1x1x128x512.size (k0_off13_inb j hj)).toLoadRect (View.loadsAt_vmem h_S1x1x1x128x512))
  let a : Vec F S1x144x256 .f32 ← Prog.lift (.load arg13 (Rect.unit (s := S16x144x512) (k0_off14 i) S1x144x256.size (k0_off14_inb i hi)).toLoadRect (View.loadsAt_vmem h_S1x144x256))
  let p : Vec F S256x256 .bf16 ← Prog.lift (.load pref (Rect.unit (s := S512x512) ![0, 0] S256x256.size inb_S512x512_S256x256_0_0).toLoadRect (View.loadsAt_vmem h_S256x256))
  let _ : Vec F S1x144x256 .f32 ← Prog.lift (.load arg13 (Rect.unit (s := S16x144x512) (k0_off14 i) S1x144x256.size (k0_off14_inb i hi)).toLoadRect (View.loadsAt_vmem h_S1x144x256))
  Prog.lift (.store arg13 (Rect.unit (s := S16x144x512) (k0_off14 i) S1x144x256.size (k0_off14_inb i hi)) (accLeft v0 v a p) Finset.univ (View.stores_vmem_bits_univ h_S1x144x256 rfl) (.inl rfl))
  let a' : Vec F S1x144x256 .f32 ← Prog.lift (.load arg13 (Rect.unit (s := S16x144x512) (k0_off15 i) S1x144x256.size (k0_off15_inb i hi)).toLoadRect (View.loadsAt_vmem h_S1x144x256))
  let p' : Vec F S512x256 .bf16 ← Prog.lift (.load pref (Rect.unit (s := S512x512) ![0, 256] S512x256.size inb_S512x512_S512x256_0_256).toLoadRect (View.loadsAt_vmem h_S512x256))
  let _ : Vec F S1x144x256 .f32 ← Prog.lift (.load arg13 (Rect.unit (s := S16x144x512) (k0_off15 i) S1x144x256.size (k0_off15_inb i hi)).toLoadRect (View.loadsAt_vmem h_S1x144x256))
  Prog.lift (.store arg13 (Rect.unit (s := S16x144x512) (k0_off15 i) S1x144x256.size (k0_off15_inb i hi)) (accRight v0 v a' p') Finset.univ (View.stores_vmem_bits_univ h_S1x144x256 rfl) (.inl rfl))

/-- The accumulator's update by a pair below the diagonal. -/
def valuesB : Pr F Unit := do
  let i : Elt F .i32 ← smemLoad arg2 (Rect.unit (s := S138) off S1.size hoff) numel1_S1 rfl
  have hi : k0_chk24 i := (← Prog.lift (TpuEff.assume (k0_chk24 i) (k0_chk24.dec i))).down
  let j : Elt F .i32 ← smemLoad arg3 (Rect.unit (s := S138) off S1.size hoff) numel1_S1 rfl
  have hj : k0_chk7 j := (← Prog.lift (TpuEff.assume (k0_chk7 j) (k0_chk7.dec j))).down
  let v : Vec F S1x1x1x128x512 .bf16 ← Prog.lift (.load arg7 (Rect.unit (s := S1x1x16x128x512) (k0_off13 j) S1x1x1x128x512.size (k0_off13_inb j hj)).toLoadRect (View.loadsAt_vmem h_S1x1x1x128x512))
  let a : Vec F S1x144x512 .f32 ← Prog.lift (.load arg13 (Rect.unit (s := S16x144x512) (k0_off47 i) S1x144x512.size (k0_off47_inb i hi)).toLoadRect (View.loadsAt_vmem h_S1x144x512))
  let p : Vec F S512x512 .bf16 ← Prog.lift (.load pref (Rect.unit (s := S512x512) ![0, 0] S512x512.size inb_S512x512_S512x512_0_0).toLoadRect (View.loadsAt_vmem h_S512x512))
  let _ : Vec F S1x144x512 .f32 ← Prog.lift (.load arg13 (Rect.unit (s := S16x144x512) (k0_off47 i) S1x144x512.size (k0_off47_inb i hi)).toLoadRect (View.loadsAt_vmem h_S1x144x512))
  Prog.lift (.store arg13 (Rect.unit (s := S16x144x512) (k0_off47 i) S1x144x512.size (k0_off47_inb i hi)) (accAll v0 v a p) Finset.univ (View.stores_vmem_bits_univ h_S1x144x512 rfl) (.inl rfl))

end

/-! ## The body as a list of steps -/

/-- The table position of sub-pair `s` of trip `k`, as the kernel computes it, -/
def posV (k : Fin k0_t1_loop.trips) (s : Fin 34) : Fin 1 → Nat :=
  ![(Scalar.indexCast (Scalar.addi (Scalar.muli 34#32 (Scf.iv 0#32 1#32 k)) (BitVec.ofNat 32 s.val))).toNat]
/-- and of the pair two later. -/
def posS (k : Fin k0_t1_loop.trips) (s : Fin 34) : Fin 1 → Nat :=
  ![(Scalar.indexCast (Scalar.addi (Scalar.addi (Scalar.muli 34#32 (Scf.iv 0#32 1#32 k)) (BitVec.ofNat 32 s.val)) 2#32)).toNat]

theorem trips_eq : k0_t1_loop.trips = 4 := by decide

/-- The positions, as numbers. -/
theorem posV_eq (k : Fin k0_t1_loop.trips) (s : Fin 34) : posV k s = ![34 * k.val + s.val] := by
  have h : ∀ (k : Fin 4) (s : Fin 34), (Scalar.indexCast (Scalar.addi (Scalar.muli 34#32 (Scf.iv 0#32 1#32 k)) (BitVec.ofNat 32 s.val))).toNat = 34 * k.val + s.val := by
    decide +kernel
  unfold posV
  exact congrArg (fun n => ![n]) (h (k.cast trips_eq) s)
theorem posS_eq (k : Fin k0_t1_loop.trips) (s : Fin 34) : posS k s = ![34 * k.val + s.val + 2] := by
  have h : ∀ (k : Fin 4) (s : Fin 34), (Scalar.indexCast (Scalar.addi (Scalar.addi (Scalar.muli 34#32 (Scf.iv 0#32 1#32 k)) (BitVec.ofNat 32 s.val)) 2#32)).toNat = 34 * k.val + s.val + 2 := by
    decide +kernel
  unfold posS
  exact congrArg (fun n => ![n]) (h (k.cast trips_eq) s)

theorem posV_inb (k : Fin k0_t1_loop.trips) (s : Fin 34) : ∀ a, posV k s a + S1.size a ≤ S138.size a := by
  intro a
  have hk : k.val < 4 := trips_eq ▸ k.isLt
  rw [posV_eq]; fin_cases a; show 34 * k.val + s.val + 1 ≤ 138; omega
theorem posS_inb (k : Fin k0_t1_loop.trips) (s : Fin 34) : ∀ a, posS k s a + S1.size a ≤ S138.size a := by
  intro a
  have hk : k.val < 4 := trips_eq ▸ k.isLt
  rw [posS_eq]; fin_cases a; show 34 * k.val + s.val + 2 + 1 ≤ 138; omega

/-- Whether the pair at a position of a trip is on the diagonal. -/
def isDiag (n : ℕ) : Bool := Nat.blt (n % 34) 4

section
variable (arg2 : Memref sig .tc .smem S138 .i32) (arg3 : Memref sig .tc .smem S138 .i32) (arg4 : Memref sig .tc .vmem S1x1x16x256x512 .bf16) (arg5 : Memref sig .tc .vmem S1x1x8192x128 .bf16) (arg6 : Memref sig .tc .vmem S1x8192x128 .bf16) (arg7 : Memref sig .tc .vmem S1x1x16x128x512 .bf16)
  (arg9 arg10 : Memref sig .tc .vmem S512x512 .f32) (arg11 : Memref sig .tc .vmem S512x512 .bf16) (harg11 : arg11.IsWhole) (arg12 : Memref sig .tc .vmem S512x512 .bf16) (harg12 : arg12.IsWhole) (arg13 : Memref sig .tc .vmem S16x144x512 .f32)
  (v0 : FVec F S16x512 .bf16)

/-- A step over the slots it works on: the scores into `sA`, the exponentials of `sB` into `pB`, the values by `pA`. -/
def stepP (sA sB : Memref sig .tc .vmem S512x512 .f32) (pA : Memref sig .tc .vmem S512x512 .bf16) (hA : pA.IsWhole) (pB : Memref sig .tc .vmem S512x512 .bf16) (hB : pB.IsWhole)
    (d2 d1 d0 : Bool) (k : Fin k0_t1_loop.trips) (s : Fin 34) : Pr F Unit :=
  (bif d2 then scoresD arg2 arg3 arg4 arg5 arg6 sA (posS k s) (posS_inb k s) else scoresB arg2 arg3 arg4 arg5 arg6 sA (posS k s) (posS_inb k s)) >>= fun _ =>
  (bif d1 then probsD sB pB hB else probsB sB pB hB) >>= fun _ =>
  (bif d0 then valuesD arg2 arg3 arg7 pA arg13 v0 (posV k s) (posV_inb k s) else valuesB arg2 arg3 arg7 pA arg13 v0 (posV k s) (posV_inb k s))

/-- The step of sub-pair `s`: the slots by its parity. -/
def step (k : Fin k0_t1_loop.trips) (s : Fin 34) : Pr F Unit :=
  bif Nat.beq (s.val % 2) 0 then
    stepP arg2 arg3 arg4 arg5 arg6 arg7 arg13 v0 arg9 arg10 arg11 harg11 arg12 harg12 (isDiag (s.val + 2)) (isDiag (s.val + 1)) (isDiag s.val) k s
  else
    stepP arg2 arg3 arg4 arg5 arg6 arg7 arg13 v0 arg10 arg9 arg12 harg12 arg11 harg11 (isDiag (s.val + 2)) (isDiag (s.val + 1)) (isDiag s.val) k s

/-- The steps of a list of sub-pairs, in order. -/
def steps (k : Fin k0_t1_loop.trips) : List (Fin 34) → Pr F Unit
  | [] => pure ⟨⟩
  | s :: l => step arg2 arg3 arg4 arg5 arg6 arg7 arg9 arg10 arg11 harg11 arg12 harg12 arg13 v0 k s >>= fun _ => steps k l

/-- The sub-pairs of a trip, in order. -/
def subs : List (Fin 34) := [0, 1, 2, 3, 4, 5, 6, 7, 8, 9, 10, 11, 12, 13, 14, 15, 16, 17, 18, 19, 20, 21, 22, 23, 24, 25, 26, 27, 28, 29, 30, 31, 32, 33]

end

set_option maxRecDepth 65536 in
/-- The printed loop body is the list of its steps. -/
theorem body_eq (i : grid0.Coords) (arg2 : Memref sig .tc .smem S138 .i32) (harg2 : arg2.IsWhole) (arg3 : Memref sig .tc .smem S138 .i32) (harg3 : arg3.IsWhole) (arg4 : Memref sig .tc .vmem S1x1x16x256x512 .bf16) (harg4 : arg4.IsWhole) (arg5 : Memref sig .tc .vmem S1x1x8192x128 .bf16) (harg5 : arg5.IsWhole) (arg6 : Memref sig .tc .vmem S1x8192x128 .bf16) (harg6 : arg6.IsWhole) (arg7 : Memref sig .tc .vmem S1x1x16x128x512 .bf16) (harg7 : arg7.IsWhole) (arg8 : Memref sig .tc .vmem S1x8192x128 .bf16) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .bf16) (harg11 : arg11.IsWhole) (arg12 : Memref sig .tc .vmem S512x512 .bf16) (harg12 : arg12.IsWhole) (arg13 : Memref sig .tc .vmem S16x144x512 .f32) (harg13 : arg13.IsWhole) (v0 : FVec F S16x512 .bf16) (v62 : FVec F S256x512 .bf16) (k : Fin k0_t1_loop.trips) (u : Unit) :
    k0_t1_body i arg2 harg2 arg3 harg3 arg4 harg4 arg5 harg5 arg6 harg6 arg7 harg7 arg8 harg8 arg9 harg9 arg10 harg10 arg11 harg11 arg12 harg12 arg13 harg13 v0 v62 k u
      = steps arg2 arg3 arg4 arg5 arg6 arg7 arg9 arg10 arg11 harg11 arg12 harg12 arg13 v0 k subs := by
  chain_rfl

/-! ## The whole function: start, loop, and the sixteen output tiles -/

/-- The quotient of a tile: sums of values by sums of weights, queries down. -/
def outVal (a : Vec F S1x128x512 .f32) (l : Vec F S1x1x512 .f32) : FVec F S1x512x128 .bf16 :=
  shapeCast S1x512x128 (truncf .bf16 (transpose S512x128 [1, 0] (divf (shapeCast S128x512 a shapeCasts_S1x128x512_S128x512) (broadcastTo S128x512 (shapeCast S1x512 l shapeCasts_S1x1x512_S1x512) broadcasts_S1x512_S128x512)) transposes_S128x512_p1_0_S512x128) bitsLt_bf16_f32) shapeCasts_S512x128_S1x512x128

theorem inbA (n : Fin 16) : ∀ a, (![n.val, 0, 0] : Fin 3 → Nat) a + S1x128x512.size a ≤ S16x144x512.size a := by
  intro a; have := n.isLt; fin_cases a
  · show n.val + 1 ≤ 16; omega
  · show 0 + 128 ≤ 144; omega
  · show 0 + 512 ≤ 512; omega
theorem inbL (n : Fin 16) : ∀ a, (![n.val, 128, 0] : Fin 3 → Nat) a + S1x1x512.size a ≤ S16x144x512.size a := by
  intro a; have := n.isLt; fin_cases a
  · show n.val + 1 ≤ 16; omega
  · show 128 + 1 ≤ 144; omega
  · show 0 + 512 ≤ 512; omega
theorem inbO (n : Fin 16) : ∀ a, (![0, 512 * n.val, 0] : Fin 3 → Nat) a + S1x512x128.size a ≤ S1x8192x128.size a := by
  intro a; have := n.isLt; fin_cases a
  · show 0 + 1 ≤ 1; omega
  · show 512 * n.val + 512 ≤ 8192; omega
  · show 0 + 128 ≤ 128; omega
theorem packO (n : Fin 16) : (Rect.unit (s := S1x8192x128) ![0, 512 * n.val, 0] S1x512x128.size (inbO n)).PackedRows (EltTy.packing .bf16) := by
  fin_cases n
  · exact packedbf16_S1x8192x128_S1x512x128_0_0_0
  · exact packedbf16_S1x8192x128_S1x512x128_0_512_0
  · exact packedbf16_S1x8192x128_S1x512x128_0_1024_0
  · exact packedbf16_S1x8192x128_S1x512x128_0_1536_0
  · exact packedbf16_S1x8192x128_S1x512x128_0_2048_0
  · exact packedbf16_S1x8192x128_S1x512x128_0_2560_0
  · exact packedbf16_S1x8192x128_S1x512x128_0_3072_0
  · exact packedbf16_S1x8192x128_S1x512x128_0_3584_0
  · exact packedbf16_S1x8192x128_S1x512x128_0_4096_0
  · exact packedbf16_S1x8192x128_S1x512x128_0_4608_0
  · exact packedbf16_S1x8192x128_S1x512x128_0_5120_0
  · exact packedbf16_S1x8192x128_S1x512x128_0_5632_0
  · exact packedbf16_S1x8192x128_S1x512x128_0_6144_0
  · exact packedbf16_S1x8192x128_S1x512x128_0_6656_0
  · exact packedbf16_S1x8192x128_S1x512x128_0_7168_0
  · exact packedbf16_S1x8192x128_S1x512x128_0_7680_0

section
variable (arg2 : Memref sig .tc .smem S138 .i32) (arg3 : Memref sig .tc .smem S138 .i32) (arg4 : Memref sig .tc .vmem S1x1x16x256x512 .bf16) (arg5 : Memref sig .tc .vmem S1x1x8192x128 .bf16) (arg6 : Memref sig .tc .vmem S1x8192x128 .bf16) (arg7 : Memref sig .tc .vmem S1x1x16x128x512 .bf16) (arg8 : Memref sig .tc .vmem S1x8192x128 .bf16) (harg8 : arg8.IsWhole)
  (arg9 arg10 : Memref sig .tc .vmem S512x512 .f32) (arg11 : Memref sig .tc .vmem S512x512 .bf16) (harg11 : arg11.IsWhole) (arg12 : Memref sig .tc .vmem S512x512 .bf16) (harg12 : arg12.IsWhole) (arg13 : Memref sig .tc .vmem S16x144x512 .f32)

/-- One output tile: its quotients from the accumulator. -/
def outTile (n : Fin 16) : Pr F Unit := do
  let a : Vec F S1x128x512 .f32 ← Prog.lift (.load arg13 (Rect.unit (s := S16x144x512) ![n.val, 0, 0] S1x128x512.size (inbA n)).toLoadRect (View.loadsAt_vmem h_S1x128x512))
  let l : Vec F S1x1x512 .f32 ← Prog.lift (.load arg13 (Rect.unit (s := S16x144x512) ![n.val, 128, 0] S1x1x512.size (inbL n)).toLoadRect (View.loadsAt_vmem h_S1x1x512))
  let _ : Vec F S1x512x128 .bf16 ← Prog.lift (.load arg8 (Rect.unit (s := S1x8192x128) ![0, 512 * n.val, 0] S1x512x128.size (inbO n)).toLoadRect (View.loadsAt_vmem h_S1x512x128))
  Prog.lift (.store arg8 (Rect.unit (s := S1x8192x128) ![0, 512 * n.val, 0] S1x512x128.size (inbO n)) (outVal a l) Finset.univ (View.stores_vmem h_S1x512x128 (harg8.storeExact_slice rfl _ (packO n)) (fun _ => rfl)) (.inl rfl))

/-- The output tiles of a list, in order. -/
def outTiles : List (Fin 16) → Pr F Unit
  | [] => pure ⟨⟩
  | n :: l => outTile arg8 harg8 arg13 n >>= fun _ => outTiles l

/-- The ones below the values. -/
def ones : FVec F S16x512 .bf16 := broadcast S16x512 (Scalar.ofBits .bf16 0x3F80#16)

/-- The accumulator cleared. -/
def clear : Pr F Unit := do
  let _ : Vec F S16x144x512 .f32 ← Prog.lift (.load arg13 (Rect.unit (s := S16x144x512) ![0, 0, 0] S16x144x512.size inb_S16x144x512_S16x144x512_0_0_0).toLoadRect (View.loadsAt_vmem h_S16x144x512))
  Prog.lift (.store arg13 (Rect.unit (s := S16x144x512) ![0, 0, 0] S16x144x512.size inb_S16x144x512_S16x144x512_0_0_0) (shapeCast S16x144x512 (broadcast S16x144x512 (Scalar.ofBits .f32 0x00000000#32)) shapeCasts_S16x144x512_S16x144x512) Finset.univ (View.stores_vmem_bits_univ h_S16x144x512 rfl) (.inl rfl))

/-- The whole function, by its stages. -/
def whole : Pr F Unit :=
  clear arg13 >>= fun _ =>
  scoresD arg2 arg3 arg4 arg5 arg6 arg9 ![0] inb_S138_S1_0 >>= fun _ =>
  scoresD arg2 arg3 arg4 arg5 arg6 arg10 ![1] inb_S138_S1_1 >>= fun _ =>
  probsD arg9 arg11 harg11 >>= fun _ =>
  (Scf.Loop.for k0_t1_loop k0_t1_ok ⟨⟩ fun k _ => steps arg2 arg3 arg4 arg5 arg6 arg7 arg9 arg10 arg11 harg11 arg12 harg12 arg13 ones k subs) >>= fun _ =>
  outTiles arg8 harg8 arg13 [0, 1, 2, 3, 4, 5, 6, 7, 8, 9, 10, 11, 12, 13, 14, 15]

end

section
variable (i : grid0.Coords) (arg2 : Memref sig .tc .smem S138 .i32) (harg2 : arg2.IsWhole) (arg3 : Memref sig .tc .smem S138 .i32) (harg3 : arg3.IsWhole) (arg4 : Memref sig .tc .vmem S1x1x16x256x512 .bf16) (harg4 : arg4.IsWhole) (arg5 : Memref sig .tc .vmem S1x1x8192x128 .bf16) (harg5 : arg5.IsWhole) (arg6 : Memref sig .tc .vmem S1x8192x128 .bf16) (harg6 : arg6.IsWhole) (arg7 : Memref sig .tc .vmem S1x1x16x128x512 .bf16) (harg7 : arg7.IsWhole) (arg8 : Memref sig .tc .vmem S1x8192x128 .bf16) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .bf16) (harg11 : arg11.IsWhole) (arg12 : Memref sig .tc .vmem S512x512 .bf16) (harg12 : arg12.IsWhole) (arg13 : Memref sig .tc .vmem S16x144x512 .f32) (harg13 : arg13.IsWhole)

/-- The function after the loop's own window: the windows that follow, over the quotient the first of them stores. -/
def after (v94 : FVec F S128x512 .f32) : Pr F Unit := do
  let x ← k0_part56 i arg2 harg2 arg3 harg3 arg4 harg4 arg5 harg5 arg6 harg6 arg7 harg7 arg8 harg8 arg9 harg9 arg10 harg10 arg11 harg11 arg12 harg12 arg13 harg13 v94
  let v156 ← k0_part57 i arg2 harg2 arg3 harg3 arg4 harg4 arg5 harg5 arg6 harg6 arg7 harg7 arg8 harg8 arg9 harg9 arg10 harg10 arg11 harg11 arg12 harg12 arg13 harg13 x.1 x.2
  k0_part58 i arg2 harg2 arg3 harg3 arg4 harg4 arg5 harg5 arg6 harg6 arg7 harg7 arg8 harg8 arg9 harg9 arg10 harg10 arg11 harg11 arg12 harg12 arg13 harg13 v156
  k0_part59 i arg2 harg2 arg3 harg3 arg4 harg4 arg5 harg5 arg6 harg6 arg7 harg7 arg8 harg8 arg9 harg9 arg10 harg10 arg11 harg11 arg12 harg12 arg13 harg13
  let y ← k0_part60 i arg2 harg2 arg3 harg3 arg4 harg4 arg5 harg5 arg6 harg6 arg7 harg7 arg8 harg8 arg9 harg9 arg10 harg10 arg11 harg11 arg12 harg12 arg13 harg13
  Prog.lift (.store arg8 (Rect.unit (s := S1x8192x128) ![0, 7680, 0] S1x512x128.size inb_S1x8192x128_S1x512x128_0_7680_0) (shapeCast S1x512x128 y.1 shapeCasts_S512x128_S1x512x128) Finset.univ (View.stores_vmem h_S1x512x128 (harg8.storeExact_slice rfl _ packedbf16_S1x8192x128_S1x512x128_0_7680_0) (fun _ => rfl)) (.inl rfl))
  pure ⟨⟩

/-- The exponentials of pair 0, over the first half already computed. -/
def probs0 (v62 : FVec F S256x512 .bf16) : Pr F Unit := do
  let _ : Vec F S256x512 .bf16 ← Prog.lift (.load arg11 (Rect.unit (s := S512x512) ![0, 0] S256x512.size inb_S512x512_S256x512_0_0).toLoadRect (View.loadsAt_vmem h_S256x512))
  Prog.lift (.store arg11 (Rect.unit (s := S512x512) ![0, 0] S256x512.size inb_S512x512_S256x512_0_0) (shapeCast S256x512 v62 shapeCasts_S256x512_S256x512) Finset.univ (View.stores_vmem h_S256x512 (harg11.storeExact_slice rfl _ packedbf16_S512x512_S256x512_0_0) (fun _ => rfl)) (.inl rfl))
  let s' : Vec F S256x256 .f32 ← Prog.lift (.load arg9 (Rect.unit (s := S512x512) ![256, 256] S256x256.size inb_S512x512_S256x256_256_256).toLoadRect (View.loadsAt_vmem h_S256x256))
  let _ : Vec F S256x256 .bf16 ← Prog.lift (.load arg11 (Rect.unit (s := S512x512) ![256, 256] S256x256.size inb_S512x512_S256x256_256_256).toLoadRect (View.loadsAt_vmem h_S256x256))
  Prog.lift (.store arg11 (Rect.unit (s := S512x512) ![256, 256] S256x256.size inb_S512x512_S256x256_256_256) (expLow s') Finset.univ (View.stores_vmem h_S256x256 (harg11.storeExact_slice rfl _ packedbf16_S512x512_S256x256_256_256) (fun _ => rfl)) (.inl rfl))

/-- The first output tile, and the second's quotient. -/
def quot0 : Pr F (FVec F S128x512 .f32) := do
  outTile arg8 harg8 arg13 0
  let a : Vec F S1x128x512 .f32 ← Prog.lift (.load arg13 (Rect.unit (s := S16x144x512) ![1, 0, 0] S1x128x512.size inb_S16x144x512_S1x128x512_1_0_0).toLoadRect (View.loadsAt_vmem h_S1x128x512))
  let l : Vec F S1x1x512 .f32 ← Prog.lift (.load arg13 (Rect.unit (s := S16x144x512) ![1, 128, 0] S1x1x512.size inb_S16x144x512_S1x1x512_1_128_0).toLoadRect (View.loadsAt_vmem h_S1x1x512))
  pure (divf (shapeCast S128x512 a shapeCasts_S1x128x512_S128x512) (broadcastTo S128x512 (shapeCast S1x512 l shapeCasts_S1x1x512_S1x512) broadcasts_S1x512_S128x512))

/-- The loop, in the printed body's spelling, -/
def loopPrinted (v0 : FVec F S16x512 .bf16) (v62 : FVec F S256x512 .bf16) : Pr F Unit :=
  Scf.Loop.for k0_t1_loop k0_t1_ok ⟨⟩ fun k u => k0_t1_body i arg2 harg2 arg3 harg3 arg4 harg4 arg5 harg5 arg6 harg6 arg7 harg7 arg8 harg8 arg9 harg9 arg10 harg10 arg11 harg11 arg12 harg12 arg13 harg13 v0 v62 k u
/-- and as its steps. -/
def loopSteps (v0 : FVec F S16x512 .bf16) : Pr F Unit :=
  Scf.Loop.for k0_t1_loop k0_t1_ok ⟨⟩ fun k _ => steps arg2 arg3 arg4 arg5 arg6 arg7 arg9 arg10 arg11 harg11 arg12 harg12 arg13 v0 k subs

theorem loop_eq (v0 : FVec F S16x512 .bf16) (v62 : FVec F S256x512 .bf16) :
    loopPrinted i arg2 harg2 arg3 harg3 arg4 harg4 arg5 harg5 arg6 harg6 arg7 harg7 arg8 harg8 arg9 harg9 arg10 harg10 arg11 harg11 arg12 harg12 arg13 harg13 v0 v62 = loopSteps arg2 arg3 arg4 arg5 arg6 arg7 arg9 arg10 arg11 harg11 arg12 harg12 arg13 v0 := by
  have h : (fun (k : Fin k0_t1_loop.trips) (u : Unit) => k0_t1_body i arg2 harg2 arg3 harg3 arg4 harg4 arg5 harg5 arg6 harg6 arg7 harg7 arg8 harg8 arg9 harg9 arg10 harg10 arg11 harg11 arg12 harg12 arg13 harg13 v0 v62 k u)
      = fun k _ => steps arg2 arg3 arg4 arg5 arg6 arg7 arg9 arg10 arg11 harg11 arg12 harg12 arg13 v0 k subs :=
    funext fun k => funext fun u => body_eq i arg2 harg2 arg3 harg3 arg4 harg4 arg5 harg5 arg6 harg6 arg7 harg7 arg8 harg8 arg9 harg9 arg10 harg10 arg11 harg11 arg12 harg12 arg13 harg13 v0 v62 k u
  rw [loopPrinted, h, loopSteps]

theorem part55_eq (v0 : FVec F S16x512 .bf16) (v62 : FVec F S256x512 .bf16) :
    k0_part55 i arg2 harg2 arg3 harg3 arg4 harg4 arg5 harg5 arg6 harg6 arg7 harg7 arg8 harg8 arg9 harg9 arg10 harg10 arg11 harg11 arg12 harg12 arg13 harg13 v0 v62 = (probs0 arg9 arg11 harg11 v62 >>= fun _ => loopPrinted i arg2 harg2 arg3 harg3 arg4 harg4 arg5 harg5 arg6 harg6 arg7 harg7 arg8 harg8 arg9 harg9 arg10 harg10 arg11 harg11 arg12 harg12 arg13 harg13 v0 v62 >>= fun _ => quot0 arg8 harg8 arg13) := by
  chain_rfl

theorem start_eq (X : FVec F S16x512 .bf16 → FVec F S256x512 .bf16 → Pr F Unit) (Y : FVec F S16x512 .bf16 → Pr F Unit)
    (h : ∀ v0 v62, X v0 v62 = Y v0) :
    (k0_part53 i arg2 harg2 arg3 harg3 arg4 harg4 arg5 harg5 arg6 harg6 arg7 harg7 arg8 harg8 arg9 harg9 arg10 harg10 arg11 harg11 arg12 harg12 arg13 harg13 >>= fun v0 => k0_part54 i arg2 harg2 arg3 harg3 arg4 harg4 arg5 harg5 arg6 harg6 arg7 harg7 arg8 harg8 arg9 harg9 arg10 harg10 arg11 harg11 arg12 harg12 arg13 harg13 >>= fun v62 => probs0 arg9 arg11 harg11 v62 >>= fun _ => X v0 v62)
      = (clear arg13 >>= fun _ =>
         scoresD arg2 arg3 arg4 arg5 arg6 arg9 ![0] inb_S138_S1_0 >>= fun _ =>
         scoresD arg2 arg3 arg4 arg5 arg6 arg10 ![1] inb_S138_S1_1 >>= fun _ =>
         probsD arg9 arg11 harg11 >>= fun _ => Y ones) := by
  obtain rfl : X = fun v0 _ => Y v0 := by funext v0 v62; exact h v0 v62
  chain_rfl

theorem end_eq : (quot0 arg8 harg8 arg13 >>= fun v94 => after i arg2 harg2 arg3 harg3 arg4 harg4 arg5 harg5 arg6 harg6 arg7 harg7 arg8 harg8 arg9 harg9 arg10 harg10 arg11 harg11 arg12 harg12 arg13 harg13 v94)
    = (outTiles arg8 harg8 arg13 [0, 1, 2, 3, 4, 5, 6, 7, 8, 9, 10, 11, 12, 13, 14, 15] : Pr F Unit) := by
  chain_rfl

theorem cc_eq : cc0_attention_shifted (F := F) i arg2 harg2 arg3 harg3 arg4 harg4 arg5 harg5 arg6 harg6 arg7 harg7 arg8 harg8 arg9 harg9 arg10 harg10 arg11 harg11 arg12 harg12 arg13 harg13
    = (k0_part53 i arg2 harg2 arg3 harg3 arg4 harg4 arg5 harg5 arg6 harg6 arg7 harg7 arg8 harg8 arg9 harg9 arg10 harg10 arg11 harg11 arg12 harg12 arg13 harg13 >>= fun v0 => k0_part54 i arg2 harg2 arg3 harg3 arg4 harg4 arg5 harg5 arg6 harg6 arg7 harg7 arg8 harg8 arg9 harg9 arg10 harg10 arg11 harg11 arg12 harg12 arg13 harg13 >>= fun v62 => k0_part55 i arg2 harg2 arg3 harg3 arg4 harg4 arg5 harg5 arg6 harg6 arg7 harg7 arg8 harg8 arg9 harg9 arg10 harg10 arg11 harg11 arg12 harg12 arg13 harg13 v0 v62 >>= fun v94 => after i arg2 harg2 arg3 harg3 arg4 harg4 arg5 harg5 arg6 harg6 arg7 harg7 arg8 harg8 arg9 harg9 arg10 harg10 arg11 harg11 arg12 harg12 arg13 harg13 v94) := by
  rfl

/-- The printed function is its stages. -/
theorem whole_eq :
    cc0_attention_shifted (F := F) i arg2 harg2 arg3 harg3 arg4 harg4 arg5 harg5 arg6 harg6 arg7 harg7 arg8 harg8 arg9 harg9 arg10 harg10 arg11 harg11 arg12 harg12 arg13 harg13
      = whole arg2 arg3 arg4 arg5 arg6 arg7 arg8 harg8 arg9 arg10 arg11 harg11 arg12 harg12 arg13 := by
  rw [cc_eq]
  simp only [part55_eq, bind_assoc]
  rw [end_eq]
  exact start_eq i arg2 harg2 arg3 harg3 arg4 harg4 arg5 harg5 arg6 harg6 arg7 harg7 arg8 harg8 arg9 harg9 arg10 harg10 arg11 harg11 arg12 harg12 arg13 harg13 _ (fun v0 => loopSteps arg2 arg3 arg4 arg5 arg6 arg7 arg9 arg10 arg11 harg11 arg12 harg12 arg13 v0 >>= fun _ => outTiles arg8 harg8 arg13 [0, 1, 2, 3, 4, 5, 6, 7, 8, 9, 10, 11, 12, 13, 14, 15])
    (fun v0 v62 => by rw [loop_eq])

end
end Cert.KernelIdeal.Att

end
-- ==== Proof.KWp.lean ====
/-
  What each stage of the attention kernel does to the buffers, as weakest-precondition triples over the buffers' values.
-/
module

public import proofs.«01_k».proof.Proof.KStages
public import Idealize.ShloMosaic.Lib.Pipeline.Kit
public import Idealize.ShloMosaic.Lib.WholeRead

@[expose] public section

set_option synthInstance.maxSize 4096
set_option maxRecDepth 8192

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-! ## Values of a buffer, and a rectangle of them overwritten -/

/-- The values `v` with the rectangle `r` overwritten by `w`. -/
def put {S : Shape} {α : Type} (r : Rect S) (w : r.shape.Idx → α) (v : S.Idx → α) : S.Idx → α :=
  fun y => open Classical in if h : ∃ x, r.emb x = y then w h.choose else v y

/-- The rectangle `r` of the values `v`. -/
def ld {S : Shape} {α : Type} (r : Rect S) (v : S.Idx → α) : r.shape.Idx → α := fun x => v (r.emb x)

theorem put_hit {S : Shape} {α : Type} (r : Rect S) (w : r.shape.Idx → α) (v : S.Idx → α) (x : r.shape.Idx) (y : S.Idx)
    (h : r.emb x = y) : put r w v y = w x := by
  have h' : ∃ x, r.emb x = y := ⟨x, h⟩
  unfold put
  rw [dif_pos h']
  exact congrArg w (r.emb.injective (h'.choose_spec.trans h.symm))

theorem put_miss {S : Shape} {α : Type} (r : Rect S) (w : r.shape.Idx → α) (v : S.Idx → α) (y : S.Idx)
    (h : ∀ x, r.emb x ≠ y) : put r w v y = v y := by
  unfold put
  rw [dif_neg (fun ⟨x, hx⟩ => h x hx)]

/-- Writing a rectangle of a whole buffer is overwriting that rectangle of its values. -/
theorem writes_unread {S : Shape} {sp : Space} {e : EltTy} (m : Memref sig .tc sp S e) (h : m.IsWhole) (v : S.Idx → Elt F e)
    (r : Rect S) (w : r.shape.Idx → Elt F e) :
    m.view.writes (Elt F) (h.unread v) [⟨r, w⟩] = h.unread (put r w v) := by
  refine h.eq_unread ?_
  funext y
  by_cases hy : ∃ x, r.emb x = y
  · obtain ⟨x, hx⟩ := hy
    rw [View.read_writes_cons_hit _ _ r w [] x y hx, put_hit r w v x y hx]
  · rw [View.read_writes_cons_miss _ _ _ _ _ (fun hm => hy (by
      rw [← Rect.map_emb_univ] at hm
      obtain ⟨x, _, hx⟩ := Finset.mem_map.1 hm
      exact ⟨x, hx⟩)), put_miss r w v y (fun x hx => hy ⟨x, hx⟩)]
    exact congrFun (h.read_unread v) y

theorem readAt_unread {S : Shape} {sp : Space} {e : EltTy} (m : Memref sig .tc sp S e) (h : m.IsWhole) (v : S.Idx → Elt F e)
    (r : Rect S) : m.view.readAt (Elt F) r.toLoadRect (h.unread v) = ld r v := by
  funext x
  exact congrFun (h.read_unread v) _

/-- Core `c` holds the whole buffer `m` at the values `v`. -/
abbrev At {S : Shape} {sp : Space} {e : EltTy} (c : Dev nD) (m : Memref sig .tc sp S e) (h : m.IsWhole) (v : S.Idx → Elt F e) : sProp 𝕄G :=
  iprop(m.view.loc (c : Thread nD τ) ↦[m.view.set]{fullShare} h.unread v)
/-- A table, held at the half share the launch hands the body. -/
abbrev Tb {S : Shape} {sp : Space} {e : EltTy} (c : Dev nD) (m : Memref sig .tc sp S e) (h : m.IsWhole) (v : S.Idx → Elt F e) : sProp 𝕄G :=
  iprop(m.view.loc (c : Thread nD τ) ↦[m.view.set]{fullShare.right} h.unread v)

/-- The table word at an offset. -/
abbrev word (T : S138.Idx → Elt F .i32) (off : Fin 1 → Nat) (hoff : ∀ a, off a + S1.size a ≤ S138.size a) : BitVec 32 :=
  ld (Rect.unit (s := S138) off S1.size hoff) T (Shape.Idx.first (numel1_S1.symm ▸ Nat.one_pos))

theorem word_eq (m : Memref sig .tc .smem S138 .i32) (h : m.IsWhole) (T : S138.Idx → Elt F .i32) (off : Fin 1 → Nat) (hoff : ∀ a, off a + S1.size a ≤ S138.size a) :
    m.view.readAt (Elt F) (Rect.unit (s := S138) off S1.size hoff).toLoadRect (h.unread T) (Shape.Idx.first (numel1_S1.symm ▸ Nat.one_pos)) = word T off hoff := by
  rw [readAt_unread]

/-- Two rectangles, one after the other. -/
theorem writes_unread2 {S : Shape} {sp : Space} {e : EltTy} (m : Memref sig .tc sp S e) (h : m.IsWhole) (v : S.Idx → Elt F e)
    (r r' : Rect S) (w : r.shape.Idx → Elt F e) (w' : r'.shape.Idx → Elt F e) :
    m.view.writes (Elt F) (h.unread v) [⟨r', w'⟩, ⟨r, w⟩] = h.unread (put r' w' (put r w v)) := by
  rw [← writes_unread m h (put r w v), ← writes_unread m h v]
  rfl

section
variable (𝒱 : Variants) (c : Dev nD) (bd : Option 𝒱.V) (E : Set ℕ)
variable (arg2 : Memref sig .tc .smem S138 .i32) (harg2 : arg2.IsWhole) (arg3 : Memref sig .tc .smem S138 .i32) (harg3 : arg3.IsWhole) (arg4 : Memref sig .tc .vmem S1x1x16x256x512 .bf16) (harg4 : arg4.IsWhole) (arg5 : Memref sig .tc .vmem S1x1x8192x128 .bf16) (harg5 : arg5.IsWhole) (arg6 : Memref sig .tc .vmem S1x8192x128 .bf16) (harg6 : arg6.IsWhole) (arg7 : Memref sig .tc .vmem S1x1x16x128x512 .bf16) (harg7 : arg7.IsWhole)
  (sA : Memref sig .tc .vmem S512x512 .f32) (hsA : sA.IsWhole) (sB : Memref sig .tc .vmem S512x512 .f32) (hsB : sB.IsWhole) (pA : Memref sig .tc .vmem S512x512 .bf16) (hpA : pA.IsWhole) (pB : Memref sig .tc .vmem S512x512 .bf16) (hpB : pB.IsWhole) (arg13 : Memref sig .tc .vmem S16x144x512 .f32) (harg13 : arg13.IsWhole)
  (T2 T3 : S138.Idx → Elt F .i32) (Q : S1x1x16x256x512.Idx → Elt F .bf16) (KN : S1x1x8192x128.Idx → Elt F .bf16) (KR : S1x8192x128.Idx → Elt F .bf16) (VT : S1x1x16x128x512.Idx → Elt F .bf16)
  (a b : S512x512.Idx → Elt F .f32) (p q : S512x512.Idx → Elt F .bf16) (A : S16x144x512.Idx → Elt F .f32)
  (v0 : FVec F S16x512 .bf16)
  (off : Fin 1 → Nat) (hoff : ∀ a, off a + S1.size a ≤ S138.size a)
variable (i j : BitVec 32) (ej : word T3 off hoff = j) (ei : word T2 off hoff = i) (hj : k0_chk5 j) (hi : k0_chk6 i) (hj' : k0_chk7 j) (hi' : k0_chk8 i) (hi'' : k0_chk24 i)

/-- The tile `j` of the keys' plain features, -/
abbrev tKN : S1x1x512x128.Idx → Elt F .bf16 := ld (Rect.unit (s := S1x1x8192x128) (k0_off8 j) S1x1x512x128.size (k0_off8_inb j hj)) KN
/-- of their rotary features, -/
abbrev tKR : S1x512x128.Idx → Elt F .bf16 := ld (Rect.unit (s := S1x8192x128) (k0_off9 j) S1x512x128.size (k0_off9_inb j hj)) KR
/-- the tile `i` of the queries, -/
abbrev tQ : S1x1x1x256x512.Idx → Elt F .bf16 := ld (Rect.unit (s := S1x1x16x256x512) (k0_off11 i) S1x1x1x256x512.size (k0_off11_inb i hi)) Q
/-- and the tile `j` of the values. -/
abbrev tVT : S1x1x1x128x512.Idx → Elt F .bf16 := ld (Rect.unit (s := S1x1x16x128x512) (k0_off13 j) S1x1x1x128x512.size (k0_off13_inb j hj')) VT

/-- The halves of a tile of scores or weights, -/
abbrev rTop : Rect S512x512 := Rect.unit (s := S512x512) ![0, 0] S256x512.size inb_S512x512_S256x512_0_0
abbrev rLow : Rect S512x512 := Rect.unit (s := S512x512) ![256, 256] S256x256.size inb_S512x512_S256x256_256_256
abbrev rAll : Rect S512x512 := Rect.unit (s := S512x512) ![0, 0] S512x512.size inb_S512x512_S512x512_0_0
abbrev rCorner : Rect S512x512 := Rect.unit (s := S512x512) ![0, 0] S256x256.size inb_S512x512_S256x256_0_0
abbrev rRight : Rect S512x512 := Rect.unit (s := S512x512) ![0, 256] S512x256.size inb_S512x512_S512x256_0_256
/-- and of a tile of the accumulator. -/
abbrev rAccL : Rect S16x144x512 := Rect.unit (s := S16x144x512) (k0_off14 i) S1x144x256.size (k0_off14_inb i hi')
abbrev rAccR : Rect S16x144x512 := Rect.unit (s := S16x144x512) (k0_off15 i) S1x144x256.size (k0_off15_inb i hi')
abbrev rAcc : Rect S16x144x512 := Rect.unit (s := S16x144x512) (k0_off47 i) S1x144x512.size (k0_off47_inb i hi'')

include ej ei in
/-- A diagonal pair's scores: two rectangles of the score buffer. -/
theorem scoresD_wp :
    iprop(Tb c arg2 harg2 T2 ∗ Tb c arg3 harg3 T3 ∗ At c arg4 harg4 Q ∗ At c arg5 harg5 KN ∗ At c arg6 harg6 KR ∗ At c arg7 harg7 VT ∗ At c sA hsA a ∗ At c sB hsB b ∗ At c pA hpA p ∗ At c pB hpB q ∗ At c arg13 harg13 A)
      ⊢ wp frame (wpE (defs₀ (F := F)) 𝒱 (c : Thread nD τ) bd) E (scoresD (F := F) arg2 arg3 arg4 arg5 arg6 sA off hoff) (fun _ => iprop(Tb c arg2 harg2 T2 ∗ Tb c arg3 harg3 T3 ∗ At c arg4 harg4 Q ∗ At c arg5 harg5 KN ∗ At c arg6 harg6 KR ∗ At c arg7 harg7 VT ∗ At c sA hsA (put rLow (scoreLow (tKN KN j hj) (tKR KR j hj) (tQ Q i hi)) (put rTop (scoreTop (tKN KN j hj) (tKR KR j hj) (tQ Q i hi)) a)) ∗ At c sB hsB b ∗ At c pA hpA p ∗ At c pB hpB q ∗ At c arg13 harg13 A)) := by
  rw [← word_eq arg3 harg3 T3 off hoff] at ej
  rw [← word_eq arg2 harg2 T2 off hoff] at ei
  subst ej ei
  unfold At Tb tKN tKR tQ
  rw [← writes_unread2, ← readAt_unread arg5 harg5 KN, ← readAt_unread arg6 harg6 KR, ← readAt_unread arg4 harg4 Q]
  unfold scoresD
  iintro ⟨H2, H3, H4, H5, H6, H7, HA, HB, PA, PB, HX⟩
  sl_exec
  sl_step
  sl_close

include ej ei in
/-- A full pair's scores: the whole score buffer. -/
theorem scoresB_wp :
    iprop(Tb c arg2 harg2 T2 ∗ Tb c arg3 harg3 T3 ∗ At c arg4 harg4 Q ∗ At c arg5 harg5 KN ∗ At c arg6 harg6 KR ∗ At c arg7 harg7 VT ∗ At c sA hsA a ∗ At c sB hsB b ∗ At c pA hpA p ∗ At c pB hpB q ∗ At c arg13 harg13 A)
      ⊢ wp frame (wpE (defs₀ (F := F)) 𝒱 (c : Thread nD τ) bd) E (scoresB (F := F) arg2 arg3 arg4 arg5 arg6 sA off hoff) (fun _ => iprop(Tb c arg2 harg2 T2 ∗ Tb c arg3 harg3 T3 ∗ At c arg4 harg4 Q ∗ At c arg5 harg5 KN ∗ At c arg6 harg6 KR ∗ At c arg7 harg7 VT ∗ At c sA hsA (put rAll (scoreAll (tKN KN j hj) (tKR KR j hj) (tQ Q i hi)) a) ∗ At c sB hsB b ∗ At c pA hpA p ∗ At c pB hpB q ∗ At c arg13 harg13 A)) := by
  rw [← word_eq arg3 harg3 T3 off hoff] at ej
  rw [← word_eq arg2 harg2 T2 off hoff] at ei
  subst ej ei
  unfold At Tb tKN tKR tQ
  rw [← writes_unread, ← readAt_unread arg5 harg5 KN, ← readAt_unread arg6 harg6 KR, ← readAt_unread arg4 harg4 Q]
  unfold scoresB
  iintro ⟨H2, H3, H4, H5, H6, H7, HA, HB, PA, PB, HX⟩
  sl_exec
  sl_step
  sl_close

/-- A diagonal pair's exponentials: two rectangles of the weight buffer. -/
theorem probsD_wp :
    iprop(Tb c arg2 harg2 T2 ∗ Tb c arg3 harg3 T3 ∗ At c arg4 harg4 Q ∗ At c arg5 harg5 KN ∗ At c arg6 harg6 KR ∗ At c arg7 harg7 VT ∗ At c sA hsA a ∗ At c sB hsB b ∗ At c pA hpA p ∗ At c pB hpB q ∗ At c arg13 harg13 A)
      ⊢ wp frame (wpE (defs₀ (F := F)) 𝒱 (c : Thread nD τ) bd) E (probsD (F := F) sB pB hpB) (fun _ => iprop(Tb c arg2 harg2 T2 ∗ Tb c arg3 harg3 T3 ∗ At c arg4 harg4 Q ∗ At c arg5 harg5 KN ∗ At c arg6 harg6 KR ∗ At c arg7 harg7 VT ∗ At c sA hsA a ∗ At c sB hsB b ∗ At c pA hpA p ∗ At c pB hpB (put rLow (expLow (ld rLow b)) (put rTop (expTop (ld rTop b)) q)) ∗ At c arg13 harg13 A)) := by
  unfold At Tb
  rw [← writes_unread2, ← readAt_unread sB hsB b rLow, ← readAt_unread sB hsB b rTop]
  unfold probsD
  iintro ⟨H2, H3, H4, H5, H6, H7, HA, HB, PA, PB, HX⟩
  sl_exec
  sl_step
  sl_close

/-- A full pair's exponentials: the whole weight buffer. -/
theorem probsB_wp :
    iprop(Tb c arg2 harg2 T2 ∗ Tb c arg3 harg3 T3 ∗ At c arg4 harg4 Q ∗ At c arg5 harg5 KN ∗ At c arg6 harg6 KR ∗ At c arg7 harg7 VT ∗ At c sA hsA a ∗ At c sB hsB b ∗ At c pA hpA p ∗ At c pB hpB q ∗ At c arg13 harg13 A)
      ⊢ wp frame (wpE (defs₀ (F := F)) 𝒱 (c : Thread nD τ) bd) E (probsB (F := F) sB pB hpB) (fun _ => iprop(Tb c arg2 harg2 T2 ∗ Tb c arg3 harg3 T3 ∗ At c arg4 harg4 Q ∗ At c arg5 harg5 KN ∗ At c arg6 harg6 KR ∗ At c arg7 harg7 VT ∗ At c sA hsA a ∗ At c sB hsB b ∗ At c pA hpA p ∗ At c pB hpB (put rAll (expAll (ld rAll b)) q) ∗ At c arg13 harg13 A)) := by
  unfold At Tb
  rw [← writes_unread, ← readAt_unread sB hsB b]
  unfold probsB
  iintro ⟨H2, H3, H4, H5, H6, H7, HA, HB, PA, PB, HX⟩
  sl_exec
  sl_step
  sl_close

include ej ei in
/-- A diagonal pair's update of its accumulator tile, half by half. -/
theorem valuesD_wp :
    iprop(Tb c arg2 harg2 T2 ∗ Tb c arg3 harg3 T3 ∗ At c arg4 harg4 Q ∗ At c arg5 harg5 KN ∗ At c arg6 harg6 KR ∗ At c arg7 harg7 VT ∗ At c sA hsA a ∗ At c sB hsB b ∗ At c pA hpA p ∗ At c pB hpB q ∗ At c arg13 harg13 A)
      ⊢ wp frame (wpE (defs₀ (F := F)) 𝒱 (c : Thread nD τ) bd) E (valuesD (F := F) arg2 arg3 arg7 pA arg13 v0 off hoff) (fun _ => iprop(Tb c arg2 harg2 T2 ∗ Tb c arg3 harg3 T3 ∗ At c arg4 harg4 Q ∗ At c arg5 harg5 KN ∗ At c arg6 harg6 KR ∗ At c arg7 harg7 VT ∗ At c sA hsA a ∗ At c sB hsB b ∗ At c pA hpA p ∗ At c pB hpB q ∗ At c arg13 harg13 (put (rAccR i hi') (accRight v0 (tVT VT j hj') (ld (rAccR i hi') (put (rAccL i hi') (accLeft v0 (tVT VT j hj') (ld (rAccL i hi') A) (ld rCorner p)) A)) (ld rRight p)) (put (rAccL i hi') (accLeft v0 (tVT VT j hj') (ld (rAccL i hi') A) (ld rCorner p)) A)))) := by
  rw [← word_eq arg3 harg3 T3 off hoff] at ej
  rw [← word_eq arg2 harg2 T2 off hoff] at ei
  subst ej ei
  unfold At Tb tVT
  rw [← writes_unread2, ← readAt_unread arg13 harg13 (put _ _ _), ← writes_unread, ← readAt_unread arg7 harg7 VT, ← readAt_unread arg13 harg13 A, ← readAt_unread pA hpA p rCorner, ← readAt_unread pA hpA p rRight]
  unfold valuesD
  iintro ⟨H2, H3, H4, H5, H6, H7, HA, HB, PA, PB, HX⟩
  sl_exec
  sl_step
  sl_close

include ej ei in
/-- A full pair's update of its accumulator tile. -/
theorem valuesB_wp :
    iprop(Tb c arg2 harg2 T2 ∗ Tb c arg3 harg3 T3 ∗ At c arg4 harg4 Q ∗ At c arg5 harg5 KN ∗ At c arg6 harg6 KR ∗ At c arg7 harg7 VT ∗ At c sA hsA a ∗ At c sB hsB b ∗ At c pA hpA p ∗ At c pB hpB q ∗ At c arg13 harg13 A)
      ⊢ wp frame (wpE (defs₀ (F := F)) 𝒱 (c : Thread nD τ) bd) E (valuesB (F := F) arg2 arg3 arg7 pA arg13 v0 off hoff) (fun _ => iprop(Tb c arg2 harg2 T2 ∗ Tb c arg3 harg3 T3 ∗ At c arg4 harg4 Q ∗ At c arg5 harg5 KN ∗ At c arg6 harg6 KR ∗ At c arg7 harg7 VT ∗ At c sA hsA a ∗ At c sB hsB b ∗ At c pA hpA p ∗ At c pB hpB q ∗ At c arg13 harg13 (put (rAcc i hi'') (accAll v0 (tVT VT j hj') (ld (rAcc i hi'') A) (ld rAll p)) A))) := by
  rw [← word_eq arg3 harg3 T3 off hoff] at ej
  rw [← word_eq arg2 harg2 T2 off hoff] at ei
  subst ej ei
  unfold At Tb tVT
  rw [← writes_unread, ← readAt_unread arg7 harg7 VT, ← readAt_unread arg13 harg13 A, ← readAt_unread pA hpA p]
  unfold valuesB
  iintro ⟨H2, H3, H4, H5, H6, H7, HA, HB, PA, PB, HX⟩
  sl_exec
  sl_step
  sl_close

end

end Cert.KernelIdeal.Att

end
-- ==== Proof.KRun.lean ====
/-
  The attention kernel's body as a function of the buffers' values: every step takes a state to a state, the loop folds
  them, and the sixteen output tiles read the last accumulator.
-/
module

public import proofs.«01_k».proof.Proof.KWp

@[expose] public section

set_option synthInstance.maxSize 4096
set_option maxRecDepth 8192

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-! ## The side conditions hold of every word below 16 -/

theorem chk_of_lt {P : BitVec 32 → Prop} (h : ∀ n : Fin 16, P (BitVec.ofNat 32 n.val)) (w : BitVec 32) (hw : w.toNat < 16) : P w := by
  have := h ⟨w.toNat, hw⟩
  rwa [BitVec.ofNat_toNat, BitVec.setWidth_eq] at this

theorem chk5_of (w : BitVec 32) (hw : w.toNat < 16) : k0_chk5 w := chk_of_lt (by decide +kernel) w hw
theorem chk6_of (w : BitVec 32) (hw : w.toNat < 16) : k0_chk6 w := chk_of_lt (by decide +kernel) w hw
theorem chk7_of (w : BitVec 32) (hw : w.toNat < 16) : k0_chk7 w := chk_of_lt (by decide +kernel) w hw
theorem chk8_of (w : BitVec 32) (hw : w.toNat < 16) : k0_chk8 w := chk_of_lt (by decide +kernel) w hw
theorem chk24_of (w : BitVec 32) (hw : w.toNat < 16) : k0_chk24 w := chk_of_lt (by decide +kernel) w hw

/-! ## The state and its steps -/

/-- The scratch buffers by the ROLE they play in the next step: the scores it overwrites (`a`), the scores it takes the
    exponentials of (`b`), the weights it applies (`p`), the weights it overwrites (`q`), and the accumulator. -/
structure St (F : FTy → Type) where
  a : S512x512.Idx → F .f32
  b : S512x512.Idx → F .f32
  p : S512x512.Idx → F .bf16
  q : S512x512.Idx → F .bf16
  A : S16x144x512.Idx → F .f32

/-- What a launch's grid point reads: the two tables, and its blocks of the queries, keys and values. -/
structure Ins (F : FTy → Type) where
  T2 : S138.Idx → BitVec 32
  T3 : S138.Idx → BitVec 32
  lt2 : ∀ x, (T2 x).toNat < 16
  lt3 : ∀ x, (T3 x).toNat < 16
  Q : S1x1x16x256x512.Idx → F .bf16
  KN : S1x1x8192x128.Idx → F .bf16
  KR : S1x8192x128.Idx → F .bf16
  VT : S1x1x16x128x512.Idx → F .bf16

/-- The table words at an offset. -/
abbrev Ins.wi (I : Ins F) (off : Fin 1 → Nat) (hoff : ∀ a, off a + S1.size a ≤ S138.size a) : BitVec 32 := word (F := F) I.T2 off hoff
abbrev Ins.wj (I : Ins F) (off : Fin 1 → Nat) (hoff : ∀ a, off a + S1.size a ≤ S138.size a) : BitVec 32 := word (F := F) I.T3 off hoff

/-- The scores stage. -/
def scF (I : Ins F) (d : Bool) (off : Fin 1 → Nat) (hoff : ∀ a, off a + S1.size a ≤ S138.size a) (a : S512x512.Idx → F .f32) : S512x512.Idx → F .f32 :=
  bif d then
    put rLow (scoreLow (tKN I.KN (I.wj off hoff) (chk5_of _ (I.lt3 _))) (tKR I.KR (I.wj off hoff) (chk5_of _ (I.lt3 _))) (tQ I.Q (I.wi off hoff) (chk6_of _ (I.lt2 _))))
      (put rTop (scoreTop (tKN I.KN (I.wj off hoff) (chk5_of _ (I.lt3 _))) (tKR I.KR (I.wj off hoff) (chk5_of _ (I.lt3 _))) (tQ I.Q (I.wi off hoff) (chk6_of _ (I.lt2 _)))) a)
  else
    put rAll (scoreAll (tKN I.KN (I.wj off hoff) (chk5_of _ (I.lt3 _))) (tKR I.KR (I.wj off hoff) (chk5_of _ (I.lt3 _))) (tQ I.Q (I.wi off hoff) (chk6_of _ (I.lt2 _)))) a

/-- The exponentials stage. -/
def prF (d : Bool) (b : S512x512.Idx → F .f32) (q : S512x512.Idx → F .bf16) : S512x512.Idx → F .bf16 :=
  bif d then put rLow (expLow (F := F) (ld rLow b)) (put rTop (expTop (F := F) (ld rTop b)) q) else put rAll (expAll (F := F) (ld rAll b)) q

/-- The values stage. -/
def vaF (I : Ins F) (d : Bool) (off : Fin 1 → Nat) (hoff : ∀ a, off a + S1.size a ≤ S138.size a) (p : S512x512.Idx → F .bf16) (A : S16x144x512.Idx → F .f32) : S16x144x512.Idx → F .f32 :=
  bif d then
    put (rAccR (I.wi off hoff) (chk8_of _ (I.lt2 _)))
      (accRight ones (tVT I.VT (I.wj off hoff) (chk7_of _ (I.lt3 _)))
        (ld (rAccR (I.wi off hoff) (chk8_of _ (I.lt2 _)))
          (put (rAccL (I.wi off hoff) (chk8_of _ (I.lt2 _))) (accLeft ones (tVT I.VT (I.wj off hoff) (chk7_of _ (I.lt3 _))) (ld (rAccL (I.wi off hoff) (chk8_of _ (I.lt2 _))) A) (ld rCorner p)) A))
        (ld rRight p))
      (put (rAccL (I.wi off hoff) (chk8_of _ (I.lt2 _))) (accLeft ones (tVT I.VT (I.wj off hoff) (chk7_of _ (I.lt3 _))) (ld (rAccL (I.wi off hoff) (chk8_of _ (I.lt2 _))) A) (ld rCorner p)) A)
  else
    put (rAcc (I.wi off hoff) (chk24_of _ (I.lt2 _))) (accAll ones (tVT I.VT (I.wj off hoff) (chk7_of _ (I.lt3 _))) (ld (rAcc (I.wi off hoff) (chk24_of _ (I.lt2 _))) A) (ld rAll p)) A

/-- One step: the roles of the two score buffers, and of the two weight buffers, swap. -/
def stepF (I : Ins F) (k : Fin k0_t1_loop.trips) (s : Fin 34) (σ : St F) : St F where
  a := σ.b
  b := scF I (isDiag (s.val + 2)) (posS k s) (posS_inb k s) σ.a
  p := prF (isDiag (s.val + 1)) σ.b σ.q
  q := σ.p
  A := vaF I (isDiag s.val) (posV k s) (posV_inb k s) σ.p σ.A

/-- One trip. -/
def tripF (I : Ins F) (k : Fin k0_t1_loop.trips) (σ : St F) : St F := subs.foldl (fun σ s => stepF I k s σ) σ

/-- The trips before `n`. -/
def tripsF (I : Ins F) (σ : St F) : ℕ → St F
  | 0 => σ
  | n + 1 => if h : n < k0_t1_loop.trips then tripF I ⟨n, h⟩ (tripsF I σ n) else tripsF I σ n

/-- The accumulator's whole rectangle. -/
abbrev rClear : Rect S16x144x512 := Rect.unit (s := S16x144x512) ![0, 0, 0] S16x144x512.size inb_S16x144x512_S16x144x512_0_0_0

/-- The state the loop starts from, over whatever the scratch buffers held. -/
def startF (I : Ins F) (σ : St F) : St F where
  a := scF I true ![0] inb_S138_S1_0 σ.a
  b := scF I true ![1] inb_S138_S1_1 σ.b
  p := prF true (scF I true ![0] inb_S138_S1_0 σ.a) σ.p
  q := σ.q
  A := put rClear (shapeCast S16x144x512 (broadcast S16x144x512 (Scalar.ofBits .f32 0x00000000#32)) shapeCasts_S16x144x512_S16x144x512) σ.A

/-- One output tile. -/
def outF (A : S16x144x512.Idx → F .f32) (n : Fin 16) (O : S1x8192x128.Idx → F .bf16) : S1x8192x128.Idx → F .bf16 :=
  put (Rect.unit (s := S1x8192x128) ![0, 512 * n.val, 0] S1x512x128.size (inbO n))
    (outVal (F := F) (ld (Rect.unit (s := S16x144x512) ![n.val, 0, 0] S1x128x512.size (inbA n)) A) (ld (Rect.unit (s := S16x144x512) ![n.val, 128, 0] S1x1x512.size (inbL n)) A)) O

/-! ## The body over the state -/

/-- The buffers the function works on. -/
structure Bufs where
  arg2 : Memref sig .tc .smem S138 .i32
  harg2 : arg2.IsWhole
  arg3 : Memref sig .tc .smem S138 .i32
  harg3 : arg3.IsWhole
  arg4 : Memref sig .tc .vmem S1x1x16x256x512 .bf16
  harg4 : arg4.IsWhole
  arg5 : Memref sig .tc .vmem S1x1x8192x128 .bf16
  harg5 : arg5.IsWhole
  arg6 : Memref sig .tc .vmem S1x8192x128 .bf16
  harg6 : arg6.IsWhole
  arg7 : Memref sig .tc .vmem S1x1x16x128x512 .bf16
  harg7 : arg7.IsWhole
  arg8 : Memref sig .tc .vmem S1x8192x128 .bf16
  harg8 : arg8.IsWhole
  arg9 : Memref sig .tc .vmem S512x512 .f32
  harg9 : arg9.IsWhole
  arg10 : Memref sig .tc .vmem S512x512 .f32
  harg10 : arg10.IsWhole
  arg11 : Memref sig .tc .vmem S512x512 .bf16
  harg11 : arg11.IsWhole
  arg12 : Memref sig .tc .vmem S512x512 .bf16
  harg12 : arg12.IsWhole
  arg13 : Memref sig .tc .vmem S16x144x512 .f32
  harg13 : arg13.IsWhole

section
variable (𝒱 : Variants) (c : Dev nD) (bd : Option 𝒱.V) (E : Set ℕ) (B : Bufs) (I : Ins F)

/-- Everything held but the output: the read buffers at the inputs, the scratch by slot. -/
abbrev Held (s0 s1 : S512x512.Idx → F .f32) (p0 p1 : S512x512.Idx → F .bf16) (A : S16x144x512.Idx → F .f32) : sProp 𝕄G :=
  iprop(Tb c B.arg2 B.harg2 I.T2 ∗ Tb c B.arg3 B.harg3 I.T3 ∗ At c B.arg4 B.harg4 I.Q ∗ At c B.arg5 B.harg5 I.KN ∗ At c B.arg6 B.harg6 I.KR ∗ At c B.arg7 B.harg7 I.VT ∗ At c B.arg9 B.harg9 s0 ∗ At c B.arg10 B.harg10 s1 ∗ At c B.arg11 B.harg11 p0 ∗ At c B.arg12 B.harg12 p1 ∗ At c B.arg13 B.harg13 A)

/-- The same by role: at an odd step the slots are swapped. -/
abbrev HeldAt (odd : Bool) (σ : St F) : sProp 𝕄G :=
  Held c B I (bif odd then σ.b else σ.a) (bif odd then σ.a else σ.b) (bif odd then σ.q else σ.p) (bif odd then σ.p else σ.q) σ.A

/-- The same resources with the slots listed the other way round. -/
abbrev HeldSw (s0 s1 : S512x512.Idx → F .f32) (p0 p1 : S512x512.Idx → F .bf16) (A : S16x144x512.Idx → F .f32) : sProp 𝕄G :=
  iprop(Tb c B.arg2 B.harg2 I.T2 ∗ Tb c B.arg3 B.harg3 I.T3 ∗ At c B.arg4 B.harg4 I.Q ∗ At c B.arg5 B.harg5 I.KN ∗ At c B.arg6 B.harg6 I.KR ∗ At c B.arg7 B.harg7 I.VT ∗ At c B.arg10 B.harg10 s1 ∗ At c B.arg9 B.harg9 s0 ∗ At c B.arg12 B.harg12 p1 ∗ At c B.arg11 B.harg11 p0 ∗ At c B.arg13 B.harg13 A)

theorem held_sw (s0 s1 : S512x512.Idx → F .f32) (p0 p1 : S512x512.Idx → F .bf16) (A : S16x144x512.Idx → F .f32) :
    Held c B I s0 s1 p0 p1 A ⊢ HeldSw c B I s0 s1 p0 p1 A := by
  iintro ⟨H2, H3, H4, H5, H6, H7, HA, HB, PA, PB, HX⟩
  isplitl [H2]; · iexact H2
  isplitl [H3]; · iexact H3
  isplitl [H4]; · iexact H4
  isplitl [H5]; · iexact H5
  isplitl [H6]; · iexact H6
  isplitl [H7]; · iexact H7
  isplitl [HB]; · iexact HB
  isplitl [HA]; · iexact HA
  isplitl [PB]; · iexact PB
  isplitl [PA]; · iexact PA
  iexact HX

theorem sw_held (s0 s1 : S512x512.Idx → F .f32) (p0 p1 : S512x512.Idx → F .bf16) (A : S16x144x512.Idx → F .f32) :
    HeldSw c B I s0 s1 p0 p1 A ⊢ Held c B I s0 s1 p0 p1 A := by
  iintro ⟨H2, H3, H4, H5, H6, H7, HB, HA, PB, PA, HX⟩
  isplitl [H2]; · iexact H2
  isplitl [H3]; · iexact H3
  isplitl [H4]; · iexact H4
  isplitl [H5]; · iexact H5
  isplitl [H6]; · iexact H6
  isplitl [H7]; · iexact H7
  isplitl [HA]; · iexact HA
  isplitl [HB]; · iexact HB
  isplitl [PA]; · iexact PA
  isplitl [PB]; · iexact PB
  iexact HX

/-- One program, then the next. -/
theorem seq_wp {p : Pr F Unit} {k : Unit → Pr F Unit} {P R : sProp 𝕄G} {Ψ : Unit → sProp 𝕄G}
    (h : P ⊢ wp frame (wpE (defs₀ (F := F)) 𝒱 (c : Thread nD τ) bd) E p (fun _ => R))
    (h' : R ⊢ wp frame (wpE (defs₀ (F := F)) 𝒱 (c : Thread nD τ) bd) E (k ()) Ψ) :
    P ⊢ wp frame (wpE (defs₀ (F := F)) 𝒱 (c : Thread nD τ) bd) E (p >>= k) Ψ := by
  rw [wp_bind]
  exact h.trans (wp_mono _ _ _ (fun _ => h'))

section
variable (sA : Memref sig .tc .vmem S512x512 .f32) (hsA : sA.IsWhole) (sB : Memref sig .tc .vmem S512x512 .f32) (hsB : sB.IsWhole) (pA : Memref sig .tc .vmem S512x512 .bf16) (hpA : pA.IsWhole) (pB : Memref sig .tc .vmem S512x512 .bf16) (hpB : pB.IsWhole)

/-- Everything held but the output, the scratch buffers named by their roles. -/
abbrev HeldR (a b : S512x512.Idx → F .f32) (p q : S512x512.Idx → F .bf16) (A : S16x144x512.Idx → F .f32) : sProp 𝕄G :=
  iprop(Tb c B.arg2 B.harg2 I.T2 ∗ Tb c B.arg3 B.harg3 I.T3 ∗ At c B.arg4 B.harg4 I.Q ∗ At c B.arg5 B.harg5 I.KN ∗ At c B.arg6 B.harg6 I.KR ∗ At c B.arg7 B.harg7 I.VT ∗ At c sA hsA a ∗ At c sB hsB b ∗ At c pA hpA p ∗ At c pB hpB q ∗ At c B.arg13 B.harg13 A)

theorem scF_wp (d : Bool) (off : Fin 1 → Nat) (hoff : ∀ a, off a + S1.size a ≤ S138.size a) (a b : S512x512.Idx → F .f32) (p q : S512x512.Idx → F .bf16) (A : S16x144x512.Idx → F .f32) :
    HeldR c B I sA hsA sB hsB pA hpA pB hpB a b p q A ⊢ wp frame (wpE (defs₀ (F := F)) 𝒱 (c : Thread nD τ) bd) E
      (bif d then scoresD (F := F) B.arg2 B.arg3 B.arg4 B.arg5 B.arg6 sA off hoff else scoresB (F := F) B.arg2 B.arg3 B.arg4 B.arg5 B.arg6 sA off hoff)
      (fun _ => HeldR c B I sA hsA sB hsB pA hpA pB hpB (scF I d off hoff a) b p q A) := by
  cases d
  · unfold scF
    rw [cond_false, cond_false]
    exact scoresB_wp 𝒱 c bd E B.arg2 B.harg2 B.arg3 B.harg3 B.arg4 B.harg4 B.arg5 B.harg5 B.arg6 B.harg6 B.arg7 B.harg7  sA hsA sB hsB pA hpA pB hpB B.arg13 B.harg13 I.T2 I.T3 I.Q I.KN I.KR I.VT a b p q A off hoff _ _ rfl rfl _ _
  · unfold scF
    rw [cond_true, cond_true]
    exact scoresD_wp 𝒱 c bd E B.arg2 B.harg2 B.arg3 B.harg3 B.arg4 B.harg4 B.arg5 B.harg5 B.arg6 B.harg6 B.arg7 B.harg7 sA hsA sB hsB pA hpA pB hpB B.arg13 B.harg13 I.T2 I.T3 I.Q I.KN I.KR I.VT a b p q A off hoff _ _ rfl rfl _ _

theorem prF_wp (d : Bool) (a b : S512x512.Idx → F .f32) (p q : S512x512.Idx → F .bf16) (A : S16x144x512.Idx → F .f32) :
    HeldR c B I sA hsA sB hsB pA hpA pB hpB a b p q A ⊢ wp frame (wpE (defs₀ (F := F)) 𝒱 (c : Thread nD τ) bd) E
      (bif d then probsD (F := F) sB pB hpB else probsB (F := F) sB pB hpB)
      (fun _ => HeldR c B I sA hsA sB hsB pA hpA pB hpB a b p (prF d b q) A) := by
  cases d
  · unfold prF
    rw [cond_false, cond_false]
    exact probsB_wp 𝒱 c bd E B.arg2 B.harg2 B.arg3 B.harg3 B.arg4 B.harg4 B.arg5 B.harg5 B.arg6 B.harg6 B.arg7 B.harg7 sA hsA sB hsB pA hpA pB hpB B.arg13 B.harg13 I.T2 I.T3 I.Q I.KN I.KR I.VT a b p q A
  · unfold prF
    rw [cond_true, cond_true]
    exact probsD_wp 𝒱 c bd E B.arg2 B.harg2 B.arg3 B.harg3 B.arg4 B.harg4 B.arg5 B.harg5 B.arg6 B.harg6 B.arg7 B.harg7 sA hsA sB hsB pA hpA pB hpB B.arg13 B.harg13 I.T2 I.T3 I.Q I.KN I.KR I.VT a b p q A

theorem vaF_wp (d : Bool) (off : Fin 1 → Nat) (hoff : ∀ a, off a + S1.size a ≤ S138.size a) (a b : S512x512.Idx → F .f32) (p q : S512x512.Idx → F .bf16) (A : S16x144x512.Idx → F .f32) :
    HeldR c B I sA hsA sB hsB pA hpA pB hpB a b p q A ⊢ wp frame (wpE (defs₀ (F := F)) 𝒱 (c : Thread nD τ) bd) E
      (bif d then valuesD (F := F) B.arg2 B.arg3 B.arg7 pA B.arg13 ones off hoff else valuesB (F := F) B.arg2 B.arg3 B.arg7 pA B.arg13 ones off hoff)
      (fun _ => HeldR c B I sA hsA sB hsB pA hpA pB hpB a b p q (vaF I d off hoff p A)) := by
  cases d
  · unfold vaF
    rw [cond_false, cond_false]
    exact valuesB_wp 𝒱 c bd E B.arg2 B.harg2 B.arg3 B.harg3 B.arg4 B.harg4 B.arg5 B.harg5 B.arg6 B.harg6 B.arg7 B.harg7 sA hsA sB hsB pA hpA pB hpB B.arg13 B.harg13 I.T2 I.T3 I.Q I.KN I.KR I.VT a b p q A ones off hoff _ _ rfl rfl _ _
  · unfold vaF
    rw [cond_true, cond_true]
    exact valuesD_wp 𝒱 c bd E B.arg2 B.harg2 B.arg3 B.harg3 B.arg4 B.harg4 B.arg5 B.harg5 B.arg6 B.harg6 B.arg7 B.harg7 sA hsA sB hsB pA hpA pB hpB B.arg13 B.harg13 I.T2 I.T3 I.Q I.KN I.KR I.VT a b p q A ones off hoff _ _ rfl rfl _ _

/-- A step over roles. -/
theorem stepP_wp (d2 d1 d0 : Bool) (k : Fin k0_t1_loop.trips) (s : Fin 34) (a b : S512x512.Idx → F .f32) (p q : S512x512.Idx → F .bf16) (A : S16x144x512.Idx → F .f32) :
    HeldR c B I sA hsA sB hsB pA hpA pB hpB a b p q A ⊢ wp frame (wpE (defs₀ (F := F)) 𝒱 (c : Thread nD τ) bd) E
      (stepP (F := F) B.arg2 B.arg3 B.arg4 B.arg5 B.arg6 B.arg7 B.arg13 ones sA sB pA hpA pB hpB d2 d1 d0 k s)
      (fun _ => HeldR c B I sA hsA sB hsB pA hpA pB hpB (scF I d2 (posS k s) (posS_inb k s) a) b p (prF d1 b q) (vaF I d0 (posV k s) (posV_inb k s) p A)) := by
  unfold stepP
  exact seq_wp 𝒱 c bd E (scF_wp 𝒱 c bd E B I sA hsA sB hsB pA hpA pB hpB d2 (posS k s) (posS_inb k s) a b p q A)
    (seq_wp 𝒱 c bd E (prF_wp 𝒱 c bd E B I sA hsA sB hsB pA hpA pB hpB d1 _ b p q A)
      (vaF_wp 𝒱 c bd E B I sA hsA sB hsB pA hpA pB hpB d0 (posV k s) (posV_inb k s) _ b p _ A))

end

/-- A step at a position of parity `odd`. -/
theorem step_wp (k : Fin k0_t1_loop.trips) (s : Fin 34) (odd : Bool) (hs : Nat.beq (s.val % 2) 0 = !odd) (σ : St F) :
    HeldAt c B I odd σ ⊢ wp frame (wpE (defs₀ (F := F)) 𝒱 (c : Thread nD τ) bd) E
      (step (F := F) B.arg2 B.arg3 B.arg4 B.arg5 B.arg6 B.arg7 B.arg9 B.arg10 B.arg11 B.harg11 B.arg12 B.harg12 B.arg13 ones k s)
      (fun _ => HeldAt c B I (!odd) (stepF I k s σ)) := by
  unfold step
  rw [hs]
  cases odd
  · exact stepP_wp 𝒱 c bd E B I B.arg9 B.harg9 B.arg10 B.harg10 B.arg11 B.harg11 B.arg12 B.harg12 _ _ _ k s σ.a σ.b σ.p σ.q σ.A
  · exact (held_sw c B I σ.b σ.a σ.q σ.p σ.A).trans ((stepP_wp 𝒱 c bd E B I B.arg10 B.harg10 B.arg9 B.harg9 B.arg12 B.harg12 B.arg11 B.harg11 _ _ _ k s σ.a σ.b σ.p σ.q σ.A).trans
      (wp_mono _ _ _ (fun _ => sw_held c B I _ _ _ _ _)))

/-- Whether the positions of a list alternate, the first of parity `odd`, -/
def alt : Bool → List (Fin 34) → Bool
  | _, [] => true
  | odd, s :: l => (Nat.beq (s.val % 2) 0 == !odd) && alt (!odd) l
/-- and the parity after it. -/
def altEnd : Bool → List (Fin 34) → Bool
  | odd, [] => odd
  | odd, _ :: l => altEnd (!odd) l

/-- The steps of a list fold the state. -/
theorem steps_wp (k : Fin k0_t1_loop.trips) : ∀ (l : List (Fin 34)) (odd : Bool), alt odd l = true → ∀ (σ : St F),
    HeldAt c B I odd σ ⊢ wp frame (wpE (defs₀ (F := F)) 𝒱 (c : Thread nD τ) bd) E
      (steps (F := F) B.arg2 B.arg3 B.arg4 B.arg5 B.arg6 B.arg7 B.arg9 B.arg10 B.arg11 B.harg11 B.arg12 B.harg12 B.arg13 ones k l)
      (fun _ => HeldAt c B I (altEnd odd l) (l.foldl (fun σ s => stepF I k s σ) σ))
  | [], odd, _, σ => by
    unfold steps
    rw [wp_pure]
    iintro H
    imodintro
    iexact H
  | s :: l, odd, h, σ => by
    unfold steps
    have h' := h
    unfold alt at h'
    rw [Bool.and_eq_true] at h'
    exact seq_wp 𝒱 c bd E (step_wp 𝒱 c bd E B I k s odd (eq_of_beq h'.1) σ) (steps_wp k l (!odd) h'.2 (stepF I k s σ))

/-- One trip. -/
theorem trip_wp (k : Fin k0_t1_loop.trips) (σ : St F) :
    HeldAt c B I false σ ⊢ wp frame (wpE (defs₀ (F := F)) 𝒱 (c : Thread nD τ) bd) E
      (steps (F := F) B.arg2 B.arg3 B.arg4 B.arg5 B.arg6 B.arg7 B.arg9 B.arg10 B.arg11 B.harg11 B.arg12 B.harg12 B.arg13 ones k subs)
      (fun _ => HeldAt c B I false (tripF I k σ)) := by
  have h := steps_wp 𝒱 c bd E B I k subs false (by decide) σ
  have e : altEnd false subs = false := by decide
  rw [e] at h
  unfold tripF
  exact h

/-- The loop. -/
theorem loop_wp (σ : St F) :
    HeldAt c B I false σ ⊢ wp frame (wpE (defs₀ (F := F)) 𝒱 (c : Thread nD τ) bd) E
      (Scf.Loop.for k0_t1_loop k0_t1_ok () fun k _ => steps (F := F) B.arg2 B.arg3 B.arg4 B.arg5 B.arg6 B.arg7 B.arg9 B.arg10 B.arg11 B.harg11 B.arg12 B.harg12 B.arg13 ones k subs)
      (fun _ => HeldAt c B I false (tripsF I σ k0_t1_loop.trips)) := by
  have h := Scf.wp_for frame (wpE (defs₀ (F := F)) 𝒱 (c : Thread nD τ) bd) E k0_t1_loop.lb k0_t1_loop.ub k0_t1_loop.st k0_t1_ok ()
    (fun k _ => steps (F := F) B.arg2 B.arg3 B.arg4 B.arg5 B.arg6 B.arg7 B.arg9 B.arg10 B.arg11 B.harg11 B.arg12 B.harg12 B.arg13 ones k subs)
    (fun n _ => HeldAt c B I false (tripsF I σ n))
    (fun k _ => by
      have e : tripsF I σ (k.val + 1) = tripF I k (tripsF I σ k.val) := dif_pos k.isLt
      rw [e]
      exact trip_wp 𝒱 c bd E B I k _)
    (Q := fun _ => HeldAt c B I false (tripsF I σ k0_t1_loop.trips))
  refine BIBase.Entails.trans ?_ h
  iintro H
  isplitl [H]
  · iexact H
  · iintro %_ H
    iexact H

/-- The accumulator cleared. -/
theorem clear_wp (s0 s1 : S512x512.Idx → F .f32) (p0 p1 : S512x512.Idx → F .bf16) (A : S16x144x512.Idx → F .f32) :
    Held c B I s0 s1 p0 p1 A ⊢ wp frame (wpE (defs₀ (F := F)) 𝒱 (c : Thread nD τ) bd) E (clear (F := F) B.arg13)
      (fun _ => Held c B I s0 s1 p0 p1 (put rClear (shapeCast S16x144x512 (broadcast S16x144x512 (Scalar.ofBits .f32 0x00000000#32)) shapeCasts_S16x144x512_S16x144x512) A)) := by
  unfold Held At
  rw [← writes_unread]
  unfold clear
  iintro ⟨H2, H3, H4, H5, H6, H7, HA, HB, PA, PB, HX⟩
  sl_exec
  sl_step
  sl_close

/-- The stages before the loop. -/
theorem start_wp {k : Unit → Pr F Unit} {Ψ : Unit → sProp 𝕄G} (σ : St F)
    (h : HeldAt c B I false (startF I σ) ⊢ wp frame (wpE (defs₀ (F := F)) 𝒱 (c : Thread nD τ) bd) E (k ()) Ψ) :
    HeldAt c B I false σ ⊢ wp frame (wpE (defs₀ (F := F)) 𝒱 (c : Thread nD τ) bd) E
      (clear B.arg13 >>= fun _ =>
        scoresD B.arg2 B.arg3 B.arg4 B.arg5 B.arg6 B.arg9 ![0] inb_S138_S1_0 >>= fun _ =>
        scoresD B.arg2 B.arg3 B.arg4 B.arg5 B.arg6 B.arg10 ![1] inb_S138_S1_1 >>= fun _ =>
        probsD B.arg9 B.arg11 B.harg11 >>= k) Ψ := by
  refine seq_wp 𝒱 c bd E (clear_wp 𝒱 c bd E B I σ.a σ.b σ.p σ.q σ.A) ?_
  refine seq_wp 𝒱 c bd E (scF_wp 𝒱 c bd E B I B.arg9 B.harg9 B.arg10 B.harg10 B.arg11 B.harg11 B.arg12 B.harg12 true ![0] inb_S138_S1_0 σ.a σ.b σ.p σ.q _) ?_
  refine (held_sw c B I _ _ _ _ _).trans ?_
  refine seq_wp 𝒱 c bd E (scF_wp 𝒱 c bd E B I B.arg10 B.harg10 B.arg9 B.harg9 B.arg12 B.harg12 B.arg11 B.harg11 true ![1] inb_S138_S1_1 σ.b _ σ.q σ.p _) ?_
  refine seq_wp 𝒱 c bd E (prF_wp 𝒱 c bd E B I B.arg10 B.harg10 B.arg9 B.harg9 B.arg12 B.harg12 B.arg11 B.harg11 true _ _ σ.q σ.p _) ?_
  exact (sw_held c B I _ _ _ _ _).trans h

/-- One output tile. -/
theorem outTile_wp (n : Fin 16) (A : S16x144x512.Idx → F .f32) (O : S1x8192x128.Idx → F .bf16) :
    iprop(At c B.arg13 B.harg13 A ∗ At c B.arg8 B.harg8 O) ⊢ wp frame (wpE (defs₀ (F := F)) 𝒱 (c : Thread nD τ) bd) E
      (outTile (F := F) B.arg8 B.harg8 B.arg13 n) (fun _ => iprop(At c B.arg13 B.harg13 A ∗ At c B.arg8 B.harg8 (outF A n O))) := by
  unfold outF At
  rw [← writes_unread, ← readAt_unread B.arg13 B.harg13 A, ← readAt_unread B.arg13 B.harg13 A]
  unfold outTile
  iintro ⟨HX, HO⟩
  sl_exec
  sl_step
  sl_close

/-- The output tiles of a list. -/
theorem outTiles_wp (A : S16x144x512.Idx → F .f32) : ∀ (l : List (Fin 16)) (O : S1x8192x128.Idx → F .bf16),
    iprop(At c B.arg13 B.harg13 A ∗ At c B.arg8 B.harg8 O) ⊢ wp frame (wpE (defs₀ (F := F)) 𝒱 (c : Thread nD τ) bd) E
      (outTiles (F := F) B.arg8 B.harg8 B.arg13 l) (fun _ => iprop(At c B.arg13 B.harg13 A ∗ At c B.arg8 B.harg8 (l.foldl (fun O n => outF A n O) O)))
  | [], O => by
    unfold outTiles
    rw [wp_pure]
    iintro H
    imodintro
    iexact H
  | n :: l, O => by
    unfold outTiles
    rw [List.foldl_cons]
    have h := outTiles_wp A l (outF A n O)
    have h1 := outTile_wp 𝒱 c bd E B n A O
    generalize outF A n O = O' at h h1 ⊢
    exact seq_wp 𝒱 c bd E h1 h

/-- The output block of a grid point, over whatever the scratch and the block held. -/
def resultF (σ : St F) (O : S1x8192x128.Idx → F .bf16) : S1x8192x128.Idx → F .bf16 :=
  [0, 1, 2, 3, 4, 5, 6, 7, 8, 9, 10, 11, 12, 13, 14, 15].foldl (fun O n => outF (tripsF I (startF I σ) k0_t1_loop.trips).A n O) O

/-- The whole function: from the buffers at any contents to the output block at the function of the inputs. -/
theorem whole_wp (σ : St F) (O : S1x8192x128.Idx → F .bf16) :
    iprop(HeldAt c B I false σ ∗ At c B.arg8 B.harg8 O) ⊢ wp frame (wpE (defs₀ (F := F)) 𝒱 (c : Thread nD τ) bd) E
      (whole (F := F) B.arg2 B.arg3 B.arg4 B.arg5 B.arg6 B.arg7 B.arg8 B.harg8 B.arg9 B.arg10 B.arg11 B.harg11 B.arg12 B.harg12 B.arg13)
      (fun _ => iprop(HeldAt c B I false (tripsF I (startF I σ) k0_t1_loop.trips) ∗ At c B.arg8 B.harg8 (resultF I σ O))) := by
  have hmain : HeldAt c B I false σ ⊢ wp frame (wpE (defs₀ (F := F)) 𝒱 (c : Thread nD τ) bd) E
      (clear B.arg13 >>= fun _ =>
        scoresD B.arg2 B.arg3 B.arg4 B.arg5 B.arg6 B.arg9 ![0] inb_S138_S1_0 >>= fun _ =>
        scoresD B.arg2 B.arg3 B.arg4 B.arg5 B.arg6 B.arg10 ![1] inb_S138_S1_1 >>= fun _ =>
        probsD B.arg9 B.arg11 B.harg11 >>= fun _ =>
        Scf.Loop.for k0_t1_loop k0_t1_ok () fun k _ => steps (F := F) B.arg2 B.arg3 B.arg4 B.arg5 B.arg6 B.arg7 B.arg9 B.arg10 B.arg11 B.harg11 B.arg12 B.harg12 B.arg13 ones k subs)
      (fun _ => HeldAt c B I false (tripsF I (startF I σ) k0_t1_loop.trips)) :=
    start_wp 𝒱 c bd E B I (k := fun _ => Scf.Loop.for k0_t1_loop k0_t1_ok () fun k _ => steps (F := F) B.arg2 B.arg3 B.arg4 B.arg5 B.arg6 B.arg7 B.arg9 B.arg10 B.arg11 B.harg11 B.arg12 B.harg12 B.arg13 ones k subs)
      (Ψ := fun _ => HeldAt c B I false (tripsF I (startF I σ) k0_t1_loop.trips)) σ (loop_wp 𝒱 c bd E B I (startF I σ))
  unfold whole
  have e : ∀ (k : Unit → Pr F Unit), (clear B.arg13 >>= fun _ =>
        scoresD B.arg2 B.arg3 B.arg4 B.arg5 B.arg6 B.arg9 ![0] inb_S138_S1_0 >>= fun _ =>
        scoresD B.arg2 B.arg3 B.arg4 B.arg5 B.arg6 B.arg10 ![1] inb_S138_S1_1 >>= fun _ =>
        probsD B.arg9 B.arg11 B.harg11 >>= fun _ =>
        (Scf.Loop.for k0_t1_loop k0_t1_ok () fun k _ => steps (F := F) B.arg2 B.arg3 B.arg4 B.arg5 B.arg6 B.arg7 B.arg9 B.arg10 B.arg11 B.harg11 B.arg12 B.harg12 B.arg13 ones k subs) >>= k)
      = (clear B.arg13 >>= fun _ =>
        scoresD B.arg2 B.arg3 B.arg4 B.arg5 B.arg6 B.arg9 ![0] inb_S138_S1_0 >>= fun _ =>
        scoresD B.arg2 B.arg3 B.arg4 B.arg5 B.arg6 B.arg10 ![1] inb_S138_S1_1 >>= fun _ =>
        probsD B.arg9 B.arg11 B.harg11 >>= fun _ =>
        Scf.Loop.for k0_t1_loop k0_t1_ok () fun k _ => steps (F := F) B.arg2 B.arg3 B.arg4 B.arg5 B.arg6 B.arg7 B.arg9 B.arg10 B.arg11 B.harg11 B.arg12 B.harg12 B.arg13 ones k subs) >>= k := by
    intro k
    simp only [bind_assoc]
  rw [e]
  refine seq_wp 𝒱 c bd E (R := iprop(HeldAt c B I false (tripsF I (startF I σ) k0_t1_loop.trips) ∗ At c B.arg8 B.harg8 O)) ?_ ?_
  · exact (sep_mono hmain .rfl).trans (wp_frame_r _ _ _)
  · unfold resultF
    generalize tripsF I (startF I σ) k0_t1_loop.trips = τ'
    iintro ⟨⟨H2, H3, H4, H5, H6, H7, HA, HB, PA, PB, HX⟩, HO⟩
    iapply (wp_wand_r frame (wpE (defs₀ (F := F)) 𝒱 (c : Thread nD τ) bd) E)
    isplitl [HX HO]
    · iapply (outTiles_wp 𝒱 c bd E B τ'.A _ O)
      isplitl [HX]
      · iexact HX
      · iexact HO
    · iintro %_ ⟨HX, HO⟩
      isplitr [HO]
      · isplitl [H2]; · iexact H2
        isplitl [H3]; · iexact H3
        isplitl [H4]; · iexact H4
        isplitl [H5]; · iexact H5
        isplitl [H6]; · iexact H6
        isplitl [H7]; · iexact H7
        isplitl [HA]; · iexact HA
        isplitl [HB]; · iexact HB
        isplitl [PA]; · iexact PA
        isplitl [PB]; · iexact PB
        iexact HX
      · iexact HO

end

end Cert.KernelIdeal.Att

end
-- ==== Proof.KClean.lean ====
/-
  The output block is a function of the inputs alone.

  The scratch buffers hold anything when a grid point begins, and a diagonal pair leaves a quarter of its buffers as
  they were. Nothing the kernel reads depends on that: the accumulator after `n` pairs is `accN n`, a fold of the values
  stage over the pairs, each pair's weights computed from cleared buffers (`pc`), and the output reads the accumulator.
-/
module

public import proofs.«01_k».proof.Proof.KRun

@[expose] public section

set_option synthInstance.maxSize 4096
set_option maxRecDepth 8192

noncomputable section

namespace Cert.KernelIdeal.Att

open Cert.KernelIdeal Cert.KernelIdeal.Gen
open Idealize.ShloMosaic Idealize.ShloMosaic.TcCoe
open Idealize.SL.Sem

variable {F : FTy → Type} [FloatOps F]

/-! ## Places of a tile that a pair writes and reads -/

/-- The places a diagonal pair (`d`) or a full pair covers: on the diagonal, the first 256 keys or the last 256 queries. -/
def reg (d : Bool) (y : S512x512.Idx) : Prop := d = true → (y 0).val < 256 ∨ 256 ≤ (y 1).val

theorem emb_val {S : Shape} (off size : Fin S.rank → ℕ) (inb : ∀ a, off a + size a ≤ S.size a) (x : (Rect.unit off size inb).shape.Idx) (a : Fin S.rank) :
    ((Rect.unit off size inb).emb x a).val = off a + (x a).val := by
  show off a + 1 * (x a).val = _
  rw [Nat.one_mul]

theorem emb_surj {S : Shape} (off size : Fin S.rank → ℕ) (inb : ∀ a, off a + size a ≤ S.size a) (y : S.Idx)
    (h : ∀ a, off a ≤ (y a).val ∧ (y a).val < off a + size a) : ∃ x, (Rect.unit off size inb).emb x = y := by
  refine ⟨fun a => ⟨(y a).val - off a, ?_⟩, funext fun a => Fin.ext ?_⟩
  · show _ < size a
    have := h a; omega
  · rw [emb_val]
    have := h a
    show off a + ((y a).val - off a) = _
    omega

theorem cover (y : S512x512.Idx) (h : reg true y) : (∃ x, rLow.emb x = y) ∨ (∃ x, rTop.emb x = y) := by
  have h0 : (y 0).val < 512 := (y 0).isLt
  have h1 : (y 1).val < 512 := (y 1).isLt
  by_cases hy : (y 0).val < 256
  · refine .inr (emb_surj _ _ _ y fun a => ?_)
    fin_cases a
    · exact ⟨Nat.zero_le _, by show (y 0).val < 0 + 256; omega⟩
    · exact ⟨Nat.zero_le _, by show _ < 0 + 512; exact h1⟩
  · have h2 := (h rfl).resolve_left hy
    refine .inl (emb_surj _ _ _ y fun a => ?_)
    fin_cases a
    · exact ⟨by show 256 ≤ _; exact Nat.le_of_not_lt hy, by show _ < 256 + 256; exact h0⟩
    · exact ⟨by show 256 ≤ _; exact h2, by show _ < 256 + 256; exact h1⟩

theorem coverAll (y : S512x512.Idx) : ∃ x, rAll.emb x = y := by
  refine emb_surj _ _ _ y fun a => ?_
  fin_cases a
  · exact ⟨Nat.zero_le _, by show (y 0).val < 0 + 512; rw [Nat.zero_add]; exact (y 0).isLt⟩
  · exact ⟨Nat.zero_le _, by show (y 1).val < 0 + 512; rw [Nat.zero_add]; exact (y 1).isLt⟩

theorem reg_top (x : rTop.shape.Idx) (d : Bool) : reg d (rTop.emb x) := fun _ => .inl (by
  rw [emb_val]; show 0 + (x 0).val < 256; rw [Nat.zero_add]; exact (x 0).isLt)
theorem reg_corner (x : rCorner.shape.Idx) (d : Bool) : reg d (rCorner.emb x) := fun _ => .inl (by
  rw [emb_val]; show 0 + (x 0).val < 256; rw [Nat.zero_add]; exact (x 0).isLt)
theorem reg_low (x : rLow.shape.Idx) (d : Bool) : reg d (rLow.emb x) := fun _ => .inr (by
  rw [emb_val]; show 256 ≤ 256 + (x 1).val; omega)
theorem reg_right (x : rRight.shape.Idx) (d : Bool) : reg d (rRight.emb x) := fun _ => .inr (by
  rw [emb_val]; show 256 ≤ 256 + (x 1).val; omega)

/-- Two tiles agree where a pair's stage reads. -/
def ag {α : Type} (d : Bool) (a a' : S512x512.Idx → α) : Prop := ∀ y, reg d y → a y = a' y

theorem ag.full {α : Type} {a a' : S512x512.Idx → α} (h : ag false a a') : a = a' := funext fun y => h y (fun h' => absurd h' (by decide))

/-- The scores written do not depend on what the buffer held, -/
theorem scF_ag (I : Ins F) (d : Bool) (off : Fin 1 → Nat) (hoff : ∀ a, off a + S1.size a ≤ S138.size a) (a a' : S512x512.Idx → F .f32) :
    ag d (scF I d off hoff a) (scF I d off hoff a') := by
  intro y hy
  cases d
  · unfold scF
    rw [cond_false, cond_false]
    obtain ⟨x, hx⟩ := coverAll y
    rw [put_hit _ _ _ x y hx, put_hit _ _ _ x y hx]
  · unfold scF
    rw [cond_true, cond_true]
    by_cases hl : ∃ x, rLow.emb x = y
    · obtain ⟨x, hx⟩ := hl
      rw [put_hit _ _ _ x y hx, put_hit _ _ _ x y hx]
    · obtain ⟨x, hx⟩ := (cover y hy).resolve_left hl
      have hl' : ∀ x, rLow.emb x ≠ y := fun x hx => hl ⟨x, hx⟩
      rw [put_miss _ _ _ y hl', put_miss _ _ _ y hl', put_hit _ _ _ x y hx, put_hit _ _ _ x y hx]

/-- nor do the weights, given scores that agree. -/
theorem prF_ag (d : Bool) {b b' : S512x512.Idx → F .f32} (h : ag d b b') (q q' : S512x512.Idx → F .bf16) :
    ag d (prF d b q) (prF d b' q') := by
  intro y hy
  cases d
  · rw [h.full]
    unfold prF
    rw [cond_false, cond_false]
    obtain ⟨x, hx⟩ := coverAll y
    rw [put_hit _ _ _ x y hx, put_hit _ _ _ x y hx]
  · have e1 : ld rLow b = ld rLow b' := funext fun x => h _ (reg_low x true)
    have e2 : ld rTop b = ld rTop b' := funext fun x => h _ (reg_top x true)
    unfold prF
    rw [cond_true, cond_true, e1, e2]
    by_cases hl : ∃ x, rLow.emb x = y
    · obtain ⟨x, hx⟩ := hl
      rw [put_hit _ _ _ x y hx, put_hit _ _ _ x y hx]
    · obtain ⟨x, hx⟩ := (cover y hy).resolve_left hl
      have hl' : ∀ x, rLow.emb x ≠ y := fun x hx => hl ⟨x, hx⟩
      rw [put_miss _ _ _ y hl', put_miss _ _ _ y hl', put_hit _ _ _ x y hx, put_hit _ _ _ x y hx]

/-- The accumulator's update reads the weights where the pair wrote them. -/
theorem vaF_ag (I : Ins F) (d : Bool) (off : Fin 1 → Nat) (hoff : ∀ a, off a + S1.size a ≤ S138.size a) {p p' : S512x512.Idx → F .bf16} (h : ag d p p') (A : S16x144x512.Idx → F .f32) :
    vaF I d off hoff p A = vaF I d off hoff p' A := by
  cases d
  · rw [h.full]
  · have e1 : ld rCorner p = ld rCorner p' := funext fun x => h _ (reg_corner x true)
    have e2 : ld rRight p = ld rRight p' := funext fun x => h _ (reg_right x true)
    unfold vaF
    rw [cond_true, cond_true, e1, e2]

/-! ## The fold over the pairs -/

theorem inbT (n : ℕ) (h : n < 138) : ∀ a, (![n] : Fin 1 → Nat) a + S1.size a ≤ S138.size a := by
  intro a; fin_cases a; show n + 1 ≤ 138; omega

theorem scF_off (I : Ins F) (d : Bool) {off off' : Fin 1 → Nat} (hoff : ∀ a, off a + S1.size a ≤ S138.size a) (hoff' : ∀ a, off' a + S1.size a ≤ S138.size a)
    (e : off = off') (a : S512x512.Idx → F .f32) : scF I d off hoff a = scF I d off' hoff' a := by subst e; rfl
theorem vaF_off (I : Ins F) (d : Bool) {off off' : Fin 1 → Nat} (hoff : ∀ a, off a + S1.size a ≤ S138.size a) (hoff' : ∀ a, off' a + S1.size a ≤ S138.size a)
    (e : off = off') (p : S512x512.Idx → F .bf16) (A : S16x144x512.Idx → F .f32) : vaF I d off hoff p A = vaF I d off' hoff' p A := by subst e; rfl

/-- The scores of pair `n`, from a cleared buffer; -/
def sc (I : Ins F) (n : ℕ) (h : n < 138) : S512x512.Idx → F .f32 := scF I (isDiag n) ![n] (inbT n h) (fun _ => Scalar.ofBits .f32 0x00000000#32)
/-- its weights; -/
def pc (I : Ins F) (n : ℕ) (h : n < 138) : S512x512.Idx → F .bf16 := prF (isDiag n) (sc I n h) (fun _ => Scalar.ofBits .bf16 0x0000#16)
/-- the accumulator at the start, -/
def acc0 : S16x144x512.Idx → F .f32 := fun _ => Scalar.ofBits .f32 0x00000000#32
/-- and after the pairs before `n`. -/
def accN (I : Ins F) : ℕ → S16x144x512.Idx → F .f32
  | 0 => acc0
  | n + 1 => if h : n < 138 then vaF I (isDiag n) ![n] (inbT n h) (pc I n h) (accN I n) else accN I n

/-- The state before pair `n`: the next pair's scores, this pair's weights, the accumulator so far. -/
structure Good (I : Ins F) (n : ℕ) (hn : n + 1 < 138) (σ : St F) : Prop where
  hb : ag (isDiag (n + 1)) σ.b (sc I (n + 1) hn)
  hp : ag (isDiag n) σ.p (pc I n (by omega))
  hA : σ.A = accN I n

theorem isDiag_add (k n : ℕ) : isDiag (34 * k + n) = isDiag n := by
  unfold isDiag
  rw [Nat.mul_add_mod]

/-- A step takes the state before a pair to the state before the next. -/
theorem step_good (I : Ins F) (k : Fin k0_t1_loop.trips) (s : Fin 34) (σ : St F) (n : ℕ) (hn : n + 1 < 138) (hn' : n + 1 + 1 < 138) (e : n = 34 * k.val + s.val)
    (h : Good I n hn σ) : Good I (n + 1) hn' (stepF I k s σ) := by
  subst e
  refine ⟨?_, ?_, ?_⟩
  · show ag _ (scF I (isDiag (s.val + 2)) (posS k s) (posS_inb k s) σ.a) _
    unfold sc
    have e1 : isDiag (34 * k.val + s.val + 1 + 1) = isDiag (s.val + 2) := isDiag_add k.val (s.val + 2)
    rw [e1, scF_off I _ (posS_inb k s) (inbT _ hn') (posS_eq k s)]
    exact scF_ag I _ _ _ _ _
  · show ag _ (prF (isDiag (s.val + 1)) σ.b σ.q) _
    unfold pc
    have e1 : isDiag (34 * k.val + s.val + 1) = isDiag (s.val + 1) := isDiag_add k.val (s.val + 1)
    have hb := h.hb
    rw [e1] at hb ⊢
    exact prF_ag _ hb _ _
  · show vaF I (isDiag s.val) (posV k s) (posV_inb k s) σ.p σ.A = _
    have e1 : isDiag (34 * k.val + s.val) = isDiag s.val := isDiag_add k.val s.val
    have hlt : 34 * k.val + s.val < 138 := by omega
    have hp := h.hp
    rw [e1] at hp
    rw [show accN I (34 * k.val + s.val + 1) = vaF I (isDiag (34 * k.val + s.val)) ![34 * k.val + s.val] (inbT _ hlt) (pc I _ hlt) (accN I (34 * k.val + s.val)) from dif_pos hlt,
      e1, vaF_off I _ (posV_inb k s) (inbT _ hlt) (posV_eq k s), h.hA]
    exact vaF_ag I _ _ _ hp _

/-- The positions of a list follow one another, from `n` on. -/
def consec : ℕ → List (Fin 34) → Bool
  | _, [] => true
  | n, s :: l => (s.val == n) && consec (n + 1) l

theorem steps_good (I : Ins F) (k : Fin k0_t1_loop.trips) : ∀ (l : List (Fin 34)) (m : ℕ), consec m l = true → ∀ (σ : St F)
    (hn : 34 * k.val + m + 1 < 138) (hn' : 34 * k.val + (m + l.length) + 1 < 138), Good I (34 * k.val + m) hn σ →
      Good I (34 * k.val + (m + l.length)) hn' (l.foldl (fun σ s => stepF I k s σ) σ)
  | [], m, _, σ, hn, hn', h => h
  | s :: l, m, hc, σ, hn, hn', h => by
    rw [consec, Bool.and_eq_true, beq_iff_eq] at hc
    have hlen : (s :: l).length = l.length + 1 := rfl
    have h1 := step_good I k s σ (34 * k.val + m) hn (by rw [hlen] at hn'; omega) (by rw [hc.1]) h
    have h2 := steps_good I k l (m + 1) hc.2 (stepF I k s σ) (by rw [hlen] at hn'; omega) (by rw [hlen] at hn'; omega) h1
    rw [List.foldl_cons]
    have e : 34 * k.val + (m + 1 + l.length) = 34 * k.val + (m + (s :: l).length) := by rw [hlen]; omega
    have gen : ∀ a b (e : a = b) ha hb (τ : St F), Good I a ha τ → Good I b hb τ := by
      intro a b e ha hb τ h; subst e; exact h
    exact gen _ _ e _ hn' _ h2

/-- The trips. -/
theorem trips_good (I : Ins F) (σ : St F) (h : Good I 0 (by decide) σ) : ∀ (n : ℕ) (hn : n ≤ 4) (hn' : 34 * n + 1 < 138), Good I (34 * n) hn' (tripsF I σ n)
  | 0, _, _ => h
  | n + 1, hn, hn' => by
    have hk : n < k0_t1_loop.trips := by rw [trips_eq]; omega
    have ih := trips_good I σ h n (by omega) (by omega)
    rw [show tripsF I σ (n + 1) = tripF I ⟨n, hk⟩ (tripsF I σ n) from dif_pos hk]
    exact steps_good I ⟨n, hk⟩ subs 0 (by decide) _ (by show 34 * n + 0 + 1 < 138; omega) (by show 34 * n + (0 + 34) + 1 < 138; omega) ih

theorem start_good (I : Ins F) (σ : St F) : Good I 0 (by decide) (startF I σ) := by
  refine ⟨scF_ag I _ _ _ _ _, ?_, ?_⟩
  · exact prF_ag _ (scF_ag I _ _ _ _ _) _ _
  · funext y
    show put rClear _ σ.A y = _
    obtain ⟨x, hx⟩ := emb_surj (S := S16x144x512) ![0, 0, 0] S16x144x512.size inb_S16x144x512_S16x144x512_0_0_0 y (fun a => by
      have := (y a).isLt
      fin_cases a
      · exact ⟨Nat.zero_le _, by show _ < 0 + 16; rw [Nat.zero_add]; exact this⟩
      · exact ⟨Nat.zero_le _, by show _ < 0 + 144; rw [Nat.zero_add]; exact this⟩
      · exact ⟨Nat.zero_le _, by show _ < 0 + 512; rw [Nat.zero_add]; exact this⟩)
    rw [put_hit _ _ _ x y hx]
    rfl

/-- The last accumulator is the fold over the 136 pairs. -/
theorem final_acc (I : Ins F) (σ : St F) : (tripsF I (startF I σ) k0_t1_loop.trips).A = accN I 136 := by
  rw [trips_eq]
  exact (trips_good I _ (start_good I σ) 4 (by decide) (by decide)).hA

/-- The sixteen tiles cover the output block: the result does not depend on what it held. -/
theorem outs_ext (A : S16x144x512.Idx → F .f32) (O O' : S1x8192x128.Idx → F .bf16) :
    ([0, 1, 2, 3, 4, 5, 6, 7, 8, 9, 10, 11, 12, 13, 14, 15] : List (Fin 16)).foldl (fun O n => outF A n O) O
      = ([0, 1, 2, 3, 4, 5, 6, 7, 8, 9, 10, 11, 12, 13, 14, 15] : List (Fin 16)).foldl (fun O n => outF A n O) O' := by
  have gen : ∀ (l : List (Fin 16)) (O O' : S1x8192x128.Idx → F .bf16) (y : S1x8192x128.Idx),
      (O y = O' y ∨ ∃ n ∈ l, (y 1).val / 512 = n.val) →
      l.foldl (fun O n => outF A n O) O y = l.foldl (fun O n => outF A n O) O' y := by
    intro l
    induction l with
    | nil =>
      intro O O' y h
      exact h.resolve_right (fun ⟨_, hm, _⟩ => absurd hm (List.not_mem_nil))
    | cons n l ih =>
      intro O O' y h
      rw [List.foldl_cons, List.foldl_cons]
      refine ih _ _ y ?_
      by_cases hx : ∃ x, (Rect.unit (s := S1x8192x128) ![0, 512 * n.val, 0] S1x512x128.size (inbO n)).emb x = y
      · obtain ⟨x, hx⟩ := hx
        left
        unfold outF
        rw [put_hit _ _ _ x y hx, put_hit _ _ _ x y hx]
      · have hm : ∀ x, (Rect.unit (s := S1x8192x128) ![0, 512 * n.val, 0] S1x512x128.size (inbO n)).emb x ≠ y := fun x h => hx ⟨x, h⟩
        unfold outF
        rw [put_miss _ _ _ y hm, put_miss _ _ _ y hm]
        rcases h with h | ⟨n', hn', e⟩
        · exact .inl h
        · rcases List.mem_cons.1 hn' with rfl | hn'
          · refine absurd (emb_surj _ _ _ y fun a => ?_) hx
            have := (y a).isLt
            fin_cases a
            · exact ⟨Nat.zero_le _, by show _ < 0 + 1; rw [Nat.zero_add]; exact this⟩
            · refine ⟨?_, ?_⟩
              · show 512 * n'.val ≤ (y 1).val; omega
              · show (y 1).val < 512 * n'.val + 512; omega
            · exact ⟨Nat.zero_le _, by show _ < 0 + 128; rw [Nat.zero_add]; exact this⟩
          · exact .inr ⟨n', hn', e⟩
  funext y
  refine gen _ O O' y (.inr ⟨⟨(y 1).val / 512, ?_⟩, ?_, rfl⟩)
  · have : (y 1).val < 8192 := (y 1).isLt
    omega
  · have : ∀ n : Fin 16, n ∈ ([0, 1, 2, 3, 4, 5, 6, 7, 8, 9, 10, 11, 12, 13, 14, 15] : List (Fin 16)) := by decide
    exact this _

/-- The output block, as a function of the inputs. -/
def outBlk (I : Ins F) : S1x8192x128.Idx → F .bf16 :=
  ([0, 1, 2, 3, 4, 5, 6, 7, 8, 9, 10, 11, 12, 13, 14, 15] : List (Fin 16)).foldl (fun O n => outF (accN I 136) n O) (fun _ => Scalar.ofBits .bf16 0x0000#16)

theorem result_eq (I : Ins F) (σ : St F) (O : S1x8192x128.Idx → F .bf16) : resultF I σ O = outBlk I := by
  unfold resultF outBlk
  rw [final_acc]
  exact outs_ext _ _ _

end Cert.KernelIdeal.Att

end
-- ==== Proof.KLaunch.lean ====
/-
  The launch: the two host operations that write the tables, the pipeline over the 32 grid points, and what the buffers
  hold at the end. The output block a point leaves is `outBlk` of the blocks it was handed.
-/
module

public import proofs.«01_k».proof.Proof.KClean
public import proofs.«01_k».proof.Proof.Gen.KernelIdeal.Launch
public import Idealize.ShloMosaic.Lib.Pipeline.Frame
public import Idealize.ShloMosaic.Lib.Pipeline.Value
public import Idealize.ShloMosaic.Lib.Claim

@[expose] public section

set_option synthInstance.maxSize 4096
set_option maxRecDepth 8192

noncomputable section

namespace Cert.KernelIdeal.Att

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄G" => MT nD τ sig Unit (Elt F) ℕ (UR sig nD τ) ℕ

variable (m : (ℓ : Loc nD τ sig) → Buf (Elt F) ℓ) (ρ : Dev nD → PrngReg)

/-! ## The tables -/

/-- The query tile of each pair, and the key tile. -/
def tabI : S138.Idx → BitVec 32 := fun x => lit0 (S138.rowMajor x)
def tabJ : S138.Idx → BitVec 32 := fun x => lit1 (S138.rowMajor x)

theorem lit0_lt : ∀ n : Fin 138, (lit0 n).toNat < 16 := by decide
theorem lit1_lt : ∀ n : Fin 138, (lit1 n).toNat < 16 := by decide
theorem tabI_lt (x : S138.Idx) : (tabI x).toNat < 16 := lit0_lt _
theorem tabJ_lt (x : S138.Idx) : (tabJ x).toNat < 16 := lit1_lt _

set_option backward.proofsInPublic true in
/-- The tables' contents when the region is entered. -/
def tabs : pre0.Contents (Elt F) := fun
  | ⟨0, _⟩ => tabI
  | ⟨1, _⟩ => tabJ
  | ⟨_ + 2, h⟩ => absurd h (Nat.not_lt.2 (Nat.le_add_left _ _))

abbrev adm : (p : Fin 1) → (pcfgs (F := F) p).Adm := fun _ => ⟨tabs, trivial⟩

abbrev cfgA : Cfg sig Λ₀ := Pipeline.pin (pcfgs (F := F)) adm 0

/-! ## The host operations -/

/-- Core `c`'s buffers when the region is entered. -/
abbrev V (c : Dev nD) (b : Ref sig .tc) : Buf (Elt F) ((c : Thread nD τ).loc b) := StableHlo.after hostOps0 (fun b => m (c, b)) b

/-- The operations write the two tables only. -/
theorem V_other (c : Dev nD) (b : Ref sig .tc) (h0 : b ≠ main_c) (h1 : b ≠ main_c_0) : V m c b = m ((c : Thread nD τ).loc b) :=
  StableHlo.after_of_forall_not_mem (b := Proc.devRef .tc b) hostOps0 (fun b => m (c, b)) (by
    intro op hop
    simp only [List.mem_cons, List.mem_nil_iff, or_false] at hop
    rcases hop with rfl | rfl <;>
      simp only [StableHlo.nullary_writes, Finset.mem_singleton] <;>
      exact StableHlo.devRef_ne_of_ne ‹_›)

/-! ## The proof data -/

/-- What the input windows' buffers hold at a point. -/
abbrev held (c : Dev nD) (w : Fin 5) (t : Fin (cfgA (F := F)).N) := Pipeline.heldIn (c := c) (cfgA (F := F)) (fun w => V m c (Pipeline.arrRef spec0 w)) w t.val t.isLt

/-- The inputs of a point. -/
def insAt (c : Dev nD) (t : Fin (cfgA (F := F)).N) : Ins F where
  T2 := tabI
  T3 := tabJ
  lt2 := tabI_lt
  lt3 := tabJ_lt
  Q := held m c 0 t
  KN := held m c 1 t
  KR := held m c 2 t
  VT := held m c 3 t

/-- The proof data: the inputs as held, the output block computed, the scratch at anything. -/
def dats (p : Fin 1) (c : Dev nD) : Dat τ (Elt F) Unit ℕ (UR sig nD τ) ℕ (Pipeline.pin (pcfgs (F := F)) adm p) c where
  A w := V m c (Pipeline.arrRef spec0 w)
  after w t := match w with
    | ⟨0, _⟩ => held m c 0 t
    | ⟨1, _⟩ => held m c 1 t
    | ⟨2, _⟩ => held m c 2 t
    | ⟨3, _⟩ => held m c 3 t
    | ⟨4, _⟩ => outBlk (insAt m c t)
    | ⟨_ + 5, h⟩ => absurd h (Nat.not_lt.2 (Nat.le_add_left _ _))
  Φ _ := iprop(Pipeline.ΦA spec0 c ∗ Pipeline.ΦT pre0 tabs c)
  q _ := fullShare
  owed _ := 0

theorem dats_inv (c : Dev nD) (t) : (dats m 0 c).Φ t = iprop(Pipeline.ΦA spec0 c ∗ Pipeline.ΦT pre0 tabs c) := rfl

theorem before_in (c : Dev nD) (w : Fin 5) (hw : w.val < 4) (t : Fin (cfgA (F := F)).N) (d) : (dats m 0 c).before w t d = held m c w t := by
  have h := Dat.before_eq_heldIn (dats m 0 c) w (by
    clear d; revert hw; fin_cases w <;> intro hw <;> first | rfl | exact absurd hw (by decide)) (fun _ => rfl) (fun _ _ => rfl) (fun t => by
    revert hw; fin_cases w <;> intro hw <;> first | rfl | exact absurd hw (by decide)) t d
  exact h

theorem pref_pair (c : Dev nD) :
    (Pipeline.ΦT (Val := Elt F) (U := UR sig nD τ) (τ := τ) pre0 tabs c : sProp 𝕄G)
      = iprop((((c : Thread nD τ).loc main_c) ↦{fullShare.right} (show Buf (Elt F) ((c : Thread nD τ).loc main_c) from tabI))
          ∗ (((c : Thread nD τ).loc main_c_0) ↦{fullShare.right} (show Buf (Elt F) ((c : Thread nD τ).loc main_c_0) from tabJ))) := by
  unfold Pipeline.ΦT Pipeline.prefHeld
  rw [show (Finset.univ : Finset (Fin 2)) = insert 0 {1} from by decide, bigSep_insert (by decide), bigSep_singleton]
  rfl

/-! ## The body at a point -/

/-- The buffers of a point. -/
def bufsAt (t : Fin (cfgA (F := F)).N) : Bufs where
  arg2 := Memref.whole main_c
  harg2 := Memref.isWhole_whole _
  arg3 := Memref.whole main_c_0
  harg3 := Memref.isWhole_whole _
  arg4 := spec0_0.stage ((cfgA (F := F)).slots t 0)
  harg4 := hstage0_0 (((cfgA (F := F)).slots t 0).cast nbuf0_0)
  arg5 := spec0_1.stage ((cfgA (F := F)).slots t 1)
  harg5 := hstage0_1 (((cfgA (F := F)).slots t 1).cast nbuf0_1)
  arg6 := spec0_2.stage ((cfgA (F := F)).slots t 2)
  harg6 := hstage0_2 (((cfgA (F := F)).slots t 2).cast nbuf0_2)
  arg7 := spec0_3.stage ((cfgA (F := F)).slots t 3)
  harg7 := hstage0_3 (((cfgA (F := F)).slots t 3).cast nbuf0_3)
  arg8 := spec0_4.stage ((cfgA (F := F)).slots t 4)
  harg8 := hstage0_4 (((cfgA (F := F)).slots t 4).cast nbuf0_4)
  arg9 := Memref.whole cc0_scratch0
  harg9 := Memref.isWhole_whole _
  arg10 := Memref.whole cc0_scratch1
  harg10 := Memref.isWhole_whole _
  arg11 := Memref.whole cc0_scratch2
  harg11 := Memref.isWhole_whole _
  arg12 := Memref.whole cc0_scratch3
  harg12 := Memref.isWhole_whole _
  arg13 := Memref.whole cc0_scratch4
  harg13 := Memref.isWhole_whole _

section
variable {S : Shape} {e : EltTy} {sp : Space}

/-- An owned whole view is its buffer at the contents named. -/
theorem owns_at (c : Dev nD) (b : Memref sig .tc sp S e) (h : b.IsWhole) (X : S.Idx → Elt F e) :
    (owns (Ix := Unit) (Name := ℕ) (U := UR sig nD τ) (Lvl := ℕ) c b fullShare X : sProp 𝕄G) ⊢ At c b h X := by
  unfold owns At
  iintro H
  icases H with ⟨%f, ⟨%hf, H⟩⟩
  obtain rfl := h.eq_unread hf
  iexact H

theorem at_owns (c : Dev nD) (b : Memref sig .tc sp S e) (h : b.IsWhole) (X : S.Idx → Elt F e) :
    At c b h X ⊢ (owns (Ix := Unit) (Name := ℕ) (U := UR sig nD τ) (Lvl := ℕ) c b fullShare X : sProp 𝕄G) := by
  unfold owns At
  iintro H
  iexists (h.unread X)
  isplitr
  · ipureintro; exact h.read_unread X
  · iexact H

end

/-- A buffer of the core at share `q`, as held by a whole view. -/
theorem whole_pt (c : Dev nD) (b : Ref sig .tc) (q : PosShare TreeShare) (h : (Memref.whole b).IsWhole) (f : Buf (Elt F) ((c : Thread nD τ).loc b)) :
    ((((c : Thread nD τ).loc b) ↦{q} f) : sProp 𝕄G)
      = (((Memref.whole b).view.loc (c : Thread nD τ)) ↦[(Memref.whole b).view.set]{q} h.unread ((Memref.whole b).view.read (Elt F) f)) := by
  rw [h.unread_read, View.set_whole]

/-- What a point is handed, as the body's run wants it. -/
theorem handed (c : Dev nD) (t : Fin (cfgA (F := F)).N) (OW : sProp 𝕄G) :
    iprop((Pipeline.ΦA spec0 c ∗ Pipeline.ΦT pre0 tabs c) ∗ OW
        ∗ owns (c : Thread nD τ) ((bufsAt (F := F) t).arg4) fullShare (insAt m c t).Q
        ∗ owns (c : Thread nD τ) ((bufsAt (F := F) t).arg5) fullShare (insAt m c t).KN
        ∗ owns (c : Thread nD τ) ((bufsAt (F := F) t).arg6) fullShare (insAt m c t).KR
        ∗ owns (c : Thread nD τ) ((bufsAt (F := F) t).arg7) fullShare (insAt m c t).VT
        ∗ (∃ X, owns (c : Thread nD τ) ((bufsAt (F := F) t).arg8) fullShare X))
      ⊢ iprop(∃ σ O, (HeldAt c (bufsAt (F := F) t) (insAt m c t) false σ ∗ At c (bufsAt (F := F) t).arg8 (bufsAt (F := F) t).harg8 O) ∗ (∃ r, prngReg c r) ∗ OW) := by
  unfold Pipeline.ΦA
  rw [pref_pair, scopedRest0_eq]
  iintro ⟨⟨⟨⟨⟨%f0, S0⟩, ⟨%f1, S1⟩, ⟨%f2, S2⟩, ⟨%f3, S3⟩, ⟨%f4, S4⟩⟩, R⟩, ⟨T0, T1⟩⟩, HO, W0, W1, W2, W3, ⟨%X, W4⟩⟩
  iexists (⟨f0, f1, f2, f3, f4⟩ : St F)
  iexists X
  isplitr [R HO]
  · isplitr [W4]
    · isplitl [T0]; · rw [whole_pt c main_c _ (Memref.isWhole_whole _)]; exact BIBase.Entails.rfl
      isplitl [T1]; · rw [whole_pt c main_c_0 _ (Memref.isWhole_whole _)]; exact BIBase.Entails.rfl
      isplitl [W0]; · iapply owns_at c (bufsAt (F := F) t).arg4; iexact W0
      isplitl [W1]; · iapply owns_at c (bufsAt (F := F) t).arg5; iexact W1
      isplitl [W2]; · iapply owns_at c (bufsAt (F := F) t).arg6; iexact W2
      isplitl [W3]; · iapply owns_at c (bufsAt (F := F) t).arg7; iexact W3
      isplitl [S0]; · rw [whole_pt c cc0_scratch0 _ (Memref.isWhole_whole _)]; exact BIBase.Entails.rfl
      isplitl [S1]; · rw [whole_pt c cc0_scratch1 _ (Memref.isWhole_whole _)]; exact BIBase.Entails.rfl
      isplitl [S2]; · rw [whole_pt c cc0_scratch2 _ (Memref.isWhole_whole _)]; exact BIBase.Entails.rfl
      isplitl [S3]; · rw [whole_pt c cc0_scratch3 _ (Memref.isWhole_whole _)]; exact BIBase.Entails.rfl
      rw [whole_pt c cc0_scratch4 _ (Memref.isWhole_whole _)]; exact BIBase.Entails.rfl
    · iapply owns_at c (bufsAt (F := F) t).arg8; iexact W4
  · isplitl [R]; · iexact R
    iexact HO

/-- What the body's run leaves, as the pipeline wants it back. -/
theorem handedBack (c : Dev nD) (t : Fin (cfgA (F := F)).N) (OW : sProp 𝕄G) (σ : St F) (O : S1x8192x128.Idx → F .bf16) :
    iprop((HeldAt c (bufsAt (F := F) t) (insAt m c t) false σ ∗ At c (bufsAt (F := F) t).arg8 (bufsAt (F := F) t).harg8 O) ∗ (∃ r, prngReg c r) ∗ OW)
    ⊢ iprop((Pipeline.ΦA spec0 c ∗ Pipeline.ΦT pre0 tabs c) ∗ OW
        ∗ owns (c : Thread nD τ) ((bufsAt (F := F) t).arg4) fullShare (insAt m c t).Q
        ∗ owns (c : Thread nD τ) ((bufsAt (F := F) t).arg5) fullShare (insAt m c t).KN
        ∗ owns (c : Thread nD τ) ((bufsAt (F := F) t).arg6) fullShare (insAt m c t).KR
        ∗ owns (c : Thread nD τ) ((bufsAt (F := F) t).arg7) fullShare (insAt m c t).VT
        ∗ owns (c : Thread nD τ) ((bufsAt (F := F) t).arg8) fullShare O) := by
  unfold Pipeline.ΦA
  rw [pref_pair, scopedRest0_eq]
  iintro ⟨⟨⟨T0, T1, W0, W1, W2, W3, S0, S1, S2, S3, S4⟩, W4⟩, R, HO⟩
  isplitl [T0 T1 S0 S1 S2 S3 S4 R]
  · isplitr [T0 T1]
    · isplitr [R]
      · isplitl [S0]; · iexists σ.a; rw [whole_pt c cc0_scratch0 _ (Memref.isWhole_whole _)]; iexact S0
        isplitl [S1]; · iexists σ.b; rw [whole_pt c cc0_scratch1 _ (Memref.isWhole_whole _)]; iexact S1
        isplitl [S2]; · iexists σ.p; rw [whole_pt c cc0_scratch2 _ (Memref.isWhole_whole _)]; iexact S2
        isplitl [S3]; · iexists σ.q; rw [whole_pt c cc0_scratch3 _ (Memref.isWhole_whole _)]; iexact S3
        iexists σ.A; rw [whole_pt c cc0_scratch4 _ (Memref.isWhole_whole _)]; iexact S4
      · iexact R
    · isplitl [T0]; · rw [whole_pt c main_c _ (Memref.isWhole_whole _)]; iexact T0
      rw [whole_pt c main_c_0 _ (Memref.isWhole_whole _)]; iexact T1
  · isplitl [HO]; · iexact HO
    isplitl [W0]; · iapply at_owns c (bufsAt (F := F) t).arg4; iexact W0
    isplitl [W1]; · iapply at_owns c (bufsAt (F := F) t).arg5; iexact W1
    isplitl [W2]; · iapply at_owns c (bufsAt (F := F) t).arg6; iexact W2
    isplitl [W3]; · iapply at_owns c (bufsAt (F := F) t).arg7; iexact W3
    iapply at_owns c (bufsAt (F := F) t).arg8; iexact W4

/-- The body at a point, under the proof data. -/
theorem body_ob (𝒱₀ : Variants) (c : Dev nD) : BodyObligation (dats m 0 c) defs₀ 𝒱₀ () Set.univ := by
  intro t
  rw [bigSep_W0, bigSep_W0]
  have hb : (dats m 0 c).owesAt () t.castSucc = (dats m 0 c).owesAt () t.succ := rfl
  rw [hb]
  generalize (dats m 0 c).owesAt () t.succ = OW
  have hpost : ∀ v : PUnit, iprop(∃ σ, (HeldAt c (bufsAt (F := F) t) (insAt m c t) false σ ∗ At c (bufsAt (F := F) t).arg8 (bufsAt (F := F) t).harg8 (outBlk (insAt m c t))) ∗ (∃ r, prngReg c r) ∗ OW) ⊢
     iprop((Pipeline.ΦA spec0 c ∗ Pipeline.ΦT pre0 tabs c) ∗ OW
        ∗ owns (c : Thread nD τ) ((bufsAt (F := F) t).arg4) fullShare (insAt m c t).Q
        ∗ owns (c : Thread nD τ) ((bufsAt (F := F) t).arg5) fullShare (insAt m c t).KN
        ∗ owns (c : Thread nD τ) ((bufsAt (F := F) t).arg6) fullShare (insAt m c t).KR
        ∗ owns (c : Thread nD τ) ((bufsAt (F := F) t).arg7) fullShare (insAt m c t).VT
        ∗ owns (c : Thread nD τ) ((bufsAt (F := F) t).arg8) fullShare (outBlk (insAt m c t))) := by
    intro _
    iintro ⟨%σ, H⟩
    iapply handedBack m c t OW σ
    iexact H
  have hrun : iprop((Pipeline.ΦA spec0 c ∗ Pipeline.ΦT pre0 tabs c) ∗ OW
        ∗ owns (c : Thread nD τ) ((bufsAt (F := F) t).arg4) fullShare (insAt m c t).Q
        ∗ owns (c : Thread nD τ) ((bufsAt (F := F) t).arg5) fullShare (insAt m c t).KN
        ∗ owns (c : Thread nD τ) ((bufsAt (F := F) t).arg6) fullShare (insAt m c t).KR
        ∗ owns (c : Thread nD τ) ((bufsAt (F := F) t).arg7) fullShare (insAt m c t).VT
        ∗ (∃ X, owns (c : Thread nD τ) ((bufsAt (F := F) t).arg8) fullShare X))
      ⊢ wp frame (wpE (defs₀ (F := F)) 𝒱₀ (c : Thread nD τ) none) Set.univ (defs₀ .tc (cfgA (F := F)).body ((cfgA (F := F)).bodyArgs t ((cfgA (F := F)).slots t)))
        (fun _ => iprop(∃ σ, (HeldAt c (bufsAt (F := F) t) (insAt m c t) false σ ∗ At c (bufsAt (F := F) t).arg8 (bufsAt (F := F) t).harg8 (outBlk (insAt m c t))) ∗ (∃ r, prngReg c r) ∗ OW)) := by
    have hbody : (defs₀ (F := F) .tc (cfgA (F := F)).body ((cfgA (F := F)).bodyArgs t ((cfgA (F := F)).slots t)))
        = whole (F := F) (bufsAt (F := F) t).arg2 (bufsAt (F := F) t).arg3 (bufsAt (F := F) t).arg4 (bufsAt (F := F) t).arg5 (bufsAt (F := F) t).arg6 (bufsAt (F := F) t).arg7 (bufsAt (F := F) t).arg8 (bufsAt (F := F) t).harg8 (bufsAt (F := F) t).arg9 (bufsAt (F := F) t).arg10 (bufsAt (F := F) t).arg11 (bufsAt (F := F) t).harg11 (bufsAt (F := F) t).arg12 (bufsAt (F := F) t).harg12 (bufsAt (F := F) t).arg13 :=
      whole_eq (grid0.coords t) (bufsAt (F := F) t).arg2 (bufsAt (F := F) t).harg2 (bufsAt (F := F) t).arg3 (bufsAt (F := F) t).harg3 (bufsAt (F := F) t).arg4 (bufsAt (F := F) t).harg4 (bufsAt (F := F) t).arg5 (bufsAt (F := F) t).harg5 (bufsAt (F := F) t).arg6 (bufsAt (F := F) t).harg6 (bufsAt (F := F) t).arg7 (bufsAt (F := F) t).harg7 (bufsAt (F := F) t).arg8 (bufsAt (F := F) t).harg8 (bufsAt (F := F) t).arg9 (bufsAt (F := F) t).harg9 (bufsAt (F := F) t).arg10 (bufsAt (F := F) t).harg10 (bufsAt (F := F) t).arg11 (bufsAt (F := F) t).harg11 (bufsAt (F := F) t).arg12 (bufsAt (F := F) t).harg12 (bufsAt (F := F) t).arg13 (bufsAt (F := F) t).harg13
    rw [hbody]
    refine (handed m c t OW).trans ?_
    refine Laws.exists_elim fun σ => Laws.exists_elim fun O => ?_
    refine (sep_mono (whole_wp 𝒱₀ c none Set.univ (bufsAt (F := F) t) (insAt m c t) σ O) .rfl).trans ?_
    refine (wp_frame_r _ _ _).trans (wp_mono _ _ _ fun _ => ?_)
    rw [result_eq]
    iintro H
    iexists _
    iexact H
  have hin : iprop((dats m 0 c).Φ t.castSucc ∗ OW
        ∗ (∃ d, owns (c : Thread nD τ) (((cfgA (F := F)).win 0).stage ((cfgA (F := F)).slots t 0)) fullShare ((dats m 0 c).before 0 t d))
        ∗ (∃ d, owns (c : Thread nD τ) (((cfgA (F := F)).win 1).stage ((cfgA (F := F)).slots t 1)) fullShare ((dats m 0 c).before 1 t d))
        ∗ (∃ d, owns (c : Thread nD τ) (((cfgA (F := F)).win 2).stage ((cfgA (F := F)).slots t 2)) fullShare ((dats m 0 c).before 2 t d))
        ∗ (∃ d, owns (c : Thread nD τ) (((cfgA (F := F)).win 3).stage ((cfgA (F := F)).slots t 3)) fullShare ((dats m 0 c).before 3 t d))
        ∗ (∃ d, owns (c : Thread nD τ) (((cfgA (F := F)).win 4).stage ((cfgA (F := F)).slots t 4)) fullShare ((dats m 0 c).before 4 t d))) ⊢
      iprop((Pipeline.ΦA spec0 c ∗ Pipeline.ΦT pre0 tabs c) ∗ OW
        ∗ owns (c : Thread nD τ) ((bufsAt (F := F) t).arg4) fullShare (insAt m c t).Q
        ∗ owns (c : Thread nD τ) ((bufsAt (F := F) t).arg5) fullShare (insAt m c t).KN
        ∗ owns (c : Thread nD τ) ((bufsAt (F := F) t).arg6) fullShare (insAt m c t).KR
        ∗ owns (c : Thread nD τ) ((bufsAt (F := F) t).arg7) fullShare (insAt m c t).VT
        ∗ (∃ X, owns (c : Thread nD τ) ((bufsAt (F := F) t).arg8) fullShare X)) := by
    have e0 : ∀ d, (dats m 0 c).before 0 t d = (insAt m c t).Q := fun d => before_in m c 0 (by decide) t d
    have e1 : ∀ d, (dats m 0 c).before 1 t d = (insAt m c t).KN := fun d => before_in m c 1 (by decide) t d
    have e2 : ∀ d, (dats m 0 c).before 2 t d = (insAt m c t).KR := fun d => before_in m c 2 (by decide) t d
    have e3 : ∀ d, (dats m 0 c).before 3 t d = (insAt m c t).VT := fun d => before_in m c 3 (by decide) t d
    rw [dats_inv]
    iintro ⟨HΦ, HO, ⟨%d0, W0⟩, ⟨%d1, W1⟩, ⟨%d2, W2⟩, ⟨%d3, W3⟩, ⟨%d4, W4⟩⟩
    isplitl [HΦ]; · iexact HΦ
    isplitl [HO]; · iexact HO
    rw [e0 d0, e1 d1, e2 d2, e3 d3]
    isplitl [W0]; · iexact W0
    isplitl [W1]; · iexact W1
    isplitl [W2]; · iexact W2
    isplitl [W3]; · iexact W3
    iexists _
    iexact W4
  exact (hin.trans hrun).trans (wp_mono _ _ _ hpost)

/-! ## The run -/

theorem V_pref (c : Dev nD) (k : Fin 2) : V m c (pre0.ref k) = tabs k := by
  fin_cases k <;> rfl

/-- Every run ends with every semaphore at zero, the windows' arrays at what the proof data says, and every other buffer
    at its entry contents. -/
theorem run_main : θ_run (defs (F := F)) (onTc main) (s₀ m ρ)
    (fun r => Pipeline.FramePost (Pipeline.pin (pcfgs (F := F)) adm) (dats m) 0 (V m) r ∧ r.2.sem = fun _ => 0) :=
  Pipeline.θ_run_frameP (pcfgs (F := F)) adm (dats m) 0 launch0 defs₀ Variants.none m ρ main
    (fun c => (body_ob m _ c).loose) (fun c w => by unfold Dat.share; fin_cases w <;> rfl) (fun _ _ => rfl) (V m)
    (Pipeline.hmainP_prefix _ 0 defs₀ _ m main hostOps0 hostOps0_sub ⟨rfl, rfl⟩ main_chain)
    (fun _ _ => rfl) (V_pref m) (fun _ _ => rfl) _ (fun _ h => h)

/-- An input array ends at what it held before the launch. -/
theorem arg_kept (c : Dev nD) (w : Fin 5) (hw : w.val < 4) {r : PUnit × MemSt nD τ sig (Elt F)}
    (h : Pipeline.FramePost (Pipeline.pin (pcfgs (F := F)) adm) (dats m) 0 (V m) r) :
    r.2.mem ((c : Thread nD τ).loc (Pipeline.arrRef spec0 w)) = m ((c : Thread nD τ).loc (Pipeline.arrRef spec0 w)) := by
  have e := (h c).1 w
  have e' := Dat.arrAt_in (dats m 0 c) w (by clear e; revert hw; fin_cases w <;> intro hw <;> first | rfl | exact absurd hw (by decide)) (cfgA (F := F)).N
  refine Eq.trans e (Eq.trans e' ?_)
  show V m c (Pipeline.arrRef spec0 w) = _
  refine V_other m c _ ?_ ?_ <;> (clear e e'; revert hw; revert w; decide)

/-- Every run terminates with the arguments unchanged and every semaphore at zero. -/
theorem frame_main : θ_run (defs (F := F)) (onTc main) (s₀ m ρ)
    (fun r => (∀ c : Dev nD, r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) ∧ r.2.sem = fun _ => 0) :=
  (θ_run (defs (F := F)) _ _).mono (fun _ h => ⟨fun c => ⟨arg_kept m c 0 (by decide) h.1, arg_kept m c 1 (by decide) h.1, arg_kept m c 2 (by decide) h.1, arg_kept m c 3 (by decide) h.1⟩, h.2⟩)
    (run_main m ρ)

end Cert.KernelIdeal.Att

end
-- ==== Proof.KVal.lean ====
/-
  The attention kernel's stages over the extended reals, read at one element: what a pair of the table adds to the
  accumulator.
-/
module

public import proofs.«01_k».proof.Proof.KClean
public import Idealize.ShloMosaic.Lib.Pointwise
public import Idealize.ShloMosaic.Lib.WordCmp

@[expose] public section

set_option maxRecDepth 16384

noncomputable section

namespace Cert.KernelIdeal.Att

open Cert.KernelIdeal Cert.KernelIdeal.Gen
open Idealize.ShloMosaic

/-! ## The values the stages store, at one element -/

theorem scoreAll_at (a : Vec Ideal S1x1x512x128 .bf16) (b : Vec Ideal S1x512x128 .bf16) (q : Vec Ideal S1x1x1x256x512 .bf16) (k x : Fin 512) :
    scoreAll a b q (ix2 k x) = (∑ f : Fin 128, a (ix4 0 0 k f) * q (ix5 0 0 0 ⟨f.val, by omega⟩ x) : EReal)
      + ∑ f : Fin 128, b (ix3 0 k f) * q (ix5 0 0 0 ⟨128 + f.val, by omega⟩ x) := by
  pointwise [scoreAll, keyTile, qryTile]

theorem scoreTop_at (a : Vec Ideal S1x1x512x128 .bf16) (b : Vec Ideal S1x512x128 .bf16) (q : Vec Ideal S1x1x1x256x512 .bf16) (k : Fin 256) (x : Fin 512) :
    scoreTop a b q (ix2 k x) = (∑ f : Fin 128, a (ix4 0 0 ⟨k.val, by omega⟩ f) * q (ix5 0 0 0 ⟨f.val, by omega⟩ x) : EReal)
      + ∑ f : Fin 128, b (ix3 0 ⟨k.val, by omega⟩ f) * q (ix5 0 0 0 ⟨128 + f.val, by omega⟩ x) := by
  pointwise [scoreTop, keyTile, qryTile]

theorem scoreLow_at (a : Vec Ideal S1x1x512x128 .bf16) (b : Vec Ideal S1x512x128 .bf16) (q : Vec Ideal S1x1x1x256x512 .bf16) (k x : Fin 256) :
    scoreLow a b q (ix2 k x) = (∑ f : Fin 128, a (ix4 0 0 ⟨256 + k.val, by omega⟩ f) * q (ix5 0 0 0 ⟨f.val, by omega⟩ ⟨256 + x.val, by omega⟩) : EReal)
      + ∑ f : Fin 128, b (ix3 0 ⟨256 + k.val, by omega⟩ f) * q (ix5 0 0 0 ⟨128 + f.val, by omega⟩ ⟨256 + x.val, by omega⟩) := by
  pointwise [scoreLow, keyTile, qryTile]

/-- The word of minus infinity. -/
theorem negInf : Ideal.ofBits .f32 0xFF800000#32 = (⊥ : EReal) := by
  simp [Ideal.ofBits, Ideal.ieee]

/-- A choice by the comparison of two small words is the choice by the comparison of the numbers. -/
theorem select_le {α : Type} (a b : ℕ) (ha : a < 2 ^ 31) (hb : b < 2 ^ 31) (u v : α) :
    Scalar.select (IntOp.cmpi .sle (BitVec.ofNat 32 a) (BitVec.ofNat 32 b)) u v = if a ≤ b then u else v := by
  by_cases h : a ≤ b
  · rw [(WordCmp.cmpi_sle_ofNat_eq_one_iff ha hb).mpr h, if_pos h]; rfl
  · rw [(WordCmp.cmpi_sle_ofNat_eq_zero_iff ha hb).mpr h, if_neg h]; rfl

theorem exp2_ite (p : Prop) [Decidable p] (s : EReal) : Ideal.exp2 (if p then s else ⊥) = if p then Ideal.exp2 s else 0 := by
  split <;> rfl

theorem expAll_at (s : Vec Ideal S512x512 .f32) (k x : Fin 512) : expAll s (ix2 k x) = Ideal.exp2 (s (ix2 k x)) := by
  pointwise [expAll]
  rfl

theorem expTop_at (s : Vec Ideal S256x512 .f32) (k : Fin 256) (x : Fin 512) :
    expTop s (ix2 k x) = if k.val ≤ x.val then Ideal.exp2 (s (ix2 k x)) else 0 := by
  pointwise [expTop]
  rw [select_le _ _ (by omega) (by omega), negInf]
  exact exp2_ite _ _

theorem expLow_at (s : Vec Ideal S256x256 .f32) (k x : Fin 256) :
    expLow s (ix2 k x) = if k.val ≤ x.val then Ideal.exp2 (s (ix2 k x)) else 0 := by
  pointwise [expLow]
  rw [select_le _ _ (by omega) (by omega), negInf]
  exact exp2_ite _ _

/-- A tile's values with the rows of ones. -/
def aug (v : S1x1x1x128x512.Idx → EReal) (r : Fin 144) (k : Fin 512) : EReal :=
  if h : r.val < 128 then v (ix5 0 0 0 ⟨r.val, h⟩ k) else 1

theorem accAll_at (v : Vec Ideal S1x1x1x128x512 .bf16) (a : Vec Ideal S1x144x512 .f32) (p : Vec Ideal S512x512 .bf16) (r : Fin 144) (x : Fin 512) :
    accAll ones v a p (ix3 0 r x) = (a (ix3 0 r x) : EReal) + ∑ k : Fin 512, aug v r k * p (ix2 k x) := by
  pointwise [accAll, valTile, ones, aug]

theorem accRight_at (v : Vec Ideal S1x1x1x128x512 .bf16) (a : Vec Ideal S1x144x256 .f32) (p : Vec Ideal S512x256 .bf16) (r : Fin 144) (x : Fin 256) :
    accRight ones v a p (ix3 0 r x) = (a (ix3 0 r x) : EReal) + ∑ k : Fin 512, aug v r k * p (ix2 k x) := by
  pointwise [accRight, valTile, ones, aug]

theorem accLeft_at (v : Vec Ideal S1x1x1x128x512 .bf16) (a : Vec Ideal S1x144x256 .f32) (p : Vec Ideal S256x256 .bf16) (r : Fin 144) (x : Fin 256) :
    accLeft ones v a p (ix3 0 r x) = (a (ix3 0 r x) : EReal) + ∑ k : Fin 256, aug v r ⟨k.val, by omega⟩ * p (ix2 k x) := by
  pointwise [accLeft, valTile, ones, aug]

theorem outVal_at (A : Vec Ideal S1x128x512 .f32) (B : Vec Ideal S1x1x512 .f32) (r : Fin 512) (x : Fin 128) :
    outVal A B (ix3 0 r x) = Ideal.div (A (ix3 0 x r)) (B (ix3 0 0 r)) := by
  pointwise [outVal]

/-! ## The tiles' places -/

theorem off8_eq (w : BitVec 32) (hw : w.toNat < 16) : k0_off8 w = ![0, 0, w.toNat * 512, 0] :=
  chk_of_lt (P := fun w => k0_off8 w = ![0, 0, w.toNat * 512, 0]) (by decide +kernel) w hw
theorem off9_eq (w : BitVec 32) (hw : w.toNat < 16) : k0_off9 w = ![0, w.toNat * 512, 0] :=
  chk_of_lt (P := fun w => k0_off9 w = ![0, w.toNat * 512, 0]) (by decide +kernel) w hw
theorem off11_eq (w : BitVec 32) (hw : w.toNat < 16) : k0_off11 w = ![0, 0, w.toNat, 0, 0] :=
  chk_of_lt (P := fun w => k0_off11 w = ![0, 0, w.toNat, 0, 0]) (by decide +kernel) w hw
theorem off13_eq (w : BitVec 32) (hw : w.toNat < 16) : k0_off13 w = ![0, 0, w.toNat, 0, 0] :=
  chk_of_lt (P := fun w => k0_off13 w = ![0, 0, w.toNat, 0, 0]) (by decide +kernel) w hw
theorem off14_eq (w : BitVec 32) (hw : w.toNat < 16) : k0_off14 w = ![w.toNat, 0, 0] :=
  chk_of_lt (P := fun w => k0_off14 w = ![w.toNat, 0, 0]) (by decide +kernel) w hw
theorem off15_eq (w : BitVec 32) (hw : w.toNat < 16) : k0_off15 w = ![w.toNat, 0, 256] :=
  chk_of_lt (P := fun w => k0_off15 w = ![w.toNat, 0, 256]) (by decide +kernel) w hw
theorem off47_eq (w : BitVec 32) (hw : w.toNat < 16) : k0_off47 w = ![w.toNat, 0, 0] :=
  chk_of_lt (P := fun w => k0_off47 w = ![w.toNat, 0, 0]) (by decide +kernel) w hw

theorem emb_val' {S : Shape} (off off' size : Fin S.rank → ℕ) (inb : ∀ a, off a + size a ≤ S.size a) (e : off = off') (x : (Rect.unit off size inb).shape.Idx) (a : Fin S.rank) :
    ((Rect.unit off size inb).emb x a).val = off' a + (x a).val := by
  subst e; exact emb_val _ _ _ _ _

theorem tKN_at (KN : S1x1x8192x128.Idx → EReal) (j : BitVec 32) (hj : k0_chk5 j) (h : j.toNat < 16) (k : Fin 512) (f : Fin 128) :
    tKN (F := Ideal) KN j hj (ix4 0 0 k f) = KN (ix4 0 0 ⟨j.toNat * 512 + k.val, by omega⟩ f) := by
  refine congrArg KN (funext fun a => Fin.ext ?_)
  exact (emb_val' _ _ _ _ (off8_eq j h) _ a).trans (by fin_cases a <;> simp)

theorem tKR_at (KR : S1x8192x128.Idx → EReal) (j : BitVec 32) (hj : k0_chk5 j) (h : j.toNat < 16) (k : Fin 512) (f : Fin 128) :
    tKR (F := Ideal) KR j hj (ix3 0 k f) = KR (ix3 0 ⟨j.toNat * 512 + k.val, by omega⟩ f) := by
  refine congrArg KR (funext fun a => Fin.ext ?_)
  exact (emb_val' _ _ _ _ (off9_eq j h) _ a).trans (by fin_cases a <;> simp)

theorem tQ_at (Q : S1x1x16x256x512.Idx → EReal) (i : BitVec 32) (hi : k0_chk6 i) (h : i.toNat < 16) (f : Fin 256) (x : Fin 512) :
    tQ (F := Ideal) Q i hi (ix5 0 0 0 f x) = Q (ix5 0 0 ⟨i.toNat, h⟩ f x) := by
  refine congrArg Q (funext fun a => Fin.ext ?_)
  exact (emb_val' _ _ _ _ (off11_eq i h) _ a).trans (by fin_cases a <;> simp)

theorem tVT_at (VT : S1x1x16x128x512.Idx → EReal) (j : BitVec 32) (hj : k0_chk7 j) (h : j.toNat < 16) (f : Fin 128) (x : Fin 512) :
    tVT (F := Ideal) VT j hj (ix5 0 0 0 f x) = VT (ix5 0 0 ⟨j.toNat, h⟩ f x) := by
  refine congrArg VT (funext fun a => Fin.ext ?_)
  exact (emb_val' _ _ _ _ (off13_eq j h) _ a).trans (by fin_cases a <;> simp)

/-! ## A pair's scores and weights -/

/-- The score of key `y` against query `x` of tile `i`. -/
def scoreI (I : Ins Ideal) (i : Fin 16) (x : Fin 512) (y : Fin 8192) : EReal :=
  (∑ f : Fin 128, I.KN (ix4 0 0 y f) * I.Q (ix5 0 0 i ⟨f.val, by omega⟩ x)) + ∑ f : Fin 128, I.KR (ix3 0 y f) * I.Q (ix5 0 0 i ⟨128 + f.val, by omega⟩ x)

/-- The key's weight: two to the score for the keys at or before the query, else none. -/
def wgt (I : Ins Ideal) (i : Fin 16) (x : Fin 512) (y : Fin 8192) : EReal :=
  if y.val ≤ i.val * 512 + x.val then Ideal.exp2 (scoreI I i x y) else 0

/-- Key `k` of tile `j`. -/
abbrev ky (j : Fin 16) (k : Fin 512) : Fin 8192 := ⟨j.val * 512 + k.val, by omega⟩

/-- The table's entries at position `n`. -/
def ti (I : Ins Ideal) (n : ℕ) (h : n < 138) : Fin 16 := ⟨(I.wi ![n] (inbT n h)).toNat, I.lt2 _⟩
def tj (I : Ins Ideal) (n : ℕ) (h : n < 138) : Fin 16 := ⟨(I.wj ![n] (inbT n h)).toNat, I.lt3 _⟩

section
variable {α : Type}
theorem rLow_emb (k x : Fin 256) : rLow.emb (ix2 k x) = ix2 (⟨256 + k.val, by omega⟩ : Fin 512) (⟨256 + x.val, by omega⟩ : Fin 512) := by
  funext a; apply Fin.ext; rw [emb_val]; fin_cases a <;> simp
theorem rTop_emb (k : Fin 256) (x : Fin 512) : rTop.emb (ix2 k x) = ix2 (⟨k.val, by omega⟩ : Fin 512) x := by
  funext a; apply Fin.ext; rw [emb_val]; fin_cases a <;> simp
theorem rAll_emb (k x : Fin 512) : rAll.emb (ix2 k x) = ix2 k x := by
  funext a; apply Fin.ext; rw [emb_val]; fin_cases a <;> simp
theorem rCorner_emb (k x : Fin 256) : rCorner.emb (ix2 k x) = ix2 (⟨k.val, by omega⟩ : Fin 512) (⟨x.val, by omega⟩ : Fin 512) := by
  funext a; apply Fin.ext; rw [emb_val]; fin_cases a <;> simp
theorem rRight_emb (k : Fin 512) (x : Fin 256) : rRight.emb (ix2 k x) = ix2 k (⟨256 + x.val, by omega⟩ : Fin 512) := by
  funext a; apply Fin.ext; rw [emb_val]; fin_cases a <;> simp

theorem low_hit (w : rLow.shape.Idx → α) (v : S512x512.Idx → α) (k x : Fin 256) :
    put rLow w v (ix2 ⟨256 + k.val, by omega⟩ ⟨256 + x.val, by omega⟩) = w (ix2 k x) := put_hit rLow w v (ix2 k x) _ (rLow_emb k x)
theorem low_miss (w : rLow.shape.Idx → α) (v : S512x512.Idx → α) (k : Fin 256) (x : Fin 512) :
    put rLow w v (ix2 ⟨k.val, by omega⟩ x) = v (ix2 ⟨k.val, by omega⟩ x) := put_miss _ _ _ _ (fun z hz => by
  have e := congrArg Fin.val (congrFun hz 0)
  rw [emb_val] at e
  have e : 256 + (z 0).val = k.val := e
  have := k.isLt; omega)
theorem top_hit (w : rTop.shape.Idx → α) (v : S512x512.Idx → α) (k : Fin 256) (x : Fin 512) :
    put rTop w v (ix2 ⟨k.val, by omega⟩ x) = w (ix2 k x) := put_hit rTop w v (ix2 k x) _ (rTop_emb k x)
theorem all_hit (w : rAll.shape.Idx → α) (v : S512x512.Idx → α) (k x : Fin 512) :
    put rAll w v (ix2 k x) = w (ix2 k x) := put_hit rAll w v (ix2 k x) _ (rAll_emb k x)
end

variable (I : Ins Ideal) (n : ℕ) (h : n < 138)

theorem wi_lt : (I.wi ![n] (inbT n h)).toNat < 16 := I.lt2 _
theorem wj_lt : (I.wj ![n] (inbT n h)).toNat < 16 := I.lt3 _

theorem sc_low (hd : isDiag n = true) (k x : Fin 256) :
    sc I n h (ix2 ⟨256 + k.val, by omega⟩ ⟨256 + x.val, by omega⟩) = scoreI I (ti I n h) ⟨256 + x.val, by omega⟩ (ky (tj I n h) ⟨256 + k.val, by omega⟩) := by
  unfold sc scF
  rw [hd, cond_true, low_hit, scoreLow_at]
  simp only [tKN_at _ _ _ (wj_lt I n h), tKR_at _ _ _ (wj_lt I n h), tQ_at _ _ _ (wi_lt I n h)]
  rfl

theorem sc_top (hd : isDiag n = true) (k : Fin 256) (x : Fin 512) :
    sc I n h (ix2 ⟨k.val, by omega⟩ x) = scoreI I (ti I n h) x (ky (tj I n h) ⟨k.val, by omega⟩) := by
  unfold sc scF
  rw [hd, cond_true, low_miss, top_hit, scoreTop_at]
  simp only [tKN_at _ _ _ (wj_lt I n h), tKR_at _ _ _ (wj_lt I n h), tQ_at _ _ _ (wi_lt I n h)]
  rfl

theorem sc_all (hd : isDiag n = false) (k x : Fin 512) : sc I n h (ix2 k x) = scoreI I (ti I n h) x (ky (tj I n h) k) := by
  unfold sc scF
  rw [hd, cond_false, all_hit, scoreAll_at]
  simp only [tKN_at _ _ _ (wj_lt I n h), tKR_at _ _ _ (wj_lt I n h), tQ_at _ _ _ (wi_lt I n h)]
  rfl

theorem pc_low (hd : isDiag n = true) (e : ti I n h = tj I n h) (k x : Fin 256) :
    pc I n h (ix2 ⟨256 + k.val, by omega⟩ ⟨256 + x.val, by omega⟩) = wgt I (ti I n h) ⟨256 + x.val, by omega⟩ (ky (tj I n h) ⟨256 + k.val, by omega⟩) := by
  unfold pc prF
  rw [hd, cond_true, low_hit, expLow_at]
  unfold wgt ld
  rw [rLow_emb, sc_low I n h hd, e]
  refine if_congr ?_ rfl rfl
  show _ ↔ _ * 512 + (256 + k.val) ≤ _ * 512 + (256 + x.val)
  omega

theorem pc_top (hd : isDiag n = true) (e : ti I n h = tj I n h) (k : Fin 256) (x : Fin 512) :
    pc I n h (ix2 ⟨k.val, by omega⟩ x) = wgt I (ti I n h) x (ky (tj I n h) ⟨k.val, by omega⟩) := by
  unfold pc prF
  rw [hd, cond_true, low_miss, top_hit, expTop_at]
  unfold wgt ld
  rw [rTop_emb, sc_top I n h hd, e]
  refine if_congr ?_ rfl rfl
  show _ ↔ _ * 512 + k.val ≤ _ * 512 + x.val
  omega

theorem pc_all (hd : isDiag n = false) (e : tj I n h < ti I n h) (k x : Fin 512) :
    pc I n h (ix2 k x) = wgt I (ti I n h) x (ky (tj I n h) k) := by
  unfold pc prF
  rw [hd, cond_false, all_hit, expAll_at]
  unfold wgt ld
  rw [rAll_emb, sc_all I n h hd, if_pos]
  show _ * 512 + k.val ≤ _ * 512 + x.val
  have : (tj I n h).val < (ti I n h).val := e
  omega

/-! ## What a pair adds to the accumulator -/

/-- Row `r` of the values of key `y`, the rows past the 128th all ones. -/
def vrow (I : Ins Ideal) (r : Fin 144) (j : Fin 16) (k : Fin 512) : EReal :=
  if h : r.val < 128 then I.VT (ix5 0 0 j ⟨r.val, h⟩ k) else 1

/-- A pair's part of the accumulator. -/
def part (I : Ins Ideal) (i j : Fin 16) (r : Fin 144) (x : Fin 512) : EReal :=
  ∑ k : Fin 512, vrow I r j k * wgt I i x (ky j k)

theorem aug_tVT (r : Fin 144) (k : Fin 512) :
    aug (tVT (F := Ideal) I.VT (I.wj ![n] (inbT n h)) (chk7_of _ (I.lt3 _))) r k = vrow I r (tj I n h) k := by
  unfold aug vrow
  split
  · exact tVT_at _ _ _ (wj_lt I n h) _ _
  · rfl

theorem rAcc_emb (w : BitVec 32) (hw : w.toNat < 16) (hc : k0_chk24 w) (r : Fin 144) (x : Fin 512) :
    (rAcc w hc).emb (ix3 0 r x) = ix3 (⟨w.toNat, hw⟩ : Fin 16) r x := by
  funext a; apply Fin.ext
  exact (emb_val' _ _ _ _ (off47_eq w hw) _ a).trans (by fin_cases a <;> simp)
theorem rAccL_emb (w : BitVec 32) (hw : w.toNat < 16) (hc : k0_chk8 w) (r : Fin 144) (x : Fin 256) :
    (rAccL w hc).emb (ix3 0 r x) = ix3 (⟨w.toNat, hw⟩ : Fin 16) r (⟨x.val, (Nat.lt_trans x.isLt (by decide))⟩ : Fin 512) := by
  funext a; apply Fin.ext
  exact (emb_val' _ _ _ _ (off14_eq w hw) _ a).trans (by fin_cases a <;> simp)
theorem rAccR_emb (w : BitVec 32) (hw : w.toNat < 16) (hc : k0_chk8 w) (r : Fin 144) (x : Fin 256) :
    (rAccR w hc).emb (ix3 0 r x) = ix3 (⟨w.toNat, hw⟩ : Fin 16) r (⟨256 + x.val, (Nat.add_lt_add_left x.isLt 256)⟩ : Fin 512) := by
  funext a; apply Fin.ext
  exact (emb_val' _ _ _ _ (off15_eq w hw) _ a).trans (by fin_cases a <;> simp)

theorem rAcc_ti (r : Fin 144) (x : Fin 512) : (rAcc (I.wi ![n] (inbT n h)) (chk24_of _ (I.lt2 _))).emb (ix3 0 r x) = ix3 (ti I n h) r x :=
  rAcc_emb _ (wi_lt I n h) _ r x
theorem rAccL_ti (r : Fin 144) (x : Fin 256) : (rAccL (I.wi ![n] (inbT n h)) (chk8_of _ (I.lt2 _))).emb (ix3 0 r x) = ix3 (ti I n h) r (⟨x.val, by omega⟩ : Fin 512) :=
  rAccL_emb _ (wi_lt I n h) _ r x
theorem rAccR_ti (r : Fin 144) (x : Fin 256) : (rAccR (I.wi ![n] (inbT n h)) (chk8_of _ (I.lt2 _))).emb (ix3 0 r x) = ix3 (ti I n h) r (⟨256 + x.val, by omega⟩ : Fin 512) :=
  rAccR_emb _ (wi_lt I n h) _ r x

theorem acc_miss (w : BitVec 32) (hw : w.toNat < 16) (hc : k0_chk24 w) (g : (rAcc w hc).shape.Idx → EReal) (A : S16x144x512.Idx → EReal)
    (i : Fin 16) (hi : i ≠ ⟨w.toNat, hw⟩) (r : Fin 144) (x : Fin 512) : put (rAcc w hc) g A (ix3 i r x) = A (ix3 i r x) := by
  refine put_miss (rAcc w hc) g A _ fun z hz => hi (Fin.ext ?_)
  have e := congrArg Fin.val (congrFun hz 0)
  rw [emb_val' _ _ _ _ (off47_eq w hw)] at e
  have e : w.toNat + (z 0).val = i.val := e
  have : (z 0).val < 1 := (z 0).isLt
  show i.val = w.toNat
  omega
theorem accL_miss (w : BitVec 32) (hw : w.toNat < 16) (hc : k0_chk8 w) (g : (rAccL w hc).shape.Idx → EReal) (A : S16x144x512.Idx → EReal)
    (i : Fin 16) (r : Fin 144) (x : Fin 512) (hi : i ≠ ⟨w.toNat, hw⟩ ∨ 256 ≤ x.val) : put (rAccL w hc) g A (ix3 i r x) = A (ix3 i r x) := by
  refine put_miss (rAccL w hc) g A _ fun z hz => ?_
  have e := congrArg Fin.val (congrFun hz 0)
  have e2 := congrArg Fin.val (congrFun hz 2)
  rw [emb_val' _ _ _ _ (off14_eq w hw)] at e e2
  have e : w.toNat + (z 0).val = i.val := e
  have e2 : 0 + (z 2).val = x.val := e2
  have : (z 0).val < 1 := (z 0).isLt
  have : (z 2).val < 256 := (z 2).isLt
  rcases hi with hi | hi
  · exact hi (Fin.ext (by show i.val = w.toNat; omega))
  · omega
theorem accR_miss (w : BitVec 32) (hw : w.toNat < 16) (hc : k0_chk8 w) (g : (rAccR w hc).shape.Idx → EReal) (A : S16x144x512.Idx → EReal)
    (i : Fin 16) (r : Fin 144) (x : Fin 512) (hi : i ≠ ⟨w.toNat, hw⟩ ∨ x.val < 256) : put (rAccR w hc) g A (ix3 i r x) = A (ix3 i r x) := by
  refine put_miss (rAccR w hc) g A _ fun z hz => ?_
  have e := congrArg Fin.val (congrFun hz 0)
  have e2 := congrArg Fin.val (congrFun hz 2)
  rw [emb_val' _ _ _ _ (off15_eq w hw)] at e e2
  have e : w.toNat + (z 0).val = i.val := e
  have e2 : 256 + (z 2).val = x.val := e2
  have : (z 0).val < 1 := (z 0).isLt
  rcases hi with hi | hi
  · exact hi (Fin.ext (by show i.val = w.toNat; omega))
  · omega

/-- The update of the accumulator by a pair below the diagonal, -/
theorem va_below (A : S16x144x512.Idx → EReal) (hd : isDiag n = false) (e : tj I n h < ti I n h) (i : Fin 16) (r : Fin 144) (x : Fin 512) :
    vaF I (isDiag n) ![n] (inbT n h) (pc I n h) A (ix3 i r x) = A (ix3 i r x) + if i = ti I n h then part I (ti I n h) (tj I n h) r x else 0 := by
  unfold vaF
  rw [hd, cond_false]
  by_cases hi : i = ti I n h
  · subst hi
    rw [if_pos rfl, put_hit _ _ _ _ _ (rAcc_ti I n h r x), accAll_at]
    unfold part ld
    rw [rAcc_ti]
    refine congrArg _ (Finset.sum_congr rfl fun k _ => ?_)
    rw [aug_tVT, rAll_emb, pc_all I n h hd e]
  · rw [if_neg hi, add_zero]
    exact acc_miss _ (wi_lt I n h) _ _ _ i hi r x

/-- and by one on it: past the last query of the first half no weight is left. -/
theorem va_diag (A : S16x144x512.Idx → EReal) (hd : isDiag n = true) (e : ti I n h = tj I n h) (i : Fin 16) (r : Fin 144) (x : Fin 512) :
    vaF I (isDiag n) ![n] (inbT n h) (pc I n h) A (ix3 i r x) = A (ix3 i r x) + if i = ti I n h then part I (ti I n h) (tj I n h) r x else 0 := by
  unfold vaF
  rw [hd, cond_true]
  by_cases hi : i = ti I n h
  · subst hi
    rw [if_pos rfl]
    by_cases hx : x.val < 256
    · have hx2 : ∃ x' : Fin 256, x = ⟨x'.val, (Nat.lt_trans x'.isLt (by decide))⟩ := ⟨⟨x.val, hx⟩, rfl⟩
      obtain ⟨x', rfl⟩ := hx2
      rw [accR_miss _ (wi_lt I n h) _ _ _ _ r _ (.inr hx), put_hit _ _ _ _ _ (rAccL_ti I n h r x'), accLeft_at]
      unfold part ld
      rw [rAccL_ti]
      refine congrArg _ ?_
      rw [Fin.sum_univ_two_halves 256 256 rfl]
      have hz : ∑ k : Fin 256, vrow I r (tj I n h) ⟨256 + k.val, by omega⟩ * wgt I (ti I n h) ⟨x'.val, by omega⟩ (ky (tj I n h) ⟨256 + k.val, by omega⟩) = 0 := by
        refine Finset.sum_eq_zero fun k _ => ?_
        unfold wgt
        rw [if_neg, mul_zero]
        rw [e]
        show ¬ (_ * 512 + (256 + k.val) ≤ _ * 512 + x'.val)
        omega
      rw [hz, add_zero]
      refine Finset.sum_congr rfl fun k _ => ?_
      rw [aug_tVT, rCorner_emb, pc_top I n h hd e]
    · have hx2 : ∃ x' : Fin 256, x = ⟨256 + x'.val, (Nat.add_lt_add_left x'.isLt 256)⟩ := ⟨⟨x.val - 256, by omega⟩, Fin.ext (by show x.val = 256 + (x.val - 256); omega)⟩
      obtain ⟨x', rfl⟩ := hx2
      rw [put_hit _ _ _ _ _ (rAccR_ti I n h r x'), accRight_at]
      unfold part
      have hA : ∀ A' : S16x144x512.Idx → EReal, ld (rAccR (I.wi ![n] (inbT n h)) (chk8_of _ (I.lt2 _))) A' (ix3 0 r x') = A' (ix3 (ti I n h) r ⟨256 + x'.val, by omega⟩) := fun A' => by
        unfold ld; rw [rAccR_ti]
      rw [hA, accL_miss _ (wi_lt I n h) _ _ _ _ r _ (.inr (Nat.le_add_right _ _))]
      refine congrArg _ (Finset.sum_congr rfl fun k _ => ?_)
      rw [aug_tVT]
      unfold ld
      rw [rRight_emb]
      refine congrArg _ ?_
      by_cases hk : k.val < 256
      · exact pc_top I n h hd e ⟨k.val, hk⟩ ⟨256 + x'.val, by omega⟩
      · have hx2 : ∃ k' : Fin 256, k = ⟨256 + k'.val, (Nat.add_lt_add_left k'.isLt 256)⟩ := ⟨⟨k.val - 256, by omega⟩, Fin.ext (by show k.val = 256 + (k.val - 256); omega)⟩
        obtain ⟨k', rfl⟩ := hx2
        exact pc_low I n h hd e k' x'
  · rw [if_neg hi, add_zero, accR_miss _ (wi_lt I n h) _ _ _ i r x (.inl hi), accL_miss _ (wi_lt I n h) _ _ _ i r x (.inl hi)]

end Cert.KernelIdeal.Att

end
-- ==== Proof.Soft.lean ====
/-
  The softmax identity over the extended reals: a weighted mean whose weights are powers of two of finite scores does not
  depend on what is subtracted from the scores first, whatever the values averaged are.
-/
module

public import Idealize.ShloMosaic.PureOps.Ideal

@[expose] public section

noncomputable section

namespace Cert.Soft

open Idealize.ShloMosaic

/-- A positive real distributes over a sum of extended reals. -/
theorem sum_mul_real {ι : Type} (t : Finset ι) (f : ι → EReal) (r : ℝ) (hr : 0 ≤ r) : (∑ i ∈ t, f i) * (r : EReal) = ∑ i ∈ t, f i * (r : EReal) := by
  classical
  induction t using Finset.induction_on with
  | empty => simp
  | insert a t ha ih =>
    rw [Finset.sum_insert ha, Finset.sum_insert ha, ← ih]
    exact EReal.right_distrib_of_nonneg_of_ne_top (by exact_mod_cast hr) (EReal.coe_ne_top r) _ _

theorem coe_sum {ι : Type} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- The largest of the scores that count, one at least, is finite when they are. -/
theorem max_real {N : ℕ} (σ : Fin N → ℝ) (p : Fin N → Prop) [DecidablePred p] (y0 : Fin N) (h0 : p y0) :
    ∃ μ : ℝ, Finset.univ.fold max (⊥ : EReal) (fun y => if p y then (σ y : EReal) else ⊥) = (μ : EReal) := by
  have h1 : Finset.univ.fold max (⊥ : EReal) (fun y => if p y then (σ y : EReal) else ⊥) < ⊤ := by
    rw [Finset.fold_max_lt]
    refine ⟨bot_lt_top, fun y _ => ?_⟩
    split
    · exact EReal.coe_lt_top _
    · exact bot_lt_top
  have h2 : ⊥ < Finset.univ.fold max (⊥ : EReal) (fun y => if p y then (σ y : EReal) else ⊥) := by
    rw [Finset.lt_fold_max]
    exact .inr ⟨y0, Finset.mem_univ _, by rw [if_pos h0]; exact EReal.bot_lt_coe _⟩
  exact ⟨_, (EReal.coe_toReal h1.ne h2.ne').symm⟩

theorem soft {N : ℕ} (s v : Fin N → EReal) (p : Fin N → Prop) [DecidablePred p] (y0 : Fin N) (h0 : p y0) (hs : ∀ y, ∃ r : ℝ, s y = (r : EReal)) :
    (∑ y, Ideal.div (Ideal.pow ((2 : ℝ) : EReal) ((if p y then s y else ⊥) - Finset.univ.fold max (⊥ : EReal) (fun y => if p y then s y else ⊥)))
        (∑ z, Ideal.pow ((2 : ℝ) : EReal) ((if p z then s z else ⊥) - Finset.univ.fold max (⊥ : EReal) (fun y => if p y then s y else ⊥))) * v y)
      = Ideal.div (∑ y, v y * (if p y then Ideal.exp2 (s y) else 0)) (∑ y, if p y then Ideal.exp2 (s y) else 0) := by
  choose σ hσ using hs
  obtain rfl : s = fun y => (σ y : EReal) := funext hσ
  obtain ⟨μ, hμ⟩ := max_real σ p y0 h0
  simp only [hμ]
  have he : ∀ y, Ideal.pow ((2 : ℝ) : EReal) ((if p y then (σ y : EReal) else ⊥) - (μ : EReal)) = (((if p y then (2 : ℝ) ^ σ y else 0) * (2 : ℝ) ^ (-μ) : ℝ) : EReal) := by
    intro y
    by_cases h : p y
    · rw [if_pos h, if_pos h, ← EReal.coe_sub, Ideal.pow_coe_coe, ← Real.rpow_add two_pos, ← sub_eq_add_neg]
      rfl
    · rw [if_neg h, if_neg h, EReal.bot_sub, Ideal.pow_coe_bot, zero_mul, if_neg (by norm_num), if_pos (by norm_num)]
      rfl
  have hw : ∀ y, (if p y then Ideal.exp2 (σ y : EReal) else 0) = (((if p y then (2 : ℝ) ^ σ y else 0) : ℝ) : EReal) := by
    intro y
    by_cases h : p y
    · rw [if_pos h, if_pos h]; rfl
    · rw [if_neg h, if_neg h]; rfl
  simp only [he, hw]
  have hΩ : 0 < ∑ y, (if p y then (2 : ℝ) ^ σ y else 0) := by
    refine Finset.sum_pos' (fun y _ => ?_) ⟨y0, Finset.mem_univ _, ?_⟩
    · split
      · exact (Real.rpow_pos_of_pos two_pos _).le
      · exact le_rfl
    · rw [if_pos h0]; exact Real.rpow_pos_of_pos two_pos _
  have hc : 0 < (2 : ℝ) ^ (-μ) := Real.rpow_pos_of_pos two_pos _
  rw [← coe_sum, ← coe_sum, ← Finset.sum_mul, Ideal.div_coe hΩ.ne', sum_mul_real _ _ _ (by positivity)]
  refine Finset.sum_congr rfl fun y _ => ?_
  rw [Ideal.div_coe (mul_pos hΩ hc).ne', ← EReal.coe_mul, mul_comm _ (v y), mul_assoc (v y), ← EReal.coe_mul]
  refine congrArg (fun r : ℝ => v y * (r : EReal)) ?_
  field_simp

end Cert.Soft

end
-- ==== Proof.RVal.lean ====
/-
  The reference's attention over the extended reals, read at one element: for finite scores, the values weighted by two to
  the score, over the sum of the weights.
-/
module

public import proofs.«01_k».proof.Proof.Gen.ReferenceIdeal.Run
public import proofs.«01_k».proof.Proof.KVal
public import proofs.«01_k».proof.Proof.Soft

@[expose] public section

set_option maxRecDepth 16384

noncomputable section

namespace Cert.ReferenceIdeal.Att

open Cert.ReferenceIdeal
open Idealize.ShloMosaic Idealize.ShloMosaic.TcCoe
open Cert.KernelIdeal.Att (negInf select_le)

/-- The score of key `y` against query `x` in a head. -/
def scoreR (q : S4x8x16x256x512.Idx → EReal) (kn : S4x8x8192x128.Idx → EReal) (kr : S4x8192x128.Idx → EReal) (b : Fin 4) (h : Fin 8) (x y : Fin 8192) : EReal :=
  (∑ f : Fin 128, q (ix5 b h ⟨x.val / 512, by omega⟩ ⟨f.val, by omega⟩ ⟨x.val % 512, by omega⟩) * kn (ix4 b h y f))
    + ∑ f : Fin 128, q (ix5 b h ⟨x.val / 512, by omega⟩ ⟨128 + f.val, by omega⟩ ⟨x.val % 512, by omega⟩) * kr (ix3 b y f)

theorem select_le' {α : Type} (a b : Fin 8192) (u v : α) :
    Scalar.select (IntOp.cmpi .sle (BitVec.ofNat 32 a.val) (BitVec.ofNat 32 b.val)) u v = if a.val ≤ b.val then u else v :=
  select_le _ _ (by omega) (by omega) u v

theorem two_word : Ideal.ofBits .f32 0x40000000#32 = ((2 : ℝ) : EReal) := by
  simp [Ideal.ofBits, Ideal.ieee]
  rw [← EReal.coe_mul]
  norm_num

theorem neg_const : (id (constant (F := Ideal) S_ .f32 0xFF800000#32) ix0 : EReal) = ⊥ := negInf

/-- The arguments as arrays of extended reals. -/
abbrev aQ (m : (ℓ : Loc nD τ sig) → Buf (Elt Ideal) ℓ) (c : Dev nD) : S4x8x16x256x512.Idx → EReal := m ((c.tc : Thread nD τ).loc main_arg0)
abbrev aN (m : (ℓ : Loc nD τ sig) → Buf (Elt Ideal) ℓ) (c : Dev nD) : S4x8x8192x128.Idx → EReal := m ((c.tc : Thread nD τ).loc main_arg1)
abbrev aR (m : (ℓ : Loc nD τ sig) → Buf (Elt Ideal) ℓ) (c : Dev nD) : S4x8192x128.Idx → EReal := m ((c.tc : Thread nD τ).loc main_arg2)
abbrev aV (m : (ℓ : Loc nD τ sig) → Buf (Elt Ideal) ℓ) (c : Dev nD) : S4x8x16x128x512.Idx → EReal := m ((c.tc : Thread nD τ).loc main_arg3)

theorem ref_at (m : (ℓ : Loc nD τ sig) → Buf (Elt Ideal) ℓ) (c : Dev nD) (b : Fin 4) (h : Fin 8) (x : Fin 8192) (d : Fin 128)
    (hs : ∀ y, ∃ r : ℝ, scoreR (aQ m c) (aN m c) (aR m c) b h x y = (r : EReal)) :
    Value.res_main_v32 m c (ix3 b x (⟨h.val * 128 + d.val, by omega⟩ : Fin 1024))
      = Ideal.div
          (∑ y : Fin 8192, aV m c (ix5 b h ⟨y.val / 512, by omega⟩ d ⟨y.val % 512, by omega⟩)
            * (if y.val ≤ x.val then Ideal.exp2 (scoreR (aQ m c) (aN m c) (aR m c) b h x y) else 0))
          (∑ y : Fin 8192, if y.val ≤ x.val then Ideal.exp2 (scoreR (aQ m c) (aN m c) (aR m c) b h x y) else 0) := by
  have e1 : (⟨(h.val * 128 + d.val) / 128, by omega⟩ : Fin 8) = h := Fin.ext (by show (h.val * 128 + d.val) / 128 = h.val; omega)
  have e2 : (⟨(h.val * 128 + d.val) % 128, by omega⟩ : Fin 128) = d := Fin.ext (by show (h.val * 128 + d.val) % 128 = d.val; omega)
  refine Eq.trans ?_ (Cert.Soft.soft (fun y => scoreR (aQ m c) (aN m c) (aR m c) b h x y)
    (fun y => aV m c (ix5 b h ⟨y.val / 512, by omega⟩ d ⟨y.val % 512, by omega⟩)) (fun y => y.val ≤ x.val) x le_rfl hs)
  pointwise [Value.res_main_v32]
  simp only [e1, e2, select_le', two_word, neg_const, negInf]
  rfl

end Cert.ReferenceIdeal.Att

end
-- ==== Proof.KAcc.lean ====
/-
  The attention kernel's accumulator and output block over the extended reals: the sums over all the keys of a head, and
  their quotient.
-/
module

public import proofs.«01_k».proof.Proof.KVal
public import proofs.«01_k».proof.Proof.KLaunch

@[expose] public section

set_option maxRecDepth 16384

noncomputable section

namespace Cert.KernelIdeal.Att

open Cert.KernelIdeal Cert.KernelIdeal.Gen
open Idealize.ShloMosaic

/-! ## The table -/

/-- The tables' entries as numbers, zero past the end. -/
def nI (n : ℕ) : ℕ := if h : n < 138 then (lit0 ⟨n, h⟩).toNat else 0
def nJ (n : ℕ) : ℕ := if h : n < 138 then (lit1 ⟨n, h⟩).toNat else 0

theorem tab_diag : ∀ n : Fin 136, isDiag n.val = true → nI n.val = nJ n.val := by decide +kernel
theorem tab_below : ∀ n : Fin 136, isDiag n.val = false → nJ n.val < nI n.val := by decide +kernel

/-- The key tiles paired with query tile `i` are those up to `i`, each once. -/
theorem tab_row : ∀ i : Fin 16, ((Finset.range 136).filter (fun n => nI n = i.val)).val.map nJ = (Finset.range (i.val + 1)).val := by decide +kernel

variable (I : Ins Ideal) (h2 : I.T2 = tabI) (h3 : I.T3 = tabJ)

include h2 in
theorem ti_val (n : ℕ) (h : n < 138) : (ti I n h).val = nI n := by
  unfold nI
  rw [dif_pos h]
  show (I.T2 _).toNat = _
  rw [h2]
  show (lit0 (S138.rowMajor _)).toNat = _
  refine congrArg (fun z => (lit0 z).toNat) (Fin.ext ?_)
  refine (rowMajor_val1 (d := ![138]) _).trans ?_
  rw [emb_val]
  rfl

include h3 in
theorem tj_val (n : ℕ) (h : n < 138) : (tj I n h).val = nJ n := by
  unfold nJ
  rw [dif_pos h]
  show (I.T3 _).toNat = _
  rw [h3]
  show (lit1 (S138.rowMajor _)).toNat = _
  refine congrArg (fun z => (lit1 z).toNat) (Fin.ext ?_)
  refine (rowMajor_val1 (d := ![138]) _).trans ?_
  rw [emb_val]
  rfl

/-! ## The accumulator -/

/-- A key tile's part of the accumulator, zero past the last tile. -/
def partN (i : Fin 16) (r : Fin 144) (x : Fin 512) (j : ℕ) : EReal := if h : j < 16 then part I i ⟨j, h⟩ r x else 0

include h2 h3 in
theorem acc_step (A : S16x144x512.Idx → EReal) (n : ℕ) (hn : n < 136) (i : Fin 16) (r : Fin 144) (x : Fin 512) :
    vaF I (isDiag n) ![n] (inbT n (by omega)) (pc I n (by omega)) A (ix3 i r x) = A (ix3 i r x) + if nI n = i.val then partN I i r x (nJ n) else 0 := by
  have hi := ti_val I h2 n (by omega)
  have hj := tj_val I h3 n (by omega)
  have e : vaF I (isDiag n) ![n] (inbT n (by omega)) (pc I n (by omega)) A (ix3 i r x)
      = A (ix3 i r x) + if i = ti I n (by omega) then part I (ti I n (by omega)) (tj I n (by omega)) r x else 0 := by
    cases hd : isDiag n
    · rw [← hd]
      exact va_below I n (by omega) A hd (by
        show (tj I n _).val < (ti I n _).val
        rw [hi, hj]; exact tab_below ⟨n, hn⟩ hd) i r x
    · rw [← hd]
      exact va_diag I n (by omega) A hd (Fin.ext (by rw [hi, hj]; exact tab_diag ⟨n, hn⟩ hd)) i r x
  rw [e]
  refine congrArg _ ?_
  by_cases hc : i = ti I n (by omega)
  · rw [if_pos hc, if_pos (by rw [← hi, ← hc])]
    unfold partN
    rw [dif_pos (by rw [← hj]; exact (tj I n (by omega)).isLt), ← hc]
    exact congrArg (fun z => part I i z r x) (Fin.ext hj)
  · rw [if_neg hc, if_neg (fun hh => hc (Fin.ext (by rw [hi, hh])))]

include h2 h3 in
theorem acc_sum (i : Fin 16) (r : Fin 144) (x : Fin 512) : ∀ n : ℕ, n ≤ 136 →
    accN I n (ix3 i r x) = ∑ m ∈ Finset.range n, if nI m = i.val then partN I i r x (nJ m) else 0
  | 0, _ => by
    show Ideal.ofBits .f32 0x00000000#32 = _
    rw [Ideal.ofBits_zero_f32]; rfl
  | n + 1, hn => by
    rw [Finset.sum_range_succ, ← acc_sum i r x n (by omega)]
    show (if h : n < 138 then vaF I (isDiag n) ![n] (inbT n h) (pc I n h) (accN I n) else accN I n) (ix3 i r x) = _
    rw [dif_pos (by omega)]
    exact acc_step I h2 h3 (accN I n) n (by omega) i r x

/-- A key tile after the query's has no weight. -/
theorem part_after (i j : Fin 16) (hij : i.val < j.val) (r : Fin 144) (x : Fin 512) : part I i j r x = 0 := by
  unfold part
  refine Finset.sum_eq_zero fun k _ => ?_
  unfold wgt
  rw [if_neg, mul_zero]
  show ¬ (j.val * 512 + k.val ≤ i.val * 512 + x.val)
  have := x.isLt
  omega

include h2 h3 in
/-- The accumulator at the end: the weighted sum over every key of the head. -/
theorem acc_final (i : Fin 16) (r : Fin 144) (x : Fin 512) : accN I 136 (ix3 i r x) = ∑ j : Fin 16, part I i j r x := by
  rw [acc_sum I h2 h3 i r x 136 le_rfl, ← Finset.sum_filter]
  have e : ∑ m ∈ (Finset.range 136).filter (fun n => nI n = i.val), partN I i r x (nJ m) = ∑ j ∈ Finset.range (i.val + 1), partN I i r x j := by
    show (Multiset.map (fun m => partN I i r x (nJ m)) _).sum = (Multiset.map (partN I i r x) _).sum
    rw [← tab_row i, Multiset.map_map]
    rfl
  rw [e]
  have e2 : ∑ j ∈ Finset.range (i.val + 1), partN I i r x j = ∑ j ∈ Finset.range 16, partN I i r x j := by
    refine Finset.sum_subset (fun j hj => ?_) (fun j hj hj' => ?_)
    · rw [Finset.mem_range] at *
      have := i.isLt
      omega
    · rw [Finset.mem_range] at *
      unfold partN
      rw [dif_pos hj]
      exact part_after I i ⟨j, hj⟩ (by show i.val < j; omega) r x
  rw [e2, Finset.sum_range]
  refine Finset.sum_congr rfl fun j _ => ?_
  unfold partN
  rw [dif_pos j.isLt]

/-! ## The output block -/

theorem outF_at (A : S16x144x512.Idx → EReal) (n i : Fin 16) (x : Fin 512) (d : Fin 128) (O : S1x8192x128.Idx → EReal) :
    outF (F := Ideal) A n O (ix3 0 (ky i x) d)
      = if n = i then Ideal.div (A (ix3 i ⟨d.val, by omega⟩ x)) (A (ix3 i ⟨128, by omega⟩ x)) else O (ix3 0 (ky i x) d) := by
  by_cases hn : n = i
  · subst hn
    rw [if_pos rfl]
    unfold outF
    rw [put_hit (Rect.unit (s := S1x8192x128) ![0, 512 * n.val, 0] S1x512x128.size (inbO n)) _ _ (ix3 0 x d) _ (by
      funext a; apply Fin.ext; rw [emb_val]; fin_cases a
      · rfl
      · show 512 * n.val + x.val = n.val * 512 + x.val; omega
      · show 0 + d.val = d.val; omega), outVal_at]
    unfold ld
    refine congrArg₂ Ideal.div (congrArg A ?_) (congrArg A ?_)
    · funext a; apply Fin.ext; rw [emb_val]; fin_cases a
      · show n.val + 0 = n.val; omega
      · show 0 + d.val = d.val; omega
      · show 0 + x.val = x.val; omega
    · funext a; apply Fin.ext; rw [emb_val]; fin_cases a
      · show n.val + 0 = n.val; omega
      · rfl
      · show 0 + x.val = x.val; omega
  · rw [if_neg hn]
    unfold outF
    refine put_miss (Rect.unit (s := S1x8192x128) ![0, 512 * n.val, 0] S1x512x128.size (inbO n)) _ _ _ fun z hz => hn (Fin.ext ?_)
    have e := congrArg Fin.val (congrFun hz 1)
    rw [emb_val] at e
    have e : 512 * n.val + (z 1).val = i.val * 512 + x.val := e
    have h1 : (z 1).val < 512 := (z 1).isLt
    have h2 := x.isLt
    omega

theorem outs_at (A : S16x144x512.Idx → EReal) (i : Fin 16) (x : Fin 512) (d : Fin 128) : ∀ (l : List (Fin 16)) (O : S1x8192x128.Idx → EReal),
    l.foldl (fun O n => outF (F := Ideal) A n O) O (ix3 0 (ky i x) d)
      = if i ∈ l then Ideal.div (A (ix3 i ⟨d.val, by omega⟩ x)) (A (ix3 i ⟨128, by omega⟩ x)) else O (ix3 0 (ky i x) d)
  | [], O => by simp
  | n :: l, O => by
    rw [List.foldl_cons, outs_at A i x d l, outF_at]
    by_cases h1 : i ∈ l
    · rw [if_pos h1, if_pos (List.mem_cons_of_mem _ h1)]
    · rw [if_neg h1]
      by_cases h2 : n = i
      · rw [if_pos h2, if_pos (by rw [h2]; exact List.mem_cons_self)]
      · rw [if_neg h2, if_neg (fun h => (List.mem_cons.mp h).elim (fun h => h2 h.symm) h1)]

include h2 h3 in
/-- The output block: at every query the weighted sum of the values over the sum of the weights. -/
theorem outBlk_at (i : Fin 16) (x : Fin 512) (d : Fin 128) :
    outBlk I (ix3 0 (ky i x) d) = Ideal.div (∑ j : Fin 16, ∑ k : Fin 512, I.VT (ix5 0 0 j d k) * wgt I i x (ky j k))
      (∑ j : Fin 16, ∑ k : Fin 512, wgt I i x (ky j k)) := by
  unfold outBlk
  rw [outs_at, if_pos ((by decide : ∀ n : Fin 16, n ∈ ([0, 1, 2, 3, 4, 5, 6, 7, 8, 9, 10, 11, 12, 13, 14, 15] : List (Fin 16))) i),
    acc_final I h2 h3, acc_final I h2 h3]
  refine congrArg₂ Ideal.div (Finset.sum_congr rfl fun j _ => Finset.sum_congr rfl fun k _ => ?_) (Finset.sum_congr rfl fun j _ => Finset.sum_congr rfl fun k _ => ?_)
  · unfold vrow
    rw [dif_pos d.isLt]
  · unfold vrow
    rw [dif_neg (by decide), one_mul]

end Cert.KernelIdeal.Att

end
-- ==== Proof.KArr.lean ====
/-
  The attention kernel's result array over the extended reals: every element of it, from the argument arrays.
-/
module

public import proofs.«01_k».proof.Proof.KAcc
public import Idealize.ShloMosaic.Lib.Pipeline.ValueKit.Geometry

@[expose] public section

set_option maxRecDepth 16384

noncomputable section

namespace Cert.KernelIdeal.Att

open Cert.KernelIdeal Cert.KernelIdeal.Gen
open Idealize.ShloMosaic Idealize.ShloMosaic.TcCoe
open Idealize.ShloMosaic.Pipeline (Dat heldIn_of_fetch heldIn_of_not_fetch)

variable (m : (ℓ : Loc nD τ sig) → Buf (Elt Ideal) ℓ)

/-! ## Grid points -/

/-- The batch and the head of a point. -/
def pb (t : Fin grid0.N) : Fin 4 := ⟨(grid0.coords t 0).val, (grid0.coords t 0).isLt⟩
def ph (t : Fin grid0.N) : Fin 8 := ⟨(grid0.coords t 1).val, (grid0.coords t 1).isLt⟩

theorem ix_0 : ∀ t : Fin grid0.N, ((pcfgs (F := Ideal) 0).win (adm 0) 0).index t = ![(pb t).val, (ph t).val, 0, 0, 0] := by decide +kernel
theorem fetch_0 : ∀ t : Fin grid0.N, ((cfgA (F := Ideal)).win 0).fetch t = true := by decide +kernel

theorem held_0 (c : Dev nD) (t : Fin grid0.N) (i : Fin 16) (f : Fin 256) (x : Fin 512) :
    held m c 0 t (ix5 0 0 i f x) = (m ((c : Thread nD τ).loc main_arg0) : S4x8x16x256x512.Idx → EReal) (ix5 (pb t) (ph t) i f x) := by
  refine (congrFun (heldIn_of_fetch (cfg := cfgA (F := Ideal)) (c := c) (fun w => V m c (Pipeline.arrRef spec0 w)) 0 t (fetch_0 t)) _).trans ?_
  unfold Pipeline.Window.fill
  rw [dif_pos (((cfgA (F := Ideal)).win 0).moved_iff _ _ |>.mpr fun a => (ix5 (0 : Fin 1) (0 : Fin 1) i f x a).isLt)]
  blk_simp
  refine (congrFun (V_other m c main_arg0 (by decide) (by decide)) _).trans ?_
  refine congrArg _ ?_
  funext a; apply Fin.ext
  fin_cases a
  all_goals simp only [ValueKit.finMkLit, Fin.isValue]
  all_goals blk_simp
  all_goals rw [ix_0 t]
  all_goals simp

theorem ix_1 : ∀ t : Fin grid0.N, ((pcfgs (F := Ideal) 0).win (adm 0) 1).index t = ![(pb t).val, (ph t).val, 0, 0] := by decide +kernel
theorem fetch_1 : ∀ t : Fin grid0.N, ((cfgA (F := Ideal)).win 1).fetch t = true := by decide +kernel

theorem held_1 (c : Dev nD) (t : Fin grid0.N) (y : Fin 8192) (f : Fin 128) :
    held m c 1 t (ix4 0 0 y f) = (m ((c : Thread nD τ).loc main_arg1) : S4x8x8192x128.Idx → EReal) (ix4 (pb t) (ph t) y f) := by
  refine (congrFun (heldIn_of_fetch (cfg := cfgA (F := Ideal)) (c := c) (fun w => V m c (Pipeline.arrRef spec0 w)) 1 t (fetch_1 t)) _).trans ?_
  unfold Pipeline.Window.fill
  rw [dif_pos (((cfgA (F := Ideal)).win 1).moved_iff _ _ |>.mpr fun a => (ix4 (0 : Fin 1) (0 : Fin 1) y f a).isLt)]
  blk_simp
  refine (congrFun (V_other m c main_arg1 (by decide) (by decide)) _).trans ?_
  refine congrArg _ ?_
  funext a; apply Fin.ext
  fin_cases a
  all_goals simp only [ValueKit.finMkLit, Fin.isValue]
  all_goals blk_simp
  all_goals rw [ix_1 t]
  all_goals simp

theorem ix_2 : ∀ t : Fin grid0.N, ((pcfgs (F := Ideal) 0).win (adm 0) 2).index t = ![(pb t).val, 0, 0] := by decide +kernel

theorem heldF_2 (c : Dev nD) (t : Fin grid0.N) (hf : ((cfgA (F := Ideal)).win 2).fetch t = true) (y : Fin 8192) (f : Fin 128) :
    held m c 2 t (ix3 0 y f) = (m ((c : Thread nD τ).loc main_arg2) : S4x8192x128.Idx → EReal) (ix3 (pb t) y f) := by
  refine (congrFun (heldIn_of_fetch (cfg := cfgA (F := Ideal)) (c := c) (fun w => V m c (Pipeline.arrRef spec0 w)) 2 t hf) _).trans ?_
  unfold Pipeline.Window.fill
  rw [dif_pos (((cfgA (F := Ideal)).win 2).moved_iff _ _ |>.mpr fun a => (ix3 (0 : Fin 1) y f a).isLt)]
  blk_simp
  refine (congrFun (V_other m c main_arg2 (by decide) (by decide)) _).trans ?_
  refine congrArg _ ?_
  funext a; apply Fin.ext
  fin_cases a
  all_goals simp only [ValueKit.finMkLit, Fin.isValue]
  all_goals blk_simp
  all_goals rw [ix_2 t]
  all_goals simp

theorem ix_3 : ∀ t : Fin grid0.N, ((pcfgs (F := Ideal) 0).win (adm 0) 3).index t = ![(pb t).val, (ph t).val, 0, 0, 0] := by decide +kernel
theorem fetch_3 : ∀ t : Fin grid0.N, ((cfgA (F := Ideal)).win 3).fetch t = true := by decide +kernel

theorem held_3 (c : Dev nD) (t : Fin grid0.N) (j : Fin 16) (d : Fin 128) (k : Fin 512) :
    held m c 3 t (ix5 0 0 j d k) = (m ((c : Thread nD τ).loc main_arg3) : S4x8x16x128x512.Idx → EReal) (ix5 (pb t) (ph t) j d k) := by
  refine (congrFun (heldIn_of_fetch (cfg := cfgA (F := Ideal)) (c := c) (fun w => V m c (Pipeline.arrRef spec0 w)) 3 t (fetch_3 t)) _).trans ?_
  unfold Pipeline.Window.fill
  rw [dif_pos (((cfgA (F := Ideal)).win 3).moved_iff _ _ |>.mpr fun a => (ix5 (0 : Fin 1) (0 : Fin 1) j d k a).isLt)]
  blk_simp
  refine (congrFun (V_other m c main_arg3 (by decide) (by decide)) _).trans ?_
  refine congrArg _ ?_
  funext a; apply Fin.ext
  fin_cases a
  all_goals simp only [ValueKit.finMkLit, Fin.isValue]
  all_goals blk_simp
  all_goals rw [ix_3 t]
  all_goals simp

theorem not_fetch_2 : ∀ n : Fin 31, ((cfgA (F := Ideal)).win 2).fetch ⟨n.val + 1, Nat.succ_lt_succ n.isLt⟩ = false →
    pb ⟨n.val + 1, Nat.succ_lt_succ n.isLt⟩ = pb ⟨n.val, Nat.lt_of_lt_of_le n.isLt (by decide)⟩ := by decide +kernel

theorem fetch_2_zero : ((cfgA (F := Ideal)).win 2).fetch ⟨0, by decide⟩ = true := by decide +kernel

theorem held_2 (c : Dev nD) (t : Fin grid0.N) (y : Fin 8192) (f : Fin 128) :
    held m c 2 t (ix3 0 y f) = (m ((c : Thread nD τ).loc main_arg2) : S4x8192x128.Idx → EReal) (ix3 (pb t) y f) := by
  obtain ⟨n, hn⟩ := t
  induction n with
  | zero => exact heldF_2 m c ⟨0, hn⟩ fetch_2_zero y f
  | succ n ih =>
    by_cases hf : ((cfgA (F := Ideal)).win 2).fetch ⟨n + 1, hn⟩ = true
    · exact heldF_2 m c ⟨n + 1, hn⟩ hf y f
    · refine (congrFun (heldIn_of_not_fetch (cfg := cfgA (F := Ideal)) (c := c) (fun w => V m c (Pipeline.arrRef spec0 w)) 2 n hn (Bool.eq_false_iff.mpr hf)) _).trans ?_
      rw [not_fetch_2 ⟨n, Nat.lt_of_succ_lt_succ hn⟩ (Bool.eq_false_iff.mpr hf)]
      exact ih (Nat.lt_of_succ_lt hn)

/-! ## The result array -/

/-- The score of key `y` against query `x` of a head, from the arguments. -/
def scoreK (q : S4x8x16x256x512.Idx → EReal) (kn : S4x8x8192x128.Idx → EReal) (kr : S4x8192x128.Idx → EReal) (b : Fin 4) (h : Fin 8) (i : Fin 16) (x : Fin 512) (y : Fin 8192) : EReal :=
  (∑ f : Fin 128, kn (ix4 b h y f) * q (ix5 b h i ⟨f.val, by omega⟩ x))
    + ∑ f : Fin 128, kr (ix3 b y f) * q (ix5 b h i ⟨128 + f.val, by omega⟩ x)

/-- The weight of key `y` for query `x`: two to the score at and before the query, zero after it. -/
def wgtK (q : S4x8x16x256x512.Idx → EReal) (kn : S4x8x8192x128.Idx → EReal) (kr : S4x8192x128.Idx → EReal) (b : Fin 4) (h : Fin 8) (i : Fin 16) (x : Fin 512) (y : Fin 8192) : EReal :=
  if y.val ≤ i.val * 512 + x.val then Ideal.exp2 (scoreK q kn kr b h i x y) else 0

/-- One element of the result: the weighted values over the weights. -/
def outK (q : S4x8x16x256x512.Idx → EReal) (kn : S4x8x8192x128.Idx → EReal) (kr : S4x8192x128.Idx → EReal) (v : S4x8x16x128x512.Idx → EReal)
    (b : Fin 4) (h : Fin 8) (i : Fin 16) (x : Fin 512) (d : Fin 128) : EReal :=
  Ideal.div (∑ j : Fin 16, ∑ k : Fin 512, v (ix5 b h j d k) * wgtK q kn kr b h i x (ky j k))
    (∑ j : Fin 16, ∑ k : Fin 512, wgtK q kn kr b h i x (ky j k))

abbrev kQ (c : Dev nD) : S4x8x16x256x512.Idx → EReal := m ((c : Thread nD τ).loc main_arg0)
abbrev kN (c : Dev nD) : S4x8x8192x128.Idx → EReal := m ((c : Thread nD τ).loc main_arg1)
abbrev kR (c : Dev nD) : S4x8192x128.Idx → EReal := m ((c : Thread nD τ).loc main_arg2)
abbrev kV (c : Dev nD) : S4x8x16x128x512.Idx → EReal := m ((c : Thread nD τ).loc main_arg3)

theorem wgt_at (c : Dev nD) (t : Fin grid0.N) (i : Fin 16) (x : Fin 512) (y : Fin 8192) :
    wgt (insAt m c t) i x y = wgtK (kQ m c) (kN m c) (kR m c) (pb t) (ph t) i x y := by
  have e : scoreI (insAt m c t) i x y = scoreK (kQ m c) (kN m c) (kR m c) (pb t) (ph t) i x y :=
    congrArg₂ (· + ·) (Finset.sum_congr rfl fun f _ => congrArg₂ (· * ·) (held_1 m c t y f) (held_0 m c t i _ x))
      (Finset.sum_congr rfl fun f _ => congrArg₂ (· * ·) (held_2 m c t y f) (held_0 m c t i _ x))
  unfold wgt wgtK
  rw [e]

theorem block_at (c : Dev nD) (t : Fin grid0.N) (i : Fin 16) (x : Fin 512) (d : Fin 128) :
    outBlk (insAt m c t) (ix3 0 (ky i x) d) = outK (kQ m c) (kN m c) (kR m c) (kV m c) (pb t) (ph t) i x d := by
  refine (outBlk_at _ rfl rfl i x d).trans ?_
  unfold outK
  refine congrArg₂ _ (Finset.sum_congr rfl fun j _ => Finset.sum_congr rfl fun k _ => ?_) (Finset.sum_congr rfl fun j _ => Finset.sum_congr rfl fun k _ => wgt_at m c t i x _)
  exact congrArg₂ (· * ·) (held_3 m c t j d k) (wgt_at m c t i x _)

/-- The result array. -/
def arrK (c : Dev nD) : S4x8192x1024.Idx → EReal := fun y =>
  outK (kQ m c) (kN m c) (kR m c) (kV m c) (y 0) ⟨(y 2).val / 128, Nat.div_lt_of_lt_mul (y 2).isLt⟩
    ⟨(y 1).val / 512, Nat.div_lt_of_lt_mul (y 1).isLt⟩ ⟨(y 1).val % 512, Nat.mod_lt _ (by decide)⟩ ⟨(y 2).val % 128, Nat.mod_lt _ (by decide)⟩

theorem ix_4 : ∀ t : Fin grid0.N, ((pcfgs (F := Ideal) 0).win (adm 0) 4).index t = ![(pb t).val, 0, (ph t).val] := by decide +kernel

theorem emb_4 (t : Fin grid0.N) (y : (((cfgA (F := Ideal)).win 4).xblock (grid0.coords t)).Idx) :
    (((cfgA (F := Ideal)).win 4).blk t).view.emb y = (ix3 (pb t) (y 1) ⟨(ph t).val * 128 + (y 2).val, Nat.lt_of_lt_of_le (Nat.add_lt_add_left (y 2).isLt _) (by have := (ph t).isLt; show (ph t).val * 128 + 128 ≤ 1024; omega)⟩ : S4x8192x1024.Idx) := by
  funext a; apply Fin.ext
  fin_cases a
  all_goals simp only [ValueKit.finMkLit, Fin.isValue]
  all_goals blk_simp
  all_goals rw [ix_4 t]
  all_goals simp

theorem after_4 (c : Dev nD) (t : Fin grid0.N) (y : S1x8192x128.Idx) :
    outBlk (insAt m c t) y = arrK m c (ix3 (pb t) (y 1) ⟨(ph t).val * 128 + (y 2).val, Nat.lt_of_lt_of_le (Nat.add_lt_add_left (y 2).isLt _) (by have := (ph t).isLt; show (ph t).val * 128 + 128 ≤ 1024; omega)⟩ : S4x8192x1024.Idx) := by
  have h1 : (y 1).val < 8192 := (y 1).isLt
  have h2 : (y 2).val < 128 := (y 2).isLt
  have h0 : (y 0).val < 1 := (y 0).isLt
  have ey : y = (ix3 0 (ky ⟨(y 1).val / 512, by omega⟩ ⟨(y 1).val % 512, by omega⟩) ⟨(y 2).val, h2⟩ : S1x8192x128.Idx) := by
    funext a; apply Fin.ext
    fin_cases a
    · show (y 0).val = 0; omega
    · show (y 1).val = (y 1).val / 512 * 512 + (y 1).val % 512; omega
    · rfl
  refine (congrArg (outBlk (insAt m c t)) ey).trans ((block_at m c t _ _ _).trans ?_)
  show outK _ _ _ _ _ _ _ _ _ = outK _ _ _ _ _ _ _ _ _
  congr 1
  · apply Fin.ext; show (ph t).val = ((ph t).val * 128 + (y 2).val) / 128; omega
  · apply Fin.ext; show (y 2).val = ((ph t).val * 128 + (y 2).val) % 128; omega

theorem arr_final (c : Dev nD) : (dats m 0 c).arrAt 4 (cfgA (F := Ideal)).N = arrK m c := by
  refine (dats m 0 c).arrAt_eq_of_covers 4 _ (by decide +kernel) fun t hf y => ?_
  blk_simp
  exact (after_4 m c t y).trans (congrArg (arrK m c) (emb_4 t y).symm)

/-- The run: the result array as stated, the arguments unchanged. -/
theorem run_val (ρ : Dev nD → PrngReg) : θ_run (defs (F := Ideal)) (onTc main) (s₀ m ρ)
    (fun r => ∀ c : Dev nD, r.2.mem ((c : Thread nD τ).loc main_v0) = arrK m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) :=
  (θ_run (defs (F := Ideal)) _ _).mono (fun r h c => ⟨((h.1 c).1 4).trans (arr_final m c),
    arg_kept m c 0 (by decide) h.1, arg_kept m c 1 (by decide) h.1, arg_kept m c 2 (by decide) h.1, arg_kept m c 3 (by decide) h.1⟩) (run_main m ρ)

end Cert.KernelIdeal.Att
-- ==== Proof.Final.lean ====
/-
  The two sides meet: the precondition makes every entry of the queries and of the keys a real number, and for real queries
  and keys the reference's array is the kernel's.
-/
module

public import proofs.«01_k».proof.Pre_finite
public import proofs.«01_k».proof.Proof.RVal
public import proofs.«01_k».proof.Proof.KArr

@[expose] public section

set_option maxRecDepth 16384

noncomputable section

namespace Cert.Final

open Idealize.ShloMosaic Idealize.ShloMosaic.TcCoe

theorem facts : Cert.Pre_finite.Facts where
  bitsLt_bf16_f32 := by decide
  bcast_S_S4x8x16x256x512 := by decide
  bcast_S_S4x8x8192x128 := by decide
  bcast_S_S4x8192x128 := by decide

theorem posInf : Ideal.ofBits .f32 0x7F800000#32 = (⊤ : EReal) := by
  simp [Ideal.ofBits, Ideal.ieee]

/-- An extended real below the top in absolute value is a real number. -/
theorem real_of_abs (x : EReal) (h : Ideal.cmp .olt (max x (-x)) (⊤ : EReal) = 1#1) : ∃ r : ℝ, x = (r : EReal) := by
  induction x using EReal.rec with
  | bot => exfalso; revert h; simp [Ideal.cmp]
  | coe r => exact ⟨r, rfl⟩
  | top => exfalso; revert h; simp [Ideal.cmp]

theorem real_q [hF : Cert.Pre_finite.Facts] (q : FVec Ideal Cert.Pre_finite.S4x8x16x256x512 .bf16) (kn : FVec Ideal Cert.Pre_finite.S4x8x8192x128 .bf16)
    (kr : FVec Ideal Cert.Pre_finite.S4x8192x128 .bf16) (v : FVec Ideal Cert.Pre_finite.S4x8x16x128x512 .bf16)
    (h : (Cert.Pre_finite.fn (F := Ideal) q kn kr v).1 = fun _ => 1#1) (i) : ∃ r : ℝ, (q i : EReal) = (r : EReal) :=
  real_of_abs _ (((congrArg (Ideal.cmp .olt (max (q i : EReal) (-(q i : EReal)))) posInf).symm).trans (congrFun h i))

theorem real_kn [hF : Cert.Pre_finite.Facts] (q : FVec Ideal Cert.Pre_finite.S4x8x16x256x512 .bf16) (kn : FVec Ideal Cert.Pre_finite.S4x8x8192x128 .bf16)
    (kr : FVec Ideal Cert.Pre_finite.S4x8192x128 .bf16) (v : FVec Ideal Cert.Pre_finite.S4x8x16x128x512 .bf16)
    (h : (Cert.Pre_finite.fn (F := Ideal) q kn kr v).2.1 = fun _ => 1#1) (i) : ∃ r : ℝ, (kn i : EReal) = (r : EReal) :=
  real_of_abs _ (((congrArg (Ideal.cmp .olt (max (kn i : EReal) (-(kn i : EReal)))) posInf).symm).trans (congrFun h i))

theorem real_kr [hF : Cert.Pre_finite.Facts] (q : FVec Ideal Cert.Pre_finite.S4x8x16x256x512 .bf16) (kn : FVec Ideal Cert.Pre_finite.S4x8x8192x128 .bf16)
    (kr : FVec Ideal Cert.Pre_finite.S4x8192x128 .bf16) (v : FVec Ideal Cert.Pre_finite.S4x8x16x128x512 .bf16)
    (h : (Cert.Pre_finite.fn (F := Ideal) q kn kr v).2.2 = fun _ => 1#1) (i) : ∃ r : ℝ, (kr i : EReal) = (r : EReal) :=
  real_of_abs _ (((congrArg (Ideal.cmp .olt (max (kr i : EReal) (-(kr i : EReal)))) posInf).symm).trans (congrFun h i))

/-! ## The two sides -/

open Cert.KernelIdeal.Att (outK wgtK scoreK ky arrK)
open Cert.ReferenceIdeal.Att (scoreR aQ aN aR aV ref_at)

/-- A sum of products of reals is a real. -/
theorem dot_real {N : ℕ} (f g : Fin N → EReal) (hf : ∀ i, ∃ r : ℝ, f i = (r : EReal)) (hg : ∀ i, ∃ r : ℝ, g i = (r : EReal)) :
    ∃ r : ℝ, ∑ i, f i * g i = (r : EReal) := by
  choose a ha using hf
  choose b hb using hg
  refine ⟨∑ i, a i * b i, ?_⟩
  rw [Cert.Soft.coe_sum]
  exact Finset.sum_congr rfl fun i _ => by rw [ha, hb, EReal.coe_mul]

theorem score_real (q : Cert.ReferenceIdeal.S4x8x16x256x512.Idx → EReal) (kn : Cert.ReferenceIdeal.S4x8x8192x128.Idx → EReal) (kr : Cert.ReferenceIdeal.S4x8192x128.Idx → EReal)
    (hq : ∀ i, ∃ r : ℝ, q i = (r : EReal)) (hn : ∀ i, ∃ r : ℝ, kn i = (r : EReal)) (hr : ∀ i, ∃ r : ℝ, kr i = (r : EReal))
    (b : Fin 4) (h : Fin 8) (x y : Fin 8192) : ∃ r : ℝ, scoreR q kn kr b h x y = (r : EReal) := by
  unfold scoreR
  obtain ⟨s, hs⟩ := dot_real (fun f : Fin 128 => q (ix5 b h ⟨x.val / 512, by omega⟩ ⟨f.val, by omega⟩ ⟨x.val % 512, by omega⟩)) (fun f => kn (ix4 b h y f)) (fun _ => hq _) (fun _ => hn _)
  obtain ⟨t, ht⟩ := dot_real (fun f : Fin 128 => q (ix5 b h ⟨x.val / 512, by omega⟩ ⟨128 + f.val, by omega⟩ ⟨x.val % 512, by omega⟩)) (fun f => kr (ix3 b y f)) (fun _ => hq _) (fun _ => hr _)
  exact ⟨s + t, by rw [EReal.coe_add]; exact congrArg₂ (· + ·) hs ht⟩

theorem score_eq (q : Cert.ReferenceIdeal.S4x8x16x256x512.Idx → EReal) (kn : Cert.ReferenceIdeal.S4x8x8192x128.Idx → EReal) (kr : Cert.ReferenceIdeal.S4x8192x128.Idx → EReal)
    (b : Fin 4) (h : Fin 8) (x y : Fin 8192) :
    scoreR q kn kr b h x y = scoreK q kn kr b h ⟨x.val / 512, by omega⟩ ⟨x.val % 512, by omega⟩ y :=
  congrArg₂ (· + ·) (Finset.sum_congr rfl fun f _ => mul_comm _ _) (Finset.sum_congr rfl fun f _ => mul_comm _ _)

theorem weight_eq (q : Cert.ReferenceIdeal.S4x8x16x256x512.Idx → EReal) (kn : Cert.ReferenceIdeal.S4x8x8192x128.Idx → EReal) (kr : Cert.ReferenceIdeal.S4x8192x128.Idx → EReal)
    (b : Fin 4) (h : Fin 8) (x y : Fin 8192) :
    (if y.val ≤ x.val then Ideal.exp2 (scoreR q kn kr b h x y) else 0) = wgtK q kn kr b h ⟨x.val / 512, by omega⟩ ⟨x.val % 512, by omega⟩ y := by
  unfold wgtK
  rw [score_eq]
  have e : x.val / 512 * 512 + x.val % 512 = x.val := by omega
  simp only [e]

theorem out_eq (q : Cert.ReferenceIdeal.S4x8x16x256x512.Idx → EReal) (kn : Cert.ReferenceIdeal.S4x8x8192x128.Idx → EReal) (kr : Cert.ReferenceIdeal.S4x8192x128.Idx → EReal)
    (v : Cert.ReferenceIdeal.S4x8x16x128x512.Idx → EReal) (b : Fin 4) (h : Fin 8) (x : Fin 8192) (d : Fin 128) :
    Ideal.div (∑ y : Fin 8192, v (ix5 b h ⟨y.val / 512, by omega⟩ d ⟨y.val % 512, by omega⟩) * (if y.val ≤ x.val then Ideal.exp2 (scoreR q kn kr b h x y) else 0))
        (∑ y : Fin 8192, if y.val ≤ x.val then Ideal.exp2 (scoreR q kn kr b h x y) else 0)
      = outK q kn kr v b h ⟨x.val / 512, by omega⟩ ⟨x.val % 512, by omega⟩ d := by
  unfold outK
  simp only [weight_eq]
  rw [Fin.sum_univ_tiles 16 512 rfl, Fin.sum_univ_tiles 16 512 rfl]
  refine congrArg₂ _ (Finset.sum_congr rfl fun j _ => Finset.sum_congr rfl fun k _ => ?_) rfl
  have e1 : (⟨(j.val * 512 + k.val) / 512, by omega⟩ : Fin 16) = j := Fin.ext (by show (j.val * 512 + k.val) / 512 = j.val; omega)
  have e2 : (⟨(j.val * 512 + k.val) % 512, by omega⟩ : Fin 512) = k := Fin.ext (by show (j.val * 512 + k.val) % 512 = k.val; omega)
  refine congrArg₂ (· * ·) ?_ rfl
  exact congrArg v (by rw [e1, e2])

/-- The reference's array is the kernel's, for real queries and keys. -/
theorem arr_eq (m : (ℓ : Loc Cert.ReferenceIdeal.nD Cert.ReferenceIdeal.τ Cert.ReferenceIdeal.sig) → Buf (Elt Ideal) ℓ) (c : Dev Cert.ReferenceIdeal.nD)
    (hq : ∀ i, ∃ r : ℝ, aQ m c i = (r : EReal)) (hn : ∀ i, ∃ r : ℝ, aN m c i = (r : EReal)) (hr : ∀ i, ∃ r : ℝ, aR m c i = (r : EReal))
    (y : Cert.ReferenceIdeal.S4x8192x1024.Idx) :
    Cert.ReferenceIdeal.Value.res_main_v32 m c y
      = outK (aQ m c) (aN m c) (aR m c) (aV m c) (y 0) ⟨(y 2).val / 128, Nat.div_lt_of_lt_mul (y 2).isLt⟩
        ⟨(y 1).val / 512, Nat.div_lt_of_lt_mul (y 1).isLt⟩ ⟨(y 1).val % 512, Nat.mod_lt _ (by decide)⟩ ⟨(y 2).val % 128, Nat.mod_lt _ (by decide)⟩ := by
  have h2 : (y 2).val < 1024 := (y 2).isLt
  have ey : y = (ix3 (y 0) (y 1) ⟨(y 2).val / 128 * 128 + (y 2).val % 128, by omega⟩ : Cert.ReferenceIdeal.S4x8192x1024.Idx) := by
    funext a; apply Fin.ext
    fin_cases a
    · rfl
    · rfl
    · show (y 2).val = (y 2).val / 128 * 128 + (y 2).val % 128; omega
  refine (congrArg (Cert.ReferenceIdeal.Value.res_main_v32 m c) ey).trans ?_
  exact (ref_at m c (y 0) ⟨(y 2).val / 128, by omega⟩ (y 1) ⟨(y 2).val % 128, by omega⟩ (fun z => score_real _ _ _ hq hn hr _ _ _ _)).trans
    (out_eq _ _ _ _ _ _ _ _)

end Cert.Final
-- ==== Proof.Rows.lean ====
/-
  The row formulas the layer's dense parts share, over the extended reals: the normalized row and the feed-forward's output.
-/
module

public import Idealize.ShloMosaic.Lib.Pointwise

@[expose] public section

noncomputable section

namespace Cert.Rows

open Idealize.ShloMosaic

/-- A row divided by its root mean square and scaled: the mean is over the 1024 lanes, with the small constant added. -/
def nrm (x g : Fin 1024 → EReal) (k : Fin 1024) : EReal :=
  x k * Ideal.rsqrt (Ideal.div (∑ j : Fin 1024, x j * x j) (Ideal.ofBits .f32 0x44800000#32) + Ideal.ofBits .f32 0x358637BD#32) * g k

/-- Row `r` of the 32768 rows of a batch of four sequences of 8192. -/
def row {n : ℕ} (x : Fin 4 → Fin 8192 → Fin n → EReal) (r : Fin 32768) (k : Fin n) : EReal :=
  x ⟨r.val / 8192, by omega⟩ ⟨r.val % 8192, by omega⟩ k

/-- A row times a matrix, at one column. -/
def lin {n p : ℕ} (a : Fin n → EReal) (w : Fin n → Fin p → EReal) (j : Fin p) : EReal := ∑ k : Fin n, a k * w k j

/-- The logistic function as both sides spell it. -/
def lgs (x : EReal) : EReal := Ideal.div 1 (1 + Ideal.exp (-x))

/-- The gated hidden row of the feed-forward. -/
def hid (x g : Fin 1024 → EReal) (wg wu : Fin 1024 → Fin 2816 → EReal) (j : Fin 2816) : EReal :=
  lin (nrm x g) wg j * lgs (lin (nrm x g) wg j) * lin (nrm x g) wu j

/-- The feed-forward's output row: the row itself plus the hidden row times the last matrix. -/
def ffn (x g : Fin 1024 → EReal) (wg wu : Fin 1024 → Fin 2816 → EReal) (wd : Fin 2816 → Fin 1024 → EReal) (d : Fin 1024) : EReal :=
  x d + lin (hid x g wg wu) wd d

/-- The merge's output row: the row itself plus the two branches' rows, each projected and gated, times the last matrix. -/
def mrg (x ya yb ga gb : Fin 1024 → EReal) (wa wl wo : Fin 1024 → Fin 1024 → EReal) (d : Fin 1024) : EReal :=
  x d + lin (fun k => lgs (ga k) * lin ya wa k + lgs (gb k) * lin yb wl k) wo d

/-- Row `r` of eight slabs of 128 lanes, laid end to end. -/
def slab {n : ℕ} (y : Fin 8 → Fin n → Fin 128 → EReal) (r : Fin n) (k : Fin 1024) : EReal :=
  y ⟨k.val / 128, by omega⟩ r ⟨k.val % 128, by omega⟩

/-- The input projection of a normalized row, at one of its 4672 columns. -/
def prj (x g : Fin 1024 → EReal) (w : Fin 1024 → Fin 4672 → EReal) (j : Fin 4672) : EReal := lin (nrm x g) w j

/-- Two matrices with the same column give the same product there. -/
theorem lin_col {n p q : ℕ} (a : Fin n → EReal) (u : Fin n → Fin p → EReal) (v : Fin n → Fin q → EReal) (d : Fin p) (e : Fin q)
    (h : ∀ k, u k d = v k e) : lin a u d = lin a v e := Finset.sum_congr rfl fun k _ => by rw [h k]

/-- A zero column gives zero. -/
theorem lin_zero {n p : ℕ} (a : Fin n → EReal) (u : Fin n → Fin p → EReal) (d : Fin p) (h : ∀ k, u k d = 0) : lin a u d = 0 :=
  Finset.sum_eq_zero fun k _ => by rw [h k, mul_zero]

end Cert.Rows

end
-- ==== Proof.KFfn.lean ====
/-
  The feed-forward kernel's result array over the extended reals: the row formula, row by row.
-/
module

public import proofs.«01_k».proof.Proof.Gen.Kernel2Ideal.Value
public import proofs.«01_k».proof.Proof.Rows
public import Idealize.ShloMosaic.Lib.Pipeline.ValueKit.Geometry
public import Idealize.ShloMosaic.Lib.Pipeline.ValueKit.Point

@[expose] public section

set_option maxRecDepth 16384

noncomputable section

namespace Cert.Kernel2Ideal.Ffn

open Cert.Kernel2Ideal Cert.Kernel2Ideal.Gen
open Idealize.ShloMosaic Idealize.ShloMosaic.TcCoe
open Cert.Rows

theorem pay (x : S512x1024.Idx → EReal) (g : S1x1024.Idx → EReal) (wg wu : S1024x2816.Idx → EReal) (wd : S2816x1024.Idx → EReal) (p : Fin 512) (d : Fin 1024) :
    k0_pay1 (F := Ideal) x g wg wu wd (ix2 p d)
      = ffn (fun k => x (ix2 p k)) (fun k => g (ix2 0 k)) (fun k j => wg (ix2 k j)) (fun k j => wu (ix2 k j)) (fun k j => wd (ix2 k j)) d := by
  pointwise [k0_pay1]
  simp only [ffn, hid, lin, nrm, lgs, zero_sub]

variable (m : (ℓ : Loc nD τ sig) → Buf (Elt Ideal) ℓ)
abbrev aX (c : Dev nD) : S4x8192x1024.Idx → EReal := m ((c : Thread nD τ).loc main_arg0)
abbrev aG (c : Dev nD) : S1x1024.Idx → EReal := m ((c : Thread nD τ).loc main_arg1)
abbrev aW (c : Dev nD) : S1x1024x2816.Idx → EReal := m ((c : Thread nD τ).loc main_arg2)
abbrev aU (c : Dev nD) : S1x1024x2816.Idx → EReal := m ((c : Thread nD τ).loc main_arg3)
abbrev aD (c : Dev nD) : S1x2816x1024.Idx → EReal := m ((c : Thread nD τ).loc main_arg4)

theorem ix_0 : ∀ t : Fin grid0.N, win0_0.index t = ![t.val, 0] := by decide +kernel
theorem ix_1 : ∀ t : Fin grid0.N, win0_1.index t = ![0, 0] := by decide +kernel
theorem ix_2 : ∀ t : Fin grid0.N, win0_2.index t = ![0, 0] := by decide +kernel
theorem ix_3 : ∀ t : Fin grid0.N, win0_3.index t = ![0, 0] := by decide +kernel
theorem ix_4 : ∀ t : Fin grid0.N, win0_4.index t = ![0, 0] := by decide +kernel
theorem ix_5 : ∀ t : Fin grid0.N, win0_5.index t = ![t.val, 0] := by decide +kernel

/-- The row of the whole array a point's block row is. -/
def gr (t : Fin cfg0.N) (p : Fin 512) : Fin 32768 := ⟨t.val * 512 + p.val, by have : t.val < 64 := t.isLt; omega⟩

theorem blk0 (c : Dev nD) (t : Fin cfg0.N) (p : Fin 512) (d : Fin 1024) :
    iblk m c 0 t (ix2 p d) = row (fun a b k => aX m c (ix3 a b k)) (gr t p) d := by
  simp only [row, gr]
  blk_ext! [iblk, V, ix_0 t]

theorem blk1 (c : Dev nD) (t : Fin cfg0.N) (d : Fin 1024) :
    iblk m c 1 t (ix2 0 d) = aG m c (ix2 0 d) := by
  blk_ext! [iblk, V, ix_1 t]

theorem blk2 (c : Dev nD) (t : Fin cfg0.N) (p : Fin 1024) (d : Fin 2816) :
    iblk m c 2 t (ix2 p d) = aW m c (ix3 0 p d) := by
  blk_ext! [iblk, V, ix_2 t]

theorem blk3 (c : Dev nD) (t : Fin cfg0.N) (p : Fin 1024) (d : Fin 2816) :
    iblk m c 3 t (ix2 p d) = aU m c (ix3 0 p d) := by
  blk_ext! [iblk, V, ix_3 t]

theorem blk4 (c : Dev nD) (t : Fin cfg0.N) (p : Fin 2816) (d : Fin 1024) :
    iblk m c 4 t (ix2 p d) = aD m c (ix3 0 p d) := by
  blk_ext! [iblk, V, ix_4 t]

/-- The result array. -/
def arr (c : Dev nD) : S32768x1024.Idx → EReal := fun i =>
  ffn (row (fun a b k => aX m c (ix3 a b k)) (i 0)) (fun k => aG m c (ix2 0 k)) (fun k j => aW m c (ix3 0 k j)) (fun k j => aU m c (ix3 0 k j))
    (fun k j => aD m c (ix3 0 k j)) (i 1)

theorem out_at (c : Dev nD) (t : Fin cfg0.N) (p : Fin 512) (d : Fin 1024) :
    out0_5 (iblk m c 0 t) (iblk m c 1 t) (iblk m c 2 t) (iblk m c 3 t) (iblk m c 4 t) (ix2 p d) = arr m c (ix2 (gr t p) d) := by
  unfold out0_5
  frame_out
  refine (pay _ _ _ _ _ p d).trans ?_
  simp only [blk0, blk1, blk2, blk3, blk4]
  rfl

theorem emb_5 (t : Fin cfg0.N) (p : Fin 512) (d : Fin 1024) : (win0_5.blk t).view.emb (ix2 p d) = ix2 (gr t p) d := by
  funext a; apply Fin.ext
  fin_cases a
  all_goals simp only [ValueKit.finMkLit, Fin.isValue]
  all_goals blk_simp
  all_goals rw [ix_5 t]
  all_goals simp [gr]

theorem arr_final (c : Dev nD) : (dats m 0 c).arrAt 5 cfg0.N = arr m c := by
  refine (dats m 0 c).arrAt_eq_of_covers 5 _ (by decide +kernel) fun t hf y => ?_
  blk_simp
  obtain ⟨p, d, rfl⟩ : ∃ (p : Fin 512) (d : Fin 1024), y = ix2 p d := ⟨y 0, y 1, by funext a; fin_cases a <;> rfl⟩
  exact (congrFun (after0_5 m c t) _).trans ((out_at m c t p d).trans (congrArg (arr m c) (emb_5 t p d).symm))

end Cert.Kernel2Ideal.Ffn
end
-- ==== Proof.RFfn.lean ====
/-
  The reference's feed-forward over the extended reals, read at one element: the row formula.
-/
module

public import proofs.«01_k».proof.Proof.Gen.Reference2Ideal.Run
public import proofs.«01_k».proof.Proof.Rows
public import Idealize.ShloMosaic.Lib.Pipeline.ValueKit.Geometry
public import Idealize.ShloMosaic.Lib.Pipeline.ValueKit.Point

@[expose] public section

set_option maxRecDepth 16384

noncomputable section

namespace Cert.Reference2Ideal.Ffn

open Cert.Reference2Ideal Cert.Reference2Ideal.Gen
open Idealize.ShloMosaic Idealize.ShloMosaic.TcCoe
open Cert.Rows

/-- The normalized input. -/
def hN (x : FVec Ideal S4x8192x1024 .f32) (g : FVec Ideal S1x1024 .f32) : FVec Ideal S4x8192x1024 .f32 :=
  mulf (F := Ideal) (φ := .f32) (mulf x (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf x x) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32)))))) (broadcastInDim S4x8192x1024 ![0, 1, 2] bcast_S1x1x1024_S4x8192x1024_0_1_2 (broadcastInDim S1x1x1024 ![2] bcast_S1024_S1x1x1024_2 (shapeCast S1024 g shapeCasts_S1x1024_S1024)))

/-- The normalized input times one of the two first matrices. -/
def hG (n : FVec Ideal S4x8192x1024 .f32) (w : FVec Ideal S1x1024x2816 .f32) : FVec Ideal S4x8192x2816 .f32 :=
  Host.dotGeneral dot_S4x8192x1024_S1024x2816_S4x8192x2816_2_0_01_1_n_n none n (shapeCast S1024x2816 w shapeCasts_S1x1024x2816_S1024x2816)

/-- The gated product, times the last matrix, added to the input. -/
def hOut (x : FVec Ideal S4x8192x1024 .f32) (a u : FVec Ideal S4x8192x2816 .f32) (w : FVec Ideal S1x2816x1024 .f32) : FVec Ideal S32768x1024 .f32 :=
  shapeCast S32768x1024 (addf (F := Ideal) (φ := .f32) x (Host.dotGeneral dot_S4x8192x2816_S2816x1024_S4x8192x1024_2_0_01_1_n_n none (mulf (mulf a (Host.divf (broadcastInDim S4x8192x2816 ![] bcast_S_S4x8192x2816 (constant S_ .f32 0x3F800000#32)) (addf (broadcastInDim S4x8192x2816 ![] bcast_S_S4x8192x2816 (constant S_ .f32 0x3F800000#32)) (Host.exp (Host.negf a))))) u) (shapeCast S2816x1024 w shapeCasts_S1x2816x1024_S2816x1024))) shapeCasts_S4x8192x1024_S32768x1024

theorem hN_at (x : FVec Ideal S4x8192x1024 .f32) (g : FVec Ideal S1x1024 .f32) (b : Fin 4) (s : Fin 8192) (k : Fin 1024) :
    hN x g (ix3 b s k) = nrm (fun k => x (ix3 b s k)) (fun k => g (ix2 0 k)) k := by
  pointwise [hN]
  simp only [nrm]

theorem hG_at (n : FVec Ideal S4x8192x1024 .f32) (w : FVec Ideal S1x1024x2816 .f32) (b : Fin 4) (s : Fin 8192) (j : Fin 2816) :
    hG n w (ix3 b s j) = lin (fun k => n (ix3 b s k)) (fun k j => w (ix3 0 k j)) j := by
  pointwise [hG]
  simp only [lin]

theorem hOut_at (x : FVec Ideal S4x8192x1024 .f32) (a u : FVec Ideal S4x8192x2816 .f32) (w : FVec Ideal S1x2816x1024 .f32) (r : Fin 32768) (d : Fin 1024) :
    hOut x a u w (ix2 r d) = row (fun a b k => x (ix3 a b k)) r d
      + lin (fun j => row (fun b s j => a (ix3 b s j)) r j * lgs (row (fun b s j => a (ix3 b s j)) r j) * row (fun b s j => u (ix3 b s j)) r j) (fun k j => w (ix3 0 k j)) d := by
  pointwise [hOut]
  simp only [lin, row, lgs]

variable (m : (ℓ : Loc nD τ sig) → Buf (Elt Ideal) ℓ)
abbrev aX (c : Dev nD) : FVec Ideal S4x8192x1024 .f32 := m ((c : Thread nD τ).loc main_arg0)
abbrev aG (c : Dev nD) : FVec Ideal S1x1024 .f32 := m ((c : Thread nD τ).loc main_arg1)
abbrev aW (c : Dev nD) : FVec Ideal S1x1024x2816 .f32 := m ((c : Thread nD τ).loc main_arg2)
abbrev aU (c : Dev nD) : FVec Ideal S1x1024x2816 .f32 := m ((c : Thread nD τ).loc main_arg3)
abbrev aD (c : Dev nD) : FVec Ideal S1x2816x1024 .f32 := m ((c : Thread nD τ).loc main_arg4)

/-- The result array. -/
def arr (c : Dev nD) : S32768x1024.Idx → EReal := fun i =>
  ffn (row (fun a b k => aX m c (ix3 a b k)) (i 0)) (fun k => aG m c (ix2 0 k)) (fun k j => aW m c (ix3 0 k j)) (fun k j => aU m c (ix3 0 k j))
    (fun k j => aD m c (ix3 0 k j)) (i 1)

theorem arr_eq (c : Dev nD) : hOut (aX m c) (hG (hN (aX m c) (aG m c)) (aW m c)) (hG (hN (aX m c) (aG m c)) (aU m c)) (aD m c) = arr m c := by
  funext i
  obtain ⟨r, d, rfl⟩ : ∃ r d, i = ix2 r d := ⟨i 0, i 1, by funext a; fin_cases a <;> rfl⟩
  rw [hOut_at]
  simp only [row, hG_at, hN_at]
  rfl

theorem run_val (g : Dev nD → PrngReg) : θ_run defs (onTc (τ := τ) (main (F := Ideal))) ⟨m, fun _ => 0, g⟩ fun r => ∀ c : Dev nD,
      r.2.mem ((c.tc : Thread nD τ).loc main_v23) = arr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1.trans (arr_eq m c), (h c).2⟩) (Value.run m g)

end Cert.Reference2Ideal.Ffn
end
-- ==== Proof.KProj.lean ====
/-
  The input projection kernel's seven result arrays over the extended reals: the row formula, row by row.
-/
module

public import proofs.«01_k».proof.Proof.Gen.Kernel3Ideal.Value
public import proofs.«01_k».proof.Proof.Rows
public import Idealize.ShloMosaic.Lib.Pipeline.ValueKit.Geometry
public import Idealize.ShloMosaic.Lib.Pipeline.ValueKit.Point

@[expose] public section

set_option maxRecDepth 16384

noncomputable section

namespace Cert.Kernel3Ideal.Proj

open Cert.Kernel3Ideal Cert.Kernel3Ideal.Gen
open Idealize.ShloMosaic Idealize.ShloMosaic.TcCoe Idealize.ShloMosaic.StableHlo
open Cert.Rows

/-! ## The body's values at an element -/

theorem pay5 (x : S1024x1024.Idx → EReal) (g : S1x1024.Idx → EReal) (p k : Fin 1024) :
    k0_pay5 (F := Ideal) x g (ix2 p k) = nrm (fun k => x (ix2 p k)) (fun k => g (ix2 0 k)) k := by
  pointwise [k0_pay5]
  simp only [nrm]

theorem pay6 (x : S1024x1024.Idx → EReal) (g : S1x1024.Idx → EReal) (w : S1024x256.Idx → EReal) (p : Fin 1024) (d : Fin 256) :
    k0_pay6 (F := Ideal) x g w (ix2 p d) = lin (nrm (fun k => x (ix2 p k)) (fun k => g (ix2 0 k))) (fun k j => w (ix2 k j)) d := by
  pointwise [k0_pay6]
  simp only [pay5, lin]

theorem pay7 (x : S1024x1024.Idx → EReal) (g : S1x1024.Idx → EReal) (w : S1024x256.Idx → EReal) (p : Fin 1024) (d : Fin 256) :
    k0_pay7 (F := Ideal) x g w (ix2 p d) = lin (nrm (fun k => x (ix2 p k)) (fun k => g (ix2 0 k))) (fun k j => w (ix2 k j)) d := by
  pointwise [k0_pay7]
  simp only [pay5, lin]

theorem pay8 (x : S1024x1024.Idx → EReal) (g : S1x1024.Idx → EReal) (w : S1024x128.Idx → EReal) (p : Fin 1024) (d : Fin 128) :
    k0_pay8 (F := Ideal) x g w (ix2 p d) = lin (nrm (fun k => x (ix2 p k)) (fun k => g (ix2 0 k))) (fun k j => w (ix2 k j)) d := by
  pointwise [k0_pay8]
  simp only [pay5, lin]

theorem pay3 (x : S1024x1024.Idx → EReal) (g : S1x1024.Idx → EReal) (w : S1024x1024.Idx → EReal) (p d : Fin 1024) :
    k0_pay3 (F := Ideal) (k0_pay5 x g) w (ix2 p d) = lin (nrm (fun k => x (ix2 p k)) (fun k => g (ix2 0 k))) (fun k j => w (ix2 k j)) d := by
  pointwise [k0_pay3]
  simp only [pay5, lin]

theorem pay4 (x : S1024x1024.Idx → EReal) (g : S1x1024.Idx → EReal) (w : S1024x1024.Idx → EReal) (p d : Fin 1024) :
    k0_pay4 (F := Ideal) (k0_pay5 x g) w (ix2 p d) = lin (nrm (fun k => x (ix2 p k)) (fun k => g (ix2 0 k))) (fun k j => w (ix2 k j)) d := by
  pointwise [k0_pay4]
  simp only [pay5, lin]

theorem pay20 (x : S1024x1024.Idx → EReal) (g : S1x1024.Idx → EReal) (w : S1024x1024.Idx → EReal) (p d : Fin 1024) :
    k0_pay20 (F := Ideal) (k0_pay5 x g) w (ix2 p d) = lin (nrm (fun k => x (ix2 p k)) (fun k => g (ix2 0 k))) (fun k j => w (ix2 k j)) d := by
  pointwise [k0_pay20]
  simp only [pay5, lin]

theorem pay10 (x : S1024x1024.Idx → EReal) (g : S1x1024.Idx → EReal) (w : S1024x1024.Idx → EReal) (p d : Fin 1024) :
    k0_pay10 (F := Ideal) (k0_pay5 x g) (k0_pay9 w) (constant S1024x1024 .f32 0x00000000#32) (ix2 p d)
      = lin (nrm (fun k => x (ix2 p k)) (fun k => g (ix2 0 k))) (fun k j => w (ix2 k j)) d := by
  pointwise [k0_pay10, k0_pay9]
  simp only [pay5, lin]

variable (m : (ℓ : Loc nD τ sig) → Buf (Elt Ideal) ℓ)

/-- The arguments as arrays of extended reals. -/
abbrev aX (c : Dev nD) : FVec Ideal S4x8192x1024 .f32 := m ((c : Thread nD τ).loc main_arg0)
abbrev aG (c : Dev nD) : FVec Ideal S1x1024 .f32 := m ((c : Thread nD τ).loc main_arg1)
abbrev aW (c : Dev nD) : FVec Ideal S1x1024x4672 .f32 := m ((c : Thread nD τ).loc main_arg2)

/-! ## What the host lines before the call leave in the call's operands -/

/-- The weights, cast. -/
abbrev W2 (c : Dev nD) : FVec Ideal S1024x4672 .bf16 := truncf .bf16 (shapeCast S1024x4672 (aW m c) shapeCasts_S1x1024x4672_S1024x4672) bitsLt_bf16_f32

theorem V0 (c : Dev nD) : V m c main_v0 = shapeCast S32768x1024 (aX m c) shapeCasts_S4x8192x1024_S32768x1024 := by
  simp only [V, hostOps0, hostOps0_1, hostOps0_2, List.flatten_cons, List.flatten_nil, List.append_nil, List.cons_append, List.nil_append, TRef.binary, TRef.nullary, TRef.unary, TRef.toBuf, TRef.ofBuf, cast_eq]
  after_results_simp <;> rfl

theorem V12 (c : Dev nD) : V m c main_v12 = shapeCast S1x1024 (shapeCast S1024 (aG m c) shapeCasts_S1x1024_S1024) shapeCasts_S1024_S1x1024 := by
  simp only [V, hostOps0, hostOps0_1, hostOps0_2, List.flatten_cons, List.flatten_nil, List.append_nil, List.cons_append, List.nil_append, TRef.binary, TRef.nullary, TRef.unary, TRef.toBuf, TRef.ofBuf, cast_eq]
  after_results_simp <;> rfl

theorem V4 (c : Dev nD) : V m c main_v4 = pad S1024x128 ![0, 0] ![0, 64] ![0, 0] (extractStridedSlice S1024x64 ![0, 512] (W2 m c) slices_S1024x4672_S1024x64_0_512) (sitofp (F := Ideal) .bf16 (constantI S_ 32 0#32)) pads_S1024x64_S1024x128_000_0640 h_S_ := by
  simp only [V, hostOps0, hostOps0_1, hostOps0_2, List.flatten_cons, List.flatten_nil, List.append_nil, List.cons_append, List.nil_append, TRef.binary, TRef.nullary, TRef.unary, TRef.toBuf, TRef.ofBuf, cast_eq]
  after_results_simp <;> rfl

theorem V5 (c : Dev nD) : V m c main_v5 = extractStridedSlice S1024x256 ![0, 0] (W2 m c) slices_S1024x4672_S1024x256_0_0 := by
  simp only [V, hostOps0, hostOps0_1, hostOps0_2, List.flatten_cons, List.flatten_nil, List.append_nil, List.cons_append, List.nil_append, TRef.binary, TRef.nullary, TRef.unary, TRef.toBuf, TRef.ofBuf, cast_eq]
  after_results_simp <;> rfl

theorem V6 (c : Dev nD) : V m c main_v6 = extractStridedSlice S1024x256 ![0, 256] (W2 m c) slices_S1024x4672_S1024x256_0_256 := by
  simp only [V, hostOps0, hostOps0_1, hostOps0_2, List.flatten_cons, List.flatten_nil, List.append_nil, List.cons_append, List.nil_append, TRef.binary, TRef.nullary, TRef.unary, TRef.toBuf, TRef.ofBuf, cast_eq]
  after_results_simp <;> rfl

theorem V7 (c : Dev nD) : V m c main_v7 = extractStridedSlice S1024x1024 ![0, 576] (W2 m c) slices_S1024x4672_S1024x1024_0_576 := by
  simp only [V, hostOps0, hostOps0_1, hostOps0_2, List.flatten_cons, List.flatten_nil, List.append_nil, List.cons_append, List.nil_append, TRef.binary, TRef.nullary, TRef.unary, TRef.toBuf, TRef.ofBuf, cast_eq]
  after_results_simp <;> rfl

theorem V8 (c : Dev nD) : V m c main_v8 = extractStridedSlice S1024x1024 ![0, 1600] (W2 m c) slices_S1024x4672_S1024x1024_0_1600 := by
  simp only [V, hostOps0, hostOps0_1, hostOps0_2, List.flatten_cons, List.flatten_nil, List.append_nil, List.cons_append, List.nil_append, TRef.binary, TRef.nullary, TRef.unary, TRef.toBuf, TRef.ofBuf, cast_eq]
  after_results_simp <;> rfl

theorem V9 (c : Dev nD) : V m c main_v9 = extractStridedSlice S1024x1024 ![0, 2624] (W2 m c) slices_S1024x4672_S1024x1024_0_2624 := by
  simp only [V, hostOps0, hostOps0_1, hostOps0_2, List.flatten_cons, List.flatten_nil, List.append_nil, List.cons_append, List.nil_append, TRef.binary, TRef.nullary, TRef.unary, TRef.toBuf, TRef.ofBuf, cast_eq]
  after_results_simp <;> rfl

theorem V10 (c : Dev nD) : V m c main_v10 = extractStridedSlice S1024x1024 ![0, 3648] (W2 m c) slices_S1024x4672_S1024x1024_0_3648 := by
  simp only [V, hostOps0, hostOps0_1, hostOps0_2, List.flatten_cons, List.flatten_nil, List.append_nil, List.cons_append, List.nil_append, TRef.binary, TRef.nullary, TRef.unary, TRef.toBuf, TRef.ofBuf, cast_eq]
  after_results_simp <;> rfl

/-! ## The blocks of a point -/

theorem ix_0 : ∀ t : Fin grid0.N, win0_0.index t = ![t.val, 0] := by decide +kernel
theorem ix_1 : ∀ t : Fin grid0.N, win0_1.index t = ![0, 0] := by decide +kernel
theorem ix_2 : ∀ t : Fin grid0.N, win0_2.index t = ![0, 0] := by decide +kernel
theorem ix_3 : ∀ t : Fin grid0.N, win0_3.index t = ![0, 0] := by decide +kernel
theorem ix_4 : ∀ t : Fin grid0.N, win0_4.index t = ![0, 0] := by decide +kernel
theorem ix_5 : ∀ t : Fin grid0.N, win0_5.index t = ![0, 0] := by decide +kernel
theorem ix_6 : ∀ t : Fin grid0.N, win0_6.index t = ![0, 0] := by decide +kernel
theorem ix_7 : ∀ t : Fin grid0.N, win0_7.index t = ![0, 0] := by decide +kernel
theorem ix_8 : ∀ t : Fin grid0.N, win0_8.index t = ![0, 0] := by decide +kernel
theorem ix_9 : ∀ t : Fin grid0.N, win0_9.index t = ![t.val, 0] := by decide +kernel
theorem ix_10 : ∀ t : Fin grid0.N, win0_10.index t = ![t.val, 0] := by decide +kernel
theorem ix_11 : ∀ t : Fin grid0.N, win0_11.index t = ![t.val, 0] := by decide +kernel
theorem ix_12 : ∀ t : Fin grid0.N, win0_12.index t = ![0, t.val, 0] := by decide +kernel
theorem ix_13 : ∀ t : Fin grid0.N, win0_13.index t = ![0, t.val, 0] := by decide +kernel
theorem ix_14 : ∀ t : Fin grid0.N, win0_14.index t = ![t.val, 0] := by decide +kernel
theorem ix_15 : ∀ t : Fin grid0.N, win0_15.index t = ![t.val, 0] := by decide +kernel

/-- The row of the whole array a point's block row is. -/
def gr (t : Fin cfg0.N) (p : Fin 1024) : Fin 32768 := ⟨t.val * 1024 + p.val, by have : t.val < 32 := t.isLt; omega⟩

theorem blk0 (c : Dev nD) (t : Fin cfg0.N) (p : Fin 1024) (d : Fin 1024) :
    iblk m c 0 t (ix2 p d) = row (fun a b k => aX m c (ix3 a b k)) (gr t p) d := by
  have e : (win0_0.blk t).view.emb (ix2 p d) = ix2 (gr t p) d := by
    blk_ext! [ix_0 t, gr]
  refine (congrFun (V0 m c) ((win0_0.blk t).view.emb (ix2 p d))).trans ?_
  refine (congrArg _ e).trans ?_
  simp only [row]
  pointwise

theorem blk1 (c : Dev nD) (t : Fin cfg0.N) (d : Fin 1024) :
    iblk m c 1 t (ix2 0 d) = aG m c (ix2 0 d) := by
  have e : (win0_1.blk t).view.emb (ix2 0 d) = ix2 0 d := by
    blk_ext! [ix_1 t]
  refine (congrFun (V12 m c) ((win0_1.blk t).view.emb (ix2 0 d))).trans ?_
  refine (congrArg _ e).trans ?_
  pointwise

theorem blk2 (c : Dev nD) (t : Fin cfg0.N) (p : Fin 1024) (d : Fin 256) :
    iblk m c 2 t (ix2 p d) = aW m c (ix3 0 p ⟨0 + d.val, by omega⟩) := by
  have e : (win0_2.blk t).view.emb (ix2 p d) = ix2 p d := by
    blk_ext! [ix_2 t]
  refine (congrFun (V5 m c) ((win0_2.blk t).view.emb (ix2 p d))).trans ?_
  refine (congrArg _ e).trans ?_
  pointwise

theorem blk3 (c : Dev nD) (t : Fin cfg0.N) (p : Fin 1024) (d : Fin 256) :
    iblk m c 3 t (ix2 p d) = aW m c (ix3 0 p ⟨256 + d.val, by omega⟩) := by
  have e : (win0_3.blk t).view.emb (ix2 p d) = ix2 p d := by
    blk_ext! [ix_3 t]
  refine (congrFun (V6 m c) ((win0_3.blk t).view.emb (ix2 p d))).trans ?_
  refine (congrArg _ e).trans ?_
  pointwise

theorem blk5 (c : Dev nD) (t : Fin cfg0.N) (p : Fin 1024) (d : Fin 1024) :
    iblk m c 5 t (ix2 p d) = aW m c (ix3 0 p ⟨576 + d.val, by omega⟩) := by
  have e : (win0_5.blk t).view.emb (ix2 p d) = ix2 p d := by
    blk_ext! [ix_5 t]
  refine (congrFun (V7 m c) ((win0_5.blk t).view.emb (ix2 p d))).trans ?_
  refine (congrArg _ e).trans ?_
  pointwise

theorem blk6 (c : Dev nD) (t : Fin cfg0.N) (p : Fin 1024) (d : Fin 1024) :
    iblk m c 6 t (ix2 p d) = aW m c (ix3 0 p ⟨1600 + d.val, by omega⟩) := by
  have e : (win0_6.blk t).view.emb (ix2 p d) = ix2 p d := by
    blk_ext! [ix_6 t]
  refine (congrFun (V8 m c) ((win0_6.blk t).view.emb (ix2 p d))).trans ?_
  refine (congrArg _ e).trans ?_
  pointwise

theorem blk7 (c : Dev nD) (t : Fin cfg0.N) (p : Fin 1024) (d : Fin 1024) :
    iblk m c 7 t (ix2 p d) = aW m c (ix3 0 p ⟨2624 + d.val, by omega⟩) := by
  have e : (win0_7.blk t).view.emb (ix2 p d) = ix2 p d := by
    blk_ext! [ix_7 t]
  refine (congrFun (V9 m c) ((win0_7.blk t).view.emb (ix2 p d))).trans ?_
  refine (congrArg _ e).trans ?_
  pointwise

theorem blk8 (c : Dev nD) (t : Fin cfg0.N) (p : Fin 1024) (d : Fin 1024) :
    iblk m c 8 t (ix2 p d) = aW m c (ix3 0 p ⟨3648 + d.val, by omega⟩) := by
  have e : (win0_8.blk t).view.emb (ix2 p d) = ix2 p d := by
    blk_ext! [ix_8 t]
  refine (congrFun (V10 m c) ((win0_8.blk t).view.emb (ix2 p d))).trans ?_
  refine (congrArg _ e).trans ?_
  pointwise

theorem blk4 (c : Dev nD) (t : Fin cfg0.N) (p : Fin 1024) (d : Fin 128) :
    iblk m c 4 t (ix2 p d) = if h : d.val < 64 then aW m c (ix3 0 p ⟨512 + d.val, by omega⟩) else 0 := by
  have e : (win0_4.blk t).view.emb (ix2 p d) = ix2 p d := by
    blk_ext! [ix_4 t]
  refine (congrFun (V4 m c) ((win0_4.blk t).view.emb (ix2 p d))).trans ?_
  refine (congrArg _ e).trans ?_
  pointwise
  have z : (FloatOps.sitofp (F := Ideal) .bf16 (0#32) : EReal) = 0 := by
    show (((0#32 : BitVec 32).toInt : ℝ) : EReal) = 0
    simp
  simp only [z]

/-! ## A load of a whole block is the block -/

theorem ld_0 {e : EltTy} (x : S1024x1024.Idx → Elt Ideal e) : View.ld x r0_0 = x := View.ld_unit_zero (by funext a; fin_cases a <;> rfl) _ _

theorem ld_1 {e : EltTy} (x : S1x1024.Idx → Elt Ideal e) : View.ld x r0_1 = x := View.ld_unit_zero (by funext a; fin_cases a <;> rfl) _ _

/-! ## The result arrays -/

/-- The projected rows: every result is columns of these. -/
def pr (c : Dev nD) (r : Fin 32768) (j : Fin 4672) : EReal :=
  prj (row (fun a b k => aX m c (ix3 a b k)) r) (fun k => aG m c (ix2 0 k)) (fun k j => aW m c (ix3 0 k j)) j

def arr9 (c : Dev nD) : S32768x256.Idx → EReal := fun i => pr m c (i 0) ⟨0 + (i 1).val, by have : (i 1).val < 256 := (i 1).isLt; omega⟩
def arr10 (c : Dev nD) : S32768x256.Idx → EReal := fun i => pr m c (i 0) ⟨256 + (i 1).val, by have : (i 1).val < 256 := (i 1).isLt; omega⟩
def arr11 (c : Dev nD) : S32768x128.Idx → EReal := fun i => if h : (i 1).val < 64 then pr m c (i 0) ⟨512 + (i 1).val, by omega⟩ else 0
def arr12 (c : Dev nD) : S8x32768x128.Idx → EReal := fun i => pr m c (i 1) ⟨576 + ((i 0).val * 128 + (i 2).val), by have : (i 0).val < 8 := (i 0).isLt; have : (i 2).val < 128 := (i 2).isLt; omega⟩
def arr13 (c : Dev nD) : S8x32768x128.Idx → EReal := fun i => pr m c (i 1) ⟨1600 + ((i 0).val * 128 + (i 2).val), by have : (i 0).val < 8 := (i 0).isLt; have : (i 2).val < 128 := (i 2).isLt; omega⟩
def arr14 (c : Dev nD) : S32768x1024.Idx → EReal := fun i => pr m c (i 0) ⟨2624 + (i 1).val, by have : (i 1).val < 1024 := (i 1).isLt; omega⟩
def arr15 (c : Dev nD) : S32768x1024.Idx → EReal := fun i => pr m c (i 0) ⟨3648 + (i 1).val, by have : (i 1).val < 1024 := (i 1).isLt; omega⟩

theorem emb_9 (t : Fin cfg0.N) (p : Fin 1024) (d : Fin 256) : (win0_9.blk t).view.emb (ix2 p d) = ix2 (gr t p) d := by
  funext a; apply Fin.ext
  fin_cases a
  all_goals simp only [ValueKit.finMkLit, Fin.isValue]
  all_goals blk_simp
  all_goals rw [ix_9 t]
  all_goals simp [gr]

theorem out_9 (c : Dev nD) (t : Fin cfg0.N) (p : Fin 1024) (d : Fin 256) :
    out0_9 (iblk m c 0 t) (iblk m c 1 t) (iblk m c 2 t) (iblk m c 3 t) (iblk m c 4 t) (iblk m c 5 t) (iblk m c 6 t) (iblk m c 7 t) (iblk m c 8 t) (ix2 p d) = arr9 m c (ix2 (gr t p) d) := by
  unfold out0_9
  frame_out
  refine (pay6 _ _ _ p d).trans ?_
  simp only [blk0, blk1, blk2]
  rfl

theorem arr_final9 (c : Dev nD) : (dats m 0 c).arrAt 9 cfg0.N = arr9 m c := by
  refine (dats m 0 c).arrAt_eq_of_covers 9 _ (by decide +kernel) fun t hf y => ?_
  blk_simp
  obtain ⟨p, d, rfl⟩ : ∃ (p : Fin 1024) (d : Fin 256), y = ix2 p d := ⟨y 0, y 1, by funext a; fin_cases a <;> rfl⟩
  exact (congrFun (after0_9 m c t) _).trans ((out_9 m c t p d).trans (congrArg (arr9 m c) (emb_9 t p d).symm))

theorem emb_10 (t : Fin cfg0.N) (p : Fin 1024) (d : Fin 256) : (win0_10.blk t).view.emb (ix2 p d) = ix2 (gr t p) d := by
  funext a; apply Fin.ext
  fin_cases a
  all_goals simp only [ValueKit.finMkLit, Fin.isValue]
  all_goals blk_simp
  all_goals rw [ix_10 t]
  all_goals simp [gr]

theorem out_10 (c : Dev nD) (t : Fin cfg0.N) (p : Fin 1024) (d : Fin 256) :
    out0_10 (iblk m c 0 t) (iblk m c 1 t) (iblk m c 2 t) (iblk m c 3 t) (iblk m c 4 t) (iblk m c 5 t) (iblk m c 6 t) (iblk m c 7 t) (iblk m c 8 t) (ix2 p d) = arr10 m c (ix2 (gr t p) d) := by
  unfold out0_10
  frame_out
  refine (pay7 _ _ _ p d).trans ?_
  simp only [blk0, blk1, blk3]
  rfl

theorem arr_final10 (c : Dev nD) : (dats m 0 c).arrAt 10 cfg0.N = arr10 m c := by
  refine (dats m 0 c).arrAt_eq_of_covers 10 _ (by decide +kernel) fun t hf y => ?_
  blk_simp
  obtain ⟨p, d, rfl⟩ : ∃ (p : Fin 1024) (d : Fin 256), y = ix2 p d := ⟨y 0, y 1, by funext a; fin_cases a <;> rfl⟩
  exact (congrFun (after0_10 m c t) _).trans ((out_10 m c t p d).trans (congrArg (arr10 m c) (emb_10 t p d).symm))

theorem emb_14 (t : Fin cfg0.N) (p : Fin 1024) (d : Fin 1024) : (win0_14.blk t).view.emb (ix2 p d) = ix2 (gr t p) d := by
  funext a; apply Fin.ext
  fin_cases a
  all_goals simp only [ValueKit.finMkLit, Fin.isValue]
  all_goals blk_simp
  all_goals rw [ix_14 t]
  all_goals simp [gr]

theorem out_14 (c : Dev nD) (t : Fin cfg0.N) (p : Fin 1024) (d : Fin 1024) :
    out0_14 (iblk m c 0 t) (iblk m c 1 t) (iblk m c 2 t) (iblk m c 3 t) (iblk m c 4 t) (iblk m c 5 t) (iblk m c 6 t) (iblk m c 7 t) (iblk m c 8 t) (ix2 p d) = arr14 m c (ix2 (gr t p) d) := by
  unfold out0_14
  frame_out
  show k0_pay3 (k0_pay5 (View.ld (iblk m c 0 t) r0_0) (View.ld (iblk m c 1 t) r0_1)) (iblk m c 7 t) (ix2 p d) = _
  rw [ld_0, ld_1]
  refine (pay3 _ _ _ p d).trans ?_
  simp only [blk0, blk1, blk7]
  rfl

theorem arr_final14 (c : Dev nD) : (dats m 0 c).arrAt 14 cfg0.N = arr14 m c := by
  refine (dats m 0 c).arrAt_eq_of_covers 14 _ (by decide +kernel) fun t hf y => ?_
  blk_simp
  obtain ⟨p, d, rfl⟩ : ∃ (p : Fin 1024) (d : Fin 1024), y = ix2 p d := ⟨y 0, y 1, by funext a; fin_cases a <;> rfl⟩
  exact (congrFun (after0_14 m c t) _).trans ((out_14 m c t p d).trans (congrArg (arr14 m c) (emb_14 t p d).symm))

theorem emb_15 (t : Fin cfg0.N) (p : Fin 1024) (d : Fin 1024) : (win0_15.blk t).view.emb (ix2 p d) = ix2 (gr t p) d := by
  funext a; apply Fin.ext
  fin_cases a
  all_goals simp only [ValueKit.finMkLit, Fin.isValue]
  all_goals blk_simp
  all_goals rw [ix_15 t]
  all_goals simp [gr]

theorem out_15 (c : Dev nD) (t : Fin cfg0.N) (p : Fin 1024) (d : Fin 1024) :
    out0_15 (iblk m c 0 t) (iblk m c 1 t) (iblk m c 2 t) (iblk m c 3 t) (iblk m c 4 t) (iblk m c 5 t) (iblk m c 6 t) (iblk m c 7 t) (iblk m c 8 t) (ix2 p d) = arr15 m c (ix2 (gr t p) d) := by
  unfold out0_15
  frame_out
  show k0_pay4 (k0_pay5 (View.ld (iblk m c 0 t) r0_0) (View.ld (iblk m c 1 t) r0_1)) (iblk m c 8 t) (ix2 p d) = _
  rw [ld_0, ld_1]
  refine (pay4 _ _ _ p d).trans ?_
  simp only [blk0, blk1, blk8]
  rfl

theorem arr_final15 (c : Dev nD) : (dats m 0 c).arrAt 15 cfg0.N = arr15 m c := by
  refine (dats m 0 c).arrAt_eq_of_covers 15 _ (by decide +kernel) fun t hf y => ?_
  blk_simp
  obtain ⟨p, d, rfl⟩ : ∃ (p : Fin 1024) (d : Fin 1024), y = ix2 p d := ⟨y 0, y 1, by funext a; fin_cases a <;> rfl⟩
  exact (congrFun (after0_15 m c t) _).trans ((out_15 m c t p d).trans (congrArg (arr15 m c) (emb_15 t p d).symm))

theorem emb_11 (t : Fin cfg0.N) (p : Fin 1024) (d : Fin 128) : (win0_11.blk t).view.emb (ix2 p d) = ix2 (gr t p) d := by
  funext a; apply Fin.ext
  fin_cases a
  all_goals simp only [ValueKit.finMkLit, Fin.isValue]
  all_goals blk_simp
  all_goals rw [ix_11 t]
  all_goals simp [gr]

theorem arr11_lt (c : Dev nD) (r : Fin 32768) (d : Fin 128) (hd : d.val < 64) : arr11 m c (ix2 r d) = pr m c r ⟨512 + d.val, by omega⟩ := dif_pos (c := d.val < 64) hd

theorem arr11_ge (c : Dev nD) (r : Fin 32768) (d : Fin 128) (hd : ¬ d.val < 64) : arr11 m c (ix2 r d) = 0 := dif_neg (c := d.val < 64) hd

theorem out_11 (c : Dev nD) (t : Fin cfg0.N) (p : Fin 1024) (d : Fin 128) :
    out0_11 (iblk m c 0 t) (iblk m c 1 t) (iblk m c 2 t) (iblk m c 3 t) (iblk m c 4 t) (iblk m c 5 t) (iblk m c 6 t) (iblk m c 7 t) (iblk m c 8 t) (ix2 p d) = arr11 m c (ix2 (gr t p) d) := by
  unfold out0_11
  frame_out
  refine (pay8 _ _ _ p d).trans ?_
  simp only [blk0, blk1, blk4]
  by_cases hd : d.val < 64
  · rw [arr11_lt m c (gr t p) d hd]
    exact lin_col (q := 4672) _ _ (fun k j => aW m c (ix3 0 k j)) d ⟨512 + d.val, by omega⟩ fun k => dif_pos hd
  · rw [arr11_ge m c (gr t p) d hd]
    exact lin_zero _ _ d fun k => dif_neg hd

theorem arr_final11 (c : Dev nD) : (dats m 0 c).arrAt 11 cfg0.N = arr11 m c := by
  refine (dats m 0 c).arrAt_eq_of_covers 11 _ (by decide +kernel) fun t hf y => ?_
  blk_simp
  obtain ⟨p, d, rfl⟩ : ∃ (p : Fin 1024) (d : Fin 128), y = ix2 p d := ⟨y 0, y 1, by funext a; fin_cases a <;> rfl⟩
  exact (congrFun (after0_11 m c t) _).trans ((out_11 m c t p d).trans (congrArg (arr11 m c) (emb_11 t p d).symm))

theorem emb_12 (t : Fin cfg0.N) (h : Fin 8) (p : Fin 1024) (d : Fin 128) : (win0_12.blk t).view.emb (ix3 h p d) = ix3 h (gr t p) d := by
  funext a; apply Fin.ext
  fin_cases a
  all_goals simp only [ValueKit.finMkLit, Fin.isValue]
  all_goals blk_simp
  all_goals rw [ix_12 t]
  all_goals simp [gr]

theorem slab_12 (P0 : FVec Ideal S1024x1024 .f32) (P1 : FVec Ideal S1x1024 .f32) (P2 : FVec Ideal S1024x1024 .bf16) (h : Fin 8) (p : Fin 1024) (d : Fin 128) :
    Value.E12 (F := Ideal) P0 P1 P2 (ix3 h p d) = lin (nrm (fun k => P0 (ix2 p k)) (fun k => P1 (ix2 0 k))) (fun k j => P2 (ix2 k j)) (⟨h.val * 128 + d.val, by omega⟩ : Fin 1024) := by
  refine Eq.trans ?_ (pay10 P0 P1 P2 p ⟨h.val * 128 + d.val, by omega⟩)
  show k0_pay10 (F := Ideal) (k0_pay5 P0 P1) (k0_pay9 P2) (constant S1024x1024 .f32 0x00000000#32) (Value.ix12_0 (ix3 h p d)) = _
  refine congrArg _ ?_
  funext a; fin_cases a <;> rfl

theorem out_12 (c : Dev nD) (t : Fin cfg0.N) (h : Fin 8) (p : Fin 1024) (d : Fin 128) :
    out0_12 (iblk m c 0 t) (iblk m c 1 t) (iblk m c 2 t) (iblk m c 3 t) (iblk m c 4 t) (iblk m c 5 t) (iblk m c 6 t) (iblk m c 7 t) (iblk m c 8 t) (ix3 h p d) = arr12 m c (ix3 h (gr t p) d) := by
  refine (Value.canon12_eq (View.ld (iblk m c 0 t) r0_0) (View.ld (iblk m c 1 t) r0_1) (View.ld (iblk m c 5 t) r0_0) (ix3 h p d)).trans ?_
  refine (slab_12 _ _ _ h p d).trans ?_
  rw [ld_0, ld_1, ld_0]
  simp only [blk0, blk1, blk5]
  rfl

theorem arr_final12 (c : Dev nD) : (dats m 0 c).arrAt 12 cfg0.N = arr12 m c := by
  refine (dats m 0 c).arrAt_eq_of_covers 12 _ (by decide +kernel) fun t hf y => ?_
  blk_simp
  obtain ⟨h, p, d, rfl⟩ : ∃ (h : Fin 8) (p : Fin 1024) (d : Fin 128), y = ix3 h p d := ⟨y 0, y 1, y 2, by funext a; fin_cases a <;> rfl⟩
  exact (congrFun (after0_12 m c t) _).trans ((out_12 m c t h p d).trans (congrArg (arr12 m c) (emb_12 t h p d).symm))

theorem emb_13 (t : Fin cfg0.N) (h : Fin 8) (p : Fin 1024) (d : Fin 128) : (win0_13.blk t).view.emb (ix3 h p d) = ix3 h (gr t p) d := by
  funext a; apply Fin.ext
  fin_cases a
  all_goals simp only [ValueKit.finMkLit, Fin.isValue]
  all_goals blk_simp
  all_goals rw [ix_13 t]
  all_goals simp [gr]

theorem slab_13 (P0 : FVec Ideal S1024x1024 .f32) (P1 : FVec Ideal S1x1024 .f32) (P2 : FVec Ideal S1024x1024 .bf16) (h : Fin 8) (p : Fin 1024) (d : Fin 128) :
    Value.E13 (F := Ideal) P0 P1 P2 (ix3 h p d) = lin (nrm (fun k => P0 (ix2 p k)) (fun k => P1 (ix2 0 k))) (fun k j => P2 (ix2 k j)) (⟨h.val * 128 + d.val, by omega⟩ : Fin 1024) := by
  refine Eq.trans ?_ (pay20 P0 P1 P2 p ⟨h.val * 128 + d.val, by omega⟩)
  show k0_pay20 (F := Ideal) (k0_pay5 P0 P1) P2 (Value.ix13_0 (ix3 h p d)) = _
  refine congrArg _ ?_
  funext a; fin_cases a <;> rfl

theorem out_13 (c : Dev nD) (t : Fin cfg0.N) (h : Fin 8) (p : Fin 1024) (d : Fin 128) :
    out0_13 (iblk m c 0 t) (iblk m c 1 t) (iblk m c 2 t) (iblk m c 3 t) (iblk m c 4 t) (iblk m c 5 t) (iblk m c 6 t) (iblk m c 7 t) (iblk m c 8 t) (ix3 h p d) = arr13 m c (ix3 h (gr t p) d) := by
  refine (Value.canon13_eq (View.ld (iblk m c 0 t) r0_0) (View.ld (iblk m c 1 t) r0_1) (View.ld (iblk m c 6 t) r0_0) (ix3 h p d)).trans ?_
  refine (slab_13 _ _ _ h p d).trans ?_
  rw [ld_0, ld_1, ld_0]
  simp only [blk0, blk1, blk6]
  rfl

theorem arr_final13 (c : Dev nD) : (dats m 0 c).arrAt 13 cfg0.N = arr13 m c := by
  refine (dats m 0 c).arrAt_eq_of_covers 13 _ (by decide +kernel) fun t hf y => ?_
  blk_simp
  obtain ⟨h, p, d, rfl⟩ : ∃ (h : Fin 8) (p : Fin 1024) (d : Fin 128), y = ix3 h p d := ⟨y 0, y 1, y 2, by funext a; fin_cases a <;> rfl⟩
  exact (congrFun (after0_13 m c t) _).trans ((out_13 m c t h p d).trans (congrArg (arr13 m c) (emb_13 t h p d).symm))

end Cert.Kernel3Ideal.Proj

end
-- ==== Proof.RProj.lean ====
/-
  The reference's input projection over the extended reals, its seven results read at one element: the row formula.
-/
module

public import proofs.«01_k».proof.Proof.Gen.Reference3Ideal.Run
public import proofs.«01_k».proof.Proof.Rows
public import Idealize.ShloMosaic.Lib.Pipeline.ValueKit.Geometry
public import Idealize.ShloMosaic.Lib.Pipeline.ValueKit.Point

@[expose] public section

set_option maxRecDepth 16384

noncomputable section

namespace Cert.Reference3Ideal.Proj

open Cert.Reference3Ideal Cert.Reference3Ideal.Gen
open Idealize.ShloMosaic Idealize.ShloMosaic.TcCoe
open Cert.Rows

/-- The normalized input. -/
def hN (x : FVec Ideal S4x8192x1024 .f32) (g : FVec Ideal S1x1024 .f32) : FVec Ideal S4x8192x1024 .f32 :=
  mulf (F := Ideal) (φ := .f32) (mulf x (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf x x) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32)))))) (broadcastInDim S4x8192x1024 ![0, 1, 2] bcast_S1x1x1024_S4x8192x1024_0_1_2 (broadcastInDim S1x1x1024 ![2] bcast_S1024_S1x1x1024_2 (shapeCast S1024 g shapeCasts_S1x1024_S1024)))

/-- The normalized input times the weights, as rows. -/
def hD (n : FVec Ideal S4x8192x1024 .f32) (w : FVec Ideal S1x1024x4672 .f32) : FVec Ideal S32768x4672 .f32 :=
  shapeCast S32768x4672 (Host.dotGeneral dot_S4x8192x1024_S1024x4672_S4x8192x4672_2_0_01_1_n_n none n (shapeCast S1024x4672 w shapeCasts_S1x1024x4672_S1024x4672)) shapeCasts_S4x8192x4672_S32768x4672

theorem hN_at (x : FVec Ideal S4x8192x1024 .f32) (g : FVec Ideal S1x1024 .f32) (b : Fin 4) (s : Fin 8192) (k : Fin 1024) :
    hN x g (ix3 b s k) = nrm (fun k => x (ix3 b s k)) (fun k => g (ix2 0 k)) k := by
  pointwise [hN]
  simp only [nrm]

theorem hD_at (x : FVec Ideal S4x8192x1024 .f32) (g : FVec Ideal S1x1024 .f32) (w : FVec Ideal S1x1024x4672 .f32) (r : Fin 32768) (j : Fin 4672) :
    hD (hN x g) w (ix2 r j) = prj (row (fun a b k => x (ix3 a b k)) r) (fun k => g (ix2 0 k)) (fun k j => w (ix3 0 k j)) j := by
  pointwise [hD]
  simp only [hN_at]
  rfl

variable (m : (ℓ : Loc nD τ sig) → Buf (Elt Ideal) ℓ)

/-- The arguments as arrays of extended reals. -/
abbrev aX (c : Dev nD) : FVec Ideal S4x8192x1024 .f32 := m ((c : Thread nD τ).loc main_arg0)
abbrev aG (c : Dev nD) : FVec Ideal S1x1024 .f32 := m ((c : Thread nD τ).loc main_arg1)
abbrev aW (c : Dev nD) : FVec Ideal S1x1024x4672 .f32 := m ((c : Thread nD τ).loc main_arg2)

/-- The projected rows, as the composed term and by the formula. -/
abbrev hR (c : Dev nD) : FVec Ideal S32768x4672 .f32 := hD (hN (aX m c) (aG m c)) (aW m c)

def pr (c : Dev nD) (r : Fin 32768) (j : Fin 4672) : EReal :=
  prj (row (fun a b k => aX m c (ix3 a b k)) r) (fun k => aG m c (ix2 0 k)) (fun k j => aW m c (ix3 0 k j)) j

theorem hR_at (c : Dev nD) (r : Fin 32768) (j : Fin 4672) : hR m c (ix2 r j) = pr m c r j := hD_at _ _ _ r j

def arr9 (c : Dev nD) : S32768x256.Idx → EReal := fun i => pr m c (i 0) ⟨0 + (i 1).val, by have : (i 1).val < 256 := (i 1).isLt; omega⟩
def arr10 (c : Dev nD) : S32768x256.Idx → EReal := fun i => pr m c (i 0) ⟨256 + (i 1).val, by have : (i 1).val < 256 := (i 1).isLt; omega⟩
def arr11 (c : Dev nD) : S32768x128.Idx → EReal := fun i => if h : (i 1).val < 64 then pr m c (i 0) ⟨512 + (i 1).val, by omega⟩ else 0
def arr12 (c : Dev nD) : S8x32768x128.Idx → EReal := fun i => pr m c (i 1) ⟨576 + ((i 0).val * 128 + (i 2).val), by have : (i 0).val < 8 := (i 0).isLt; have : (i 2).val < 128 := (i 2).isLt; omega⟩
def arr13 (c : Dev nD) : S8x32768x128.Idx → EReal := fun i => pr m c (i 1) ⟨1600 + ((i 0).val * 128 + (i 2).val), by have : (i 0).val < 8 := (i 0).isLt; have : (i 2).val < 128 := (i 2).isLt; omega⟩
def arr14 (c : Dev nD) : S32768x1024.Idx → EReal := fun i => pr m c (i 0) ⟨2624 + (i 1).val, by have : (i 1).val < 1024 := (i 1).isLt; omega⟩
def arr15 (c : Dev nD) : S32768x1024.Idx → EReal := fun i => pr m c (i 0) ⟨3648 + (i 1).val, by have : (i 1).val < 1024 := (i 1).isLt; omega⟩

theorem eq9 (c : Dev nD) : extractStridedSlice S32768x256 ![0, 0] (hR m c) slices_S32768x4672_S32768x256_0_0 = arr9 m c := by
  funext i
  obtain ⟨r, d, rfl⟩ : ∃ (r : Fin 32768) (d : Fin 256), i = ix2 r d := ⟨i 0, i 1, by funext a; fin_cases a <;> rfl⟩
  refine Eq.trans ?_ (hR_at m c r ⟨0 + d.val, by omega⟩)
  generalize hR m c = v
  pointwise

theorem eq10 (c : Dev nD) : extractStridedSlice S32768x256 ![0, 0] (extractStridedSlice S32768x320 ![0, 256] (hR m c) slices_S32768x4672_S32768x320_0_256) slices_S32768x320_S32768x256_0_0 = arr10 m c := by
  funext i
  obtain ⟨r, d, rfl⟩ : ∃ (r : Fin 32768) (d : Fin 256), i = ix2 r d := ⟨i 0, i 1, by funext a; fin_cases a <;> rfl⟩
  refine Eq.trans ?_ (hR_at m c r ⟨256 + d.val, by omega⟩)
  generalize hR m c = v
  pointwise

theorem arr11_lt (c : Dev nD) (r : Fin 32768) (d : Fin 128) (hd : d.val < 64) : arr11 m c (ix2 r d) = pr m c r ⟨512 + d.val, by omega⟩ := dif_pos (c := d.val < 64) hd

theorem arr11_ge (c : Dev nD) (r : Fin 32768) (d : Fin 128) (hd : ¬ d.val < 64) : arr11 m c (ix2 r d) = 0 := dif_neg (c := d.val < 64) hd

theorem eq11 (c : Dev nD) : concatenate S32768x128 1 [⟨S32768x64, (extractStridedSlice S32768x64 ![0, 256] (extractStridedSlice S32768x320 ![0, 256] (hR m c) slices_S32768x4672_S32768x320_0_256) slices_S32768x320_S32768x64_0_256)⟩, ⟨S32768x64, (broadcastInDim S32768x64 ![] bcast_S_S32768x64 (constant (F := Ideal) S_ .f32 0x00000000#32))⟩] concatenates_S32768x64_S32768x64_S32768x128_d1 = arr11 m c := by
  funext i
  obtain ⟨r, d, rfl⟩ : ∃ (r : Fin 32768) (d : Fin 128), i = ix2 r d := ⟨i 0, i 1, by funext a; fin_cases a <;> rfl⟩
  by_cases hd : d.val < 64
  · rw [arr11_lt m c r d hd, ← hR_at]
    generalize hR m c = v
    pointwise
    rw [dif_pos hd]
    exact congrArg (fun j => v (ix2 r j)) (Fin.ext (by show 256 + (256 + d.val) = 512 + d.val; omega))
  · rw [arr11_ge m c r d hd]
    generalize hR m c = v
    pointwise
    exact dif_neg hd

theorem eq12 (c : Dev nD) : transpose S8x32768x128 [1, 0, 2] (shapeCast S32768x8x128 (extractStridedSlice S32768x1024 ![0, 576] (hR m c) slices_S32768x4672_S32768x1024_0_576) shapeCasts_S32768x1024_S32768x8x128) transposes_S32768x8x128_S8x32768x128_1_0_2 = arr12 m c := by
  funext i
  obtain ⟨h, r, d, rfl⟩ : ∃ (h : Fin 8) (r : Fin 32768) (d : Fin 128), i = ix3 h r d := ⟨i 0, i 1, i 2, by funext a; fin_cases a <;> rfl⟩
  refine Eq.trans ?_ (hR_at m c r ⟨576 + (h.val * 128 + d.val), by omega⟩)
  generalize hR m c = v
  pointwise

theorem eq13 (c : Dev nD) : transpose S8x32768x128 [1, 0, 2] (shapeCast S32768x8x128 (extractStridedSlice S32768x1024 ![0, 1600] (hR m c) slices_S32768x4672_S32768x1024_0_1600) shapeCasts_S32768x1024_S32768x8x128) transposes_S32768x8x128_S8x32768x128_1_0_2 = arr13 m c := by
  funext i
  obtain ⟨h, r, d, rfl⟩ : ∃ (h : Fin 8) (r : Fin 32768) (d : Fin 128), i = ix3 h r d := ⟨i 0, i 1, i 2, by funext a; fin_cases a <;> rfl⟩
  refine Eq.trans ?_ (hR_at m c r ⟨1600 + (h.val * 128 + d.val), by omega⟩)
  generalize hR m c = v
  pointwise

theorem eq14 (c : Dev nD) : truncf .bf16 (extractStridedSlice S32768x1024 ![0, 2624] (hR m c) slices_S32768x4672_S32768x1024_0_2624) bitsLt_bf16_f32 = arr14 m c := by
  funext i
  obtain ⟨r, d, rfl⟩ : ∃ (r : Fin 32768) (d : Fin 1024), i = ix2 r d := ⟨i 0, i 1, by funext a; fin_cases a <;> rfl⟩
  refine Eq.trans ?_ (hR_at m c r ⟨2624 + d.val, by omega⟩)
  generalize hR m c = v
  pointwise

theorem eq15 (c : Dev nD) : truncf .bf16 (extractStridedSlice S32768x1024 ![0, 3648] (hR m c) slices_S32768x4672_S32768x1024_0_3648) bitsLt_bf16_f32 = arr15 m c := by
  funext i
  obtain ⟨r, d, rfl⟩ : ∃ (r : Fin 32768) (d : Fin 1024), i = ix2 r d := ⟨i 0, i 1, by funext a; fin_cases a <;> rfl⟩
  refine Eq.trans ?_ (hR_at m c r ⟨3648 + d.val, by omega⟩)
  generalize hR m c = v
  pointwise

theorem run_val (g : Dev nD → PrngReg) : θ_run defs (onTc (τ := τ) (main (F := Ideal))) ⟨m, fun _ => 0, g⟩ fun r => ∀ c : Dev nD,
      r.2.mem ((c.tc : Thread nD τ).loc main_v17) = arr9 m c
      ∧ r.2.mem ((c.tc : Thread nD τ).loc main_v26) = arr10 m c
      ∧ r.2.mem ((c.tc : Thread nD τ).loc main_v25) = arr11 m c
      ∧ r.2.mem ((c.tc : Thread nD τ).loc main_v28) = arr12 m c
      ∧ r.2.mem ((c.tc : Thread nD τ).loc main_v30) = arr13 m c
      ∧ r.2.mem ((c.tc : Thread nD τ).loc main_v31) = arr14 m c
      ∧ r.2.mem ((c.tc : Thread nD τ).loc main_v32) = arr15 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => by
    obtain ⟨h9, h10, h11, h12, h13, h14, h15, hk⟩ := h c
    exact ⟨h9.trans (eq9 m c), h10.trans (eq10 m c), h11.trans (eq11 m c), h12.trans (eq12 m c), h13.trans (eq13 m c),
      h14.trans (eq14 m c), h15.trans (eq15 m c), hk⟩) (Value.run m g)

end Cert.Reference3Ideal.Proj

end
-- ==== Proof.KMerge.lean ====
/-
  The merge kernel's result array over the extended reals: the row formula, row by row.
-/
module

public import proofs.«01_k».proof.Proof.Gen.Kernel4Ideal.Value
public import proofs.«01_k».proof.Proof.Rows
public import Idealize.ShloMosaic.Lib.Pipeline.ValueKit.Geometry
public import Idealize.ShloMosaic.Lib.Pipeline.ValueKit.Point

@[expose] public section

set_option maxRecDepth 16384

noncomputable section

namespace Cert.Kernel4Ideal.Merge

open Cert.Kernel4Ideal Cert.Kernel4Ideal.Gen
open Idealize.ShloMosaic Idealize.ShloMosaic.TcCoe
open Cert.Rows

/-- The recurrent branch's projection, from the eight slabs. -/
theorem pay3 (y : S8x1024x128.Idx → EReal) (w : S1024x1024.Idx → EReal) (p d : Fin 1024) :
    k0_pay3 (F := Ideal) (View.ld y r0_1) (View.ld y r0_2) (View.ld y r0_3) (View.ld y r0_4) (View.ld y r0_5) (View.ld y r0_6) (View.ld y r0_7) (View.ld y r0_8) w (ix2 p d)
      = lin (slab (fun a b k => y (ix3 a b k)) p) (fun k j => w (ix2 k j)) d := by
  simp only [lin, slab]
  pointwise [k0_pay3]
  blk_point []

/-- The other branch's projection. -/
theorem pay2 (a : S1024x1024.Idx → EReal) (w : S1024x1024.Idx → EReal) (p d : Fin 1024) :
    k0_pay2 (F := Ideal) a w (ix2 p d) = lin (fun k => a (ix2 p k)) (fun k j => w (ix2 k j)) d := by
  pointwise [k0_pay2]
  simp only [lin]

/-- The gated sum, times the last matrix, added to the input. -/
theorem pay1 (a b ga gb x w : S1024x1024.Idx → EReal) (p d : Fin 1024) :
    k0_pay1 (F := Ideal) a b ga gb x w (ix2 p d)
      = x (ix2 p d) + lin (fun k => lgs (ga (ix2 p k)) * a (ix2 p k) + lgs (gb (ix2 p k)) * b (ix2 p k)) (fun k j => w (ix2 k j)) d := by
  pointwise [k0_pay1]
  simp only [lin, lgs, zero_sub]

variable (m : (ℓ : Loc nD τ sig) → Buf (Elt Ideal) ℓ)

/-- The arguments as arrays of extended reals. -/
abbrev aX (c : Dev nD) : S4x8192x1024.Idx → EReal := m ((c : Thread nD τ).loc main_arg0)
abbrev aA (c : Dev nD) : S4x8192x1024.Idx → EReal := m ((c : Thread nD τ).loc main_arg1)
abbrev aB (c : Dev nD) : S8x32768x128.Idx → EReal := m ((c : Thread nD τ).loc main_arg2)
abbrev aGa (c : Dev nD) : S32768x1024.Idx → EReal := m ((c : Thread nD τ).loc main_arg3)
abbrev aGb (c : Dev nD) : S32768x1024.Idx → EReal := m ((c : Thread nD τ).loc main_arg4)
abbrev aWa (c : Dev nD) : S1x1024x1024.Idx → EReal := m ((c : Thread nD τ).loc main_arg5)
abbrev aWl (c : Dev nD) : S1x1024x1024.Idx → EReal := m ((c : Thread nD τ).loc main_arg6)
abbrev aWo (c : Dev nD) : S1x1024x1024.Idx → EReal := m ((c : Thread nD τ).loc main_arg7)

/-! ## The blocks of a point -/

theorem ix_0 : ∀ t : Fin grid0.N, win0_0.index t = ![t.val, 0] := by decide +kernel
theorem ix_1 : ∀ t : Fin grid0.N, win0_1.index t = ![t.val, 0] := by decide +kernel
theorem ix_2 : ∀ t : Fin grid0.N, win0_2.index t = ![0, t.val, 0] := by decide +kernel
theorem ix_3 : ∀ t : Fin grid0.N, win0_3.index t = ![t.val, 0] := by decide +kernel
theorem ix_4 : ∀ t : Fin grid0.N, win0_4.index t = ![t.val, 0] := by decide +kernel
theorem ix_5 : ∀ t : Fin grid0.N, win0_5.index t = ![0, 0] := by decide +kernel
theorem ix_6 : ∀ t : Fin grid0.N, win0_6.index t = ![0, 0] := by decide +kernel
theorem ix_7 : ∀ t : Fin grid0.N, win0_7.index t = ![0, 0] := by decide +kernel
theorem ix_8 : ∀ t : Fin grid0.N, win0_8.index t = ![t.val, 0] := by decide +kernel

/-- The row of the whole array a point's block row is. -/
def gr (t : Fin cfg0.N) (p : Fin 1024) : Fin 32768 := ⟨t.val * 1024 + p.val, by have : t.val < 32 := t.isLt; omega⟩

theorem blk0 (c : Dev nD) (t : Fin cfg0.N) (p : Fin 1024) (d : Fin 1024) :
    iblk m c 0 t (ix2 p d) = row (fun a b k => aX m c (ix3 a b k)) (gr t p) d := by
  simp only [row, gr]
  blk_ext! [iblk, V, ix_0 t]

theorem blk1 (c : Dev nD) (t : Fin cfg0.N) (p : Fin 1024) (d : Fin 1024) :
    iblk m c 1 t (ix2 p d) = row (fun a b k => aA m c (ix3 a b k)) (gr t p) d := by
  simp only [row, gr]
  blk_ext! [iblk, V, ix_1 t]

theorem blk2 (c : Dev nD) (t : Fin cfg0.N) (h : Fin 8) (p : Fin 1024) (d : Fin 128) :
    iblk m c 2 t (ix3 h p d) = aB m c (ix3 h (gr t p) d) := by
  simp only [gr]
  blk_ext! [iblk, V, ix_2 t]

theorem blk3 (c : Dev nD) (t : Fin cfg0.N) (p : Fin 1024) (d : Fin 1024) :
    iblk m c 3 t (ix2 p d) = aGa m c (ix2 (gr t p) d) := by
  simp only [gr]
  blk_ext! [iblk, V, ix_3 t]

theorem blk4 (c : Dev nD) (t : Fin cfg0.N) (p : Fin 1024) (d : Fin 1024) :
    iblk m c 4 t (ix2 p d) = aGb m c (ix2 (gr t p) d) := by
  simp only [gr]
  blk_ext! [iblk, V, ix_4 t]

theorem blk5 (c : Dev nD) (t : Fin cfg0.N) (p d : Fin 1024) :
    iblk m c 5 t (ix2 p d) = aWa m c (ix3 0 p d) := by
  blk_ext! [iblk, V, ix_5 t]

theorem blk6 (c : Dev nD) (t : Fin cfg0.N) (p d : Fin 1024) :
    iblk m c 6 t (ix2 p d) = aWl m c (ix3 0 p d) := by
  blk_ext! [iblk, V, ix_6 t]

theorem blk7 (c : Dev nD) (t : Fin cfg0.N) (p d : Fin 1024) :
    iblk m c 7 t (ix2 p d) = aWo m c (ix3 0 p d) := by
  blk_ext! [iblk, V, ix_7 t]

/-! ## The result array -/

/-- The result array. -/
def arr (c : Dev nD) : S32768x1024.Idx → EReal := fun i =>
  mrg (row (fun a b k => aX m c (ix3 a b k)) (i 0)) (row (fun a b k => aA m c (ix3 a b k)) (i 0)) (slab (fun a b k => aB m c (ix3 a b k)) (i 0))
    (fun k => aGa m c (ix2 (i 0) k)) (fun k => aGb m c (ix2 (i 0) k))
    (fun k j => aWa m c (ix3 0 k j)) (fun k j => aWl m c (ix3 0 k j)) (fun k j => aWo m c (ix3 0 k j)) (i 1)

theorem out_at (c : Dev nD) (t : Fin cfg0.N) (p : Fin 1024) (d : Fin 1024) :
    out0_8 (iblk m c 0 t) (iblk m c 1 t) (iblk m c 2 t) (iblk m c 3 t) (iblk m c 4 t) (iblk m c 5 t) (iblk m c 6 t) (iblk m c 7 t) (ix2 p d) = arr m c (ix2 (gr t p) d) := by
  unfold out0_8
  frame_out
  refine (pay1 _ _ _ _ _ _ p d).trans ?_
  simp only [pay2]
  simp only [pay3, slab, blk0, blk1, blk2, blk3, blk4, blk5, blk6, blk7]
  rfl

theorem emb_8 (t : Fin cfg0.N) (p : Fin 1024) (d : Fin 1024) : (win0_8.blk t).view.emb (ix2 p d) = ix2 (gr t p) d := by
  funext a; apply Fin.ext
  fin_cases a
  all_goals simp only [ValueKit.finMkLit, Fin.isValue]
  all_goals blk_simp
  all_goals rw [ix_8 t]
  all_goals simp [gr]

theorem arr_final (c : Dev nD) : (dats m 0 c).arrAt 8 cfg0.N = arr m c := by
  refine (dats m 0 c).arrAt_eq_of_covers 8 _ (by decide +kernel) fun t hf y => ?_
  blk_simp
  obtain ⟨p, d, rfl⟩ : ∃ (p : Fin 1024) (d : Fin 1024), y = ix2 p d := ⟨y 0, y 1, by funext a; fin_cases a <;> rfl⟩
  exact (congrFun (after0_8 m c t) _).trans ((out_at m c t p d).trans (congrArg (arr m c) (emb_8 t p d).symm))

end Cert.Kernel4Ideal.Merge

end
-- ==== Proof.RMerge.lean ====
/-
  The reference's merge over the extended reals, read at one element: the row formula.
-/
module

public import proofs.«01_k».proof.Proof.Gen.Reference4Ideal.Run
public import proofs.«01_k».proof.Proof.Rows
public import Idealize.ShloMosaic.Lib.Pipeline.ValueKit.Geometry
public import Idealize.ShloMosaic.Lib.Pipeline.ValueKit.Point

@[expose] public section

set_option maxRecDepth 16384

noncomputable section

namespace Cert.Reference4Ideal.Merge

open Cert.Reference4Ideal Cert.Reference4Ideal.Gen
open Idealize.ShloMosaic Idealize.ShloMosaic.TcCoe
open Cert.Rows

/-- A gate: the logistic function of a gate argument. -/
def hS (g : FVec Ideal S32768x1024 .bf16) : FVec Ideal S4x8192x1024 .f32 :=
  Host.divf (broadcastInDim S4x8192x1024 ![] bcast_S_S4x8192x1024 (constant S_ .f32 0x3F800000#32)) (addf (broadcastInDim S4x8192x1024 ![] bcast_S_S4x8192x1024 (constant S_ .f32 0x3F800000#32)) (Host.exp (Host.negf (shapeCast S4x8192x1024 (extf .f32 g bitsLt_bf16_f32) shapeCasts_S32768x1024_S4x8192x1024))))

/-- A batch of rows times a square matrix. -/
def hP (a : FVec Ideal S4x8192x1024 .f32) (w : FVec Ideal S1x1024x1024 .f32) : FVec Ideal S4x8192x1024 .f32 :=
  Host.dotGeneral dot_S4x8192x1024_S1024x1024_S4x8192x1024_2_0_01_1_n_n none a (shapeCast S1024x1024 w shapeCasts_S1x1024x1024_S1024x1024)

/-- The slabs laid end to end. -/
def hB (y : FVec Ideal S8x32768x128 .f32) : FVec Ideal S4x8192x1024 .f32 :=
  shapeCast S4x8192x1024 (transpose S32768x8x128 [1, 0, 2] y transposes_S8x32768x128_S32768x8x128_1_0_2) shapeCasts_S32768x8x128_S4x8192x1024

theorem hS_at (g : FVec Ideal S32768x1024 .bf16) (r : Fin 32768) (k : Fin 1024) :
    row (fun a b k => hS g (ix3 a b k)) r k = lgs (g (ix2 r k)) := by
  have e : (⟨r.val / 8192 * 8192 + r.val % 8192, by omega⟩ : Fin 32768) = r := Fin.ext (by show r.val / 8192 * 8192 + r.val % 8192 = r.val; omega)
  simp only [row]
  pointwise [hS]
  simp only [lgs, e]

theorem hP_at (a : FVec Ideal S4x8192x1024 .f32) (w : FVec Ideal S1x1024x1024 .f32) (b : Fin 4) (s : Fin 8192) (j : Fin 1024) :
    hP a w (ix3 b s j) = lin (fun k => a (ix3 b s k)) (fun k j => w (ix3 0 k j)) j := by
  pointwise [hP]
  simp only [lin]

theorem hB_at (y : FVec Ideal S8x32768x128 .f32) (r : Fin 32768) (k : Fin 1024) :
    row (fun a b k => hB y (ix3 a b k)) r k = slab (fun a b k => y (ix3 a b k)) r k := by
  simp only [row, slab]
  pointwise [hB]

/-- The whole composed term. -/
def hOut (x : FVec Ideal S4x8192x1024 .f32) (ya : FVec Ideal S4x8192x1024 .bf16) (yb : FVec Ideal S8x32768x128 .f32) (ga gb : FVec Ideal S32768x1024 .bf16) (wa wl wo : FVec Ideal S1x1024x1024 .f32) : FVec Ideal S32768x1024 .f32 :=
  shapeCast S32768x1024 (addf x (hP (addf (mulf (hS ga) (hP (extf .f32 ya bitsLt_bf16_f32) wa)) (mulf (hS gb) (hP (hB yb) wl))) wo)) shapeCasts_S4x8192x1024_S32768x1024

theorem hOut_at (x : FVec Ideal S4x8192x1024 .f32) (ya : FVec Ideal S4x8192x1024 .bf16) (yb : FVec Ideal S8x32768x128 .f32) (ga gb : FVec Ideal S32768x1024 .bf16) (wa wl wo : FVec Ideal S1x1024x1024 .f32) (r : Fin 32768) (d : Fin 1024) :
    hOut x ya yb ga gb wa wl wo (ix2 r d) = mrg (row (fun a b k => x (ix3 a b k)) r) (row (fun a b k => ya (ix3 a b k)) r) (slab (fun a b k => yb (ix3 a b k)) r)
      (fun k => ga (ix2 r k)) (fun k => gb (ix2 r k)) (fun k j => wa (ix3 0 k j)) (fun k j => wl (ix3 0 k j)) (fun k j => wo (ix3 0 k j)) d := by
  simp only [mrg, ← hS_at]
  pointwise [hOut]
  have hB' : ∀ k, hB yb (ix3 ⟨r.val / 8192, by omega⟩ ⟨r.val % 8192, by omega⟩ k) = slab (fun a b k => yb (ix3 a b k)) r k := hB_at yb r
  simp only [hP_at, row]
  pointwise []
  simp only [hP_at, hB']
  rfl

variable (m : (ℓ : Loc nD τ sig) → Buf (Elt Ideal) ℓ)

/-- The arguments as arrays of extended reals. -/
abbrev aX (c : Dev nD) : FVec Ideal S4x8192x1024 .f32 := m ((c : Thread nD τ).loc main_arg0)
abbrev aA (c : Dev nD) : FVec Ideal S4x8192x1024 .bf16 := m ((c : Thread nD τ).loc main_arg1)
abbrev aB (c : Dev nD) : FVec Ideal S8x32768x128 .f32 := m ((c : Thread nD τ).loc main_arg2)
abbrev aGa (c : Dev nD) : FVec Ideal S32768x1024 .bf16 := m ((c : Thread nD τ).loc main_arg3)
abbrev aGb (c : Dev nD) : FVec Ideal S32768x1024 .bf16 := m ((c : Thread nD τ).loc main_arg4)
abbrev aWa (c : Dev nD) : FVec Ideal S1x1024x1024 .f32 := m ((c : Thread nD τ).loc main_arg5)
abbrev aWl (c : Dev nD) : FVec Ideal S1x1024x1024 .f32 := m ((c : Thread nD τ).loc main_arg6)
abbrev aWo (c : Dev nD) : FVec Ideal S1x1024x1024 .f32 := m ((c : Thread nD τ).loc main_arg7)

/-- The result array. -/
def arr (c : Dev nD) : S32768x1024.Idx → EReal := fun i =>
  mrg (row (fun a b k => aX m c (ix3 a b k)) (i 0)) (row (fun a b k => aA m c (ix3 a b k)) (i 0)) (slab (fun a b k => aB m c (ix3 a b k)) (i 0))
    (fun k => aGa m c (ix2 (i 0) k)) (fun k => aGb m c (ix2 (i 0) k))
    (fun k j => aWa m c (ix3 0 k j)) (fun k j => aWl m c (ix3 0 k j)) (fun k j => aWo m c (ix3 0 k j)) (i 1)

theorem arr_eq (c : Dev nD) : hOut (aX m c) (aA m c) (aB m c) (aGa m c) (aGb m c) (aWa m c) (aWl m c) (aWo m c) = arr m c := by
  funext i
  obtain ⟨r, d, rfl⟩ : ∃ r d, i = ix2 r d := ⟨i 0, i 1, by funext a; fin_cases a <;> rfl⟩
  rw [hOut_at]
  rfl

theorem run_val (g : Dev nD → PrngReg) : θ_run defs (onTc (τ := τ) (main (F := Ideal))) ⟨m, fun _ => 0, g⟩ fun r => ∀ c : Dev nD,
      r.2.mem ((c.tc : Thread nD τ).loc main_v29) = arr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c => ⟨(h c).1.trans (arr_eq m c), (h c).2⟩) (Value.run m g)

end Cert.Reference4Ideal.Merge

end
-- ==== Proof.PRows.lean ====
/-
  The formulas of the attention's preparation over the extended reals: a normalized vector of any length, and a head's query and key.
-/
module

public import proofs.«01_k».proof.Proof.Rows

@[expose] public section

noncomputable section

namespace Cert.Rows

open Idealize.ShloMosaic

/-- A vector divided by its root mean square and scaled: the number of its lanes is read from the word `w`. -/
def nrmc (w : BitVec 32) {n : ℕ} (x g : Fin n → EReal) (k : Fin n) : EReal :=
  x k * Ideal.rsqrt (Ideal.div (∑ j : Fin n, x j * x j) (Ideal.ofBits .f32 w) + Ideal.ofBits .f32 0x358637BD#32) * g k

/-- A scale on the gains is a scale on the vector. -/
theorem nrmc_scale (w : BitVec 32) {n : ℕ} (x g : Fin n → EReal) (s : EReal) (k : Fin n) :
    nrmc w x (fun k => g k * s) k = nrmc w x g k * s := by
  simp only [nrmc, mul_assoc]

/-- The first and the second half of a vector of 64 lanes, turned by the angles. -/
def rot1 (v : Fin 64 → EReal) (cs sn : Fin 32 → EReal) (j : Fin 32) : EReal := v ⟨j.val, by omega⟩ * cs j - v ⟨32 + j.val, by omega⟩ * sn j
def rot2 (v : Fin 64 → EReal) (cs sn : Fin 32 → EReal) (j : Fin 32) : EReal := v ⟨32 + j.val, by omega⟩ * cs j + v ⟨j.val, by omega⟩ * sn j

/-- The turned vector with what follows it: the value `e` at lane 64, then zeros. -/
def rotp (v : Fin 64 → EReal) (cs sn : Fin 32 → EReal) (e : EReal) (j : Fin 128) : EReal :=
  if h : j.val < 32 then rot1 v cs sn ⟨j.val, h⟩
  else if h : j.val - 32 < 32 then rot2 v cs sn ⟨j.val - 32, h⟩
  else if j.val - 32 - 32 = 0 then e else 0

/-- A head's query: the normalized first 128 lanes, then the normalized last 64 turned, the offset, and zeros. -/
def qhd (q : Fin 192 → EReal) (gn : Fin 128 → EReal) (gr : Fin 64 → EReal) (cs sn : Fin 32 → EReal) (e : EReal) (j : Fin 256) : EReal :=
  if h : j.val < 128 then nrmc 0x43000000#32 (fun k : Fin 128 => q ⟨k.val, by omega⟩) gn ⟨j.val, h⟩
  else rotp (nrmc 0x42800000#32 (fun k : Fin 64 => q ⟨128 + k.val, by omega⟩) gr) cs sn e ⟨j.val - 128, by omega⟩

/-- A normalized latent row times a column of the weights. -/
def lat (x g : Fin 256 → EReal) {n : ℕ} (w : Fin 256 → Fin n → EReal) (o : Fin n) : EReal :=
  ∑ k : Fin 256, nrmc 0x43800000#32 x g k * w k o

/-- The angles of a position: each lane's frequency times it. -/
def ang (f : Fin 32 → EReal) (s : BitVec 32) (k : Fin 32) : EReal := f k * FloatOps.sitofp (F := Ideal) .f32 s

/-- The query scale. -/
def qsc : EReal := Ideal.ofBits .f32 0x3DD53B95#32

/-- A head's query, key, shared key and value at one position. -/
def qf (x gq : Fin 256 → EReal) (w : Fin 256 → Fin 1536 → EReal) (g : Fin 192 → EReal) (f : Fin 32 → EReal) (s : BitVec 32) (e : EReal) (h : Fin 8) (j : Fin 256) : EReal :=
  qhd (fun k => lat x gq w ⟨192 * h.val + k.val, by omega⟩) (fun k => g ⟨k.val, by omega⟩ * qsc) (fun k => g ⟨128 + k.val, by omega⟩ * qsc)
    (fun k => Ideal.cos (ang f s k)) (fun k => Ideal.sin (ang f s k)) e j
def knf (x gkv : Fin 256 → EReal) (w : Fin 256 → Fin 2048 → EReal) (g : Fin 192 → EReal) (h : Fin 8) (d : Fin 128) : EReal :=
  nrmc 0x43000000#32 (fun k : Fin 128 => lat x gkv w ⟨256 * h.val + k.val, by omega⟩) (fun k => g ⟨k.val, by omega⟩) d
def krf (x : Fin 128 → EReal) (g : Fin 192 → EReal) (f : Fin 32 → EReal) (s : BitVec 32) (j : Fin 128) : EReal :=
  rotp (nrmc 0x42800000#32 (fun k : Fin 64 => x ⟨k.val, by omega⟩) (fun k => g ⟨128 + k.val, by omega⟩))
    (fun k => Ideal.cos (ang f s k)) (fun k => Ideal.sin (ang f s k)) 1 j
def vtf (x gkv : Fin 256 → EReal) (w : Fin 256 → Fin 2048 → EReal) (h : Fin 8) (d : Fin 128) : EReal :=
  lat x gkv w ⟨256 * h.val + 128 + d.val, by omega⟩

end Cert.Rows

end
-- ==== Proof.KPrep.lean ====
/-
  The attention's preparation kernel over the extended reals: its four result arrays, element by element.
-/
module

public import proofs.«01_k».proof.Proof.Gen.Kernel5Ideal.Frame
public import proofs.«01_k».proof.Proof.PRows
public import Idealize.ShloMosaic.Lib.Pointwise
public import Idealize.ShloMosaic.Lib.Pipeline.Value
public import Idealize.ShloMosaic.Lib.Pipeline.ValueKit.Geometry
public import Idealize.ShloMosaic.Lib.Pipeline.ValueKit.Point

@[expose] public section

set_option maxRecDepth 16384

noncomputable section

namespace Cert.Kernel5Ideal.Prep

open Cert.Kernel5Ideal Cert.Kernel5Ideal.Gen
open Idealize.ShloMosaic Idealize.ShloMosaic.TcCoe Idealize.ShloMosaic.StableHlo
open Cert.Rows

/-! ## The body's values at an element -/

theorem pay2 (f : S32x1.Idx → EReal) (q : S1x1x2048.Idx → BitVec 32) (k : Fin 32) (p : Fin 2048) :
    k0_pay2 (F := Ideal) f q (ix2 k p) = f (ix2 k 0) * FloatOps.sitofp (F := Ideal) .f32 (q (ix3 0 0 p)) := by
  pointwise [k0_pay2]

theorem pay5 (x : S2048x256.Idx → EReal) (g : S1x256.Idx → EReal) (w : S1536x256.Idx → EReal) (o : Fin 1536) (p : Fin 2048) :
    k0_pay5 (F := Ideal) x g w (ix2 o p) = ∑ k : Fin 256, w (ix2 o k) * nrmc 0x43800000#32 (fun k => x (ix2 p k)) (fun k => g (ix2 0 k)) k := by
  pointwise [k0_pay5]
  simp only [nrmc]

theorem pay6 (e : S1x1.Idx → EReal) (k : Fin 64) (p : Fin 2048) :
    k0_pay6 (F := Ideal) e (ix2 k p) = if k.val = 0 then e (ix2 0 0) else 0 := by
  pointwise [k0_pay6]
  by_cases h : k.val = 0
  · rw [if_pos h, h]
    rfl
  · rw [if_neg h]
    have z : ¬ BitVec.ofNat 32 k.val = 0#32 := by
      intro z
      have z := congrArg BitVec.toNat z
      simp only [BitVec.toNat_ofNat] at z
      omega
    have z' : (BitVec.ofNat 32 k.val == 0#32) = false := beq_eq_false_iff_ne.mpr z
    simp [Scalar.select, IntOp.cmpi, z']

theorem pay71 (x : S2048x256.Idx → EReal) (g : S1x256.Idx → EReal) (p : Fin 2048) (k : Fin 256) :
    k0_pay71 (F := Ideal) x g (ix2 p k) = nrmc 0x43800000#32 (fun k => x (ix2 p k)) (fun k => g (ix2 0 k)) k := by
  pointwise [k0_pay71]
  simp only [nrmc]

theorem pay72 (x : S2048x256.Idx → EReal) (g : S1x256.Idx → EReal) (w : S256x1024.Idx → EReal) (p : Fin 2048) (o : Fin 1024) :
    k0_pay72 (F := Ideal) x g w (ix2 p o) = ∑ k : Fin 256, nrmc 0x43800000#32 (fun k => x (ix2 p k)) (fun k => g (ix2 0 k)) k * w (ix2 k o) := by
  pointwise [k0_pay72]
  simp only [pay71]

theorem pay73 (x : S2048x256.Idx → EReal) (g : S1x256.Idx → EReal) (w : S1024x256.Idx → EReal) (o : Fin 1024) (p : Fin 2048) :
    k0_pay73 (F := Ideal) x g w (ix2 o p) = ∑ k : Fin 256, w (ix2 o k) * nrmc 0x43800000#32 (fun k => x (ix2 p k)) (fun k => g (ix2 0 k)) k := by
  pointwise [k0_pay73]
  simp only [pay71]

/-- A column's vectors normalized, for the two lengths the kernel has. -/
def nc128 (x : FVec Ideal S128x2048 .f32) (g : FVec Ideal S128x1 .f32) : FVec Ideal S128x2048 .f32 :=
  mulf (mulf x (broadcastTo S128x2048 (rsqrt (addf (divf (shapeCast S1x2048 (multiReduction .add [0] S2048 (mulf x x) 0x00000000#32 reduces_S128x2048_S2048 (.inl rfl) rfl) shapeCasts_S2048_S1x2048) (broadcast S1x2048 (Scalar.ofBits .f32 0x43000000#32))) (broadcast S1x2048 (Scalar.ofBits .f32 0x358637BD#32)))) broadcasts_S1x2048_S128x2048)) (broadcastTo S128x2048 (shapeCast S128x1 g shapeCasts_S128x1_S128x1) broadcasts_S128x1_S128x2048)

def nc64 (x : FVec Ideal S64x2048 .f32) (g : FVec Ideal S64x1 .f32) : FVec Ideal S64x2048 .f32 :=
  mulf (mulf x (broadcastTo S64x2048 (rsqrt (addf (divf (shapeCast S1x2048 (multiReduction .add [0] S2048 (mulf x x) 0x00000000#32 reduces_S64x2048_S2048 (.inl rfl) rfl) shapeCasts_S2048_S1x2048) (broadcast S1x2048 (Scalar.ofBits .f32 0x42800000#32))) (broadcast S1x2048 (Scalar.ofBits .f32 0x358637BD#32)))) broadcasts_S1x2048_S64x2048)) (broadcastTo S64x2048 (shapeCast S64x1 g shapeCasts_S64x1_S64x1) broadcasts_S64x1_S64x2048)

theorem nc128_at (x : FVec Ideal S128x2048 .f32) (g : FVec Ideal S128x1 .f32) (k : Fin 128) (p : Fin 2048) :
    nc128 x g (ix2 k p) = nrmc 0x43000000#32 (fun k => x (ix2 k p)) (fun k => g (ix2 k 0)) k := by
  pointwise [nc128]
  simp only [nrmc]

theorem nc64_at (x : FVec Ideal S64x2048 .f32) (g : FVec Ideal S64x1 .f32) (k : Fin 64) (p : Fin 2048) :
    nc64 x g (ix2 k p) = nrmc 0x42800000#32 (fun k => x (ix2 k p)) (fun k => g (ix2 k 0)) k := by
  pointwise [nc64]
  simp only [nrmc]

/-- The two turned halves of 64 rows. -/
def tu1 (v : FVec Ideal S64x2048 .f32) (cs sn : FVec Ideal S32x2048 .f32) : FVec Ideal S32x2048 .f32 :=
  subf (mulf (extractStridedSlice S32x2048 ![0, 0] v slices_S64x2048_o0_0_S32x2048) cs) (mulf (extractStridedSlice S32x2048 ![32, 0] v slices_S64x2048_o32_0_S32x2048) sn)

def tu2 (v : FVec Ideal S64x2048 .f32) (cs sn : FVec Ideal S32x2048 .f32) : FVec Ideal S32x2048 .f32 :=
  addf (mulf (extractStridedSlice S32x2048 ![32, 0] v slices_S64x2048_o32_0_S32x2048) cs) (mulf (extractStridedSlice S32x2048 ![0, 0] v slices_S64x2048_o0_0_S32x2048) sn)

theorem tu1_at (v : FVec Ideal S64x2048 .f32) (cs sn : FVec Ideal S32x2048 .f32) (k : Fin 32) (p : Fin 2048) :
    tu1 v cs sn (ix2 k p) = rot1 (fun k => v (ix2 k p)) (fun k => cs (ix2 k p)) (fun k => sn (ix2 k p)) k := by
  pointwise [tu1]
  rfl

theorem tu2_at (v : FVec Ideal S64x2048 .f32) (cs sn : FVec Ideal S32x2048 .f32) (k : Fin 32) (p : Fin 2048) :
    tu2 v cs sn (ix2 k p) = rot2 (fun k => v (ix2 k p)) (fun k => cs (ix2 k p)) (fun k => sn (ix2 k p)) k := by
  pointwise [tu2]
  rfl

/-- A head's query columns, from its 128 and 64 rows of the product. -/
def hd (cs sn : FVec Ideal S32x2048 .f32) (a : FVec Ideal S128x2048 .f32) (b : FVec Ideal S64x2048 .f32) (pd : FVec Ideal S64x2048 .bf16)
    (gn : FVec Ideal S128x1 .f32) (gr : FVec Ideal S64x1 .f32) : FVec Ideal S256x2048 .bf16 :=
  concatenate S256x2048 0 [⟨S128x2048, truncf .bf16 (nc128 a gn) bitsLt_bf16_f32⟩, ⟨S32x2048, truncf .bf16 (tu1 (nc64 b gr) cs sn) bitsLt_bf16_f32⟩,
    ⟨S32x2048, truncf .bf16 (tu2 (nc64 b gr) cs sn) bitsLt_bf16_f32⟩, ⟨S64x2048, pd⟩] concatenates_S128x2048_S32x2048_S32x2048_S64x2048_S256x2048_d0

theorem hd_at (cs sn : FVec Ideal S32x2048 .f32) (a : FVec Ideal S128x2048 .f32) (b : FVec Ideal S64x2048 .f32) (e : S1x1.Idx → EReal)
    (gn : FVec Ideal S128x1 .f32) (gr : FVec Ideal S64x1 .f32) (q : Fin 192 → EReal) (p : Fin 2048)
    (ha : ∀ k : Fin 128, a (ix2 k p) = q ⟨k.val, by omega⟩) (hb : ∀ k : Fin 64, b (ix2 k p) = q ⟨128 + k.val, by omega⟩) (j : Fin 256) :
    hd cs sn a b (k0_pay6 e) gn gr (ix2 j p)
      = qhd q (fun k => gn (ix2 k 0)) (fun k => gr (ix2 k 0)) (fun k => cs (ix2 k p)) (fun k => sn (ix2 k p)) (e (ix2 0 0)) j := by
  pointwise [hd]
  simp only [nc128_at, tu1_at, tu2_at, nc64_at, pay6, ha, hb]
  rfl

/-! ## The query's pieces -/

/-- The query block: the heads' columns, cut into tiles. -/
def G15 (cs sn : FVec Ideal S32x2048 .f32) (Q : FVec Ideal S1536x2048 .f32) (e : S1x1.Idx → EReal)
    (gn : FVec Ideal S128x1 .f32) (gr : FVec Ideal S64x1 .f32) (y : S1x8x4x256x512.Idx) : EReal :=
  qhd (fun k => Q (ix2 ⟨192 * (y 1).val + k.val, by have : (y 1).val < 8 := (y 1).isLt; omega⟩ ⟨512 * (y 2).val + (y 4).val, by have : (y 2).val < 4 := (y 2).isLt; have : (y 4).val < 512 := (y 4).isLt; omega⟩))
    (fun k => gn (ix2 k 0)) (fun k => gr (ix2 k 0))
    (fun k => cs (ix2 k ⟨512 * (y 2).val + (y 4).val, by have : (y 2).val < 4 := (y 2).isLt; have : (y 4).val < 512 := (y 4).isLt; omega⟩))
    (fun k => sn (ix2 k ⟨512 * (y 2).val + (y 4).val, by have : (y 2).val < 4 := (y 2).isLt; have : (y 4).val < 512 := (y 4).isLt; omega⟩))
    (e (ix2 0 0)) (y 3)

theorem emb15 (h c : ℕ) (inb : ∀ a, (![0, h, c, 0, 0] : Fin 5 → ℕ) a + S1x1x1x256x512.size a ≤ S1x8x4x256x512.size a)
    (hh : h < 8) (hc : c < 4) (j : Fin 256) (p : Fin 512) :
    (Rect.unit (s := S1x8x4x256x512) ![0, h, c, 0, 0] S1x1x1x256x512.size inb).emb (ix5 0 0 0 j p) = ix5 0 ⟨h, hh⟩ ⟨c, hc⟩ j p := by
  funext a; apply Fin.ext
  fin_cases a
  all_goals simp [Rect.emb, Rect.unit]
  all_goals rfl

theorem piece15 (cs sn : FVec Ideal S32x2048 .f32) (Q : FVec Ideal S1536x2048 .f32) (e : S1x1.Idx → EReal)
    (gn : FVec Ideal S128x1 .f32) (gr : FVec Ideal S64x1 .f32) (h c o1 o2 oc : ℕ) (hh : h < 8) (hc : c < 4)
    (h1 : o1 = 192 * h) (h2 : o2 = 192 * h + 128) (h3 : oc = 512 * c)
    (H1 : S1536x2048.Slices ![o1, 0] S128x2048) (H2 : S1536x2048.Slices ![o2, 0] S64x2048) (H3 : S256x2048.Slices ![0, oc] S256x512)
    (inb : ∀ a, (![0, h, c, 0, 0] : Fin 5 → ℕ) a + S1x1x1x256x512.size a ≤ S1x8x4x256x512.size a) (x : S1x1x1x256x512.Idx) :
    shapeCast S1x1x1x256x512 (extractStridedSlice S256x512 ![0, oc] (hd cs sn (extractStridedSlice S128x2048 ![o1, 0] Q H1)
      (extractStridedSlice S64x2048 ![o2, 0] Q H2) (k0_pay6 e) gn gr) H3) shapeCasts_S256x512_S1x1x1x256x512 x
    = G15 cs sn Q e gn gr ((Rect.unit (s := S1x8x4x256x512) ![0, h, c, 0, 0] S1x1x1x256x512.size inb).emb x) := by
  obtain ⟨j, p, rfl⟩ : ∃ (j : Fin 256) (p : Fin 512), x = ix5 0 0 0 j p :=
    ⟨x 3, x 4, by funext a; fin_cases a <;> first | rfl | exact Subsingleton.elim (α := Fin 1) _ _⟩
  rw [emb15 h c inb hh hc]
  subst h1 h2 h3
  pointwise
  exact hd_at cs sn _ _ e gn gr (fun k => Q (ix2 ⟨192 * h + k.val, by omega⟩ ⟨512 * c + p.val, by omega⟩)) _
    (fun k => by pointwise) (fun k => by
      pointwise
      exact congrArg (fun r : Fin 1536 => Q (ix2 r ⟨512 * c + p.val, by omega⟩)) (Fin.ext (Nat.add_assoc _ _ _))) j

/-! ## The keys' and the values' pieces -/

/-- Rows of 128 lanes normalized. -/
def nr128 (x : FVec Ideal S2048x128 .f32) (g : FVec Ideal S1x128 .f32) : FVec Ideal S2048x128 .f32 :=
  mulf (mulf x (broadcastTo S2048x128 (rsqrt (addf (divf (shapeCast S2048x1 (multiReduction .add [1] S2048 (mulf x x) 0x00000000#32 reduces_S2048x128_S2048 (.inl rfl) rfl) shapeCasts_S2048_S2048x1) (broadcast S2048x1 (Scalar.ofBits .f32 0x43000000#32))) (broadcast S2048x1 (Scalar.ofBits .f32 0x358637BD#32)))) broadcasts_S2048x1_S2048x128)) (broadcastTo S2048x128 (shapeCast S1x128 g shapeCasts_S1x128_S1x128) broadcasts_S1x128_S2048x128)

theorem nr128_at (x : FVec Ideal S2048x128 .f32) (g : FVec Ideal S1x128 .f32) (p : Fin 2048) (k : Fin 128) :
    nr128 x g (ix2 p k) = nrmc 0x43000000#32 (fun k => x (ix2 p k)) (fun k => g (ix2 0 k)) k := by
  pointwise [nr128]
  simp only [nrmc]

/-- The key block: each head's 128 columns of the product, normalized. -/
def G16 (K : FVec Ideal S2048x1024 .f32) (g : FVec Ideal S1x128 .f32) (y : S1x8x2048x128.Idx) : EReal :=
  nrmc 0x43000000#32 (fun k : Fin 128 => K (ix2 (y 2) ⟨128 * (y 1).val + k.val, by have : (y 1).val < 8 := (y 1).isLt; omega⟩)) (fun k => g (ix2 0 k)) (y 3)

theorem emb16 (h : ℕ) (inb : ∀ a, (![0, h, 0, 0] : Fin 4 → ℕ) a + S1x1x2048x128.size a ≤ S1x8x2048x128.size a)
    (hh : h < 8) (p : Fin 2048) (k : Fin 128) :
    (Rect.unit (s := S1x8x2048x128) ![0, h, 0, 0] S1x1x2048x128.size inb).emb (ix4 0 0 p k) = ix4 0 ⟨h, hh⟩ p k := by
  funext a; apply Fin.ext
  fin_cases a
  all_goals simp [Rect.emb, Rect.unit]
  all_goals rfl

theorem piece16 (K : FVec Ideal S2048x1024 .f32) (g : FVec Ideal S1x128 .f32) (h o : ℕ) (hh : h < 8) (h1 : o = 128 * h)
    (H1 : S2048x1024.Slices ![0, o] S2048x128)
    (inb : ∀ a, (![0, h, 0, 0] : Fin 4 → ℕ) a + S1x1x2048x128.size a ≤ S1x8x2048x128.size a) (x : S1x1x2048x128.Idx) :
    shapeCast S1x1x2048x128 (truncf .bf16 (nr128 (extractStridedSlice S2048x128 ![0, o] K H1) g) bitsLt_bf16_f32) shapeCasts_S2048x128_S1x1x2048x128 x
    = G16 K g ((Rect.unit (s := S1x8x2048x128) ![0, h, 0, 0] S1x1x2048x128.size inb).emb x) := by
  obtain ⟨p, k, rfl⟩ : ∃ (p : Fin 2048) (k : Fin 128), x = ix4 0 0 p k :=
    ⟨x 2, x 3, by funext a; fin_cases a <;> first | rfl | exact Subsingleton.elim (α := Fin 1) _ _⟩
  rw [emb16 h inb hh]
  subst h1
  pointwise
  refine (nr128_at _ g p k).trans ?_
  exact congrArg (fun v : Fin 128 → EReal => nrmc 0x43000000#32 v (fun k => g (ix2 0 k)) k) (funext fun k => by pointwise)

/-- The value block: each head's 128 rows of the product, cut into tiles. -/
def G18 (W : FVec Ideal S1024x2048 .f32) (y : S1x8x4x128x512.Idx) : EReal :=
  W (ix2 ⟨128 * (y 1).val + (y 3).val, by have : (y 1).val < 8 := (y 1).isLt; have : (y 3).val < 128 := (y 3).isLt; omega⟩
    ⟨512 * (y 2).val + (y 4).val, by have : (y 2).val < 4 := (y 2).isLt; have : (y 4).val < 512 := (y 4).isLt; omega⟩)

theorem emb18 (h c : ℕ) (inb : ∀ a, (![0, h, c, 0, 0] : Fin 5 → ℕ) a + S1x1x1x128x512.size a ≤ S1x8x4x128x512.size a)
    (hh : h < 8) (hc : c < 4) (j : Fin 128) (p : Fin 512) :
    (Rect.unit (s := S1x8x4x128x512) ![0, h, c, 0, 0] S1x1x1x128x512.size inb).emb (ix5 0 0 0 j p) = ix5 0 ⟨h, hh⟩ ⟨c, hc⟩ j p := by
  funext a; apply Fin.ext
  fin_cases a
  all_goals simp [Rect.emb, Rect.unit]
  all_goals rfl

theorem piece18 (W : FVec Ideal S1024x2048 .f32) (h c o oc : ℕ) (hh : h < 8) (hc : c < 4) (h1 : o = 128 * h) (h2 : oc = 512 * c)
    (H1 : S1024x2048.Slices ![o, oc] S128x512)
    (inb : ∀ a, (![0, h, c, 0, 0] : Fin 5 → ℕ) a + S1x1x1x128x512.size a ≤ S1x8x4x128x512.size a) (x : S1x1x1x128x512.Idx) :
    shapeCast S1x1x1x128x512 (truncf .bf16 (extractStridedSlice S128x512 ![o, oc] W H1) bitsLt_bf16_f32) shapeCasts_S128x512_S1x1x1x128x512 x
    = G18 W ((Rect.unit (s := S1x8x4x128x512) ![0, h, c, 0, 0] S1x1x1x128x512.size inb).emb x) := by
  obtain ⟨j, p, rfl⟩ : ∃ (j : Fin 128) (p : Fin 512), x = ix5 0 0 0 j p :=
    ⟨x 3, x 4, by funext a; fin_cases a <;> first | rfl | exact Subsingleton.elim (α := Fin 1) _ _⟩
  rw [emb18 h c inb hh hc]
  subst h1 h2
  pointwise
  rfl

/-- The rows behind the shared key's 64: a row of ones, then zeros. -/
def pd1 : FVec Ideal S64x2048 .f32 :=
  select (cmpi .eq (iota .tc S64x2048 32 [0] iota_S64x2048_d0_w32) (broadcast S64x2048 0#32)) (broadcast S64x2048 (Scalar.ofBits .f32 0x3F800000#32)) (broadcast S64x2048 (Scalar.ofBits .f32 0x00000000#32))

theorem pd1_at (k : Fin 64) (p : Fin 2048) : pd1 (ix2 k p) = if k.val = 0 then 1 else 0 := by
  pointwise [pd1]
  by_cases h : k.val = 0
  · rw [if_pos h, h]
    rfl
  · rw [if_neg h]
    have z : ¬ BitVec.ofNat 32 k.val = 0#32 := by
      intro z
      have z := congrArg BitVec.toNat z
      simp only [BitVec.toNat_ofNat] at z
      omega
    have z' : (BitVec.ofNat 32 k.val == 0#32) = false := beq_eq_false_iff_ne.mpr z
    simp [Scalar.select, IntOp.cmpi, z']

/-- The shared key block: its normalized 64 lanes turned, a one, and zeros. -/
def kd (cs sn : FVec Ideal S32x2048 .f32) (v : FVec Ideal S64x2048 .f32) : FVec Ideal S1x2048x128 .bf16 :=
  shapeCast S1x2048x128 (truncf .bf16 (transpose S2048x128 [1, 0] (concatenate S128x2048 0 [⟨S32x2048, tu1 v cs sn⟩, ⟨S32x2048, tu2 v cs sn⟩, ⟨S64x2048, pd1⟩]
    concatenates_S32x2048_S32x2048_S64x2048_S128x2048_d0) transposes_S128x2048_p1_0_S2048x128) bitsLt_bf16_f32) shapeCasts_S2048x128_S1x2048x128

theorem kd_at (cs sn : FVec Ideal S32x2048 .f32) (v : FVec Ideal S64x2048 .f32) (p : Fin 2048) (j : Fin 128) :
    kd cs sn v (ix3 0 p j) = rotp (fun k => v (ix2 k p)) (fun k => cs (ix2 k p)) (fun k => sn (ix2 k p)) 1 j := by
  pointwise [kd]
  simp only [tu1_at, tu2_at, pd1_at]
  rfl

theorem pay127 (x : FVec Ideal S2048x128 .f32) (g : FVec Ideal S64x1 .f32) (k : Fin 64) (p : Fin 2048) :
    k0_pay127 (F := Ideal) x g (ix2 k p) = nrmc 0x42800000#32 (fun k : Fin 64 => x (ix2 p ⟨k.val, by omega⟩)) (fun k => g (ix2 k 0)) k := by
  pointwise [k0_pay127]
  simp only [nrmc]

/-! ## A load of a whole block is the block -/

theorem ld_0 {e : EltTy} (x : S32x1.Idx → Elt Ideal e) : View.ld x r0_0 = x := View.ld_unit_zero (by funext a; fin_cases a <;> rfl) _ _
theorem ld_1 {e : EltTy} (x : S1x1x2048.Idx → Elt Ideal e) : View.ld x r0_1 = x := View.ld_unit_zero (by funext a; fin_cases a <;> rfl) _ _
theorem ld_2 {e : EltTy} (x : S2048x256.Idx → Elt Ideal e) : View.ld x r0_2 = x := View.ld_unit_zero (by funext a; fin_cases a <;> rfl) _ _
theorem ld_3 {e : EltTy} (x : S1x256.Idx → Elt Ideal e) : View.ld x r0_3 = x := View.ld_unit_zero (by funext a; fin_cases a <;> rfl) _ _
theorem ld_4 {e : EltTy} (x : S1536x256.Idx → Elt Ideal e) : View.ld x r0_4 = x := View.ld_unit_zero (by funext a; fin_cases a <;> rfl) _ _
theorem ld_5 {e : EltTy} (x : S1x1.Idx → Elt Ideal e) : View.ld x r0_5 = x := View.ld_unit_zero (by funext a; fin_cases a <;> rfl) _ _
theorem ld_6 {e : EltTy} (x : S128x1.Idx → Elt Ideal e) : View.ld x r0_6 = x := View.ld_unit_zero (by funext a; fin_cases a <;> rfl) _ _
theorem ld_7 {e : EltTy} (x : S64x1.Idx → Elt Ideal e) : View.ld x r0_7 = x := View.ld_unit_zero (by funext a; fin_cases a <;> rfl) _ _
theorem ld_40 {e : EltTy} (x : S256x1024.Idx → Elt Ideal e) : View.ld x r0_40 = x := View.ld_unit_zero (by funext a; fin_cases a <;> rfl) _ _
theorem ld_41 {e : EltTy} (x : S1024x256.Idx → Elt Ideal e) : View.ld x r0_41 = x := View.ld_unit_zero (by funext a; fin_cases a <;> rfl) _ _
theorem ld_42 {e : EltTy} (x : S1x128.Idx → Elt Ideal e) : View.ld x r0_42 = x := View.ld_unit_zero (by funext a; fin_cases a <;> rfl) _ _
theorem ld_83 {e : EltTy} (x : S2048x128.Idx → Elt Ideal e) : View.ld x r0_83 = x := View.ld_unit_zero (by funext a; fin_cases a <;> rfl) _ _

/-! ## The blocks the body leaves -/

set_option maxHeartbeats 4000000 in
theorem canon15 (x0 : Vec Ideal S2048x256 .f32) (x1 : Vec Ideal S2048x256 .f32) (x2 : Vec Ideal S2048x128 .f32) (x3 : Vec Ideal S1x1x2048 .i32) (x4 : Vec Ideal S32x1 .f32) (x5 : Vec Ideal S1x1 .f32) (x6 : Vec Ideal S1x256 .f32) (x7 : Vec Ideal S1x256 .f32) (x8 : Vec Ideal S1536x256 .bf16) (x9 : Vec Ideal S256x1024 .bf16) (x10 : Vec Ideal S1024x256 .bf16) (x11 : Vec Ideal S128x1 .f32) (x12 : Vec Ideal S64x1 .f32) (x13 : Vec Ideal S1x128 .f32) (x14 : Vec Ideal S64x1 .f32) (y : S1x8x4x256x512.Idx) :
    out0_15 (F := Ideal) x0 x1 x2 x3 x4 x5 x6 x7 x8 x9 x10 x11 x12 x13 x14 y
      = G15 (k0_pay3 (F := Ideal) (View.ld x4 r0_0) (View.ld x3 r0_1)) (k0_pay4 (F := Ideal) (View.ld x4 r0_0) (View.ld x3 r0_1)) (k0_pay5 (F := Ideal) (View.ld x0 r0_2) (View.ld x6 r0_3) (View.ld x8 r0_4)) (View.ld x5 r0_5) (View.ld x11 r0_6) (View.ld x12 r0_7) y := by
  unfold_out out0_15
  refine View.canon_apply_of_pieces (Val := Elt Ideal) (G15 (k0_pay3 (F := Ideal) (View.ld x4 r0_0) (View.ld x3 r0_1)) (k0_pay4 (F := Ideal) (View.ld x4 r0_0) (View.ld x3 r0_1)) (k0_pay5 (F := Ideal) (View.ld x0 r0_2) (View.ld x6 r0_3) (View.ld x8 r0_4)) (View.ld x5 r0_5) (View.ld x11 r0_6) (View.ld x12 r0_7)) _ ?_ y (cover0_15 _ _ _ _ _ _ _ _ _ _ _ _ _ _ _ _ _ _ _ _ _ _ _ _ _ _ _ _ _ _ _ _ y)
  refine List.forall_mem_cons.2 ⟨fun x => piece15 (k0_pay3 (F := Ideal) (View.ld x4 r0_0) (View.ld x3 r0_1)) (k0_pay4 (F := Ideal) (View.ld x4 r0_0) (View.ld x3 r0_1)) (k0_pay5 (F := Ideal) (View.ld x0 r0_2) (View.ld x6 r0_3) (View.ld x8 r0_4)) (View.ld x5 r0_5) (View.ld x11 r0_6) (View.ld x12 r0_7) 7 3 1344 1472 1536 (by decide) (by decide) rfl rfl rfl (by decide) (by decide) (by decide) (by decide) x, ?_⟩
  refine List.forall_mem_cons.2 ⟨fun x => piece15 (k0_pay3 (F := Ideal) (View.ld x4 r0_0) (View.ld x3 r0_1)) (k0_pay4 (F := Ideal) (View.ld x4 r0_0) (View.ld x3 r0_1)) (k0_pay5 (F := Ideal) (View.ld x0 r0_2) (View.ld x6 r0_3) (View.ld x8 r0_4)) (View.ld x5 r0_5) (View.ld x11 r0_6) (View.ld x12 r0_7) 7 2 1344 1472 1024 (by decide) (by decide) rfl rfl rfl (by decide) (by decide) (by decide) (by decide) x, ?_⟩
  refine List.forall_mem_cons.2 ⟨fun x => piece15 (k0_pay3 (F := Ideal) (View.ld x4 r0_0) (View.ld x3 r0_1)) (k0_pay4 (F := Ideal) (View.ld x4 r0_0) (View.ld x3 r0_1)) (k0_pay5 (F := Ideal) (View.ld x0 r0_2) (View.ld x6 r0_3) (View.ld x8 r0_4)) (View.ld x5 r0_5) (View.ld x11 r0_6) (View.ld x12 r0_7) 7 1 1344 1472 512 (by decide) (by decide) rfl rfl rfl (by decide) (by decide) (by decide) (by decide) x, ?_⟩
  refine List.forall_mem_cons.2 ⟨fun x => piece15 (k0_pay3 (F := Ideal) (View.ld x4 r0_0) (View.ld x3 r0_1)) (k0_pay4 (F := Ideal) (View.ld x4 r0_0) (View.ld x3 r0_1)) (k0_pay5 (F := Ideal) (View.ld x0 r0_2) (View.ld x6 r0_3) (View.ld x8 r0_4)) (View.ld x5 r0_5) (View.ld x11 r0_6) (View.ld x12 r0_7) 7 0 1344 1472 0 (by decide) (by decide) rfl rfl rfl (by decide) (by decide) (by decide) (by decide) x, ?_⟩
  refine List.forall_mem_cons.2 ⟨fun x => piece15 (k0_pay3 (F := Ideal) (View.ld x4 r0_0) (View.ld x3 r0_1)) (k0_pay4 (F := Ideal) (View.ld x4 r0_0) (View.ld x3 r0_1)) (k0_pay5 (F := Ideal) (View.ld x0 r0_2) (View.ld x6 r0_3) (View.ld x8 r0_4)) (View.ld x5 r0_5) (View.ld x11 r0_6) (View.ld x12 r0_7) 6 3 1152 1280 1536 (by decide) (by decide) rfl rfl rfl (by decide) (by decide) (by decide) (by decide) x, ?_⟩
  refine List.forall_mem_cons.2 ⟨fun x => piece15 (k0_pay3 (F := Ideal) (View.ld x4 r0_0) (View.ld x3 r0_1)) (k0_pay4 (F := Ideal) (View.ld x4 r0_0) (View.ld x3 r0_1)) (k0_pay5 (F := Ideal) (View.ld x0 r0_2) (View.ld x6 r0_3) (View.ld x8 r0_4)) (View.ld x5 r0_5) (View.ld x11 r0_6) (View.ld x12 r0_7) 6 2 1152 1280 1024 (by decide) (by decide) rfl rfl rfl (by decide) (by decide) (by decide) (by decide) x, ?_⟩
  refine List.forall_mem_cons.2 ⟨fun x => piece15 (k0_pay3 (F := Ideal) (View.ld x4 r0_0) (View.ld x3 r0_1)) (k0_pay4 (F := Ideal) (View.ld x4 r0_0) (View.ld x3 r0_1)) (k0_pay5 (F := Ideal) (View.ld x0 r0_2) (View.ld x6 r0_3) (View.ld x8 r0_4)) (View.ld x5 r0_5) (View.ld x11 r0_6) (View.ld x12 r0_7) 6 1 1152 1280 512 (by decide) (by decide) rfl rfl rfl (by decide) (by decide) (by decide) (by decide) x, ?_⟩
  refine List.forall_mem_cons.2 ⟨fun x => piece15 (k0_pay3 (F := Ideal) (View.ld x4 r0_0) (View.ld x3 r0_1)) (k0_pay4 (F := Ideal) (View.ld x4 r0_0) (View.ld x3 r0_1)) (k0_pay5 (F := Ideal) (View.ld x0 r0_2) (View.ld x6 r0_3) (View.ld x8 r0_4)) (View.ld x5 r0_5) (View.ld x11 r0_6) (View.ld x12 r0_7) 6 0 1152 1280 0 (by decide) (by decide) rfl rfl rfl (by decide) (by decide) (by decide) (by decide) x, ?_⟩
  refine List.forall_mem_cons.2 ⟨fun x => piece15 (k0_pay3 (F := Ideal) (View.ld x4 r0_0) (View.ld x3 r0_1)) (k0_pay4 (F := Ideal) (View.ld x4 r0_0) (View.ld x3 r0_1)) (k0_pay5 (F := Ideal) (View.ld x0 r0_2) (View.ld x6 r0_3) (View.ld x8 r0_4)) (View.ld x5 r0_5) (View.ld x11 r0_6) (View.ld x12 r0_7) 5 3 960 1088 1536 (by decide) (by decide) rfl rfl rfl (by decide) (by decide) (by decide) (by decide) x, ?_⟩
  refine List.forall_mem_cons.2 ⟨fun x => piece15 (k0_pay3 (F := Ideal) (View.ld x4 r0_0) (View.ld x3 r0_1)) (k0_pay4 (F := Ideal) (View.ld x4 r0_0) (View.ld x3 r0_1)) (k0_pay5 (F := Ideal) (View.ld x0 r0_2) (View.ld x6 r0_3) (View.ld x8 r0_4)) (View.ld x5 r0_5) (View.ld x11 r0_6) (View.ld x12 r0_7) 5 2 960 1088 1024 (by decide) (by decide) rfl rfl rfl (by decide) (by decide) (by decide) (by decide) x, ?_⟩
  refine List.forall_mem_cons.2 ⟨fun x => piece15 (k0_pay3 (F := Ideal) (View.ld x4 r0_0) (View.ld x3 r0_1)) (k0_pay4 (F := Ideal) (View.ld x4 r0_0) (View.ld x3 r0_1)) (k0_pay5 (F := Ideal) (View.ld x0 r0_2) (View.ld x6 r0_3) (View.ld x8 r0_4)) (View.ld x5 r0_5) (View.ld x11 r0_6) (View.ld x12 r0_7) 5 1 960 1088 512 (by decide) (by decide) rfl rfl rfl (by decide) (by decide) (by decide) (by decide) x, ?_⟩
  refine List.forall_mem_cons.2 ⟨fun x => piece15 (k0_pay3 (F := Ideal) (View.ld x4 r0_0) (View.ld x3 r0_1)) (k0_pay4 (F := Ideal) (View.ld x4 r0_0) (View.ld x3 r0_1)) (k0_pay5 (F := Ideal) (View.ld x0 r0_2) (View.ld x6 r0_3) (View.ld x8 r0_4)) (View.ld x5 r0_5) (View.ld x11 r0_6) (View.ld x12 r0_7) 5 0 960 1088 0 (by decide) (by decide) rfl rfl rfl (by decide) (by decide) (by decide) (by decide) x, ?_⟩
  refine List.forall_mem_cons.2 ⟨fun x => piece15 (k0_pay3 (F := Ideal) (View.ld x4 r0_0) (View.ld x3 r0_1)) (k0_pay4 (F := Ideal) (View.ld x4 r0_0) (View.ld x3 r0_1)) (k0_pay5 (F := Ideal) (View.ld x0 r0_2) (View.ld x6 r0_3) (View.ld x8 r0_4)) (View.ld x5 r0_5) (View.ld x11 r0_6) (View.ld x12 r0_7) 4 3 768 896 1536 (by decide) (by decide) rfl rfl rfl (by decide) (by decide) (by decide) (by decide) x, ?_⟩
  refine List.forall_mem_cons.2 ⟨fun x => piece15 (k0_pay3 (F := Ideal) (View.ld x4 r0_0) (View.ld x3 r0_1)) (k0_pay4 (F := Ideal) (View.ld x4 r0_0) (View.ld x3 r0_1)) (k0_pay5 (F := Ideal) (View.ld x0 r0_2) (View.ld x6 r0_3) (View.ld x8 r0_4)) (View.ld x5 r0_5) (View.ld x11 r0_6) (View.ld x12 r0_7) 4 2 768 896 1024 (by decide) (by decide) rfl rfl rfl (by decide) (by decide) (by decide) (by decide) x, ?_⟩
  refine List.forall_mem_cons.2 ⟨fun x => piece15 (k0_pay3 (F := Ideal) (View.ld x4 r0_0) (View.ld x3 r0_1)) (k0_pay4 (F := Ideal) (View.ld x4 r0_0) (View.ld x3 r0_1)) (k0_pay5 (F := Ideal) (View.ld x0 r0_2) (View.ld x6 r0_3) (View.ld x8 r0_4)) (View.ld x5 r0_5) (View.ld x11 r0_6) (View.ld x12 r0_7) 4 1 768 896 512 (by decide) (by decide) rfl rfl rfl (by decide) (by decide) (by decide) (by decide) x, ?_⟩
  refine List.forall_mem_cons.2 ⟨fun x => piece15 (k0_pay3 (F := Ideal) (View.ld x4 r0_0) (View.ld x3 r0_1)) (k0_pay4 (F := Ideal) (View.ld x4 r0_0) (View.ld x3 r0_1)) (k0_pay5 (F := Ideal) (View.ld x0 r0_2) (View.ld x6 r0_3) (View.ld x8 r0_4)) (View.ld x5 r0_5) (View.ld x11 r0_6) (View.ld x12 r0_7) 4 0 768 896 0 (by decide) (by decide) rfl rfl rfl (by decide) (by decide) (by decide) (by decide) x, ?_⟩
  refine List.forall_mem_cons.2 ⟨fun x => piece15 (k0_pay3 (F := Ideal) (View.ld x4 r0_0) (View.ld x3 r0_1)) (k0_pay4 (F := Ideal) (View.ld x4 r0_0) (View.ld x3 r0_1)) (k0_pay5 (F := Ideal) (View.ld x0 r0_2) (View.ld x6 r0_3) (View.ld x8 r0_4)) (View.ld x5 r0_5) (View.ld x11 r0_6) (View.ld x12 r0_7) 3 3 576 704 1536 (by decide) (by decide) rfl rfl rfl (by decide) (by decide) (by decide) (by decide) x, ?_⟩
  refine List.forall_mem_cons.2 ⟨fun x => piece15 (k0_pay3 (F := Ideal) (View.ld x4 r0_0) (View.ld x3 r0_1)) (k0_pay4 (F := Ideal) (View.ld x4 r0_0) (View.ld x3 r0_1)) (k0_pay5 (F := Ideal) (View.ld x0 r0_2) (View.ld x6 r0_3) (View.ld x8 r0_4)) (View.ld x5 r0_5) (View.ld x11 r0_6) (View.ld x12 r0_7) 3 2 576 704 1024 (by decide) (by decide) rfl rfl rfl (by decide) (by decide) (by decide) (by decide) x, ?_⟩
  refine List.forall_mem_cons.2 ⟨fun x => piece15 (k0_pay3 (F := Ideal) (View.ld x4 r0_0) (View.ld x3 r0_1)) (k0_pay4 (F := Ideal) (View.ld x4 r0_0) (View.ld x3 r0_1)) (k0_pay5 (F := Ideal) (View.ld x0 r0_2) (View.ld x6 r0_3) (View.ld x8 r0_4)) (View.ld x5 r0_5) (View.ld x11 r0_6) (View.ld x12 r0_7) 3 1 576 704 512 (by decide) (by decide) rfl rfl rfl (by decide) (by decide) (by decide) (by decide) x, ?_⟩
  refine List.forall_mem_cons.2 ⟨fun x => piece15 (k0_pay3 (F := Ideal) (View.ld x4 r0_0) (View.ld x3 r0_1)) (k0_pay4 (F := Ideal) (View.ld x4 r0_0) (View.ld x3 r0_1)) (k0_pay5 (F := Ideal) (View.ld x0 r0_2) (View.ld x6 r0_3) (View.ld x8 r0_4)) (View.ld x5 r0_5) (View.ld x11 r0_6) (View.ld x12 r0_7) 3 0 576 704 0 (by decide) (by decide) rfl rfl rfl (by decide) (by decide) (by decide) (by decide) x, ?_⟩
  refine List.forall_mem_cons.2 ⟨fun x => piece15 (k0_pay3 (F := Ideal) (View.ld x4 r0_0) (View.ld x3 r0_1)) (k0_pay4 (F := Ideal) (View.ld x4 r0_0) (View.ld x3 r0_1)) (k0_pay5 (F := Ideal) (View.ld x0 r0_2) (View.ld x6 r0_3) (View.ld x8 r0_4)) (View.ld x5 r0_5) (View.ld x11 r0_6) (View.ld x12 r0_7) 2 3 384 512 1536 (by decide) (by decide) rfl rfl rfl (by decide) (by decide) (by decide) (by decide) x, ?_⟩
  refine List.forall_mem_cons.2 ⟨fun x => piece15 (k0_pay3 (F := Ideal) (View.ld x4 r0_0) (View.ld x3 r0_1)) (k0_pay4 (F := Ideal) (View.ld x4 r0_0) (View.ld x3 r0_1)) (k0_pay5 (F := Ideal) (View.ld x0 r0_2) (View.ld x6 r0_3) (View.ld x8 r0_4)) (View.ld x5 r0_5) (View.ld x11 r0_6) (View.ld x12 r0_7) 2 2 384 512 1024 (by decide) (by decide) rfl rfl rfl (by decide) (by decide) (by decide) (by decide) x, ?_⟩
  refine List.forall_mem_cons.2 ⟨fun x => piece15 (k0_pay3 (F := Ideal) (View.ld x4 r0_0) (View.ld x3 r0_1)) (k0_pay4 (F := Ideal) (View.ld x4 r0_0) (View.ld x3 r0_1)) (k0_pay5 (F := Ideal) (View.ld x0 r0_2) (View.ld x6 r0_3) (View.ld x8 r0_4)) (View.ld x5 r0_5) (View.ld x11 r0_6) (View.ld x12 r0_7) 2 1 384 512 512 (by decide) (by decide) rfl rfl rfl (by decide) (by decide) (by decide) (by decide) x, ?_⟩
  refine List.forall_mem_cons.2 ⟨fun x => piece15 (k0_pay3 (F := Ideal) (View.ld x4 r0_0) (View.ld x3 r0_1)) (k0_pay4 (F := Ideal) (View.ld x4 r0_0) (View.ld x3 r0_1)) (k0_pay5 (F := Ideal) (View.ld x0 r0_2) (View.ld x6 r0_3) (View.ld x8 r0_4)) (View.ld x5 r0_5) (View.ld x11 r0_6) (View.ld x12 r0_7) 2 0 384 512 0 (by decide) (by decide) rfl rfl rfl (by decide) (by decide) (by decide) (by decide) x, ?_⟩
  refine List.forall_mem_cons.2 ⟨fun x => piece15 (k0_pay3 (F := Ideal) (View.ld x4 r0_0) (View.ld x3 r0_1)) (k0_pay4 (F := Ideal) (View.ld x4 r0_0) (View.ld x3 r0_1)) (k0_pay5 (F := Ideal) (View.ld x0 r0_2) (View.ld x6 r0_3) (View.ld x8 r0_4)) (View.ld x5 r0_5) (View.ld x11 r0_6) (View.ld x12 r0_7) 1 3 192 320 1536 (by decide) (by decide) rfl rfl rfl (by decide) (by decide) (by decide) (by decide) x, ?_⟩
  refine List.forall_mem_cons.2 ⟨fun x => piece15 (k0_pay3 (F := Ideal) (View.ld x4 r0_0) (View.ld x3 r0_1)) (k0_pay4 (F := Ideal) (View.ld x4 r0_0) (View.ld x3 r0_1)) (k0_pay5 (F := Ideal) (View.ld x0 r0_2) (View.ld x6 r0_3) (View.ld x8 r0_4)) (View.ld x5 r0_5) (View.ld x11 r0_6) (View.ld x12 r0_7) 1 2 192 320 1024 (by decide) (by decide) rfl rfl rfl (by decide) (by decide) (by decide) (by decide) x, ?_⟩
  refine List.forall_mem_cons.2 ⟨fun x => piece15 (k0_pay3 (F := Ideal) (View.ld x4 r0_0) (View.ld x3 r0_1)) (k0_pay4 (F := Ideal) (View.ld x4 r0_0) (View.ld x3 r0_1)) (k0_pay5 (F := Ideal) (View.ld x0 r0_2) (View.ld x6 r0_3) (View.ld x8 r0_4)) (View.ld x5 r0_5) (View.ld x11 r0_6) (View.ld x12 r0_7) 1 1 192 320 512 (by decide) (by decide) rfl rfl rfl (by decide) (by decide) (by decide) (by decide) x, ?_⟩
  refine List.forall_mem_cons.2 ⟨fun x => piece15 (k0_pay3 (F := Ideal) (View.ld x4 r0_0) (View.ld x3 r0_1)) (k0_pay4 (F := Ideal) (View.ld x4 r0_0) (View.ld x3 r0_1)) (k0_pay5 (F := Ideal) (View.ld x0 r0_2) (View.ld x6 r0_3) (View.ld x8 r0_4)) (View.ld x5 r0_5) (View.ld x11 r0_6) (View.ld x12 r0_7) 1 0 192 320 0 (by decide) (by decide) rfl rfl rfl (by decide) (by decide) (by decide) (by decide) x, ?_⟩
  refine List.forall_mem_cons.2 ⟨fun x => piece15 (k0_pay3 (F := Ideal) (View.ld x4 r0_0) (View.ld x3 r0_1)) (k0_pay4 (F := Ideal) (View.ld x4 r0_0) (View.ld x3 r0_1)) (k0_pay5 (F := Ideal) (View.ld x0 r0_2) (View.ld x6 r0_3) (View.ld x8 r0_4)) (View.ld x5 r0_5) (View.ld x11 r0_6) (View.ld x12 r0_7) 0 3 0 128 1536 (by decide) (by decide) rfl rfl rfl (by decide) (by decide) (by decide) (by decide) x, ?_⟩
  refine List.forall_mem_cons.2 ⟨fun x => piece15 (k0_pay3 (F := Ideal) (View.ld x4 r0_0) (View.ld x3 r0_1)) (k0_pay4 (F := Ideal) (View.ld x4 r0_0) (View.ld x3 r0_1)) (k0_pay5 (F := Ideal) (View.ld x0 r0_2) (View.ld x6 r0_3) (View.ld x8 r0_4)) (View.ld x5 r0_5) (View.ld x11 r0_6) (View.ld x12 r0_7) 0 2 0 128 1024 (by decide) (by decide) rfl rfl rfl (by decide) (by decide) (by decide) (by decide) x, ?_⟩
  refine List.forall_mem_cons.2 ⟨fun x => piece15 (k0_pay3 (F := Ideal) (View.ld x4 r0_0) (View.ld x3 r0_1)) (k0_pay4 (F := Ideal) (View.ld x4 r0_0) (View.ld x3 r0_1)) (k0_pay5 (F := Ideal) (View.ld x0 r0_2) (View.ld x6 r0_3) (View.ld x8 r0_4)) (View.ld x5 r0_5) (View.ld x11 r0_6) (View.ld x12 r0_7) 0 1 0 128 512 (by decide) (by decide) rfl rfl rfl (by decide) (by decide) (by decide) (by decide) x, ?_⟩
  refine List.forall_mem_cons.2 ⟨fun x => piece15 (k0_pay3 (F := Ideal) (View.ld x4 r0_0) (View.ld x3 r0_1)) (k0_pay4 (F := Ideal) (View.ld x4 r0_0) (View.ld x3 r0_1)) (k0_pay5 (F := Ideal) (View.ld x0 r0_2) (View.ld x6 r0_3) (View.ld x8 r0_4)) (View.ld x5 r0_5) (View.ld x11 r0_6) (View.ld x12 r0_7) 0 0 0 128 0 (by decide) (by decide) rfl rfl rfl (by decide) (by decide) (by decide) (by decide) x, ?_⟩
  exact fun _ h => absurd h List.not_mem_nil

theorem canon16 (x0 : Vec Ideal S2048x256 .f32) (x1 : Vec Ideal S2048x256 .f32) (x2 : Vec Ideal S2048x128 .f32) (x3 : Vec Ideal S1x1x2048 .i32) (x4 : Vec Ideal S32x1 .f32) (x5 : Vec Ideal S1x1 .f32) (x6 : Vec Ideal S1x256 .f32) (x7 : Vec Ideal S1x256 .f32) (x8 : Vec Ideal S1536x256 .bf16) (x9 : Vec Ideal S256x1024 .bf16) (x10 : Vec Ideal S1024x256 .bf16) (x11 : Vec Ideal S128x1 .f32) (x12 : Vec Ideal S64x1 .f32) (x13 : Vec Ideal S1x128 .f32) (x14 : Vec Ideal S64x1 .f32) (y : S1x8x2048x128.Idx) :
    out0_16 (F := Ideal) x0 x1 x2 x3 x4 x5 x6 x7 x8 x9 x10 x11 x12 x13 x14 y
      = G16 (k0_pay72 (F := Ideal) (View.ld x1 r0_2) (View.ld x7 r0_3) (View.ld x9 r0_40)) (View.ld x13 r0_42) y := by
  unfold_out out0_16
  refine View.canon_apply_of_pieces (Val := Elt Ideal) (G16 (k0_pay72 (F := Ideal) (View.ld x1 r0_2) (View.ld x7 r0_3) (View.ld x9 r0_40)) (View.ld x13 r0_42)) _ ?_ y (cover0_16 _ _ _ _ _ _ _ _ y)
  refine List.forall_mem_cons.2 ⟨fun x => piece16 (k0_pay72 (F := Ideal) (View.ld x1 r0_2) (View.ld x7 r0_3) (View.ld x9 r0_40)) (View.ld x13 r0_42) 7 896 (by decide) rfl (by decide) (by decide) x, ?_⟩
  refine List.forall_mem_cons.2 ⟨fun x => piece16 (k0_pay72 (F := Ideal) (View.ld x1 r0_2) (View.ld x7 r0_3) (View.ld x9 r0_40)) (View.ld x13 r0_42) 6 768 (by decide) rfl (by decide) (by decide) x, ?_⟩
  refine List.forall_mem_cons.2 ⟨fun x => piece16 (k0_pay72 (F := Ideal) (View.ld x1 r0_2) (View.ld x7 r0_3) (View.ld x9 r0_40)) (View.ld x13 r0_42) 5 640 (by decide) rfl (by decide) (by decide) x, ?_⟩
  refine List.forall_mem_cons.2 ⟨fun x => piece16 (k0_pay72 (F := Ideal) (View.ld x1 r0_2) (View.ld x7 r0_3) (View.ld x9 r0_40)) (View.ld x13 r0_42) 4 512 (by decide) rfl (by decide) (by decide) x, ?_⟩
  refine List.forall_mem_cons.2 ⟨fun x => piece16 (k0_pay72 (F := Ideal) (View.ld x1 r0_2) (View.ld x7 r0_3) (View.ld x9 r0_40)) (View.ld x13 r0_42) 3 384 (by decide) rfl (by decide) (by decide) x, ?_⟩
  refine List.forall_mem_cons.2 ⟨fun x => piece16 (k0_pay72 (F := Ideal) (View.ld x1 r0_2) (View.ld x7 r0_3) (View.ld x9 r0_40)) (View.ld x13 r0_42) 2 256 (by decide) rfl (by decide) (by decide) x, ?_⟩
  refine List.forall_mem_cons.2 ⟨fun x => piece16 (k0_pay72 (F := Ideal) (View.ld x1 r0_2) (View.ld x7 r0_3) (View.ld x9 r0_40)) (View.ld x13 r0_42) 1 128 (by decide) rfl (by decide) (by decide) x, ?_⟩
  refine List.forall_mem_cons.2 ⟨fun x => piece16 (k0_pay72 (F := Ideal) (View.ld x1 r0_2) (View.ld x7 r0_3) (View.ld x9 r0_40)) (View.ld x13 r0_42) 0 0 (by decide) rfl (by decide) (by decide) x, ?_⟩
  exact fun _ h => absurd h List.not_mem_nil

theorem canon18 (x0 : Vec Ideal S2048x256 .f32) (x1 : Vec Ideal S2048x256 .f32) (x2 : Vec Ideal S2048x128 .f32) (x3 : Vec Ideal S1x1x2048 .i32) (x4 : Vec Ideal S32x1 .f32) (x5 : Vec Ideal S1x1 .f32) (x6 : Vec Ideal S1x256 .f32) (x7 : Vec Ideal S1x256 .f32) (x8 : Vec Ideal S1536x256 .bf16) (x9 : Vec Ideal S256x1024 .bf16) (x10 : Vec Ideal S1024x256 .bf16) (x11 : Vec Ideal S128x1 .f32) (x12 : Vec Ideal S64x1 .f32) (x13 : Vec Ideal S1x128 .f32) (x14 : Vec Ideal S64x1 .f32) (y : S1x8x4x128x512.Idx) :
    out0_18 (F := Ideal) x0 x1 x2 x3 x4 x5 x6 x7 x8 x9 x10 x11 x12 x13 x14 y
      = G18 (k0_pay73 (F := Ideal) (View.ld x1 r0_2) (View.ld x7 r0_3) (View.ld x10 r0_41)) y := by
  unfold_out out0_18
  refine View.canon_apply_of_pieces (Val := Elt Ideal) (G18 (k0_pay73 (F := Ideal) (View.ld x1 r0_2) (View.ld x7 r0_3) (View.ld x10 r0_41))) _ ?_ y (cover0_18 _ _ _ _ _ _ _ _ _ _ _ _ _ _ _ _ _ _ _ _ _ _ _ _ _ _ _ _ _ _ _ _ y)
  refine List.forall_mem_cons.2 ⟨fun x => piece18 (k0_pay73 (F := Ideal) (View.ld x1 r0_2) (View.ld x7 r0_3) (View.ld x10 r0_41)) 7 3 896 1536 (by decide) (by decide) rfl rfl (by decide) (by decide) x, ?_⟩
  refine List.forall_mem_cons.2 ⟨fun x => piece18 (k0_pay73 (F := Ideal) (View.ld x1 r0_2) (View.ld x7 r0_3) (View.ld x10 r0_41)) 7 2 896 1024 (by decide) (by decide) rfl rfl (by decide) (by decide) x, ?_⟩
  refine List.forall_mem_cons.2 ⟨fun x => piece18 (k0_pay73 (F := Ideal) (View.ld x1 r0_2) (View.ld x7 r0_3) (View.ld x10 r0_41)) 7 1 896 512 (by decide) (by decide) rfl rfl (by decide) (by decide) x, ?_⟩
  refine List.forall_mem_cons.2 ⟨fun x => piece18 (k0_pay73 (F := Ideal) (View.ld x1 r0_2) (View.ld x7 r0_3) (View.ld x10 r0_41)) 7 0 896 0 (by decide) (by decide) rfl rfl (by decide) (by decide) x, ?_⟩
  refine List.forall_mem_cons.2 ⟨fun x => piece18 (k0_pay73 (F := Ideal) (View.ld x1 r0_2) (View.ld x7 r0_3) (View.ld x10 r0_41)) 6 3 768 1536 (by decide) (by decide) rfl rfl (by decide) (by decide) x, ?_⟩
  refine List.forall_mem_cons.2 ⟨fun x => piece18 (k0_pay73 (F := Ideal) (View.ld x1 r0_2) (View.ld x7 r0_3) (View.ld x10 r0_41)) 6 2 768 1024 (by decide) (by decide) rfl rfl (by decide) (by decide) x, ?_⟩
  refine List.forall_mem_cons.2 ⟨fun x => piece18 (k0_pay73 (F := Ideal) (View.ld x1 r0_2) (View.ld x7 r0_3) (View.ld x10 r0_41)) 6 1 768 512 (by decide) (by decide) rfl rfl (by decide) (by decide) x, ?_⟩
  refine List.forall_mem_cons.2 ⟨fun x => piece18 (k0_pay73 (F := Ideal) (View.ld x1 r0_2) (View.ld x7 r0_3) (View.ld x10 r0_41)) 6 0 768 0 (by decide) (by decide) rfl rfl (by decide) (by decide) x, ?_⟩
  refine List.forall_mem_cons.2 ⟨fun x => piece18 (k0_pay73 (F := Ideal) (View.ld x1 r0_2) (View.ld x7 r0_3) (View.ld x10 r0_41)) 5 3 640 1536 (by decide) (by decide) rfl rfl (by decide) (by decide) x, ?_⟩
  refine List.forall_mem_cons.2 ⟨fun x => piece18 (k0_pay73 (F := Ideal) (View.ld x1 r0_2) (View.ld x7 r0_3) (View.ld x10 r0_41)) 5 2 640 1024 (by decide) (by decide) rfl rfl (by decide) (by decide) x, ?_⟩
  refine List.forall_mem_cons.2 ⟨fun x => piece18 (k0_pay73 (F := Ideal) (View.ld x1 r0_2) (View.ld x7 r0_3) (View.ld x10 r0_41)) 5 1 640 512 (by decide) (by decide) rfl rfl (by decide) (by decide) x, ?_⟩
  refine List.forall_mem_cons.2 ⟨fun x => piece18 (k0_pay73 (F := Ideal) (View.ld x1 r0_2) (View.ld x7 r0_3) (View.ld x10 r0_41)) 5 0 640 0 (by decide) (by decide) rfl rfl (by decide) (by decide) x, ?_⟩
  refine List.forall_mem_cons.2 ⟨fun x => piece18 (k0_pay73 (F := Ideal) (View.ld x1 r0_2) (View.ld x7 r0_3) (View.ld x10 r0_41)) 4 3 512 1536 (by decide) (by decide) rfl rfl (by decide) (by decide) x, ?_⟩
  refine List.forall_mem_cons.2 ⟨fun x => piece18 (k0_pay73 (F := Ideal) (View.ld x1 r0_2) (View.ld x7 r0_3) (View.ld x10 r0_41)) 4 2 512 1024 (by decide) (by decide) rfl rfl (by decide) (by decide) x, ?_⟩
  refine List.forall_mem_cons.2 ⟨fun x => piece18 (k0_pay73 (F := Ideal) (View.ld x1 r0_2) (View.ld x7 r0_3) (View.ld x10 r0_41)) 4 1 512 512 (by decide) (by decide) rfl rfl (by decide) (by decide) x, ?_⟩
  refine List.forall_mem_cons.2 ⟨fun x => piece18 (k0_pay73 (F := Ideal) (View.ld x1 r0_2) (View.ld x7 r0_3) (View.ld x10 r0_41)) 4 0 512 0 (by decide) (by decide) rfl rfl (by decide) (by decide) x, ?_⟩
  refine List.forall_mem_cons.2 ⟨fun x => piece18 (k0_pay73 (F := Ideal) (View.ld x1 r0_2) (View.ld x7 r0_3) (View.ld x10 r0_41)) 3 3 384 1536 (by decide) (by decide) rfl rfl (by decide) (by decide) x, ?_⟩
  refine List.forall_mem_cons.2 ⟨fun x => piece18 (k0_pay73 (F := Ideal) (View.ld x1 r0_2) (View.ld x7 r0_3) (View.ld x10 r0_41)) 3 2 384 1024 (by decide) (by decide) rfl rfl (by decide) (by decide) x, ?_⟩
  refine List.forall_mem_cons.2 ⟨fun x => piece18 (k0_pay73 (F := Ideal) (View.ld x1 r0_2) (View.ld x7 r0_3) (View.ld x10 r0_41)) 3 1 384 512 (by decide) (by decide) rfl rfl (by decide) (by decide) x, ?_⟩
  refine List.forall_mem_cons.2 ⟨fun x => piece18 (k0_pay73 (F := Ideal) (View.ld x1 r0_2) (View.ld x7 r0_3) (View.ld x10 r0_41)) 3 0 384 0 (by decide) (by decide) rfl rfl (by decide) (by decide) x, ?_⟩
  refine List.forall_mem_cons.2 ⟨fun x => piece18 (k0_pay73 (F := Ideal) (View.ld x1 r0_2) (View.ld x7 r0_3) (View.ld x10 r0_41)) 2 3 256 1536 (by decide) (by decide) rfl rfl (by decide) (by decide) x, ?_⟩
  refine List.forall_mem_cons.2 ⟨fun x => piece18 (k0_pay73 (F := Ideal) (View.ld x1 r0_2) (View.ld x7 r0_3) (View.ld x10 r0_41)) 2 2 256 1024 (by decide) (by decide) rfl rfl (by decide) (by decide) x, ?_⟩
  refine List.forall_mem_cons.2 ⟨fun x => piece18 (k0_pay73 (F := Ideal) (View.ld x1 r0_2) (View.ld x7 r0_3) (View.ld x10 r0_41)) 2 1 256 512 (by decide) (by decide) rfl rfl (by decide) (by decide) x, ?_⟩
  refine List.forall_mem_cons.2 ⟨fun x => piece18 (k0_pay73 (F := Ideal) (View.ld x1 r0_2) (View.ld x7 r0_3) (View.ld x10 r0_41)) 2 0 256 0 (by decide) (by decide) rfl rfl (by decide) (by decide) x, ?_⟩
  refine List.forall_mem_cons.2 ⟨fun x => piece18 (k0_pay73 (F := Ideal) (View.ld x1 r0_2) (View.ld x7 r0_3) (View.ld x10 r0_41)) 1 3 128 1536 (by decide) (by decide) rfl rfl (by decide) (by decide) x, ?_⟩
  refine List.forall_mem_cons.2 ⟨fun x => piece18 (k0_pay73 (F := Ideal) (View.ld x1 r0_2) (View.ld x7 r0_3) (View.ld x10 r0_41)) 1 2 128 1024 (by decide) (by decide) rfl rfl (by decide) (by decide) x, ?_⟩
  refine List.forall_mem_cons.2 ⟨fun x => piece18 (k0_pay73 (F := Ideal) (View.ld x1 r0_2) (View.ld x7 r0_3) (View.ld x10 r0_41)) 1 1 128 512 (by decide) (by decide) rfl rfl (by decide) (by decide) x, ?_⟩
  refine List.forall_mem_cons.2 ⟨fun x => piece18 (k0_pay73 (F := Ideal) (View.ld x1 r0_2) (View.ld x7 r0_3) (View.ld x10 r0_41)) 1 0 128 0 (by decide) (by decide) rfl rfl (by decide) (by decide) x, ?_⟩
  refine List.forall_mem_cons.2 ⟨fun x => piece18 (k0_pay73 (F := Ideal) (View.ld x1 r0_2) (View.ld x7 r0_3) (View.ld x10 r0_41)) 0 3 0 1536 (by decide) (by decide) rfl rfl (by decide) (by decide) x, ?_⟩
  refine List.forall_mem_cons.2 ⟨fun x => piece18 (k0_pay73 (F := Ideal) (View.ld x1 r0_2) (View.ld x7 r0_3) (View.ld x10 r0_41)) 0 2 0 1024 (by decide) (by decide) rfl rfl (by decide) (by decide) x, ?_⟩
  refine List.forall_mem_cons.2 ⟨fun x => piece18 (k0_pay73 (F := Ideal) (View.ld x1 r0_2) (View.ld x7 r0_3) (View.ld x10 r0_41)) 0 1 0 512 (by decide) (by decide) rfl rfl (by decide) (by decide) x, ?_⟩
  refine List.forall_mem_cons.2 ⟨fun x => piece18 (k0_pay73 (F := Ideal) (View.ld x1 r0_2) (View.ld x7 r0_3) (View.ld x10 r0_41)) 0 0 0 0 (by decide) (by decide) rfl rfl (by decide) (by decide) x, ?_⟩
  exact fun _ h => absurd h List.not_mem_nil

theorem canon17 (x0 : Vec Ideal S2048x256 .f32) (x1 : Vec Ideal S2048x256 .f32) (x2 : Vec Ideal S2048x128 .f32) (x3 : Vec Ideal S1x1x2048 .i32) (x4 : Vec Ideal S32x1 .f32) (x5 : Vec Ideal S1x1 .f32) (x6 : Vec Ideal S1x256 .f32) (x7 : Vec Ideal S1x256 .f32) (x8 : Vec Ideal S1536x256 .bf16) (x9 : Vec Ideal S256x1024 .bf16) (x10 : Vec Ideal S1024x256 .bf16) (x11 : Vec Ideal S128x1 .f32) (x12 : Vec Ideal S64x1 .f32) (x13 : Vec Ideal S1x128 .f32) (x14 : Vec Ideal S64x1 .f32) (y : S1x2048x128.Idx) :
    out0_17 (F := Ideal) x0 x1 x2 x3 x4 x5 x6 x7 x8 x9 x10 x11 x12 x13 x14 y
      = kd (k0_pay3 (F := Ideal) (View.ld x4 r0_0) (View.ld x3 r0_1)) (k0_pay4 (F := Ideal) (View.ld x4 r0_0) (View.ld x3 r0_1)) (k0_pay127 (F := Ideal) (View.ld x2 r0_83) (View.ld x14 r0_7)) y := by
  unfold_out out0_17
  frame_out
  rfl

end Cert.Kernel5Ideal.Prep

end
-- ==== Proof.KPrepArr.lean ====
/-
  The attention's preparation kernel's four result arrays over the extended reals.
-/
module

public import proofs.«01_k».proof.Proof.KPrep

@[expose] public section

set_option maxRecDepth 16384

noncomputable section

namespace Cert.Kernel5Ideal.Prep

open Cert.Kernel5Ideal Cert.Kernel5Ideal.Gen
open Idealize.ShloMosaic Idealize.ShloMosaic.TcCoe Idealize.ShloMosaic.StableHlo Idealize.SL.Sem
open Cert.Rows

variable (m : (ℓ : Loc nD τ sig) → Buf (Elt Ideal) ℓ)

/-- The arguments as arrays. -/
abbrev aCq (c : Dev nD) : FVec Ideal S32768x256 .f32 := m ((c : Thread nD τ).loc main_arg0)
abbrev aCkv (c : Dev nD) : FVec Ideal S32768x256 .f32 := m ((c : Thread nD τ).loc main_arg1)
abbrev aKr (c : Dev nD) : FVec Ideal S32768x128 .f32 := m ((c : Thread nD τ).loc main_arg2)
abbrev aPos (c : Dev nD) : S4x8192.Idx → BitVec 32 := m ((c : Thread nD τ).loc main_arg3)
abbrev aOff (c : Dev nD) : FVec Ideal S1x1 .f32 := m ((c : Thread nD τ).loc main_arg4)
abbrev aGq (c : Dev nD) : FVec Ideal S1x256 .f32 := m ((c : Thread nD τ).loc main_arg5)
abbrev aWq (c : Dev nD) : FVec Ideal S1x256x1536 .f32 := m ((c : Thread nD τ).loc main_arg6)
abbrev aGkv (c : Dev nD) : FVec Ideal S1x256 .f32 := m ((c : Thread nD τ).loc main_arg7)
abbrev aWkv (c : Dev nD) : FVec Ideal S1x256x2048 .f32 := m ((c : Thread nD τ).loc main_arg8)
abbrev aGqn (c : Dev nD) : FVec Ideal S1x192 .f32 := m ((c : Thread nD τ).loc main_arg9)
abbrev aGkn (c : Dev nD) : FVec Ideal S1x192 .f32 := m ((c : Thread nD τ).loc main_arg10)

/-- The frequencies. -/
def iv : FVec Ideal S32 .f32 :=
  Host.powf (broadcastInDim S32 ![] bcast_S_S32 (constant S_ .f32 0x461C4000#32)) (Host.divf (Host.negf (sitofp .f32 (iotaInDim S32 32 0))) (broadcastInDim S32 ![] bcast_S_S32 (constant S_ .f32 0x42000000#32)))

/-- The results by row and position: a head's query, key, shared key and value. -/
def q1 (c : Dev nD) (r : Fin 32768) (b : Fin 4) (s : Fin 8192) (h : Fin 8) (j : Fin 256) : EReal :=
  qf (fun k => aCq m c (ix2 r k)) (fun k => aGq m c (ix2 0 k)) (fun k o => aWq m c (ix3 0 k o)) (fun k => aGqn m c (ix2 0 k)) (fun k => iv (ix1 k)) (aPos m c (ix2 b s)) (aOff m c (ix2 0 0)) h j
def kn1 (c : Dev nD) (r : Fin 32768) (h : Fin 8) (d : Fin 128) : EReal :=
  knf (fun k => aCkv m c (ix2 r k)) (fun k => aGkv m c (ix2 0 k)) (fun k o => aWkv m c (ix3 0 k o)) (fun k => aGkn m c (ix2 0 k)) h d
def kr1 (c : Dev nD) (r : Fin 32768) (b : Fin 4) (s : Fin 8192) (j : Fin 128) : EReal :=
  krf (fun k => aKr m c (ix2 r k)) (fun k => aGkn m c (ix2 0 k)) (fun k => iv (ix1 k)) (aPos m c (ix2 b s)) j
def vt1 (c : Dev nD) (r : Fin 32768) (h : Fin 8) (d : Fin 128) : EReal :=
  vtf (fun k => aCkv m c (ix2 r k)) (fun k => aGkv m c (ix2 0 k)) (fun k o => aWkv m c (ix3 0 k o)) h d

/-- The row of a batch's position, and a position from its piece and its place in it. -/
def rw1 (b : Fin 4) (s : Fin 8192) : Fin 32768 := ⟨b.val * 8192 + s.val, by omega⟩
def ps (i : Fin 16) (l : Fin 512) : Fin 8192 := ⟨512 * i.val + l.val, by omega⟩

def arr15 (c : Dev nD) : S4x8x16x256x512.Idx → EReal := fun y => q1 m c (rw1 (y 0) (ps (y 2) (y 4))) (y 0) (ps (y 2) (y 4)) (y 1) (y 3)
def arr16 (c : Dev nD) : S4x8x8192x128.Idx → EReal := fun y => kn1 m c (rw1 (y 0) (y 2)) (y 1) (y 3)
def arr17 (c : Dev nD) : S4x8192x128.Idx → EReal := fun y => kr1 m c (rw1 (y 0) (y 1)) (y 0) (y 1) (y 2)
def arr18 (c : Dev nD) : S4x8x16x128x512.Idx → EReal := fun y => vt1 m c (rw1 (y 0) (ps (y 2) (y 4))) (y 1) (y 3)

/-! ## What the host lines before the call leave in the call's operands -/

/-- The key and value weights, cast, by head. -/
abbrev Wkv (c : Dev nD) : FVec Ideal S256x8x256 .bf16 := shapeCast S256x8x256 (truncf .bf16 (shapeCast S256x2048 (aWkv m c) shapeCasts_S1x256x2048_S256x2048) bitsLt_bf16_f32) shapeCasts_S256x2048_S256x8x256

theorem V7 (c : Dev nD) : V m c main_v7 = shapeCast S4x1x8192 (aPos m c) shapeCasts_S4x8192_S4x1x8192 := by
  simp only [V, hostOps0, List.flatten_cons, List.flatten_nil, List.append_nil, List.cons_append, List.nil_append, TRef.binary, TRef.nullary, TRef.unary, TRef.toBuf, TRef.ofBuf, cast_eq]
  after_results_simp <;> rfl

theorem V6 (c : Dev nD) : V m c main_v6 = shapeCast S32x1 iv shapeCasts_S32_S32x1 := by
  simp only [V, hostOps0, List.flatten_cons, List.flatten_nil, List.append_nil, List.cons_append, List.nil_append, TRef.binary, TRef.nullary, TRef.unary, TRef.toBuf, TRef.ofBuf, cast_eq]
  after_results_simp <;> rfl

theorem V21 (c : Dev nD) : V m c main_v21 = shapeCast S1x256 (shapeCast S256 (aGq m c) shapeCasts_S1x256_S256) shapeCasts_S256_S1x256 := by
  simp only [V, hostOps0, List.flatten_cons, List.flatten_nil, List.append_nil, List.cons_append, List.nil_append, TRef.binary, TRef.nullary, TRef.unary, TRef.toBuf, TRef.ofBuf, cast_eq]
  after_results_simp <;> rfl

theorem V23 (c : Dev nD) : V m c main_v23 = shapeCast S1x256 (shapeCast S256 (aGkv m c) shapeCasts_S1x256_S256) shapeCasts_S256_S1x256 := by
  simp only [V, hostOps0, List.flatten_cons, List.flatten_nil, List.append_nil, List.cons_append, List.nil_append, TRef.binary, TRef.nullary, TRef.unary, TRef.toBuf, TRef.ofBuf, cast_eq]
  after_results_simp <;> rfl

theorem V18 (c : Dev nD) : V m c main_v18 = transpose S1536x256 [1, 0] (truncf .bf16 (shapeCast S256x1536 (aWq m c) shapeCasts_S1x256x1536_S256x1536) bitsLt_bf16_f32) transposes_S256x1536_S1536x256_1_0 := by
  simp only [V, hostOps0, List.flatten_cons, List.flatten_nil, List.append_nil, List.cons_append, List.nil_append, TRef.binary, TRef.nullary, TRef.unary, TRef.toBuf, TRef.ofBuf, cast_eq]
  after_results_simp <;> rfl

theorem V12 (c : Dev nD) : V m c main_v12 = shapeCast S256x1024 (extractStridedSlice S256x8x128 ![0, 0, 0] (Wkv m c) slices_S256x8x256_S256x8x128_0_0_0) shapeCasts_S256x8x128_S256x1024 := by
  simp only [V, hostOps0, List.flatten_cons, List.flatten_nil, List.append_nil, List.cons_append, List.nil_append, TRef.binary, TRef.nullary, TRef.unary, TRef.toBuf, TRef.ofBuf, cast_eq]
  after_results_simp <;> rfl

theorem V15 (c : Dev nD) : V m c main_v15 = transpose S1024x256 [1, 0] (shapeCast S256x1024 (extractStridedSlice S256x8x128 ![0, 0, 128] (Wkv m c) slices_S256x8x256_S256x8x128_0_0_128) shapeCasts_S256x8x128_S256x1024) transposes_S256x1024_S1024x256_1_0 := by
  simp only [V, hostOps0, List.flatten_cons, List.flatten_nil, List.append_nil, List.cons_append, List.nil_append, TRef.binary, TRef.nullary, TRef.unary, TRef.toBuf, TRef.ofBuf, cast_eq]
  after_results_simp <;> rfl

theorem V27 (c : Dev nD) : V m c main_v27 = shapeCast S128x1 (mulf (F := Ideal) (φ := .f32) (extractStridedSlice S128 ![0] (shapeCast S192 (aGqn m c) shapeCasts_S1x192_S192) slices_S192_S128_0) (broadcastInDim S128 ![] bcast_S_S128 (constant S_ .f32 0x3DD53B95#32))) shapeCasts_S128_S128x1 := by
  simp only [V, hostOps0, List.flatten_cons, List.flatten_nil, List.append_nil, List.cons_append, List.nil_append, TRef.binary, TRef.nullary, TRef.unary, TRef.toBuf, TRef.ofBuf, cast_eq]
  after_results_simp <;> rfl

theorem V31 (c : Dev nD) : V m c main_v31 = shapeCast S64x1 (mulf (F := Ideal) (φ := .f32) (extractStridedSlice S64 ![128] (shapeCast S192 (aGqn m c) shapeCasts_S1x192_S192) slices_S192_S64_128) (broadcastInDim S64 ![] bcast_S_S64 (constant S_ .f32 0x3DD53B95#32))) shapeCasts_S64_S64x1 := by
  simp only [V, hostOps0, List.flatten_cons, List.flatten_nil, List.append_nil, List.cons_append, List.nil_append, TRef.binary, TRef.nullary, TRef.unary, TRef.toBuf, TRef.ofBuf, cast_eq]
  after_results_simp <;> rfl

theorem V34 (c : Dev nD) : V m c main_v34 = shapeCast S1x128 (extractStridedSlice S128 ![0] (shapeCast S192 (aGkn m c) shapeCasts_S1x192_S192) slices_S192_S128_0) shapeCasts_S128_S1x128 := by
  simp only [V, hostOps0, List.flatten_cons, List.flatten_nil, List.append_nil, List.cons_append, List.nil_append, TRef.binary, TRef.nullary, TRef.unary, TRef.toBuf, TRef.ofBuf, cast_eq]
  after_results_simp <;> rfl

theorem V37 (c : Dev nD) : V m c main_v37 = shapeCast S64x1 (extractStridedSlice S64 ![128] (shapeCast S192 (aGkn m c) shapeCasts_S1x192_S192) slices_S192_S64_128) shapeCasts_S64_S64x1 := by
  simp only [V, hostOps0, List.flatten_cons, List.flatten_nil, List.append_nil, List.cons_append, List.nil_append, TRef.binary, TRef.nullary, TRef.unary, TRef.toBuf, TRef.ofBuf, cast_eq]
  after_results_simp <;> rfl

/-! ## The blocks of a point -/

theorem ix_0 : ∀ t : Fin grid0.N, win0_0.index t = ![t.val, 0] := by decide +kernel
theorem ix_1 : ∀ t : Fin grid0.N, win0_1.index t = ![t.val, 0] := by decide +kernel
theorem ix_2 : ∀ t : Fin grid0.N, win0_2.index t = ![t.val, 0] := by decide +kernel
theorem ix_3 : ∀ t : Fin grid0.N, win0_3.index t = ![t.val / 4, 0, t.val % 4] := by decide +kernel
theorem ix_4 : ∀ t : Fin grid0.N, win0_4.index t = ![0, 0] := by decide +kernel
theorem ix_5 : ∀ t : Fin grid0.N, win0_5.index t = ![0, 0] := by decide +kernel
theorem ix_6 : ∀ t : Fin grid0.N, win0_6.index t = ![0, 0] := by decide +kernel
theorem ix_7 : ∀ t : Fin grid0.N, win0_7.index t = ![0, 0] := by decide +kernel
theorem ix_8 : ∀ t : Fin grid0.N, win0_8.index t = ![0, 0] := by decide +kernel
theorem ix_9 : ∀ t : Fin grid0.N, win0_9.index t = ![0, 0] := by decide +kernel
theorem ix_10 : ∀ t : Fin grid0.N, win0_10.index t = ![0, 0] := by decide +kernel
theorem ix_11 : ∀ t : Fin grid0.N, win0_11.index t = ![0, 0] := by decide +kernel
theorem ix_12 : ∀ t : Fin grid0.N, win0_12.index t = ![0, 0] := by decide +kernel
theorem ix_13 : ∀ t : Fin grid0.N, win0_13.index t = ![0, 0] := by decide +kernel
theorem ix_14 : ∀ t : Fin grid0.N, win0_14.index t = ![0, 0] := by decide +kernel
theorem ix_15 : ∀ t : Fin grid0.N, win0_15.index t = ![t.val / 4, 0, t.val % 4, 0, 0] := by decide +kernel
theorem ix_16 : ∀ t : Fin grid0.N, win0_16.index t = ![t.val / 4, 0, t.val % 4, 0] := by decide +kernel
theorem ix_17 : ∀ t : Fin grid0.N, win0_17.index t = ![t.val / 4, t.val % 4, 0] := by decide +kernel
theorem ix_18 : ∀ t : Fin grid0.N, win0_18.index t = ![t.val / 4, 0, t.val % 4, 0, 0] := by decide +kernel

/-- The batch of a point, and the row and the position of a point's block row. -/
def tb (t : Fin cfg0.N) : Fin 4 := ⟨t.val / 4, by have : t.val < 16 := t.isLt; omega⟩
def gr (t : Fin cfg0.N) (p : Fin 2048) : Fin 32768 := ⟨t.val * 2048 + p.val, by have : t.val < 16 := t.isLt; omega⟩
def gp (t : Fin cfg0.N) (p : Fin 2048) : Fin 8192 := ⟨t.val % 4 * 2048 + p.val, by omega⟩
def ti (t : Fin cfg0.N) (i : Fin 4) : Fin 16 := ⟨t.val % 4 * 4 + i.val, by omega⟩

theorem gr_eq (t : Fin cfg0.N) (p : Fin 2048) : gr t p = rw1 (tb t) (gp t p) := by
  apply Fin.ext
  simp only [gr, rw1, tb, gp]
  omega

theorem gp_eq (t : Fin cfg0.N) (i : Fin 4) (l : Fin 512) (h : 512 * i.val + l.val < 2048) : gp t ⟨512 * i.val + l.val, h⟩ = ps (ti t i) l := by
  apply Fin.ext
  simp only [gp, ps, ti]
  omega

theorem blk0 (c : Dev nD) (t : Fin cfg0.N) (p : Fin 2048) (d : Fin 256) : iblk m c 0 t (ix2 p d) = aCq m c (ix2 (gr t p) d) := by
  have e : (win0_0.blk t).view.emb (ix2 p d) = ix2 (gr t p) d := by
    blk_ext! [ix_0 t, gr, gp, tb]
  refine (congrFun (V_main_arg0 m c) ((win0_0.blk t).view.emb (ix2 p d))).trans ?_
  refine (congrArg _ e).trans ?_
  pointwise

theorem blk1 (c : Dev nD) (t : Fin cfg0.N) (p : Fin 2048) (d : Fin 256) : iblk m c 1 t (ix2 p d) = aCkv m c (ix2 (gr t p) d) := by
  have e : (win0_1.blk t).view.emb (ix2 p d) = ix2 (gr t p) d := by
    blk_ext! [ix_1 t, gr, gp, tb]
  refine (congrFun (V_main_arg1 m c) ((win0_1.blk t).view.emb (ix2 p d))).trans ?_
  refine (congrArg _ e).trans ?_
  pointwise

theorem blk2 (c : Dev nD) (t : Fin cfg0.N) (p : Fin 2048) (d : Fin 128) : iblk m c 2 t (ix2 p d) = aKr m c (ix2 (gr t p) d) := by
  have e : (win0_2.blk t).view.emb (ix2 p d) = ix2 (gr t p) d := by
    blk_ext! [ix_2 t, gr, gp, tb]
  refine (congrFun (V_main_arg2 m c) ((win0_2.blk t).view.emb (ix2 p d))).trans ?_
  refine (congrArg _ e).trans ?_
  pointwise

theorem blk3 (c : Dev nD) (t : Fin cfg0.N) (p : Fin 2048) : iblk m c 3 t (ix3 0 0 p) = aPos m c (ix2 (tb t) (gp t p)) := by
  have e : (win0_3.blk t).view.emb (ix3 0 0 p) = ix3 (tb t) 0 (gp t p) := by
    blk_ext! [ix_3 t, gr, gp, tb]
  refine (congrFun (V7 m c) ((win0_3.blk t).view.emb (ix3 0 0 p))).trans ?_
  refine (congrArg _ e).trans ?_
  pointwise

theorem blk4 (c : Dev nD) (t : Fin cfg0.N) (k : Fin 32) : iblk m c 4 t (ix2 k 0) = iv (ix1 k) := by
  have e : (win0_4.blk t).view.emb (ix2 k 0) = ix2 k 0 := by
    blk_ext! [ix_4 t, gr, gp, tb]
  refine (congrFun (V6 m c) ((win0_4.blk t).view.emb (ix2 k 0))).trans ?_
  refine (congrArg _ e).trans ?_
  pointwise

theorem blk5 (c : Dev nD) (t : Fin cfg0.N) : iblk m c 5 t (ix2 0 0) = aOff m c (ix2 0 0) := by
  have e : (win0_5.blk t).view.emb (ix2 0 0) = ix2 0 0 := by
    blk_ext! [ix_5 t, gr, gp, tb]
  refine (congrFun (V_main_arg4 m c) ((win0_5.blk t).view.emb (ix2 0 0))).trans ?_
  refine (congrArg _ e).trans ?_
  pointwise

theorem blk6 (c : Dev nD) (t : Fin cfg0.N) (k : Fin 256) : iblk m c 6 t (ix2 0 k) = aGq m c (ix2 0 k) := by
  have e : (win0_6.blk t).view.emb (ix2 0 k) = ix2 0 k := by
    blk_ext! [ix_6 t, gr, gp, tb]
  refine (congrFun (V21 m c) ((win0_6.blk t).view.emb (ix2 0 k))).trans ?_
  refine (congrArg _ e).trans ?_
  pointwise

theorem blk7 (c : Dev nD) (t : Fin cfg0.N) (k : Fin 256) : iblk m c 7 t (ix2 0 k) = aGkv m c (ix2 0 k) := by
  have e : (win0_7.blk t).view.emb (ix2 0 k) = ix2 0 k := by
    blk_ext! [ix_7 t, gr, gp, tb]
  refine (congrFun (V23 m c) ((win0_7.blk t).view.emb (ix2 0 k))).trans ?_
  refine (congrArg _ e).trans ?_
  pointwise

theorem blk8 (c : Dev nD) (t : Fin cfg0.N) (o : Fin 1536) (k : Fin 256) : iblk m c 8 t (ix2 o k) = aWq m c (ix3 0 k o) := by
  have e : (win0_8.blk t).view.emb (ix2 o k) = ix2 o k := by
    blk_ext! [ix_8 t, gr, gp, tb]
  refine (congrFun (V18 m c) ((win0_8.blk t).view.emb (ix2 o k))).trans ?_
  refine (congrArg _ e).trans ?_
  pointwise

theorem blk9 (c : Dev nD) (t : Fin cfg0.N) (k : Fin 256) (h : Fin 8) (d : Fin 128) : iblk m c 9 t (ix2 k ⟨128 * h.val + d.val, by omega⟩) = aWkv m c (ix3 0 k ⟨256 * h.val + d.val, by omega⟩) := by
  have e : (win0_9.blk t).view.emb (ix2 k ⟨128 * h.val + d.val, by omega⟩) = ix2 k ⟨128 * h.val + d.val, by omega⟩ := by
    blk_ext! [ix_9 t, gr, gp, tb]
  refine (congrFun (V12 m c) ((win0_9.blk t).view.emb (ix2 k ⟨128 * h.val + d.val, by omega⟩))).trans ?_
  refine (congrArg _ e).trans ?_
  pointwise
  refine congrArg (aWkv m c) (congrArg (ix3 0 k) (Fin.ext ?_))
  simp only []
  omega

theorem blk10 (c : Dev nD) (t : Fin cfg0.N) (h : Fin 8) (d : Fin 128) (k : Fin 256) : iblk m c 10 t (ix2 ⟨128 * h.val + d.val, by omega⟩ k) = aWkv m c (ix3 0 k ⟨256 * h.val + 128 + d.val, by omega⟩) := by
  have e : (win0_10.blk t).view.emb (ix2 ⟨128 * h.val + d.val, by omega⟩ k) = ix2 ⟨128 * h.val + d.val, by omega⟩ k := by
    blk_ext! [ix_10 t, gr, gp, tb]
  refine (congrFun (V15 m c) ((win0_10.blk t).view.emb (ix2 ⟨128 * h.val + d.val, by omega⟩ k))).trans ?_
  refine (congrArg _ e).trans ?_
  pointwise
  refine congrArg (aWkv m c) (congrArg (ix3 0 k) (Fin.ext ?_))
  simp only []
  omega

theorem blk11 (c : Dev nD) (t : Fin cfg0.N) (k : Fin 128) : iblk m c 11 t (ix2 k 0) = aGqn m c (ix2 0 ⟨k.val, by omega⟩) * qsc := by
  have e : (win0_11.blk t).view.emb (ix2 k 0) = ix2 k 0 := by
    blk_ext! [ix_11 t, gr, gp, tb]
  refine (congrFun (V27 m c) ((win0_11.blk t).view.emb (ix2 k 0))).trans ?_
  refine (congrArg _ e).trans ?_
  pointwise [qsc]

theorem blk12 (c : Dev nD) (t : Fin cfg0.N) (k : Fin 64) : iblk m c 12 t (ix2 k 0) = aGqn m c (ix2 0 ⟨128 + k.val, by omega⟩) * qsc := by
  have e : (win0_12.blk t).view.emb (ix2 k 0) = ix2 k 0 := by
    blk_ext! [ix_12 t, gr, gp, tb]
  refine (congrFun (V31 m c) ((win0_12.blk t).view.emb (ix2 k 0))).trans ?_
  refine (congrArg _ e).trans ?_
  pointwise [qsc]

theorem blk13 (c : Dev nD) (t : Fin cfg0.N) (k : Fin 128) : iblk m c 13 t (ix2 0 k) = aGkn m c (ix2 0 ⟨k.val, by omega⟩) := by
  have e : (win0_13.blk t).view.emb (ix2 0 k) = ix2 0 k := by
    blk_ext! [ix_13 t, gr, gp, tb]
  refine (congrFun (V34 m c) ((win0_13.blk t).view.emb (ix2 0 k))).trans ?_
  refine (congrArg _ e).trans ?_
  pointwise

theorem blk14 (c : Dev nD) (t : Fin cfg0.N) (k : Fin 64) : iblk m c 14 t (ix2 k 0) = aGkn m c (ix2 0 ⟨128 + k.val, by omega⟩) := by
  have e : (win0_14.blk t).view.emb (ix2 k 0) = ix2 k 0 := by
    blk_ext! [ix_14 t, gr, gp, tb]
  refine (congrFun (V37 m c) ((win0_14.blk t).view.emb (ix2 k 0))).trans ?_
  refine (congrArg _ e).trans ?_
  pointwise

/-! ## The result arrays -/

theorem emb_15 (t : Fin cfg0.N) (h : Fin 8) (i : Fin 4) (j : Fin 256) (l : Fin 512) : (win0_15.blk t).view.emb (ix5 0 h i j l) = ix5 (tb t) h (ti t i) j l := by
  funext a; apply Fin.ext
  fin_cases a
  all_goals simp only [ValueKit.finMkLit, Fin.isValue]
  all_goals blk_simp
  all_goals rw [ix_15 t]
  all_goals simp [tb, gp, ti]

theorem emb_18 (t : Fin cfg0.N) (h : Fin 8) (i : Fin 4) (j : Fin 128) (l : Fin 512) : (win0_18.blk t).view.emb (ix5 0 h i j l) = ix5 (tb t) h (ti t i) j l := by
  funext a; apply Fin.ext
  fin_cases a
  all_goals simp only [ValueKit.finMkLit, Fin.isValue]
  all_goals blk_simp
  all_goals rw [ix_18 t]
  all_goals simp [tb, gp, ti]

theorem emb_16 (t : Fin cfg0.N) (h : Fin 8) (p : Fin 2048) (d : Fin 128) : (win0_16.blk t).view.emb (ix4 0 h p d) = ix4 (tb t) h (gp t p) d := by
  funext a; apply Fin.ext
  fin_cases a
  all_goals simp only [ValueKit.finMkLit, Fin.isValue]
  all_goals blk_simp
  all_goals rw [ix_16 t]
  all_goals simp [tb, gp, ti]

theorem emb_17 (t : Fin cfg0.N) (p : Fin 2048) (j : Fin 128) : (win0_17.blk t).view.emb (ix3 0 p j) = ix3 (tb t) (gp t p) j := by
  funext a; apply Fin.ext
  fin_cases a
  all_goals simp only [ValueKit.finMkLit, Fin.isValue]
  all_goals blk_simp
  all_goals rw [ix_17 t]
  all_goals simp [tb, gp, ti]

theorem cs_at (c : Dev nD) (t : Fin cfg0.N) (k : Fin 32) (p : Fin 2048) :
    k0_pay3 (F := Ideal) (iblk m c 4 t) (iblk m c 3 t) (ix2 k p) = Ideal.cos (ang (fun k => iv (ix1 k)) (aPos m c (ix2 (tb t) (gp t p))) k) := by
  pointwise [k0_pay3]
  rw [pay2, blk3, blk4]
  rfl

theorem sn_at (c : Dev nD) (t : Fin cfg0.N) (k : Fin 32) (p : Fin 2048) :
    k0_pay4 (F := Ideal) (iblk m c 4 t) (iblk m c 3 t) (ix2 k p) = Ideal.sin (ang (fun k => iv (ix1 k)) (aPos m c (ix2 (tb t) (gp t p))) k) := by
  pointwise [k0_pay4]
  rw [pay2, blk3, blk4]
  rfl

theorem Q_at (c : Dev nD) (t : Fin cfg0.N) (o : Fin 1536) (p : Fin 2048) :
    k0_pay5 (F := Ideal) (iblk m c 0 t) (iblk m c 6 t) (iblk m c 8 t) (ix2 o p)
      = lat (fun k => aCq m c (ix2 (gr t p) k)) (fun k => aGq m c (ix2 0 k)) (fun k o => aWq m c (ix3 0 k o)) o := by
  refine (pay5 _ _ _ o p).trans ?_
  simp only [blk0, blk6, blk8, lat]
  exact Finset.sum_congr rfl fun k _ => mul_comm _ _

theorem K_at (c : Dev nD) (t : Fin cfg0.N) (p : Fin 2048) (h : Fin 8) (d : Fin 128) :
    k0_pay72 (F := Ideal) (iblk m c 1 t) (iblk m c 7 t) (iblk m c 9 t) (ix2 p ⟨128 * h.val + d.val, by omega⟩)
      = lat (fun k => aCkv m c (ix2 (gr t p) k)) (fun k => aGkv m c (ix2 0 k)) (fun k o => aWkv m c (ix3 0 k o)) ⟨256 * h.val + d.val, by omega⟩ := by
  refine (pay72 _ _ _ p _).trans ?_
  simp only [blk1, blk7, blk9, lat]

theorem W_at (c : Dev nD) (t : Fin cfg0.N) (h : Fin 8) (d : Fin 128) (p : Fin 2048) :
    k0_pay73 (F := Ideal) (iblk m c 1 t) (iblk m c 7 t) (iblk m c 10 t) (ix2 ⟨128 * h.val + d.val, by omega⟩ p)
      = vt1 m c (gr t p) h d := by
  refine (pay73 _ _ _ _ p).trans ?_
  simp only [blk1, blk7, blk10, vt1, vtf, lat]
  exact Finset.sum_congr rfl fun k _ => mul_comm _ _

theorem out_15 (c : Dev nD) (t : Fin cfg0.N) (h : Fin 8) (i : Fin 4) (j : Fin 256) (l : Fin 512) :
    out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix5 0 h i j l) = arr15 m c (ix5 (tb t) h (ti t i) j l) := by
  refine (canon15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix5 0 h i j l)).trans ?_
  rw [ld_0, ld_1, ld_2, ld_3, ld_4, ld_5, ld_6, ld_7]
  have hp : 512 * i.val + l.val < 2048 := by omega
  show qhd (fun k => k0_pay5 (F := Ideal) (iblk m c 0 t) (iblk m c 6 t) (iblk m c 8 t) (ix2 ⟨192 * h.val + k.val, by omega⟩ ⟨512 * i.val + l.val, hp⟩))
    (fun k => iblk m c 11 t (ix2 k 0)) (fun k => iblk m c 12 t (ix2 k 0)) (fun k => k0_pay3 (F := Ideal) (iblk m c 4 t) (iblk m c 3 t) (ix2 k ⟨512 * i.val + l.val, hp⟩))
    (fun k => k0_pay4 (F := Ideal) (iblk m c 4 t) (iblk m c 3 t) (ix2 k ⟨512 * i.val + l.val, hp⟩)) (iblk m c 5 t (ix2 0 0)) j
    = q1 m c (rw1 (tb t) (ps (ti t i) l)) (tb t) (ps (ti t i) l) h j
  simp only [cs_at, sn_at, Q_at, blk5, blk11, blk12, gr_eq, gp_eq t i l hp, q1, qf]

theorem out_16 (c : Dev nD) (t : Fin cfg0.N) (h : Fin 8) (p : Fin 2048) (d : Fin 128) :
    out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix4 0 h p d) = arr16 m c (ix4 (tb t) h (gp t p) d) := by
  refine (canon16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix4 0 h p d)).trans ?_
  rw [ld_2, ld_3, ld_40, ld_42]
  show nrmc 0x43000000#32 (fun k : Fin 128 => k0_pay72 (F := Ideal) (iblk m c 1 t) (iblk m c 7 t) (iblk m c 9 t) (ix2 p ⟨128 * h.val + k.val, by omega⟩))
    (fun k => iblk m c 13 t (ix2 0 k)) d = kn1 m c (rw1 (tb t) (gp t p)) h d
  simp only [K_at, blk13, gr_eq, kn1, knf]

theorem out_17 (c : Dev nD) (t : Fin cfg0.N) (p : Fin 2048) (j : Fin 128) :
    out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix3 0 p j) = arr17 m c (ix3 (tb t) (gp t p) j) := by
  refine (canon17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix3 0 p j)).trans ?_
  refine (kd_at _ _ _ p j).trans ?_
  rw [ld_0, ld_1, ld_7, ld_83]
  show _ = kr1 m c (rw1 (tb t) (gp t p)) (tb t) (gp t p) j
  simp only [cs_at, sn_at, pay127, blk2, blk14, gr_eq, kr1, krf]

theorem out_18 (c : Dev nD) (t : Fin cfg0.N) (h : Fin 8) (i : Fin 4) (j : Fin 128) (l : Fin 512) :
    out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix5 0 h i j l) = arr18 m c (ix5 (tb t) h (ti t i) j l) := by
  refine (canon18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix5 0 h i j l)).trans ?_
  rw [ld_2, ld_3, ld_41]
  have hp : 512 * i.val + l.val < 2048 := by omega
  show k0_pay73 (F := Ideal) (iblk m c 1 t) (iblk m c 7 t) (iblk m c 10 t) (ix2 ⟨128 * h.val + j.val, by omega⟩ ⟨512 * i.val + l.val, hp⟩)
    = vt1 m c (rw1 (tb t) (ps (ti t i) l)) h j
  rw [W_at, gr_eq, gp_eq t i l hp]

theorem arr_final15 (c : Dev nD) : (dats m 0 c).arrAt 15 cfg0.N = arr15 m c := by
  refine (dats m 0 c).arrAt_eq_of_covers 15 _ (by decide +kernel) fun t hf y => ?_
  blk_simp
  obtain ⟨h, i, j, l, rfl⟩ : ∃ (h : Fin 8) (i : Fin 4) (j : Fin 256) (l : Fin 512), y = ix5 0 h i j l := ⟨y 1, y 2, y 3, y 4, by
    funext a
    fin_cases a
    · exact Subsingleton.elim (α := Fin 1) _ _
    all_goals rfl⟩
  exact (congrFun (after0_15 m c t) _).trans ((out_15 m c t h i j l).trans (congrArg (arr15 m c) (emb_15 t h i j l).symm))

theorem arr_final16 (c : Dev nD) : (dats m 0 c).arrAt 16 cfg0.N = arr16 m c := by
  refine (dats m 0 c).arrAt_eq_of_covers 16 _ (by decide +kernel) fun t hf y => ?_
  blk_simp
  obtain ⟨h, p, d, rfl⟩ : ∃ (h : Fin 8) (p : Fin 2048) (d : Fin 128), y = ix4 0 h p d := ⟨y 1, y 2, y 3, by
    funext a
    fin_cases a
    · exact Subsingleton.elim (α := Fin 1) _ _
    all_goals rfl⟩
  exact (congrFun (after0_16 m c t) _).trans ((out_16 m c t h p d).trans (congrArg (arr16 m c) (emb_16 t h p d).symm))

theorem arr_final17 (c : Dev nD) : (dats m 0 c).arrAt 17 cfg0.N = arr17 m c := by
  refine (dats m 0 c).arrAt_eq_of_covers 17 _ (by decide +kernel) fun t hf y => ?_
  blk_simp
  obtain ⟨p, j, rfl⟩ : ∃ (p : Fin 2048) (j : Fin 128), y = ix3 0 p j := ⟨y 1, y 2, by
    funext a
    fin_cases a
    · exact Subsingleton.elim (α := Fin 1) _ _
    all_goals rfl⟩
  exact (congrFun (after0_17 m c t) _).trans ((out_17 m c t p j).trans (congrArg (arr17 m c) (emb_17 t p j).symm))

theorem arr_final18 (c : Dev nD) : (dats m 0 c).arrAt 18 cfg0.N = arr18 m c := by
  refine (dats m 0 c).arrAt_eq_of_covers 18 _ (by decide +kernel) fun t hf y => ?_
  blk_simp
  obtain ⟨h, i, j, l, rfl⟩ : ∃ (h : Fin 8) (i : Fin 4) (j : Fin 128) (l : Fin 512), y = ix5 0 h i j l := ⟨y 1, y 2, y 3, y 4, by
    funext a
    fin_cases a
    · exact Subsingleton.elim (α := Fin 1) _ _
    all_goals rfl⟩
  exact (congrFun (after0_18 m c t) _).trans ((out_18 m c t h i j l).trans (congrArg (arr18 m c) (emb_18 t h i j l).symm))

/-- After a run, the four result buffers hold these arrays, and the arguments are as launched. -/
theorem run_val (ρ : Dev nD → PrngReg) : θ_run (defs (F := Ideal)) (onTc (τ := τ) (main (F := Ideal))) ⟨m, fun _ => 0, ρ⟩ fun r => ∀ c : Dev nD,
      r.2.mem ((c : Thread nD τ).loc main_v38_0) = arr15 m c
      ∧ r.2.mem ((c : Thread nD τ).loc main_v38_1) = arr16 m c
      ∧ r.2.mem ((c : Thread nD τ).loc main_v38_2) = arr17 m c
      ∧ r.2.mem ((c : Thread nD τ).loc main_v38_3) = arr18 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨((h c).1 15).trans (arr_final15 m c),
      ((h c).1 16).trans (arr_final16 m c),
      ((h c).1 17).trans (arr_final17 m c),
      ((h c).1 18).trans (arr_final18 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).1 5).trans (((dats m 0 c).arrAt_in 5 rfl _).trans ((A_eq m c 5).trans (V_main_arg4 m c))),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩)
    (run_main m ρ)

end Cert.Kernel5Ideal.Prep

end
-- ==== Proof.RPrep.lean ====
/-
  The reference's preparation of the attention over the extended reals, its four results read at one element.
-/
module

public import proofs.«01_k».proof.Proof.Gen.Reference5Ideal.Run
public import proofs.«01_k».proof.Proof.PRows
public import Idealize.ShloMosaic.Lib.Pointwise
public import Idealize.ShloMosaic.Lib.Pipeline.ValueKit.Geometry
public import Idealize.ShloMosaic.Lib.Pipeline.ValueKit.Point

@[expose] public section

set_option maxRecDepth 16384

noncomputable section

namespace Cert.Reference5Ideal.Prep

open Cert.Reference5Ideal Cert.Reference5Ideal.Gen Cert.Reference5Ideal.Value
open Idealize.ShloMosaic Idealize.ShloMosaic.TcCoe Idealize.ShloMosaic.StableHlo Idealize.SL.Sem
open Cert.Rows

variable (m : (ℓ : Loc nD τ sig) → Buf (Elt Ideal) ℓ)

/-- The arguments as arrays. -/
abbrev aCq (c : Dev nD) : FVec Ideal S32768x256 .f32 := m ((c : Thread nD τ).loc main_arg0)
abbrev aCkv (c : Dev nD) : FVec Ideal S32768x256 .f32 := m ((c : Thread nD τ).loc main_arg1)
abbrev aKr (c : Dev nD) : FVec Ideal S32768x128 .f32 := m ((c : Thread nD τ).loc main_arg2)
abbrev aPos (c : Dev nD) : S4x8192.Idx → BitVec 32 := m ((c : Thread nD τ).loc main_arg3)
abbrev aOff (c : Dev nD) : FVec Ideal S1x1 .f32 := m ((c : Thread nD τ).loc main_arg4)
abbrev aGq (c : Dev nD) : FVec Ideal S1x256 .f32 := m ((c : Thread nD τ).loc main_arg5)
abbrev aWq (c : Dev nD) : FVec Ideal S1x256x1536 .f32 := m ((c : Thread nD τ).loc main_arg6)
abbrev aGkv (c : Dev nD) : FVec Ideal S1x256 .f32 := m ((c : Thread nD τ).loc main_arg7)
abbrev aWkv (c : Dev nD) : FVec Ideal S1x256x2048 .f32 := m ((c : Thread nD τ).loc main_arg8)
abbrev aGqn (c : Dev nD) : FVec Ideal S1x192 .f32 := m ((c : Thread nD τ).loc main_arg9)
abbrev aGkn (c : Dev nD) : FVec Ideal S1x192 .f32 := m ((c : Thread nD τ).loc main_arg10)

/-- The frequencies. -/
def iv : FVec Ideal S32 .f32 :=
  Host.powf (broadcastInDim S32 ![] bcast_S_S32 (constant S_ .f32 0x461C4000#32)) (Host.divf (Host.negf (sitofp .f32 (iotaInDim S32 32 0))) (broadcastInDim S32 ![] bcast_S_S32 (constant S_ .f32 0x42000000#32)))

/-- The results by row and position: a head's query, key, shared key and value. -/
def q1 (c : Dev nD) (r : Fin 32768) (b : Fin 4) (s : Fin 8192) (h : Fin 8) (j : Fin 256) : EReal :=
  qf (fun k => aCq m c (ix2 r k)) (fun k => aGq m c (ix2 0 k)) (fun k o => aWq m c (ix3 0 k o)) (fun k => aGqn m c (ix2 0 k)) (fun k => iv (ix1 k)) (aPos m c (ix2 b s)) (aOff m c (ix2 0 0)) h j
def kn1 (c : Dev nD) (r : Fin 32768) (h : Fin 8) (d : Fin 128) : EReal :=
  knf (fun k => aCkv m c (ix2 r k)) (fun k => aGkv m c (ix2 0 k)) (fun k o => aWkv m c (ix3 0 k o)) (fun k => aGkn m c (ix2 0 k)) h d
def kr1 (c : Dev nD) (r : Fin 32768) (b : Fin 4) (s : Fin 8192) (j : Fin 128) : EReal :=
  krf (fun k => aKr m c (ix2 r k)) (fun k => aGkn m c (ix2 0 k)) (fun k => iv (ix1 k)) (aPos m c (ix2 b s)) j
def vt1 (c : Dev nD) (r : Fin 32768) (h : Fin 8) (d : Fin 128) : EReal :=
  vtf (fun k => aCkv m c (ix2 r k)) (fun k => aGkv m c (ix2 0 k)) (fun k o => aWkv m c (ix3 0 k o)) h d

/-- The row of a batch's position, and a position from its piece and its place in it. -/
def rw1 (b : Fin 4) (s : Fin 8192) : Fin 32768 := ⟨b.val * 8192 + s.val, by omega⟩
def ps (i : Fin 16) (l : Fin 512) : Fin 8192 := ⟨512 * i.val + l.val, by omega⟩

def arr15 (c : Dev nD) : S4x8x16x256x512.Idx → EReal := fun y => q1 m c (rw1 (y 0) (ps (y 2) (y 4))) (y 0) (ps (y 2) (y 4)) (y 1) (y 3)
def arr16 (c : Dev nD) : S4x8x8192x128.Idx → EReal := fun y => kn1 m c (rw1 (y 0) (y 2)) (y 1) (y 3)
def arr17 (c : Dev nD) : S4x8192x128.Idx → EReal := fun y => kr1 m c (rw1 (y 0) (y 1)) (y 0) (y 1) (y 2)
def arr18 (c : Dev nD) : S4x8x16x128x512.Idx → EReal := fun y => vt1 m c (rw1 (y 0) (ps (y 2) (y 4))) (y 1) (y 3)

/-! ## The angles -/

theorem r11_at (c : Dev nD) (b : Fin 4) (s : Fin 8192) (k : Fin 32) :
    res_main_v11 (F := Ideal) (launchContents m c) (ix3 b s k) = ang (fun k => iv (ix1 k)) (aPos m c (ix2 b s)) k := by
  pointwise [res_main_v11, iv, ang]
  exact mul_comm (G := EReal) _ _

theorem r13_at (c : Dev nD) (b : Fin 4) (s : Fin 8192) (k : Fin 32) :
    res_main_v13 (F := Ideal) (launchContents m c) (ix4 b s 0 k) = Ideal.cos (ang (fun k => iv (ix1 k)) (aPos m c (ix2 b s)) k) := by
  pointwise [res_main_v13]
  rw [r11_at]

theorem r15_at (c : Dev nD) (b : Fin 4) (s : Fin 8192) (k : Fin 32) :
    res_main_v15 (F := Ideal) (launchContents m c) (ix4 b s 0 k) = Ideal.sin (ang (fun k => iv (ix1 k)) (aPos m c (ix2 b s)) k) := by
  pointwise [res_main_v15]
  rw [r11_at]

/-! ## The two latents, normalized and projected -/

/-- The normalized latent. -/
def hN (x : FVec Ideal S4x8192x256 .f32) (g : FVec Ideal S1x256 .f32) : FVec Ideal S4x8192x256 .f32 :=
  mulf (F := Ideal) (φ := .f32) (mulf x (broadcastInDim S4x8192x256 ![0, 1, 2] bcast_S4x8192x1_S4x8192x256_0_1_2 (Host.rsqrt (addf (Host.divf (broadcastInDim S4x8192x1 ![0, 1] bcast_S4x8192_S4x8192x1_0_1 (Host.reduceAdd (mulf x x) (constant S_ .f32 0x00000000#32) reducesTo_S4x8192x256_S4x8192_d2 h_S_)) (broadcastInDim S4x8192x1 ![] bcast_S_S4x8192x1 (constant S_ .f32 0x43800000#32))) (broadcastInDim S4x8192x1 ![] bcast_S_S4x8192x1 (constant S_ .f32 0x358637BD#32)))))) (broadcastInDim S4x8192x256 ![0, 1, 2] bcast_S1x1x256_S4x8192x256_0_1_2 (broadcastInDim S1x1x256 ![2] bcast_S256_S1x1x256_2 (shapeCast _ g shapeCasts_S1x256_S256)))

theorem hN_at (x : FVec Ideal S4x8192x256 .f32) (g : FVec Ideal S1x256 .f32) (b : Fin 4) (s : Fin 8192) (k : Fin 256) :
    hN x g (ix3 b s k) = nrmc 0x43800000#32 (fun k => x (ix3 b s k)) (fun k => g (ix2 0 k)) k := by
  pointwise [hN]
  simp only [nrmc]

theorem r16_at (c : Dev nD) (b : Fin 4) (s : Fin 8192) (k : Fin 256) :
    res_main_v16 (F := Ideal) (launchContents m c) (ix3 b s k) = aCq m c (ix2 (rw1 b s) k) := by
  pointwise [res_main_v16]
  rfl

theorem r34_at (c : Dev nD) (b : Fin 4) (s : Fin 8192) (k : Fin 256) :
    res_main_v34 (F := Ideal) (launchContents m c) (ix3 b s k) = aCkv m c (ix2 (rw1 b s) k) := by
  pointwise [res_main_v34]
  rfl

theorem hQ_at (n : FVec Ideal S4x8192x256 .f32) (w : FVec Ideal S1x256x1536 .f32) (b : Fin 4) (s : Fin 8192) (h : Fin 8) (j : Fin 192) :
    (shapeCast S4x8192x8x192 (Host.dotGeneral (F := Ideal) dot_S4x8192x256_S256x1536_S4x8192x1536_2_0_01_1_n_n none n (shapeCast S256x1536 w shapeCasts_S1x256x1536_S256x1536)) shapeCasts_S4x8192x1536_S4x8192x8x192 : FVec Ideal S4x8192x8x192 .f32) (ix4 b s h j)
      = ∑ k : Fin 256, n (ix3 b s k) * w (ix3 0 k ⟨192 * h.val + j.val, by omega⟩) := by
  pointwise
  refine Finset.sum_congr rfl fun k _ => ?_
  refine congrArg (n (ix3 b s k) * ·) (congrArg w (congrArg (ix3 0 k) (Fin.ext ?_)))
  simp only []
  omega

theorem hK_at (n : FVec Ideal S4x8192x256 .f32) (w : FVec Ideal S1x256x2048 .f32) (b : Fin 4) (s : Fin 8192) (h : Fin 8) (j : Fin 256) :
    (shapeCast S4x8192x8x256 (Host.dotGeneral (F := Ideal) dot_S4x8192x256_S256x2048_S4x8192x2048_2_0_01_1_n_n none n (shapeCast S256x2048 w shapeCasts_S1x256x2048_S256x2048)) shapeCasts_S4x8192x2048_S4x8192x8x256 : FVec Ideal S4x8192x8x256 .f32) (ix4 b s h j)
      = ∑ k : Fin 256, n (ix3 b s k) * w (ix3 0 k ⟨256 * h.val + j.val, by omega⟩) := by
  pointwise
  refine Finset.sum_congr rfl fun k _ => ?_
  refine congrArg (n (ix3 b s k) * ·) (congrArg w (congrArg (ix3 0 k) (Fin.ext ?_)))
  simp only []
  omega

/-- A head's row of the projected query latent, and of the projected key and value latent. -/
def qr (c : Dev nD) (b : Fin 4) (s : Fin 8192) (h : Fin 8) (j : Fin 192) : EReal :=
  lat (fun k => aCq m c (ix2 (rw1 b s) k)) (fun k => aGq m c (ix2 0 k)) (fun k o => aWq m c (ix3 0 k o)) ⟨192 * h.val + j.val, by omega⟩
def kvr (c : Dev nD) (b : Fin 4) (s : Fin 8192) (h : Fin 8) (j : Fin 256) : EReal :=
  lat (fun k => aCkv m c (ix2 (rw1 b s) k)) (fun k => aGkv m c (ix2 0 k)) (fun k o => aWkv m c (ix3 0 k o)) ⟨256 * h.val + j.val, by omega⟩

theorem r33_at (c : Dev nD) (b : Fin 4) (s : Fin 8192) (h : Fin 8) (j : Fin 192) :
    res_main_v33 (F := Ideal) (launchContents m c) (ix4 b s h j) = qr m c b s h j := by
  refine (hQ_at (hN (res_main_v16 (launchContents m c)) (aGq m c)) (aWq m c) b s h j).trans ?_
  simp only [hN_at, r16_at, qr, lat]

theorem r51_at (c : Dev nD) (b : Fin 4) (s : Fin 8192) (h : Fin 8) (j : Fin 256) :
    res_main_v51 (F := Ideal) (launchContents m c) (ix4 b s h j) = kvr m c b s h j := by
  refine (hK_at (hN (res_main_v34 (launchContents m c)) (aGkv m c)) (aWkv m c) b s h j).trans ?_
  simp only [hN_at, r34_at, kvr, lat]

theorem r52_at (c : Dev nD) (b : Fin 4) (s : Fin 8192) (h : Fin 8) (j : Fin 128) :
    res_main_v52 (F := Ideal) (launchContents m c) (ix4 b s h j) = kvr m c b s h ⟨j.val, by omega⟩ := by
  refine Eq.trans ?_ (r51_at m c b s h ⟨j.val, by omega⟩)
  pointwise [res_main_v52]

theorem r58_at (c : Dev nD) (b : Fin 4) (s : Fin 8192) (h : Fin 8) (j : Fin 128) :
    res_main_v58 (F := Ideal) (launchContents m c) (ix4 b s h j) = qr m c b s h ⟨j.val, by omega⟩ := by
  refine Eq.trans ?_ (r33_at m c b s h ⟨j.val, by omega⟩)
  pointwise [res_main_v58]

theorem r73_at (c : Dev nD) (b : Fin 4) (s : Fin 8192) (h : Fin 8) (j : Fin 64) :
    res_main_v73 (F := Ideal) (launchContents m c) (ix4 b s h j) = qr m c b s h ⟨128 + j.val, by omega⟩ := by
  refine Eq.trans ?_ (r33_at m c b s h ⟨128 + j.val, by omega⟩)
  pointwise [res_main_v73]

/-! ## The heads' normalized parts -/

/-- A head's first 128 lanes normalized, and its 64 others. -/
def nA (x : FVec Ideal S4x8192x8x128 .f32) (g : FVec Ideal S128 .f32) : FVec Ideal S4x8192x8x128 .f32 :=
  mulf (F := Ideal) (φ := .f32) (mulf x (broadcastInDim S4x8192x8x128 ![0, 1, 2, 3] bcast_S4x8192x8x1_S4x8192x8x128_0_1_2_3 (Host.rsqrt (addf (Host.divf (broadcastInDim S4x8192x8x1 ![0, 1, 2] bcast_S4x8192x8_S4x8192x8x1_0_1_2 (Host.reduceAdd (mulf x x) (constant S_ .f32 0x00000000#32) reducesTo_S4x8192x8x128_S4x8192x8_d3 h_S_)) (broadcastInDim S4x8192x8x1 ![] bcast_S_S4x8192x8x1 (constant S_ .f32 0x43000000#32))) (broadcastInDim S4x8192x8x1 ![] bcast_S_S4x8192x8x1 (constant S_ .f32 0x358637BD#32)))))) (broadcastInDim S4x8192x8x128 ![0, 1, 2, 3] bcast_S1x1x1x128_S4x8192x8x128_0_1_2_3 (broadcastInDim S1x1x1x128 ![3] bcast_S128_S1x1x1x128_3 g))

def nB (x : FVec Ideal S4x8192x8x64 .f32) (g : FVec Ideal S64 .f32) : FVec Ideal S4x8192x8x64 .f32 :=
  mulf (F := Ideal) (φ := .f32) (mulf x (broadcastInDim S4x8192x8x64 ![0, 1, 2, 3] bcast_S4x8192x8x1_S4x8192x8x64_0_1_2_3 (Host.rsqrt (addf (Host.divf (broadcastInDim S4x8192x8x1 ![0, 1, 2] bcast_S4x8192x8_S4x8192x8x1_0_1_2 (Host.reduceAdd (mulf x x) (constant S_ .f32 0x00000000#32) reducesTo_S4x8192x8x64_S4x8192x8_d3 h_S_)) (broadcastInDim S4x8192x8x1 ![] bcast_S_S4x8192x8x1 (constant S_ .f32 0x42800000#32))) (broadcastInDim S4x8192x8x1 ![] bcast_S_S4x8192x8x1 (constant S_ .f32 0x358637BD#32)))))) (broadcastInDim S4x8192x8x64 ![0, 1, 2, 3] bcast_S1x1x1x64_S4x8192x8x64_0_1_2_3 (broadcastInDim S1x1x1x64 ![3] bcast_S64_S1x1x1x64_3 g))

theorem nA_at (x : FVec Ideal S4x8192x8x128 .f32) (g : FVec Ideal S128 .f32) (b : Fin 4) (s : Fin 8192) (h : Fin 8) (k : Fin 128) :
    nA x g (ix4 b s h k) = nrmc 0x43000000#32 (fun k => x (ix4 b s h k)) (fun k => g (ix1 k)) k := by
  pointwise [nA]
  simp only [nrmc]

theorem nB_at (x : FVec Ideal S4x8192x8x64 .f32) (g : FVec Ideal S64 .f32) (b : Fin 4) (s : Fin 8192) (h : Fin 8) (k : Fin 64) :
    nB x g (ix4 b s h k) = nrmc 0x42800000#32 (fun k => x (ix4 b s h k)) (fun k => g (ix1 k)) k := by
  pointwise [nB]
  simp only [nrmc]

/-- The query gains of a head's two parts. -/
def gA (c : Dev nD) : FVec Ideal S128 .f32 := extractStridedSlice S128 ![0] (res_main_v57 (F := Ideal) (launchContents m c)) slices_S192_S128_0
def gB (c : Dev nD) : FVec Ideal S64 .f32 := extractStridedSlice S64 ![128] (res_main_v57 (F := Ideal) (launchContents m c)) slices_S192_S64_128

theorem gA_at (c : Dev nD) (k : Fin 128) : gA m c (ix1 k) = aGqn m c (ix2 0 ⟨k.val, by omega⟩) := by
  pointwise [gA, res_main_v57]

theorem gB_at (c : Dev nD) (k : Fin 64) : gB m c (ix1 k) = aGqn m c (ix2 0 ⟨128 + k.val, by omega⟩) := by
  pointwise [gB, res_main_v57]

/-- Two parts of a head side by side, scaled. -/
def sc (a : FVec Ideal S4x8192x8x128 .f32) (b : FVec Ideal S4x8192x8x64 .f32) : FVec Ideal S4x8192x8x192 .f32 :=
  mulf (F := Ideal) (φ := .f32) (concatenate S4x8192x8x192 3 [⟨S4x8192x8x128, a⟩, ⟨S4x8192x8x64, b⟩] concatenates_S4x8192x8x128_S4x8192x8x64_S4x8192x8x192_d3) (broadcastInDim S4x8192x8x192 ![] bcast_S_S4x8192x8x192 (constant S_ .f32 0x3DD53B95#32))

theorem sc_lo (x : FVec Ideal S4x8192x8x128 .f32) (y : FVec Ideal S4x8192x8x64 .f32) (b : Fin 4) (s : Fin 8192) (h : Fin 8) (k : Fin 128) :
    sc x y (ix4 b s h ⟨k.val, by omega⟩) = x (ix4 b s h k) * qsc := by
  have hk : k.val < 128 := k.isLt
  pointwise [sc, qsc, hk]

theorem sc_hi (x : FVec Ideal S4x8192x8x128 .f32) (y : FVec Ideal S4x8192x8x64 .f32) (b : Fin 4) (s : Fin 8192) (h : Fin 8) (k : Fin 64) :
    sc x y (ix4 b s h ⟨128 + k.val, by omega⟩) = y (ix4 b s h k) * qsc := by
  have hk : ¬ 128 + k.val < 128 := by omega
  pointwise [sc, qsc, hk]

theorem r90_lo (c : Dev nD) (b : Fin 4) (s : Fin 8192) (h : Fin 8) (k : Fin 128) :
    res_main_v90 (F := Ideal) (launchContents m c) (ix4 b s h ⟨k.val, by omega⟩)
      = nrmc 0x43000000#32 (fun k : Fin 128 => qr m c b s h ⟨k.val, by omega⟩) (fun k => aGqn m c (ix2 0 ⟨k.val, by omega⟩) * qsc) k := by
  refine (sc_lo (nA (res_main_v58 (launchContents m c)) (gA m c)) (nB (res_main_v73 (launchContents m c)) (gB m c)) b s h k).trans ?_
  rw [nrmc_scale, nA_at]
  simp only [r58_at, gA_at]

theorem r90_hi (c : Dev nD) (b : Fin 4) (s : Fin 8192) (h : Fin 8) (k : Fin 64) :
    res_main_v90 (F := Ideal) (launchContents m c) (ix4 b s h ⟨128 + k.val, by omega⟩)
      = nrmc 0x42800000#32 (fun k : Fin 64 => qr m c b s h ⟨128 + k.val, by omega⟩) (fun k => aGqn m c (ix2 0 ⟨128 + k.val, by omega⟩) * qsc) k := by
  refine (sc_hi (nA (res_main_v58 (launchContents m c)) (gA m c)) (nB (res_main_v73 (launchContents m c)) (gB m c)) b s h k).trans ?_
  rw [nrmc_scale, nB_at]
  simp only [r73_at, gB_at]

/-- A head's last 64 lanes, normalized and scaled; the shared key's, normalized. -/
def qn (c : Dev nD) (b : Fin 4) (s : Fin 8192) (h : Fin 8) : Fin 64 → EReal :=
  nrmc 0x42800000#32 (fun k : Fin 64 => qr m c b s h ⟨128 + k.val, by omega⟩) (fun k => aGqn m c (ix2 0 ⟨128 + k.val, by omega⟩) * qsc)
def kn (c : Dev nD) (b : Fin 4) (s : Fin 8192) : Fin 64 → EReal :=
  nrmc 0x42800000#32 (fun k : Fin 64 => aKr m c (ix2 (rw1 b s) ⟨k.val, by omega⟩)) (fun k => aGkn m c (ix2 0 ⟨128 + k.val, by omega⟩))

theorem r122_at (c : Dev nD) (b : Fin 4) (s : Fin 8192) (h : Fin 8) (k : Fin 64) :
    res_main_v122 (F := Ideal) (launchContents m c) (ix4 b s h k) = qn m c b s h k := by
  refine Eq.trans ?_ (r90_hi m c b s h k)
  pointwise [res_main_v122]

theorem r123_at (c : Dev nD) (b : Fin 4) (s : Fin 8192) (h : Fin 8) (k : Fin 32) :
    res_main_v123 (F := Ideal) (launchContents m c) (ix4 b s h k) = qn m c b s h ⟨k.val, by omega⟩ := by
  refine Eq.trans ?_ (r122_at m c b s h ⟨k.val, by omega⟩)
  pointwise [res_main_v123]

theorem r124_at (c : Dev nD) (b : Fin 4) (s : Fin 8192) (h : Fin 8) (k : Fin 32) :
    res_main_v124 (F := Ideal) (launchContents m c) (ix4 b s h k) = qn m c b s h ⟨32 + k.val, by omega⟩ := by
  refine Eq.trans ?_ (r122_at m c b s h ⟨32 + k.val, by omega⟩)
  pointwise [res_main_v124]

theorem r56_at (c : Dev nD) (b : Fin 4) (s : Fin 8192) (k : Fin 64) :
    res_main_v56 (F := Ideal) (launchContents m c) (ix4 b s 0 k) = aKr m c (ix2 (rw1 b s) ⟨k.val, by omega⟩) := by
  pointwise [res_main_v56]
  rfl

theorem r120_at (c : Dev nD) (b : Fin 4) (s : Fin 8192) (k : Fin 64) :
    res_main_v120 (F := Ideal) (launchContents m c) (ix4 b s 0 k) = kn m c b s k := by
  pointwise [res_main_v120]
  simp only [r56_at, kn, nrmc]

theorem r137_at (c : Dev nD) (b : Fin 4) (s : Fin 8192) (k : Fin 32) :
    res_main_v137 (F := Ideal) (launchContents m c) (ix4 b s 0 k) = kn m c b s ⟨k.val, by omega⟩ := by
  refine Eq.trans ?_ (r120_at m c b s ⟨k.val, by omega⟩)
  pointwise [res_main_v137]

theorem r138_at (c : Dev nD) (b : Fin 4) (s : Fin 8192) (k : Fin 32) :
    res_main_v138 (F := Ideal) (launchContents m c) (ix4 b s 0 k) = kn m c b s ⟨32 + k.val, by omega⟩ := by
  refine Eq.trans ?_ (r120_at m c b s ⟨32 + k.val, by omega⟩)
  pointwise [res_main_v138]

/-! ## The turned halves -/

def csl (c : Dev nD) (b : Fin 4) (s : Fin 8192) (k : Fin 32) : EReal := Ideal.cos (ang (fun k => iv (ix1 k)) (aPos m c (ix2 b s)) k)
def snl (c : Dev nD) (b : Fin 4) (s : Fin 8192) (k : Fin 32) : EReal := Ideal.sin (ang (fun k => iv (ix1 k)) (aPos m c (ix2 b s)) k)

def q_1 (c : Dev nD) : FVec Ideal S4x8192x8x32 .f32 :=
  subf (F := Ideal) (φ := .f32) (mulf (res_main_v123 (launchContents m c)) (broadcastInDim S4x8192x8x32 ![0, 1, 2, 3] bcast_S4x8192x1x32_S4x8192x8x32_0_1_2_3 (res_main_v13 (launchContents m c)))) (mulf (res_main_v124 (launchContents m c)) (broadcastInDim S4x8192x8x32 ![0, 1, 2, 3] bcast_S4x8192x1x32_S4x8192x8x32_0_1_2_3 (res_main_v15 (launchContents m c))))
def q_2 (c : Dev nD) : FVec Ideal S4x8192x8x32 .f32 :=
  addf (F := Ideal) (φ := .f32) (mulf (res_main_v124 (launchContents m c)) (broadcastInDim S4x8192x8x32 ![0, 1, 2, 3] bcast_S4x8192x1x32_S4x8192x8x32_0_1_2_3 (res_main_v13 (launchContents m c)))) (mulf (res_main_v123 (launchContents m c)) (broadcastInDim S4x8192x8x32 ![0, 1, 2, 3] bcast_S4x8192x1x32_S4x8192x8x32_0_1_2_3 (res_main_v15 (launchContents m c))))
def k_1 (c : Dev nD) : FVec Ideal S4x8192x1x32 .f32 :=
  subf (F := Ideal) (φ := .f32) (mulf (res_main_v137 (launchContents m c)) (res_main_v13 (launchContents m c))) (mulf (res_main_v138 (launchContents m c)) (res_main_v15 (launchContents m c)))
def k_2 (c : Dev nD) : FVec Ideal S4x8192x1x32 .f32 :=
  addf (F := Ideal) (φ := .f32) (mulf (res_main_v138 (launchContents m c)) (res_main_v13 (launchContents m c))) (mulf (res_main_v137 (launchContents m c)) (res_main_v15 (launchContents m c)))

theorem q_1_at (c : Dev nD) (b : Fin 4) (s : Fin 8192) (h : Fin 8) (k : Fin 32) : q_1 m c (ix4 b s h k) = rot1 (qn m c b s h) (csl m c b s) (snl m c b s) k := by
  pointwise [q_1]
  simp only [r123_at, r124_at, r13_at, r15_at, rot1, csl, snl]

theorem q_2_at (c : Dev nD) (b : Fin 4) (s : Fin 8192) (h : Fin 8) (k : Fin 32) : q_2 m c (ix4 b s h k) = rot2 (qn m c b s h) (csl m c b s) (snl m c b s) k := by
  pointwise [q_2]
  simp only [r123_at, r124_at, r13_at, r15_at, rot2, csl, snl]

theorem k_1_at (c : Dev nD) (b : Fin 4) (s : Fin 8192) (k : Fin 32) : k_1 m c (ix4 b s 0 k) = rot1 (kn m c b s) (csl m c b s) (snl m c b s) k := by
  pointwise [k_1]
  simp only [r137_at, r138_at, r13_at, r15_at, rot1, csl, snl]

theorem k_2_at (c : Dev nD) (b : Fin 4) (s : Fin 8192) (k : Fin 32) : k_2 m c (ix4 b s 0 k) = rot2 (kn m c b s) (csl m c b s) (snl m c b s) k := by
  pointwise [k_2]
  simp only [r137_at, r138_at, r13_at, r15_at, rot2, csl, snl]

/-! ## The four results -/

/-- The pieces a query and the shared key end with. -/
def qo (c : Dev nD) : FVec Ideal S4x8192x8x1 .f32 := broadcastInDim S4x8192x8x1 ![] bcast_S_S4x8192x8x1 (shapeCast _ (aOff m c) shapeCasts_S1x1_S_)
def ko : FVec Ideal S4x8192x1 .f32 := broadcastInDim S4x8192x1 ![] bcast_S_S4x8192x1 (constant S_ .f32 0x3F800000#32)
def kz (c : Dev nD) : FVec Ideal S4x8192x63 .f32 := shapeCast _ (extractStridedSlice S4x8192x1x63 ![0, 0, 0, 0] (res_main_v147 (F := Ideal) (launchContents m c)) slices_S4x8192x8x63_S4x8192x1x63_0_0_0_0) shapeCasts_S4x8192x1x63_S4x8192x63

theorem qo_at (c : Dev nD) (b : Fin 4) (s : Fin 8192) (h : Fin 8) : qo m c (ix4 b s h 0) = aOff m c (ix2 0 0) := by
  pointwise [qo]
theorem ko_at (b : Fin 4) (s : Fin 8192) : ko (ix3 b s 0) = 1 := by
  pointwise [ko]
theorem qz_at (c : Dev nD) (b : Fin 4) (s : Fin 8192) (h : Fin 8) (k : Fin 63) : @Eq EReal (res_main_v147 (F := Ideal) (launchContents m c) (ix4 b s h k)) 0 := by
  pointwise [res_main_v147]
theorem kz_at (c : Dev nD) (b : Fin 4) (s : Fin 8192) (k : Fin 63) : kz m c (ix3 b s k) = 0 := by
  pointwise [kz]
  exact qz_at m c b s 0 k

/-- A query's pieces put together. -/
def qcat (x : FVec Ideal S4x8192x8x192 .f32) (q1 q2 : FVec Ideal S4x8192x8x32 .f32) (o : FVec Ideal S4x8192x8x1 .f32) (z : FVec Ideal S4x8192x8x63 .f32) : FVec Ideal S4x8192x8x256 .f32 :=
  concatenate S4x8192x8x256 3 [⟨S4x8192x8x192, concatenate S4x8192x8x192 3 [⟨S4x8192x8x128, (extractStridedSlice S4x8192x8x128 ![0, 0, 0, 0] x slices_S4x8192x8x192_S4x8192x8x128_0_0_0_0)⟩, ⟨S4x8192x8x64, (concatenate S4x8192x8x64 3 [⟨S4x8192x8x32, q1⟩, ⟨S4x8192x8x32, q2⟩] concatenates_S4x8192x8x32_S4x8192x8x32_S4x8192x8x64_d3)⟩] concatenates_S4x8192x8x128_S4x8192x8x64_S4x8192x8x192_d3⟩, ⟨S4x8192x8x1, o⟩, ⟨S4x8192x8x63, z⟩] concatenates_S4x8192x8x192_S4x8192x8x1_S4x8192x8x63_S4x8192x8x256_d3

/-- The shared key's pieces put together. -/
def kcat (k1 k2 : FVec Ideal S4x8192x1x32 .f32) (o : FVec Ideal S4x8192x1 .f32) (z : FVec Ideal S4x8192x63 .f32) : FVec Ideal S4x8192x128 .f32 :=
  concatenate S4x8192x128 2 [⟨S4x8192x64, shapeCast S4x8192x64 (concatenate S4x8192x1x64 3 [⟨S4x8192x1x32, k1⟩, ⟨S4x8192x1x32, k2⟩] concatenates_S4x8192x1x32_S4x8192x1x32_S4x8192x1x64_d3) shapeCasts_S4x8192x1x64_S4x8192x64⟩, ⟨S4x8192x1, o⟩, ⟨S4x8192x63, z⟩] concatenates_S4x8192x64_S4x8192x1_S4x8192x63_S4x8192x128_d2

theorem qcat_at (c : Dev nD) (b : Fin 4) (s : Fin 8192) (h : Fin 8) (j : Fin 256) :
    qcat (res_main_v90 (launchContents m c)) (q_1 m c) (q_2 m c) (qo m c) (res_main_v147 (launchContents m c)) (ix4 b s h j)
      = q1 m c (rw1 b s) b s h j := by
  show _ = qhd (qr m c b s h) (fun k => aGqn m c (ix2 0 ⟨k.val, by omega⟩) * qsc) (fun k => aGqn m c (ix2 0 ⟨128 + k.val, by omega⟩) * qsc) (csl m c b s) (snl m c b s) (aOff m c (ix2 0 0)) j
  pointwise [qcat]
  simp only [qhd]
  by_cases h1 : j.val < 128
  · rw [dif_pos (show j.val < 192 by omega), dif_pos h1, dif_pos h1]
    exact r90_lo m c b s h ⟨j.val, h1⟩
  rw [dif_neg h1]
  show _ = rotp (qn m c b s h) (csl m c b s) (snl m c b s) (aOff m c (ix2 0 0)) ⟨j.val - 128, by omega⟩
  simp only [rotp]
  by_cases h2 : j.val - 128 < 32
  · rw [dif_pos (show j.val < 192 by omega), dif_neg h1, dif_pos h2, dif_pos h2]
    exact q_1_at m c b s h ⟨j.val - 128, h2⟩
  by_cases h3 : j.val - 128 - 32 < 32
  · rw [dif_pos (show j.val < 192 by omega), dif_neg h1, dif_neg h2, dif_neg h2, dif_pos h3]
    exact q_2_at m c b s h ⟨j.val - 128 - 32, h3⟩
  rw [dif_neg (show ¬ j.val < 192 by omega), dif_neg h2, dif_neg h3]
  by_cases h4 : j.val - 192 < 1
  · rw [dif_pos h4, if_pos (show j.val - 128 - 32 - 32 = 0 by omega), ← qo_at m c b s h]
    exact congrArg (qo m c) (congrArg (ix4 b s h) (Fin.ext (show j.val - 192 = 0 by omega)))
  · rw [dif_neg h4, if_neg (show ¬ j.val - 128 - 32 - 32 = 0 by omega)]
    exact qz_at m c b s h _

theorem kcat_at (c : Dev nD) (b : Fin 4) (s : Fin 8192) (j : Fin 128) :
    kcat (k_1 m c) (k_2 m c) ko (kz m c) (ix3 b s j) = kr1 m c (rw1 b s) b s j := by
  show _ = rotp (kn m c b s) (csl m c b s) (snl m c b s) 1 j
  pointwise [kcat]
  simp only [rotp]
  by_cases h2 : j.val < 32
  · rw [dif_pos (show j.val < 64 by omega), dif_pos h2, dif_pos h2]
    exact k_1_at m c b s ⟨j.val, h2⟩
  by_cases h3 : j.val - 32 < 32
  · rw [dif_pos (show j.val < 64 by omega), dif_neg h2, dif_neg h2, dif_pos h3]
    exact k_2_at m c b s ⟨j.val - 32, h3⟩
  rw [dif_neg (show ¬ j.val < 64 by omega), dif_neg h2, dif_neg h3]
  by_cases h4 : j.val - 64 < 1
  · rw [dif_pos h4, if_pos (show j.val - 32 - 32 = 0 by omega), ← ko_at b s]
    exact congrArg ko (congrArg (ix3 b s) (Fin.ext (show j.val - 64 = 0 by omega)))
  · rw [dif_neg h4, if_neg (show ¬ j.val - 32 - 32 = 0 by omega)]
    exact kz_at m c b s _

theorem eq15 (c : Dev nD) (v : FVec Ideal S4x8192x8x256 .f32) (hv : ∀ b s h j, v (ix4 b s h j) = q1 m c (rw1 b s) b s h j) :
    (truncf .bf16 (transpose S4x8x16x256x512 [0, 3, 1, 4, 2] (shapeCast _ v shapeCasts_S4x8192x8x256_S4x16x512x8x256) transposes_S4x16x512x8x256_S4x8x16x256x512_0_3_1_4_2) bitsLt_bf16_f32 : FVec Ideal S4x8x16x256x512 .bf16) = arr15 m c := by
  funext y
  obtain ⟨b, h, i, j, l, rfl⟩ : ∃ (b : Fin 4) (h : Fin 8) (i : Fin 16) (j : Fin 256) (l : Fin 512), y = ix5 b h i j l := ⟨y 0, y 1, y 2, y 3, y 4, by funext a; fin_cases a <;> rfl⟩
  refine Eq.trans ?_ (hv b (ps i l) h j)
  pointwise [ps]
  refine congrArg v (congrArg (fun p => ix4 b p h j) (Fin.ext ?_))
  simp only []
  omega

theorem eq18 (c : Dev nD) :
    (truncf .bf16 (transpose S4x8x16x128x512 [0, 3, 1, 4, 2] (shapeCast _ (extractStridedSlice S4x8192x8x128 ![0, 0, 0, 128] (res_main_v51 (F := Ideal) (launchContents m c)) slices_S4x8192x8x256_S4x8192x8x128_0_0_0_128) shapeCasts_S4x8192x8x128_S4x16x512x8x128) transposes_S4x16x512x8x128_S4x8x16x128x512_0_3_1_4_2) bitsLt_bf16_f32 : FVec Ideal S4x8x16x128x512 .bf16) = arr18 m c := by
  funext y
  obtain ⟨b, h, i, j, l, rfl⟩ : ∃ (b : Fin 4) (h : Fin 8) (i : Fin 16) (j : Fin 128) (l : Fin 512), y = ix5 b h i j l := ⟨y 0, y 1, y 2, y 3, y 4, by funext a; fin_cases a <;> rfl⟩
  refine Eq.trans ?_ ((r51_at m c b (ps i l) h ⟨128 + j.val, by omega⟩).trans ?_)
  · pointwise [ps]
    refine congrArg (res_main_v51 (F := Ideal) (launchContents m c)) (congrArg (fun p => ix4 b p h ⟨128 + j.val, by omega⟩) (Fin.ext ?_))
    simp only []
    omega
  · show _ = vt1 m c (rw1 b (ps i l)) h j
    simp only [kvr, vt1, vtf, Nat.add_assoc]

theorem eq16 (c : Dev nD) (g : FVec Ideal S128 .f32) (hg : ∀ k, g (ix1 k) = aGkn m c (ix2 0 ⟨k.val, by omega⟩)) :
    (truncf .bf16 (transpose S4x8x8192x128 [0, 2, 1, 3] (nA (res_main_v52 (launchContents m c)) g) transposes_S4x8192x8x128_S4x8x8192x128_0_2_1_3) bitsLt_bf16_f32 : FVec Ideal S4x8x8192x128 .bf16) = arr16 m c := by
  funext y
  obtain ⟨b, h, s, d, rfl⟩ : ∃ (b : Fin 4) (h : Fin 8) (s : Fin 8192) (d : Fin 128), y = ix4 b h s d := ⟨y 0, y 1, y 2, y 3, by funext a; fin_cases a <;> rfl⟩
  pointwise
  rw [nA_at]
  simp only [r52_at, hg]
  rfl

theorem eq17 (c : Dev nD) : (truncf .bf16 (kcat (k_1 m c) (k_2 m c) ko (kz m c)) bitsLt_bf16_f32 : FVec Ideal S4x8192x128 .bf16) = arr17 m c := by
  funext y
  obtain ⟨b, s, j, rfl⟩ : ∃ (b : Fin 4) (s : Fin 8192) (j : Fin 128), y = ix3 b s j := ⟨y 0, y 1, y 2, by funext a; fin_cases a <;> rfl⟩
  exact kcat_at m c b s j

theorem gk_at (c : Dev nD) (k : Fin 128) : (shapeCast S128 (extractStridedSlice S1x128 ![0, 0] (aGkn m c) slices_S1x192_S1x128_0_0) shapeCasts_S1x128_S128 : FVec Ideal S128 .f32) (ix1 k) = aGkn m c (ix2 0 ⟨k.val, by omega⟩) := by
  pointwise

/-- After a run, the four result buffers hold these arrays, and the arguments are as launched. -/
theorem run_val (ρ : Dev nD → PrngReg) : θ_run (defs (F := Ideal)) (onTc (τ := τ) (main (F := Ideal))) ⟨m, fun _ => 0, ρ⟩ fun r => ∀ c : Dev nD,
      r.2.mem ((c : Thread nD τ).loc main_v157) = arr15 m c
      ∧ r.2.mem ((c : Thread nD τ).loc main_v159) = arr16 m c
      ∧ r.2.mem ((c : Thread nD τ).loc main_v160) = arr17 m c
      ∧ r.2.mem ((c : Thread nD τ).loc main_v163) = arr18 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run (defs (F := Ideal)) _ _).mono (fun r h c => by
    obtain ⟨h0, h1, h2, h3, hk⟩ := h c
    exact ⟨h0.trans (eq15 m c _ (qcat_at m c)), h1.trans (eq16 m c _ (gk_at m c)), h2.trans (eq17 m c), h3.trans (eq18 m c), hk⟩) (Cert.Reference5Ideal.Value.run m ρ)

end Cert.Reference5Ideal.Prep

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Reference5Ideal
public import proofs.«01_k».proof.Proof.Gen.Reference5Ideal.Run
public import proofs.«01_k».proof.Proof.BLaunch
public import proofs.«01_k».proof.Proof.KLaunch
public import proofs.«01_k».proof.Proof.Final
public import proofs.«01_k».proof.Proof.KFfn
public import proofs.«01_k».proof.Proof.RFfn
public import proofs.«01_k».proof.Proof.KProj
public import proofs.«01_k».proof.Proof.RProj
public import proofs.«01_k».proof.Proof.KMerge
public import proofs.«01_k».proof.Proof.RMerge
public import proofs.«01_k».proof.Proof.KPrepArr
public import proofs.«01_k».proof.Proof.RPrep
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference runs, its arguments unchanged, no semaphore left raised. -/
theorem frame_reference : @Cert.quiescent_ReferenceIdeal Cert.ReferenceIdeal.Gen.facts := fun m g _ =>
  (θ_run (Cert.ReferenceIdeal.defs (F := Ideal)) _ _).mono (fun r h => ⟨fun c => (h c).2, Idealize.ShloMosaic.sem_eq_zero_of_no_sems (by decide) r.2⟩)
    (Cert.ReferenceIdeal.Value.run m g)

theorem meets : @Cert.algebraic_KernelIdeal_ReferenceIdeal_pre_finite Cert.KernelIdeal.Gen.facts Cert.ReferenceIdeal.Gen.facts Cert.Final.facts := by
  intro m g m' g' hp ha
  refine ⟨fun c => Cert.KernelIdeal.Att.arrK m c, Cert.KernelIdeal.Att.run_val m g, ?_⟩
  refine (θ_run (Cert.ReferenceIdeal.defs (F := Ideal)) _ _).mono (fun r h c => ⟨(h c).1.trans ?_, (h c).2⟩) (Cert.ReferenceIdeal.Value.run m' g')
  obtain ⟨e0, e1, e2, e3⟩ := ha c
  obtain ⟨p0, p1, p2⟩ := hp c
  have q0 : Cert.ReferenceIdeal.Att.aQ m' c = Cert.KernelIdeal.Att.kQ m c := e0
  have q1 : Cert.ReferenceIdeal.Att.aN m' c = Cert.KernelIdeal.Att.kN m c := e1
  have q2 : Cert.ReferenceIdeal.Att.aR m' c = Cert.KernelIdeal.Att.kR m c := e2
  have q3 : Cert.ReferenceIdeal.Att.aV m' c = Cert.KernelIdeal.Att.kV m c := e3
  funext y
  refine (Cert.Final.arr_eq m' c ?_ ?_ ?_ y).trans ?_
  · intro i; rw [q0]; exact Cert.Final.real_q (hF := Cert.Final.facts) _ _ _ _ p0 i
  · intro i; rw [q1]; exact Cert.Final.real_kn (hF := Cert.Final.facts) _ _ _ _ p1 i
  · intro i; rw [q2]; exact Cert.Final.real_kr (hF := Cert.Final.facts) _ _ _ _ p2 i
  · rw [q0, q1, q2, q3]; rfl

/-- The reference of the feed-forward part runs, its arguments unchanged, no semaphore left raised. -/
theorem frame_reference2 : @Cert.quiescent_Reference2Ideal Cert.Reference2Ideal.Gen.facts := fun m g _ =>
  (θ_run (Cert.Reference2Ideal.defs (F := Ideal)) _ _).mono (fun r h => ⟨fun c => (h c).2, Idealize.ShloMosaic.sem_eq_zero_of_no_sems (by decide) r.2⟩)
    (Cert.Reference2Ideal.Value.run m g)

/-- The reference of the input projection runs, its arguments unchanged, no semaphore left raised. -/
theorem frame_reference3 : @Cert.quiescent_Reference3Ideal Cert.Reference3Ideal.Gen.facts := fun m g _ =>
  (θ_run (Cert.Reference3Ideal.defs (F := Ideal)) _ _).mono (fun r h => ⟨fun c => (h c).2.2.2.2.2.2.2, Idealize.ShloMosaic.sem_eq_zero_of_no_sems (by decide) r.2⟩)
    (Cert.Reference3Ideal.Value.run m g)

/-- The reference of the merge runs, its arguments unchanged, no semaphore left raised. -/
theorem frame_reference4 : @Cert.quiescent_Reference4Ideal Cert.Reference4Ideal.Gen.facts := fun m g _ =>
  (θ_run (Cert.Reference4Ideal.defs (F := Ideal)) _ _).mono (fun r h => ⟨fun c => (h c).2, Idealize.ShloMosaic.sem_eq_zero_of_no_sems (by decide) r.2⟩)
    (Cert.Reference4Ideal.Value.run m g)

/-- The reference of the attention's preparation runs, its arguments unchanged, no semaphore left raised. -/
theorem frame_reference5 : @Cert.quiescent_Reference5Ideal Cert.Reference5Ideal.Gen.facts := fun m g _ =>
  (θ_run (Cert.Reference5Ideal.defs (F := Ideal)) _ _).mono (fun r h => ⟨fun c => (h c).2.2.2.2, Idealize.ShloMosaic.sem_eq_zero_of_no_sems (by decide) r.2⟩)
    (Cert.Reference5Ideal.Value.run m g)

/-- The feed-forward part: the kernel's array and the reference's are one formula of the same arguments. -/
theorem meets2 : @Cert.algebraic_Kernel2Ideal_Reference2Ideal Cert.Kernel2Ideal.Gen.facts Cert.Reference2Ideal.Gen.facts := by
  intro m g m' g' _ ha
  refine ⟨fun c => Cert.Kernel2Ideal.Ffn.arr m c, (θ_run (Cert.Kernel2Ideal.defs (F := Ideal)) _ _).mono
    (fun r h c => ⟨(h c).1.trans (Cert.Kernel2Ideal.Ffn.arr_final m c), (h c).2⟩) (Cert.Kernel2Ideal.Value.run_blocks m g), ?_⟩
  refine (θ_run (Cert.Reference2Ideal.defs (F := Ideal)) _ _).mono (fun r h c => ⟨(h c).1.trans ?_, (h c).2⟩) (Cert.Reference2Ideal.Ffn.run_val m' g')
  obtain ⟨e0, e1, e2, e3, e4⟩ := ha c
  have q0 : Cert.Reference2Ideal.Ffn.aX m' c = Cert.Kernel2Ideal.Ffn.aX m c := e0
  have q1 : Cert.Reference2Ideal.Ffn.aG m' c = Cert.Kernel2Ideal.Ffn.aG m c := e1
  have q2 : Cert.Reference2Ideal.Ffn.aW m' c = Cert.Kernel2Ideal.Ffn.aW m c := e2
  have q3 : Cert.Reference2Ideal.Ffn.aU m' c = Cert.Kernel2Ideal.Ffn.aU m c := e3
  have q4 : Cert.Reference2Ideal.Ffn.aD m' c = Cert.Kernel2Ideal.Ffn.aD m c := e4
  funext y
  simp only [Cert.Reference2Ideal.Ffn.arr, q0, q1, q2, q3, q4]
  rfl

/-- The input projection: the seven arrays of the kernel and of the reference are columns of one projection of the same arguments. -/
theorem meets3 : @Cert.algebraic_Kernel3Ideal_Reference3Ideal Cert.Kernel3Ideal.Gen.facts Cert.Reference3Ideal.Gen.facts := by
  intro m g m' g' _ ha
  have hp : ∀ c, Cert.Reference3Ideal.Proj.pr m' c = Cert.Kernel3Ideal.Proj.pr m c := fun c => by
    obtain ⟨e0, e1, e2⟩ := ha c
    have q0 : Cert.Reference3Ideal.Proj.aX m' c = Cert.Kernel3Ideal.Proj.aX m c := e0
    have q1 : Cert.Reference3Ideal.Proj.aG m' c = Cert.Kernel3Ideal.Proj.aG m c := e1
    have q2 : Cert.Reference3Ideal.Proj.aW m' c = Cert.Kernel3Ideal.Proj.aW m c := e2
    funext r j
    simp only [Cert.Reference3Ideal.Proj.pr, q0, q1, q2]
    rfl
  refine ⟨fun c => Cert.Kernel3Ideal.Proj.arr9 m c,
    fun c => Cert.Kernel3Ideal.Proj.arr10 m c,
    fun c => Cert.Kernel3Ideal.Proj.arr11 m c,
    fun c => Cert.Kernel3Ideal.Proj.arr12 m c,
    fun c => Cert.Kernel3Ideal.Proj.arr13 m c,
    fun c => Cert.Kernel3Ideal.Proj.arr14 m c,
    fun c => Cert.Kernel3Ideal.Proj.arr15 m c,
    (θ_run (Cert.Kernel3Ideal.defs (F := Ideal)) _ _).mono (fun r h c => ?_) (Cert.Kernel3Ideal.Value.run_blocks m g),
    (θ_run (Cert.Reference3Ideal.defs (F := Ideal)) _ _).mono (fun r h c => ?_) (Cert.Reference3Ideal.Proj.run_val m' g')⟩
  · obtain ⟨h9, h10, h11, h12, h13, h14, h15, hk⟩ := h c
    exact ⟨h9.trans (Cert.Kernel3Ideal.Proj.arr_final9 m c), h10.trans (Cert.Kernel3Ideal.Proj.arr_final10 m c), h11.trans (Cert.Kernel3Ideal.Proj.arr_final11 m c), h12.trans (Cert.Kernel3Ideal.Proj.arr_final12 m c), h13.trans (Cert.Kernel3Ideal.Proj.arr_final13 m c), h14.trans (Cert.Kernel3Ideal.Proj.arr_final14 m c), h15.trans (Cert.Kernel3Ideal.Proj.arr_final15 m c), hk⟩
  · obtain ⟨h9, h10, h11, h12, h13, h14, h15, hk⟩ := h c
    refine ⟨h9.trans ?_, h10.trans ?_, h11.trans ?_, h12.trans ?_, h13.trans ?_, h14.trans ?_, h15.trans ?_, hk⟩ <;> funext y
    · simp only [Cert.Reference3Ideal.Proj.arr9, hp]; rfl
    · simp only [Cert.Reference3Ideal.Proj.arr10, hp]; rfl
    · simp only [Cert.Reference3Ideal.Proj.arr11, hp]; rfl
    · simp only [Cert.Reference3Ideal.Proj.arr12, hp]; rfl
    · simp only [Cert.Reference3Ideal.Proj.arr13, hp]; rfl
    · simp only [Cert.Reference3Ideal.Proj.arr14, hp]; rfl
    · simp only [Cert.Reference3Ideal.Proj.arr15, hp]; rfl

/-- The merge: the kernel's array and the reference's are one formula of the same arguments. -/
theorem meets4 : @Cert.algebraic_Kernel4Ideal_Reference4Ideal Cert.Kernel4Ideal.Gen.facts Cert.Reference4Ideal.Gen.facts := by
  intro m g m' g' _ ha
  refine ⟨fun c => Cert.Kernel4Ideal.Merge.arr m c, (θ_run (Cert.Kernel4Ideal.defs (F := Ideal)) _ _).mono
    (fun r h c => ⟨(h c).1.trans (Cert.Kernel4Ideal.Merge.arr_final m c), (h c).2⟩) (Cert.Kernel4Ideal.Value.run_blocks m g), ?_⟩
  refine (θ_run (Cert.Reference4Ideal.defs (F := Ideal)) _ _).mono (fun r h c => ⟨(h c).1.trans ?_, (h c).2⟩) (Cert.Reference4Ideal.Merge.run_val m' g')
  obtain ⟨e0, e1, e2, e3, e4, e5, e6, e7⟩ := ha c
  have q0 : Cert.Reference4Ideal.Merge.aX m' c = Cert.Kernel4Ideal.Merge.aX m c := e0
  have q1 : Cert.Reference4Ideal.Merge.aA m' c = Cert.Kernel4Ideal.Merge.aA m c := e1
  have q2 : Cert.Reference4Ideal.Merge.aB m' c = Cert.Kernel4Ideal.Merge.aB m c := e2
  have q3 : Cert.Reference4Ideal.Merge.aGa m' c = Cert.Kernel4Ideal.Merge.aGa m c := e3
  have q4 : Cert.Reference4Ideal.Merge.aGb m' c = Cert.Kernel4Ideal.Merge.aGb m c := e4
  have q5 : Cert.Reference4Ideal.Merge.aWa m' c = Cert.Kernel4Ideal.Merge.aWa m c := e5
  have q6 : Cert.Reference4Ideal.Merge.aWl m' c = Cert.Kernel4Ideal.Merge.aWl m c := e6
  have q7 : Cert.Reference4Ideal.Merge.aWo m' c = Cert.Kernel4Ideal.Merge.aWo m c := e7
  funext y
  simp only [Cert.Reference4Ideal.Merge.arr, q0, q1, q2, q3, q4, q5, q6, q7]
  rfl

/-- The attention's preparation: the four arrays of the kernel and of the reference are the same formulas of the same arguments. -/
theorem meets5 : @Cert.algebraic_Kernel5Ideal_Reference5Ideal Cert.Kernel5Ideal.Gen.facts Cert.Reference5Ideal.Gen.facts := by
  intro m g m' g' _ ha
  refine ⟨fun c => Cert.Kernel5Ideal.Prep.arr15 m c, fun c => Cert.Kernel5Ideal.Prep.arr16 m c, fun c => Cert.Kernel5Ideal.Prep.arr17 m c, fun c => Cert.Kernel5Ideal.Prep.arr18 m c, Cert.Kernel5Ideal.Prep.run_val m g,
    (θ_run (Cert.Reference5Ideal.defs (F := Ideal)) _ _).mono (fun r h c => ?_) (Cert.Reference5Ideal.Prep.run_val m' g')⟩
  obtain ⟨e0, e1, e2, e3, e4, e5, e6, e7, e8, e9, e10⟩ := ha c
  have q0 : Cert.Reference5Ideal.Prep.aCq m' c = Cert.Kernel5Ideal.Prep.aCq m c := e0
  have q1 : Cert.Reference5Ideal.Prep.aCkv m' c = Cert.Kernel5Ideal.Prep.aCkv m c := e1
  have q2 : Cert.Reference5Ideal.Prep.aKr m' c = Cert.Kernel5Ideal.Prep.aKr m c := e2
  have q3 : Cert.Reference5Ideal.Prep.aPos m' c = Cert.Kernel5Ideal.Prep.aPos m c := e3
  have q4 : Cert.Reference5Ideal.Prep.aOff m' c = Cert.Kernel5Ideal.Prep.aOff m c := e4
  have q5 : Cert.Reference5Ideal.Prep.aGq m' c = Cert.Kernel5Ideal.Prep.aGq m c := e5
  have q6 : Cert.Reference5Ideal.Prep.aWq m' c = Cert.Kernel5Ideal.Prep.aWq m c := e6
  have q7 : Cert.Reference5Ideal.Prep.aGkv m' c = Cert.Kernel5Ideal.Prep.aGkv m c := e7
  have q8 : Cert.Reference5Ideal.Prep.aWkv m' c = Cert.Kernel5Ideal.Prep.aWkv m c := e8
  have q9 : Cert.Reference5Ideal.Prep.aGqn m' c = Cert.Kernel5Ideal.Prep.aGqn m c := e9
  have q10 : Cert.Reference5Ideal.Prep.aGkn m' c = Cert.Kernel5Ideal.Prep.aGkn m c := e10
  have v : Cert.Reference5Ideal.Prep.iv = Cert.Kernel5Ideal.Prep.iv := rfl
  obtain ⟨h15, h16, h17, h18, hk⟩ := h c
  refine ⟨h15.trans ?_, h16.trans ?_, h17.trans ?_, h18.trans ?_, hk⟩ <;> funext y
  · simp only [Cert.Reference5Ideal.Prep.arr15, Cert.Reference5Ideal.Prep.q1, q0, q3, q4, q5, q6, q9, v]; rfl
  · simp only [Cert.Reference5Ideal.Prep.arr16, Cert.Reference5Ideal.Prep.kn1, q1, q7, q8, q10]; rfl
  · simp only [Cert.Reference5Ideal.Prep.arr17, Cert.Reference5Ideal.Prep.kr1, q2, q3, q10, v]; rfl
  · simp only [Cert.Reference5Ideal.Prep.arr18, Cert.Reference5Ideal.Prep.vt1, q1, q7, q8]; rfl

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Final.facts,
  fun m g _ => Cert.Kernel.Att.frame_main m g, fun m g _ => Cert.KernelIdeal.Att.frame_main m g, fun m g _ => Cert.KernelIdeal.Att.frame_main m g,
  frame_reference, fun m g _ => frame_reference m g trivial,
  fun m g _ => Cert.Kernel2.Gen.frame m g, fun m g _ => Cert.Kernel2Ideal.Gen.frame m g, frame_reference2,
  fun m g _ => Cert.Kernel3.Gen.frame m g, fun m g _ => Cert.Kernel3Ideal.Gen.frame m g, frame_reference3,
  fun m g _ => Cert.Kernel4.Gen.frame m g, fun m g _ => Cert.Kernel4Ideal.Gen.frame m g, frame_reference4,
  fun m g _ => Cert.Kernel5.Gen.frame m g, fun m g _ => Cert.Kernel5Ideal.Gen.frame m g, frame_reference5,
  trivial, meets, trivial, meets2, trivial, meets3, trivial, meets4, trivial, meets5⟩

end Cert.Proof

end
